-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_RefMlpIdeal (m : (ℓ : Loc Cert.RefMlpIdeal.nD Cert.RefMlpIdeal.τ Cert.RefMlpIdeal.sig) → Buf (Elt Ideal) ℓ) : Prop :=
  True

def Pre_MlpCtx (m : (ℓ : Loc Cert.MlpCtx.nD Cert.MlpCtx.τ Cert.MlpCtx.sig) → Buf (Elt Bits) ℓ) : Prop :=
  True

def Pre_MlpCtxIdeal (m : (ℓ : Loc Cert.MlpCtxIdeal.nD Cert.MlpCtxIdeal.τ Cert.MlpCtxIdeal.sig) → Buf (Elt Ideal) ℓ) : Prop :=
  True

def Pre_RefMlpCtxIdeal (m : (ℓ : Loc Cert.RefMlpCtxIdeal.nD Cert.RefMlpCtxIdeal.τ Cert.RefMlpCtxIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_RefConvIdeal (m : (ℓ : Loc Cert.RefConvIdeal.nD Cert.RefConvIdeal.τ Cert.RefConvIdeal.sig) → Buf (Elt Ideal) ℓ) : Prop :=
  True

def Pre_TimeOut (m : (ℓ : Loc Cert.TimeOut.nD Cert.TimeOut.τ Cert.TimeOut.sig) → Buf (Elt Bits) ℓ) : Prop :=
  True

def Pre_TimeOutIdeal (m : (ℓ : Loc Cert.TimeOutIdeal.nD Cert.TimeOutIdeal.τ Cert.TimeOutIdeal.sig) → Buf (Elt Ideal) ℓ) : Prop :=
  True

def Pre_RefTimeOutIdeal (m : (ℓ : Loc Cert.RefTimeOutIdeal.nD Cert.RefTimeOutIdeal.τ Cert.RefTimeOutIdeal.sig) → Buf (Elt Ideal) ℓ) : Prop :=
  True

def Pre_Fourier (m : (ℓ : Loc Cert.Fourier.nD Cert.Fourier.τ Cert.Fourier.sig) → Buf (Elt Bits) ℓ) : Prop :=
  True

def Pre_FourierIdeal (m : (ℓ : Loc Cert.FourierIdeal.nD Cert.FourierIdeal.τ Cert.FourierIdeal.sig) → Buf (Elt Ideal) ℓ) : Prop :=
  True

def Pre_RefFourierIdeal (m : (ℓ : Loc Cert.RefFourierIdeal.nD Cert.RefFourierIdeal.τ Cert.RefFourierIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_RefModulationIdeal (m : (ℓ : Loc Cert.RefModulationIdeal.nD Cert.RefModulationIdeal.τ Cert.RefModulationIdeal.sig) → Buf (Elt Ideal) ℓ) : Prop :=
  True

def Pre_MlpBoth (m : (ℓ : Loc Cert.MlpBoth.nD Cert.MlpBoth.τ Cert.MlpBoth.sig) → Buf (Elt Bits) ℓ) : Prop :=
  True

def Pre_MlpBothIdeal (m : (ℓ : Loc Cert.MlpBothIdeal.nD Cert.MlpBothIdeal.τ Cert.MlpBothIdeal.sig) → Buf (Elt Ideal) ℓ) : Prop :=
  True

def Pre_RefMlpBothIdeal (m : (ℓ : Loc Cert.RefMlpBothIdeal.nD Cert.RefMlpBothIdeal.τ Cert.RefMlpBothIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_RefMlpIdeal [hRefMlpIdeal : Cert.RefMlpIdeal.Facts] : Prop :=
  ∀ (m : (ℓ : Loc Cert.RefMlpIdeal.nD Cert.RefMlpIdeal.τ Cert.RefMlpIdeal.sig) → Buf (Elt Ideal) ℓ) (g : Dev Cert.RefMlpIdeal.nD → PrngReg), Pre_RefMlpIdeal m →
    θ_run (Cert.RefMlpIdeal.defs (F := Ideal)) (onTc (τ := Cert.RefMlpIdeal.τ) (Cert.RefMlpIdeal.main (F := Ideal))) ⟨m, fun _ => 0, g⟩ (fun r => (∀ c : Dev Cert.RefMlpIdeal.nD,
      r.2.mem ((c.tc : Thread Cert.RefMlpIdeal.nD Cert.RefMlpIdeal.τ).loc Cert.RefMlpIdeal.main_arg0) = m ((c.tc : Thread Cert.RefMlpIdeal.nD Cert.RefMlpIdeal.τ).loc Cert.RefMlpIdeal.main_arg0)
      ∧ r.2.mem ((c.tc : Thread Cert.RefMlpIdeal.nD Cert.RefMlpIdeal.τ).loc Cert.RefMlpIdeal.main_arg1) = m ((c.tc : Thread Cert.RefMlpIdeal.nD Cert.RefMlpIdeal.τ).loc Cert.RefMlpIdeal.main_arg1)
      ∧ r.2.mem ((c.tc : Thread Cert.RefMlpIdeal.nD Cert.RefMlpIdeal.τ).loc Cert.RefMlpIdeal.main_arg2) = m ((c.tc : Thread Cert.RefMlpIdeal.nD Cert.RefMlpIdeal.τ).loc Cert.RefMlpIdeal.main_arg2)
      ∧ r.2.mem ((c.tc : Thread Cert.RefMlpIdeal.nD Cert.RefMlpIdeal.τ).loc Cert.RefMlpIdeal.main_arg3) = m ((c.tc : Thread Cert.RefMlpIdeal.nD Cert.RefMlpIdeal.τ).loc Cert.RefMlpIdeal.main_arg3)
      ∧ r.2.mem ((c.tc : Thread Cert.RefMlpIdeal.nD Cert.RefMlpIdeal.τ).loc Cert.RefMlpIdeal.main_arg4) = m ((c.tc : Thread Cert.RefMlpIdeal.nD Cert.RefMlpIdeal.τ).loc Cert.RefMlpIdeal.main_arg4))
      ∧ r.2.sem = fun _ => 0)

def quiescent_MlpCtx [hMlpCtx : Cert.MlpCtx.Facts] : Prop :=
  ∀ (m : (ℓ : Loc Cert.MlpCtx.nD Cert.MlpCtx.τ Cert.MlpCtx.sig) → Buf (Elt Bits) ℓ) (g : Dev Cert.MlpCtx.nD → PrngReg), Pre_MlpCtx m →
    θ_run (Cert.MlpCtx.defs (F := Bits)) (onTc (τ := Cert.MlpCtx.τ) (Cert.MlpCtx.main (F := Bits))) ⟨m, fun _ => 0, g⟩ (fun r => (∀ c : Dev Cert.MlpCtx.nD,
      r.2.mem ((c.tc : Thread Cert.MlpCtx.nD Cert.MlpCtx.τ).loc Cert.MlpCtx.main_arg0) = m ((c.tc : Thread Cert.MlpCtx.nD Cert.MlpCtx.τ).loc Cert.MlpCtx.main_arg0)
      ∧ r.2.mem ((c.tc : Thread Cert.MlpCtx.nD Cert.MlpCtx.τ).loc Cert.MlpCtx.main_arg1) = m ((c.tc : Thread Cert.MlpCtx.nD Cert.MlpCtx.τ).loc Cert.MlpCtx.main_arg1)
      ∧ r.2.mem ((c.tc : Thread Cert.MlpCtx.nD Cert.MlpCtx.τ).loc Cert.MlpCtx.main_arg2) = m ((c.tc : Thread Cert.MlpCtx.nD Cert.MlpCtx.τ).loc Cert.MlpCtx.main_arg2)
      ∧ r.2.mem ((c.tc : Thread Cert.MlpCtx.nD Cert.MlpCtx.τ).loc Cert.MlpCtx.main_arg3) = m ((c.tc : Thread Cert.MlpCtx.nD Cert.MlpCtx.τ).loc Cert.MlpCtx.main_arg3)
      ∧ r.2.mem ((c.tc : Thread Cert.MlpCtx.nD Cert.MlpCtx.τ).loc Cert.MlpCtx.main_arg4) = m ((c.tc : Thread Cert.MlpCtx.nD Cert.MlpCtx.τ).loc Cert.MlpCtx.main_arg4))
      ∧ r.2.sem = fun _ => 0)

def quiescent_MlpCtxIdeal [hMlpCtxIdeal : Cert.MlpCtxIdeal.Facts] : Prop :=
  ∀ (m : (ℓ : Loc Cert.MlpCtxIdeal.nD Cert.MlpCtxIdeal.τ Cert.MlpCtxIdeal.sig) → Buf (Elt Ideal) ℓ) (g : Dev Cert.MlpCtxIdeal.nD → PrngReg), Pre_MlpCtxIdeal m →
    θ_run (Cert.MlpCtxIdeal.defs (F := Ideal)) (onTc (τ := Cert.MlpCtxIdeal.τ) (Cert.MlpCtxIdeal.main (F := Ideal))) ⟨m, fun _ => 0, g⟩ (fun r => (∀ c : Dev Cert.MlpCtxIdeal.nD,
      r.2.mem ((c.tc : Thread Cert.MlpCtxIdeal.nD Cert.MlpCtxIdeal.τ).loc Cert.MlpCtxIdeal.main_arg0) = m ((c.tc : Thread Cert.MlpCtxIdeal.nD Cert.MlpCtxIdeal.τ).loc Cert.MlpCtxIdeal.main_arg0)
      ∧ r.2.mem ((c.tc : Thread Cert.MlpCtxIdeal.nD Cert.MlpCtxIdeal.τ).loc Cert.MlpCtxIdeal.main_arg1) = m ((c.tc : Thread Cert.MlpCtxIdeal.nD Cert.MlpCtxIdeal.τ).loc Cert.MlpCtxIdeal.main_arg1)
      ∧ r.2.mem ((c.tc : Thread Cert.MlpCtxIdeal.nD Cert.MlpCtxIdeal.τ).loc Cert.MlpCtxIdeal.main_arg2) = m ((c.tc : Thread Cert.MlpCtxIdeal.nD Cert.MlpCtxIdeal.τ).loc Cert.MlpCtxIdeal.main_arg2)
      ∧ r.2.mem ((c.tc : Thread Cert.MlpCtxIdeal.nD Cert.MlpCtxIdeal.τ).loc Cert.MlpCtxIdeal.main_arg3) = m ((c.tc : Thread Cert.MlpCtxIdeal.nD Cert.MlpCtxIdeal.τ).loc Cert.MlpCtxIdeal.main_arg3)
      ∧ r.2.mem ((c.tc : Thread Cert.MlpCtxIdeal.nD Cert.MlpCtxIdeal.τ).loc Cert.MlpCtxIdeal.main_arg4) = m ((c.tc : Thread Cert.MlpCtxIdeal.nD Cert.MlpCtxIdeal.τ).loc Cert.MlpCtxIdeal.main_arg4))
      ∧ r.2.sem = fun _ => 0)

def quiescent_RefMlpCtxIdeal [hRefMlpCtxIdeal : Cert.RefMlpCtxIdeal.Facts] : Prop :=
  ∀ (m : (ℓ : Loc Cert.RefMlpCtxIdeal.nD Cert.RefMlpCtxIdeal.τ Cert.RefMlpCtxIdeal.sig) → Buf (Elt Ideal) ℓ) (g : Dev Cert.RefMlpCtxIdeal.nD → PrngReg), Pre_RefMlpCtxIdeal m →
    θ_run (Cert.RefMlpCtxIdeal.defs (F := Ideal)) (onTc (τ := Cert.RefMlpCtxIdeal.τ) (Cert.RefMlpCtxIdeal.main (F := Ideal))) ⟨m, fun _ => 0, g⟩ (fun r => (∀ c : Dev Cert.RefMlpCtxIdeal.nD,
      r.2.mem ((c.tc : Thread Cert.RefMlpCtxIdeal.nD Cert.RefMlpCtxIdeal.τ).loc Cert.RefMlpCtxIdeal.main_arg0) = m ((c.tc : Thread Cert.RefMlpCtxIdeal.nD Cert.RefMlpCtxIdeal.τ).loc Cert.RefMlpCtxIdeal.main_arg0)
      ∧ r.2.mem ((c.tc : Thread Cert.RefMlpCtxIdeal.nD Cert.RefMlpCtxIdeal.τ).loc Cert.RefMlpCtxIdeal.main_arg1) = m ((c.tc : Thread Cert.RefMlpCtxIdeal.nD Cert.RefMlpCtxIdeal.τ).loc Cert.RefMlpCtxIdeal.main_arg1)
      ∧ r.2.mem ((c.tc : Thread Cert.RefMlpCtxIdeal.nD Cert.RefMlpCtxIdeal.τ).loc Cert.RefMlpCtxIdeal.main_arg2) = m ((c.tc : Thread Cert.RefMlpCtxIdeal.nD Cert.RefMlpCtxIdeal.τ).loc Cert.RefMlpCtxIdeal.main_arg2)
      ∧ r.2.mem ((c.tc : Thread Cert.RefMlpCtxIdeal.nD Cert.RefMlpCtxIdeal.τ).loc Cert.RefMlpCtxIdeal.main_arg3) = m ((c.tc : Thread Cert.RefMlpCtxIdeal.nD Cert.RefMlpCtxIdeal.τ).loc Cert.RefMlpCtxIdeal.main_arg3)
      ∧ r.2.mem ((c.tc : Thread Cert.RefMlpCtxIdeal.nD Cert.RefMlpCtxIdeal.τ).loc Cert.RefMlpCtxIdeal.main_arg4) = m ((c.tc : Thread Cert.RefMlpCtxIdeal.nD Cert.RefMlpCtxIdeal.τ).loc Cert.RefMlpCtxIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1)
      ∧ r.2.mem ((c.tc : Thread Cert.RefProjIdeal.nD Cert.RefProjIdeal.τ).loc Cert.RefProjIdeal.main_arg2) = m ((c.tc : Thread Cert.RefProjIdeal.nD Cert.RefProjIdeal.τ).loc Cert.RefProjIdeal.main_arg2)
      ∧ r.2.mem ((c.tc : Thread Cert.RefProjIdeal.nD Cert.RefProjIdeal.τ).loc Cert.RefProjIdeal.main_arg3) = m ((c.tc : Thread Cert.RefProjIdeal.nD Cert.RefProjIdeal.τ).loc Cert.RefProjIdeal.main_arg3)
      ∧ r.2.mem ((c.tc : Thread Cert.RefProjIdeal.nD Cert.RefProjIdeal.τ).loc Cert.RefProjIdeal.main_arg4) = m ((c.tc : Thread Cert.RefProjIdeal.nD Cert.RefProjIdeal.τ).loc Cert.RefProjIdeal.main_arg4)
      ∧ r.2.mem ((c.tc : Thread Cert.RefProjIdeal.nD Cert.RefProjIdeal.τ).loc Cert.RefProjIdeal.main_arg5) = m ((c.tc : Thread Cert.RefProjIdeal.nD Cert.RefProjIdeal.τ).loc Cert.RefProjIdeal.main_arg5)
      ∧ r.2.mem ((c.tc : Thread Cert.RefProjIdeal.nD Cert.RefProjIdeal.τ).loc Cert.RefProjIdeal.main_arg6) = m ((c.tc : Thread Cert.RefProjIdeal.nD Cert.RefProjIdeal.τ).loc Cert.RefProjIdeal.main_arg6)
      ∧ r.2.mem ((c.tc : Thread Cert.RefProjIdeal.nD Cert.RefProjIdeal.τ).loc Cert.RefProjIdeal.main_arg7) = m ((c.tc : Thread Cert.RefProjIdeal.nD Cert.RefProjIdeal.τ).loc Cert.RefProjIdeal.main_arg7))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_RefConvIdeal [hRefConvIdeal : Cert.RefConvIdeal.Facts] : Prop :=
  ∀ (m : (ℓ : Loc Cert.RefConvIdeal.nD Cert.RefConvIdeal.τ Cert.RefConvIdeal.sig) → Buf (Elt Ideal) ℓ) (g : Dev Cert.RefConvIdeal.nD → PrngReg), Pre_RefConvIdeal m →
    θ_run (Cert.RefConvIdeal.defs (F := Ideal)) (onTc (τ := Cert.RefConvIdeal.τ) (Cert.RefConvIdeal.main (F := Ideal))) ⟨m, fun _ => 0, g⟩ (fun r => (∀ c : Dev Cert.RefConvIdeal.nD,
      r.2.mem ((c.tc : Thread Cert.RefConvIdeal.nD Cert.RefConvIdeal.τ).loc Cert.RefConvIdeal.main_arg0) = m ((c.tc : Thread Cert.RefConvIdeal.nD Cert.RefConvIdeal.τ).loc Cert.RefConvIdeal.main_arg0)
      ∧ r.2.mem ((c.tc : Thread Cert.RefConvIdeal.nD Cert.RefConvIdeal.τ).loc Cert.RefConvIdeal.main_arg1) = m ((c.tc : Thread Cert.RefConvIdeal.nD Cert.RefConvIdeal.τ).loc Cert.RefConvIdeal.main_arg1)
      ∧ r.2.mem ((c.tc : Thread Cert.RefConvIdeal.nD Cert.RefConvIdeal.τ).loc Cert.RefConvIdeal.main_arg2) = m ((c.tc : Thread Cert.RefConvIdeal.nD Cert.RefConvIdeal.τ).loc Cert.RefConvIdeal.main_arg2)
      ∧ r.2.mem ((c.tc : Thread Cert.RefConvIdeal.nD Cert.RefConvIdeal.τ).loc Cert.RefConvIdeal.main_arg3) = m ((c.tc : Thread Cert.RefConvIdeal.nD Cert.RefConvIdeal.τ).loc Cert.RefConvIdeal.main_arg3)
      ∧ r.2.mem ((c.tc : Thread Cert.RefConvIdeal.nD Cert.RefConvIdeal.τ).loc Cert.RefConvIdeal.main_arg4) = m ((c.tc : Thread Cert.RefConvIdeal.nD Cert.RefConvIdeal.τ).loc Cert.RefConvIdeal.main_arg4)
      ∧ r.2.mem ((c.tc : Thread Cert.RefConvIdeal.nD Cert.RefConvIdeal.τ).loc Cert.RefConvIdeal.main_arg5) = m ((c.tc : Thread Cert.RefConvIdeal.nD Cert.RefConvIdeal.τ).loc Cert.RefConvIdeal.main_arg5))
      ∧ r.2.sem = fun _ => 0)

def quiescent_TimeOut [hTimeOut : Cert.TimeOut.Facts] : Prop :=
  ∀ (m : (ℓ : Loc Cert.TimeOut.nD Cert.TimeOut.τ Cert.TimeOut.sig) → Buf (Elt Bits) ℓ) (g : Dev Cert.TimeOut.nD → PrngReg), Pre_TimeOut m →
    θ_run (Cert.TimeOut.defs (F := Bits)) (onTc (τ := Cert.TimeOut.τ) (Cert.TimeOut.main (F := Bits))) ⟨m, fun _ => 0, g⟩ (fun r => (∀ c : Dev Cert.TimeOut.nD,
      r.2.mem ((c.tc : Thread Cert.TimeOut.nD Cert.TimeOut.τ).loc Cert.TimeOut.main_arg0) = m ((c.tc : Thread Cert.TimeOut.nD Cert.TimeOut.τ).loc Cert.TimeOut.main_arg0)
      ∧ r.2.mem ((c.tc : Thread Cert.TimeOut.nD Cert.TimeOut.τ).loc Cert.TimeOut.main_arg1) = m ((c.tc : Thread Cert.TimeOut.nD Cert.TimeOut.τ).loc Cert.TimeOut.main_arg1)
      ∧ r.2.mem ((c.tc : Thread Cert.TimeOut.nD Cert.TimeOut.τ).loc Cert.TimeOut.main_arg2) = m ((c.tc : Thread Cert.TimeOut.nD Cert.TimeOut.τ).loc Cert.TimeOut.main_arg2)
      ∧ r.2.mem ((c.tc : Thread Cert.TimeOut.nD Cert.TimeOut.τ).loc Cert.TimeOut.main_arg3) = m ((c.tc : Thread Cert.TimeOut.nD Cert.TimeOut.τ).loc Cert.TimeOut.main_arg3)
      ∧ r.2.mem ((c.tc : Thread Cert.TimeOut.nD Cert.TimeOut.τ).loc Cert.TimeOut.main_arg4) = m ((c.tc : Thread Cert.TimeOut.nD Cert.TimeOut.τ).loc Cert.TimeOut.main_arg4)
      ∧ r.2.mem ((c.tc : Thread Cert.TimeOut.nD Cert.TimeOut.τ).loc Cert.TimeOut.main_arg5) = m ((c.tc : Thread Cert.TimeOut.nD Cert.TimeOut.τ).loc Cert.TimeOut.main_arg5)
      ∧ r.2.mem ((c.tc : Thread Cert.TimeOut.nD Cert.TimeOut.τ).loc Cert.TimeOut.main_arg6) = m ((c.tc : Thread Cert.TimeOut.nD Cert.TimeOut.τ).loc Cert.TimeOut.main_arg6)
      ∧ r.2.mem ((c.tc : Thread Cert.TimeOut.nD Cert.TimeOut.τ).loc Cert.TimeOut.main_arg7) = m ((c.tc : Thread Cert.TimeOut.nD Cert.TimeOut.τ).loc Cert.TimeOut.main_arg7)
      ∧ r.2.mem ((c.tc : Thread Cert.TimeOut.nD Cert.TimeOut.τ).loc Cert.TimeOut.main_arg8) = m ((c.tc : Thread Cert.TimeOut.nD Cert.TimeOut.τ).loc Cert.TimeOut.main_arg8))
      ∧ r.2.sem = fun _ => 0)

def quiescent_TimeOutIdeal [hTimeOutIdeal : Cert.TimeOutIdeal.Facts] : Prop :=
  ∀ (m : (ℓ : Loc Cert.TimeOutIdeal.nD Cert.TimeOutIdeal.τ Cert.TimeOutIdeal.sig) → Buf (Elt Ideal) ℓ) (g : Dev Cert.TimeOutIdeal.nD → PrngReg), Pre_TimeOutIdeal m →
    θ_run (Cert.TimeOutIdeal.defs (F := Ideal)) (onTc (τ := Cert.TimeOutIdeal.τ) (Cert.TimeOutIdeal.main (F := Ideal))) ⟨m, fun _ => 0, g⟩ (fun r => (∀ c : Dev Cert.TimeOutIdeal.nD,
      r.2.mem ((c.tc : Thread Cert.TimeOutIdeal.nD Cert.TimeOutIdeal.τ).loc Cert.TimeOutIdeal.main_arg0) = m ((c.tc : Thread Cert.TimeOutIdeal.nD Cert.TimeOutIdeal.τ).loc Cert.TimeOutIdeal.main_arg0)
      ∧ r.2.mem ((c.tc : Thread Cert.TimeOutIdeal.nD Cert.TimeOutIdeal.τ).loc Cert.TimeOutIdeal.main_arg1) = m ((c.tc : Thread Cert.TimeOutIdeal.nD Cert.TimeOutIdeal.τ).loc Cert.TimeOutIdeal.main_arg1)
      ∧ r.2.mem ((c.tc : Thread Cert.TimeOutIdeal.nD Cert.TimeOutIdeal.τ).loc Cert.TimeOutIdeal.main_arg2) = m ((c.tc : Thread Cert.TimeOutIdeal.nD Cert.TimeOutIdeal.τ).loc Cert.TimeOutIdeal.main_arg2)
      ∧ r.2.mem ((c.tc : Thread Cert.TimeOutIdeal.nD Cert.TimeOutIdeal.τ).loc Cert.TimeOutIdeal.main_arg3) = m ((c.tc : Thread Cert.TimeOutIdeal.nD Cert.TimeOutIdeal.τ).loc Cert.TimeOutIdeal.main_arg3)
      ∧ r.2.mem ((c.tc : Thread Cert.TimeOutIdeal.nD Cert.TimeOutIdeal.τ).loc Cert.TimeOutIdeal.main_arg4) = m ((c.tc : Thread Cert.TimeOutIdeal.nD Cert.TimeOutIdeal.τ).loc Cert.TimeOutIdeal.main_arg4)
      ∧ r.2.mem ((c.tc : Thread Cert.TimeOutIdeal.nD Cert.TimeOutIdeal.τ).loc Cert.TimeOutIdeal.main_arg5) = m ((c.tc : Thread Cert.TimeOutIdeal.nD Cert.TimeOutIdeal.τ).loc Cert.TimeOutIdeal.main_arg5)
      ∧ r.2.mem ((c.tc : Thread Cert.TimeOutIdeal.nD Cert.TimeOutIdeal.τ).loc Cert.TimeOutIdeal.main_arg6) = m ((c.tc : Thread Cert.TimeOutIdeal.nD Cert.TimeOutIdeal.τ).loc Cert.TimeOutIdeal.main_arg6)
      ∧ r.2.mem ((c.tc : Thread Cert.TimeOutIdeal.nD Cert.TimeOutIdeal.τ).loc Cert.TimeOutIdeal.main_arg7) = m ((c.tc : Thread Cert.TimeOutIdeal.nD Cert.TimeOutIdeal.τ).loc Cert.TimeOutIdeal.main_arg7)
      ∧ r.2.mem ((c.tc : Thread Cert.TimeOutIdeal.nD Cert.TimeOutIdeal.τ).loc Cert.TimeOutIdeal.main_arg8) = m ((c.tc : Thread Cert.TimeOutIdeal.nD Cert.TimeOutIdeal.τ).loc Cert.TimeOutIdeal.main_arg8))
      ∧ r.2.sem = fun _ => 0)

def quiescent_RefTimeOutIdeal [hRefTimeOutIdeal : Cert.RefTimeOutIdeal.Facts] : Prop :=
  ∀ (m : (ℓ : Loc Cert.RefTimeOutIdeal.nD Cert.RefTimeOutIdeal.τ Cert.RefTimeOutIdeal.sig) → Buf (Elt Ideal) ℓ) (g : Dev Cert.RefTimeOutIdeal.nD → PrngReg), Pre_RefTimeOutIdeal m →
    θ_run (Cert.RefTimeOutIdeal.defs (F := Ideal)) (onTc (τ := Cert.RefTimeOutIdeal.τ) (Cert.RefTimeOutIdeal.main (F := Ideal))) ⟨m, fun _ => 0, g⟩ (fun r => (∀ c : Dev Cert.RefTimeOutIdeal.nD,
      r.2.mem ((c.tc : Thread Cert.RefTimeOutIdeal.nD Cert.RefTimeOutIdeal.τ).loc Cert.RefTimeOutIdeal.main_arg0) = m ((c.tc : Thread Cert.RefTimeOutIdeal.nD Cert.RefTimeOutIdeal.τ).loc Cert.RefTimeOutIdeal.main_arg0)
      ∧ r.2.mem ((c.tc : Thread Cert.RefTimeOutIdeal.nD Cert.RefTimeOutIdeal.τ).loc Cert.RefTimeOutIdeal.main_arg1) = m ((c.tc : Thread Cert.RefTimeOutIdeal.nD Cert.RefTimeOutIdeal.τ).loc Cert.RefTimeOutIdeal.main_arg1)
      ∧ r.2.mem ((c.tc : Thread Cert.RefTimeOutIdeal.nD Cert.RefTimeOutIdeal.τ).loc Cert.RefTimeOutIdeal.main_arg2) = m ((c.tc : Thread Cert.RefTimeOutIdeal.nD Cert.RefTimeOutIdeal.τ).loc Cert.RefTimeOutIdeal.main_arg2)
      ∧ r.2.mem ((c.tc : Thread Cert.RefTimeOutIdeal.nD Cert.RefTimeOutIdeal.τ).loc Cert.RefTimeOutIdeal.main_arg3) = m ((c.tc : Thread Cert.RefTimeOutIdeal.nD Cert.RefTimeOutIdeal.τ).loc Cert.RefTimeOutIdeal.main_arg3)
      ∧ r.2.mem ((c.tc : Thread Cert.RefTimeOutIdeal.nD Cert.RefTimeOutIdeal.τ).loc Cert.RefTimeOutIdeal.main_arg4) = m ((c.tc : Thread Cert.RefTimeOutIdeal.nD Cert.RefTimeOutIdeal.τ).loc Cert.RefTimeOutIdeal.main_arg4)
      ∧ r.2.mem ((c.tc : Thread Cert.RefTimeOutIdeal.nD Cert.RefTimeOutIdeal.τ).loc Cert.RefTimeOutIdeal.main_arg5) = m ((c.tc : Thread Cert.RefTimeOutIdeal.nD Cert.RefTimeOutIdeal.τ).loc Cert.RefTimeOutIdeal.main_arg5)
      ∧ r.2.mem ((c.tc : Thread Cert.RefTimeOutIdeal.nD Cert.RefTimeOutIdeal.τ).loc Cert.RefTimeOutIdeal.main_arg6) = m ((c.tc : Thread Cert.RefTimeOutIdeal.nD Cert.RefTimeOutIdeal.τ).loc Cert.RefTimeOutIdeal.main_arg6)
      ∧ r.2.mem ((c.tc : Thread Cert.RefTimeOutIdeal.nD Cert.RefTimeOutIdeal.τ).loc Cert.RefTimeOutIdeal.main_arg7) = m ((c.tc : Thread Cert.RefTimeOutIdeal.nD Cert.RefTimeOutIdeal.τ).loc Cert.RefTimeOutIdeal.main_arg7)
      ∧ r.2.mem ((c.tc : Thread Cert.RefTimeOutIdeal.nD Cert.RefTimeOutIdeal.τ).loc Cert.RefTimeOutIdeal.main_arg8) = m ((c.tc : Thread Cert.RefTimeOutIdeal.nD Cert.RefTimeOutIdeal.τ).loc Cert.RefTimeOutIdeal.main_arg8))
      ∧ r.2.sem = fun _ => 0)

def quiescent_Fourier [hFourier : Cert.Fourier.Facts] : Prop :=
  ∀ (m : (ℓ : Loc Cert.Fourier.nD Cert.Fourier.τ Cert.Fourier.sig) → Buf (Elt Bits) ℓ) (g : Dev Cert.Fourier.nD → PrngReg), Pre_Fourier m →
    θ_run (Cert.Fourier.defs (F := Bits)) (onTc (τ := Cert.Fourier.τ) (Cert.Fourier.main (F := Bits))) ⟨m, fun _ => 0, g⟩ (fun r => (∀ c : Dev Cert.Fourier.nD,
      r.2.mem ((c.tc : Thread Cert.Fourier.nD Cert.Fourier.τ).loc Cert.Fourier.main_arg0) = m ((c.tc : Thread Cert.Fourier.nD Cert.Fourier.τ).loc Cert.Fourier.main_arg0)
      ∧ r.2.mem ((c.tc : Thread Cert.Fourier.nD Cert.Fourier.τ).loc Cert.Fourier.main_arg1) = m ((c.tc : Thread Cert.Fourier.nD Cert.Fourier.τ).loc Cert.Fourier.main_arg1)
      ∧ r.2.mem ((c.tc : Thread Cert.Fourier.nD Cert.Fourier.τ).loc Cert.Fourier.main_arg2) = m ((c.tc : Thread Cert.Fourier.nD Cert.Fourier.τ).loc Cert.Fourier.main_arg2)
      ∧ r.2.mem ((c.tc : Thread Cert.Fourier.nD Cert.Fourier.τ).loc Cert.Fourier.main_arg3) = m ((c.tc : Thread Cert.Fourier.nD Cert.Fourier.τ).loc Cert.Fourier.main_arg3)
      ∧ r.2.mem ((c.tc : Thread Cert.Fourier.nD Cert.Fourier.τ).loc Cert.Fourier.main_arg4) = m ((c.tc : Thread Cert.Fourier.nD Cert.Fourier.τ).loc Cert.Fourier.main_arg4)
      ∧ r.2.mem ((c.tc : Thread Cert.Fourier.nD Cert.Fourier.τ).loc Cert.Fourier.main_arg5) = m ((c.tc : Thread Cert.Fourier.nD Cert.Fourier.τ).loc Cert.Fourier.main_arg5)
      ∧ r.2.mem ((c.tc : Thread Cert.Fourier.nD Cert.Fourier.τ).loc Cert.Fourier.main_arg6) = m ((c.tc : Thread Cert.Fourier.nD Cert.Fourier.τ).loc Cert.Fourier.main_arg6)
      ∧ r.2.mem ((c.tc : Thread Cert.Fourier.nD Cert.Fourier.τ).loc Cert.Fourier.main_arg7) = m ((c.tc : Thread Cert.Fourier.nD Cert.Fourier.τ).loc Cert.Fourier.main_arg7))
      ∧ r.2.sem = fun _ => 0)

def quiescent_FourierIdeal [hFourierIdeal : Cert.FourierIdeal.Facts] : Prop :=
  ∀ (m : (ℓ : Loc Cert.FourierIdeal.nD Cert.FourierIdeal.τ Cert.FourierIdeal.sig) → Buf (Elt Ideal) ℓ) (g : Dev Cert.FourierIdeal.nD → PrngReg), Pre_FourierIdeal m →
    θ_run (Cert.FourierIdeal.defs (F := Ideal)) (onTc (τ := Cert.FourierIdeal.τ) (Cert.FourierIdeal.main (F := Ideal))) ⟨m, fun _ => 0, g⟩ (fun r => (∀ c : Dev Cert.FourierIdeal.nD,
      r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
      ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1)
      ∧ r.2.mem ((c.tc : Thread Cert.FourierIdeal.nD Cert.FourierIdeal.τ).loc Cert.FourierIdeal.main_arg2) = m ((c.tc : Thread Cert.FourierIdeal.nD Cert.FourierIdeal.τ).loc Cert.FourierIdeal.main_arg2)
      ∧ r.2.mem ((c.tc : Thread Cert.FourierIdeal.nD Cert.FourierIdeal.τ).loc Cert.FourierIdeal.main_arg3) = m ((c.tc : Thread Cert.FourierIdeal.nD Cert.FourierIdeal.τ).loc Cert.FourierIdeal.main_arg3)
      ∧ r.2.mem ((c.tc : Thread Cert.FourierIdeal.nD Cert.FourierIdeal.τ).loc Cert.FourierIdeal.main_arg4) = m ((c.tc : Thread Cert.FourierIdeal.nD Cert.FourierIdeal.τ).loc Cert.FourierIdeal.main_arg4)
      ∧ r.2.mem ((c.tc : Thread Cert.FourierIdeal.nD Cert.FourierIdeal.τ).loc Cert.FourierIdeal.main_arg5) = m ((c.tc : Thread Cert.FourierIdeal.nD Cert.FourierIdeal.τ).loc Cert.FourierIdeal.main_arg5)
      ∧ r.2.mem ((c.tc : Thread Cert.FourierIdeal.nD Cert.FourierIdeal.τ).loc Cert.FourierIdeal.main_arg6) = m ((c.tc : Thread Cert.FourierIdeal.nD Cert.FourierIdeal.τ).loc Cert.FourierIdeal.main_arg6)
      ∧ r.2.mem ((c.tc : Thread Cert.FourierIdeal.nD Cert.FourierIdeal.τ).loc Cert.FourierIdeal.main_arg7) = m ((c.tc : Thread Cert.FourierIdeal.nD Cert.FourierIdeal.τ).loc Cert.FourierIdeal.main_arg7))
      ∧ r.2.sem = fun _ => 0)

def quiescent_RefFourierIdeal [hRefFourierIdeal : Cert.RefFourierIdeal.Facts] : Prop :=
  ∀ (m : (ℓ : Loc Cert.RefFourierIdeal.nD Cert.RefFourierIdeal.τ Cert.RefFourierIdeal.sig) → Buf (Elt Ideal) ℓ) (g : Dev Cert.RefFourierIdeal.nD → PrngReg), Pre_RefFourierIdeal m →
    θ_run (Cert.RefFourierIdeal.defs (F := Ideal)) (onTc (τ := Cert.RefFourierIdeal.τ) (Cert.RefFourierIdeal.main (F := Ideal))) ⟨m, fun _ => 0, g⟩ (fun r => (∀ c : Dev Cert.RefFourierIdeal.nD,
      r.2.mem ((c.tc : Thread Cert.RefFourierIdeal.nD Cert.RefFourierIdeal.τ).loc Cert.RefFourierIdeal.main_arg0) = m ((c.tc : Thread Cert.RefFourierIdeal.nD Cert.RefFourierIdeal.τ).loc Cert.RefFourierIdeal.main_arg0)
      ∧ r.2.mem ((c.tc : Thread Cert.RefFourierIdeal.nD Cert.RefFourierIdeal.τ).loc Cert.RefFourierIdeal.main_arg1) = m ((c.tc : Thread Cert.RefFourierIdeal.nD Cert.RefFourierIdeal.τ).loc Cert.RefFourierIdeal.main_arg1)
      ∧ r.2.mem ((c.tc : Thread Cert.RefFourierIdeal.nD Cert.RefFourierIdeal.τ).loc Cert.RefFourierIdeal.main_arg2) = m ((c.tc : Thread Cert.RefFourierIdeal.nD Cert.RefFourierIdeal.τ).loc Cert.RefFourierIdeal.main_arg2)
      ∧ r.2.mem ((c.tc : Thread Cert.RefFourierIdeal.nD Cert.RefFourierIdeal.τ).loc Cert.RefFourierIdeal.main_arg3) = m ((c.tc : Thread Cert.RefFourierIdeal.nD Cert.RefFourierIdeal.τ).loc Cert.RefFourierIdeal.main_arg3)
      ∧ r.2.mem ((c.tc : Thread Cert.RefFourierIdeal.nD Cert.RefFourierIdeal.τ).loc Cert.RefFourierIdeal.main_arg4) = m ((c.tc : Thread Cert.RefFourierIdeal.nD Cert.RefFourierIdeal.τ).loc Cert.RefFourierIdeal.main_arg4)
      ∧ r.2.mem ((c.tc : Thread Cert.RefFourierIdeal.nD Cert.RefFourierIdeal.τ).loc Cert.RefFourierIdeal.main_arg5) = m ((c.tc : Thread Cert.RefFourierIdeal.nD Cert.RefFourierIdeal.τ).loc Cert.RefFourierIdeal.main_arg5)
      ∧ r.2.mem ((c.tc : Thread Cert.RefFourierIdeal.nD Cert.RefFourierIdeal.τ).loc Cert.RefFourierIdeal.main_arg6) = m ((c.tc : Thread Cert.RefFourierIdeal.nD Cert.RefFourierIdeal.τ).loc Cert.RefFourierIdeal.main_arg6)
      ∧ r.2.mem ((c.tc : Thread Cert.RefFourierIdeal.nD Cert.RefFourierIdeal.τ).loc Cert.RefFourierIdeal.main_arg7) = m ((c.tc : Thread Cert.RefFourierIdeal.nD Cert.RefFourierIdeal.τ).loc Cert.RefFourierIdeal.main_arg7))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_RefModulationIdeal [hRefModulationIdeal : Cert.RefModulationIdeal.Facts] : Prop :=
  ∀ (m : (ℓ : Loc Cert.RefModulationIdeal.nD Cert.RefModulationIdeal.τ Cert.RefModulationIdeal.sig) → Buf (Elt Ideal) ℓ) (g : Dev Cert.RefModulationIdeal.nD → PrngReg), Pre_RefModulationIdeal m →
    θ_run (Cert.RefModulationIdeal.defs (F := Ideal)) (onTc (τ := Cert.RefModulationIdeal.τ) (Cert.RefModulationIdeal.main (F := Ideal))) ⟨m, fun _ => 0, g⟩ (fun r => (∀ c : Dev Cert.RefModulationIdeal.nD,
      r.2.mem ((c.tc : Thread Cert.RefModulationIdeal.nD Cert.RefModulationIdeal.τ).loc Cert.RefModulationIdeal.main_arg0) = m ((c.tc : Thread Cert.RefModulationIdeal.nD Cert.RefModulationIdeal.τ).loc Cert.RefModulationIdeal.main_arg0)
      ∧ r.2.mem ((c.tc : Thread Cert.RefModulationIdeal.nD Cert.RefModulationIdeal.τ).loc Cert.RefModulationIdeal.main_arg1) = m ((c.tc : Thread Cert.RefModulationIdeal.nD Cert.RefModulationIdeal.τ).loc Cert.RefModulationIdeal.main_arg1)
      ∧ r.2.mem ((c.tc : Thread Cert.RefModulationIdeal.nD Cert.RefModulationIdeal.τ).loc Cert.RefModulationIdeal.main_arg2) = m ((c.tc : Thread Cert.RefModulationIdeal.nD Cert.RefModulationIdeal.τ).loc Cert.RefModulationIdeal.main_arg2)
      ∧ r.2.mem ((c.tc : Thread Cert.RefModulationIdeal.nD Cert.RefModulationIdeal.τ).loc Cert.RefModulationIdeal.main_arg3) = m ((c.tc : Thread Cert.RefModulationIdeal.nD Cert.RefModulationIdeal.τ).loc Cert.RefModulationIdeal.main_arg3))
      ∧ r.2.sem = fun _ => 0)

def quiescent_MlpBoth [hMlpBoth : Cert.MlpBoth.Facts] : Prop :=
  ∀ (m : (ℓ : Loc Cert.MlpBoth.nD Cert.MlpBoth.τ Cert.MlpBoth.sig) → Buf (Elt Bits) ℓ) (g : Dev Cert.MlpBoth.nD → PrngReg), Pre_MlpBoth m →
    θ_run (Cert.MlpBoth.defs (F := Bits)) (onTc (τ := Cert.MlpBoth.τ) (Cert.MlpBoth.main (F := Bits))) ⟨m, fun _ => 0, g⟩ (fun r => (∀ c : Dev Cert.MlpBoth.nD,
      r.2.mem ((c.tc : Thread Cert.MlpBoth.nD Cert.MlpBoth.τ).loc Cert.MlpBoth.main_arg0) = m ((c.tc : Thread Cert.MlpBoth.nD Cert.MlpBoth.τ).loc Cert.MlpBoth.main_arg0)
      ∧ r.2.mem ((c.tc : Thread Cert.MlpBoth.nD Cert.MlpBoth.τ).loc Cert.MlpBoth.main_arg1) = m ((c.tc : Thread Cert.MlpBoth.nD Cert.MlpBoth.τ).loc Cert.MlpBoth.main_arg1)
      ∧ r.2.mem ((c.tc : Thread Cert.MlpBoth.nD Cert.MlpBoth.τ).loc Cert.MlpBoth.main_arg2) = m ((c.tc : Thread Cert.MlpBoth.nD Cert.MlpBoth.τ).loc Cert.MlpBoth.main_arg2)
      ∧ r.2.mem ((c.tc : Thread Cert.MlpBoth.nD Cert.MlpBoth.τ).loc Cert.MlpBoth.main_arg3) = m ((c.tc : Thread Cert.MlpBoth.nD Cert.MlpBoth.τ).loc Cert.MlpBoth.main_arg3)
      ∧ r.2.mem ((c.tc : Thread Cert.MlpBoth.nD Cert.MlpBoth.τ).loc Cert.MlpBoth.main_arg4) = m ((c.tc : Thread Cert.MlpBoth.nD Cert.MlpBoth.τ).loc Cert.MlpBoth.main_arg4)
      ∧ r.2.mem ((c.tc : Thread Cert.MlpBoth.nD Cert.MlpBoth.τ).loc Cert.MlpBoth.main_arg5) = m ((c.tc : Thread Cert.MlpBoth.nD Cert.MlpBoth.τ).loc Cert.MlpBoth.main_arg5)
      ∧ r.2.mem ((c.tc : Thread Cert.MlpBoth.nD Cert.MlpBoth.τ).loc Cert.MlpBoth.main_arg6) = m ((c.tc : Thread Cert.MlpBoth.nD Cert.MlpBoth.τ).loc Cert.MlpBoth.main_arg6)
      ∧ r.2.mem ((c.tc : Thread Cert.MlpBoth.nD Cert.MlpBoth.τ).loc Cert.MlpBoth.main_arg7) = m ((c.tc : Thread Cert.MlpBoth.nD Cert.MlpBoth.τ).loc Cert.MlpBoth.main_arg7)
      ∧ r.2.mem ((c.tc : Thread Cert.MlpBoth.nD Cert.MlpBoth.τ).loc Cert.MlpBoth.main_arg8) = m ((c.tc : Thread Cert.MlpBoth.nD Cert.MlpBoth.τ).loc Cert.MlpBoth.main_arg8))
      ∧ r.2.sem = fun _ => 0)

def quiescent_MlpBothIdeal [hMlpBothIdeal : Cert.MlpBothIdeal.Facts] : Prop :=
  ∀ (m : (ℓ : Loc Cert.MlpBothIdeal.nD Cert.MlpBothIdeal.τ Cert.MlpBothIdeal.sig) → Buf (Elt Ideal) ℓ) (g : Dev Cert.MlpBothIdeal.nD → PrngReg), Pre_MlpBothIdeal m →
    θ_run (Cert.MlpBothIdeal.defs (F := Ideal)) (onTc (τ := Cert.MlpBothIdeal.τ) (Cert.MlpBothIdeal.main (F := Ideal))) ⟨m, fun _ => 0, g⟩ (fun r => (∀ c : Dev Cert.MlpBothIdeal.nD,
      r.2.mem ((c.tc : Thread Cert.MlpBothIdeal.nD Cert.MlpBothIdeal.τ).loc Cert.MlpBothIdeal.main_arg0) = m ((c.tc : Thread Cert.MlpBothIdeal.nD Cert.MlpBothIdeal.τ).loc Cert.MlpBothIdeal.main_arg0)
      ∧ r.2.mem ((c.tc : Thread Cert.MlpBothIdeal.nD Cert.MlpBothIdeal.τ).loc Cert.MlpBothIdeal.main_arg1) = m ((c.tc : Thread Cert.MlpBothIdeal.nD Cert.MlpBothIdeal.τ).loc Cert.MlpBothIdeal.main_arg1)
      ∧ r.2.mem ((c.tc : Thread Cert.MlpBothIdeal.nD Cert.MlpBothIdeal.τ).loc Cert.MlpBothIdeal.main_arg2) = m ((c.tc : Thread Cert.MlpBothIdeal.nD Cert.MlpBothIdeal.τ).loc Cert.MlpBothIdeal.main_arg2)
      ∧ r.2.mem ((c.tc : Thread Cert.MlpBothIdeal.nD Cert.MlpBothIdeal.τ).loc Cert.MlpBothIdeal.main_arg3) = m ((c.tc : Thread Cert.MlpBothIdeal.nD Cert.MlpBothIdeal.τ).loc Cert.MlpBothIdeal.main_arg3)
      ∧ r.2.mem ((c.tc : Thread Cert.MlpBothIdeal.nD Cert.MlpBothIdeal.τ).loc Cert.MlpBothIdeal.main_arg4) = m ((c.tc : Thread Cert.MlpBothIdeal.nD Cert.MlpBothIdeal.τ).loc Cert.MlpBothIdeal.main_arg4)
      ∧ r.2.mem ((c.tc : Thread Cert.MlpBothIdeal.nD Cert.MlpBothIdeal.τ).loc Cert.MlpBothIdeal.main_arg5) = m ((c.tc : Thread Cert.MlpBothIdeal.nD Cert.MlpBothIdeal.τ).loc Cert.MlpBothIdeal.main_arg5)
      ∧ r.2.mem ((c.tc : Thread Cert.MlpBothIdeal.nD Cert.MlpBothIdeal.τ).loc Cert.MlpBothIdeal.main_arg6) = m ((c.tc : Thread Cert.MlpBothIdeal.nD Cert.MlpBothIdeal.τ).loc Cert.MlpBothIdeal.main_arg6)
      ∧ r.2.mem ((c.tc : Thread Cert.MlpBothIdeal.nD Cert.MlpBothIdeal.τ).loc Cert.MlpBothIdeal.main_arg7) = m ((c.tc : Thread Cert.MlpBothIdeal.nD Cert.MlpBothIdeal.τ).loc Cert.MlpBothIdeal.main_arg7)
      ∧ r.2.mem ((c.tc : Thread Cert.MlpBothIdeal.nD Cert.MlpBothIdeal.τ).loc Cert.MlpBothIdeal.main_arg8) = m ((c.tc : Thread Cert.MlpBothIdeal.nD Cert.MlpBothIdeal.τ).loc Cert.MlpBothIdeal.main_arg8))
      ∧ r.2.sem = fun _ => 0)

def quiescent_RefMlpBothIdeal [hRefMlpBothIdeal : Cert.RefMlpBothIdeal.Facts] : Prop :=
  ∀ (m : (ℓ : Loc Cert.RefMlpBothIdeal.nD Cert.RefMlpBothIdeal.τ Cert.RefMlpBothIdeal.sig) → Buf (Elt Ideal) ℓ) (g : Dev Cert.RefMlpBothIdeal.nD → PrngReg), Pre_RefMlpBothIdeal m →
    θ_run (Cert.RefMlpBothIdeal.defs (F := Ideal)) (onTc (τ := Cert.RefMlpBothIdeal.τ) (Cert.RefMlpBothIdeal.main (F := Ideal))) ⟨m, fun _ => 0, g⟩ (fun r => (∀ c : Dev Cert.RefMlpBothIdeal.nD,
      r.2.mem ((c.tc : Thread Cert.RefMlpBothIdeal.nD Cert.RefMlpBothIdeal.τ).loc Cert.RefMlpBothIdeal.main_arg0) = m ((c.tc : Thread Cert.RefMlpBothIdeal.nD Cert.RefMlpBothIdeal.τ).loc Cert.RefMlpBothIdeal.main_arg0)
      ∧ r.2.mem ((c.tc : Thread Cert.RefMlpBothIdeal.nD Cert.RefMlpBothIdeal.τ).loc Cert.RefMlpBothIdeal.main_arg1) = m ((c.tc : Thread Cert.RefMlpBothIdeal.nD Cert.RefMlpBothIdeal.τ).loc Cert.RefMlpBothIdeal.main_arg1)
      ∧ r.2.mem ((c.tc : Thread Cert.RefMlpBothIdeal.nD Cert.RefMlpBothIdeal.τ).loc Cert.RefMlpBothIdeal.main_arg2) = m ((c.tc : Thread Cert.RefMlpBothIdeal.nD Cert.RefMlpBothIdeal.τ).loc Cert.RefMlpBothIdeal.main_arg2)
      ∧ r.2.mem ((c.tc : Thread Cert.RefMlpBothIdeal.nD Cert.RefMlpBothIdeal.τ).loc Cert.RefMlpBothIdeal.main_arg3) = m ((c.tc : Thread Cert.RefMlpBothIdeal.nD Cert.RefMlpBothIdeal.τ).loc Cert.RefMlpBothIdeal.main_arg3)
      ∧ r.2.mem ((c.tc : Thread Cert.RefMlpBothIdeal.nD Cert.RefMlpBothIdeal.τ).loc Cert.RefMlpBothIdeal.main_arg4) = m ((c.tc : Thread Cert.RefMlpBothIdeal.nD Cert.RefMlpBothIdeal.τ).loc Cert.RefMlpBothIdeal.main_arg4)
      ∧ r.2.mem ((c.tc : Thread Cert.RefMlpBothIdeal.nD Cert.RefMlpBothIdeal.τ).loc Cert.RefMlpBothIdeal.main_arg5) = m ((c.tc : Thread Cert.RefMlpBothIdeal.nD Cert.RefMlpBothIdeal.τ).loc Cert.RefMlpBothIdeal.main_arg5)
      ∧ r.2.mem ((c.tc : Thread Cert.RefMlpBothIdeal.nD Cert.RefMlpBothIdeal.τ).loc Cert.RefMlpBothIdeal.main_arg6) = m ((c.tc : Thread Cert.RefMlpBothIdeal.nD Cert.RefMlpBothIdeal.τ).loc Cert.RefMlpBothIdeal.main_arg6)
      ∧ r.2.mem ((c.tc : Thread Cert.RefMlpBothIdeal.nD Cert.RefMlpBothIdeal.τ).loc Cert.RefMlpBothIdeal.main_arg7) = m ((c.tc : Thread Cert.RefMlpBothIdeal.nD Cert.RefMlpBothIdeal.τ).loc Cert.RefMlpBothIdeal.main_arg7)
      ∧ r.2.mem ((c.tc : Thread Cert.RefMlpBothIdeal.nD Cert.RefMlpBothIdeal.τ).loc Cert.RefMlpBothIdeal.main_arg8) = m ((c.tc : Thread Cert.RefMlpBothIdeal.nD Cert.RefMlpBothIdeal.τ).loc Cert.RefMlpBothIdeal.main_arg8))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Mlp_MlpIdeal : Prop :=
  True

def algebraic_MlpIdeal_RefMlpIdeal [hMlpIdeal : Cert.MlpIdeal.Facts] [hRefMlpIdeal : Cert.RefMlpIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.RefMlpIdeal.nD Cert.RefMlpIdeal.τ Cert.RefMlpIdeal.sig) → Buf (Elt Ideal) ℓ) (g' : Dev Cert.RefMlpIdeal.nD → PrngReg), Pre_MlpIdeal m →
    (∀ c : Dev Cert.MlpIdeal.nD,
      m' ((c.tc : Thread Cert.RefMlpIdeal.nD Cert.RefMlpIdeal.τ).loc Cert.RefMlpIdeal.main_arg0) = m ((c.tc : Thread Cert.MlpIdeal.nD Cert.MlpIdeal.τ).loc Cert.MlpIdeal.main_arg0)
      ∧ m' ((c.tc : Thread Cert.RefMlpIdeal.nD Cert.RefMlpIdeal.τ).loc Cert.RefMlpIdeal.main_arg1) = m ((c.tc : Thread Cert.MlpIdeal.nD Cert.MlpIdeal.τ).loc Cert.MlpIdeal.main_arg1)
      ∧ m' ((c.tc : Thread Cert.RefMlpIdeal.nD Cert.RefMlpIdeal.τ).loc Cert.RefMlpIdeal.main_arg2) = m ((c.tc : Thread Cert.MlpIdeal.nD Cert.MlpIdeal.τ).loc Cert.MlpIdeal.main_arg2)
      ∧ m' ((c.tc : Thread Cert.RefMlpIdeal.nD Cert.RefMlpIdeal.τ).loc Cert.RefMlpIdeal.main_arg3) = m ((c.tc : Thread Cert.MlpIdeal.nD Cert.MlpIdeal.τ).loc Cert.MlpIdeal.main_arg3)
      ∧ m' ((c.tc : Thread Cert.RefMlpIdeal.nD Cert.RefMlpIdeal.τ).loc Cert.RefMlpIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v0)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.RefMlpIdeal.defs (F := Ideal)) (onTc (τ := Cert.RefMlpIdeal.τ) (Cert.RefMlpIdeal.main (F := Ideal))) ⟨m', fun _ => 0, g'⟩ (fun r => ∀ c : Dev Cert.RefMlpIdeal.nD,
          r.2.mem ((c.tc : Thread Cert.RefMlpIdeal.nD Cert.RefMlpIdeal.τ).loc Cert.RefMlpIdeal.main_v67) = v0 c
          ∧ r.2.mem ((c.tc : Thread Cert.RefMlpIdeal.nD Cert.RefMlpIdeal.τ).loc Cert.RefMlpIdeal.main_arg0) = m' ((c.tc : Thread Cert.RefMlpIdeal.nD Cert.RefMlpIdeal.τ).loc Cert.RefMlpIdeal.main_arg0)
          ∧ r.2.mem ((c.tc : Thread Cert.RefMlpIdeal.nD Cert.RefMlpIdeal.τ).loc Cert.RefMlpIdeal.main_arg1) = m' ((c.tc : Thread Cert.RefMlpIdeal.nD Cert.RefMlpIdeal.τ).loc Cert.RefMlpIdeal.main_arg1)
          ∧ r.2.mem ((c.tc : Thread Cert.RefMlpIdeal.nD Cert.RefMlpIdeal.τ).loc Cert.RefMlpIdeal.main_arg2) = m' ((c.tc : Thread Cert.RefMlpIdeal.nD Cert.RefMlpIdeal.τ).loc Cert.RefMlpIdeal.main_arg2)
          ∧ r.2.mem ((c.tc : Thread Cert.RefMlpIdeal.nD Cert.RefMlpIdeal.τ).loc Cert.RefMlpIdeal.main_arg3) = m' ((c.tc : Thread Cert.RefMlpIdeal.nD Cert.RefMlpIdeal.τ).loc Cert.RefMlpIdeal.main_arg3)
          ∧ r.2.mem ((c.tc : Thread Cert.RefMlpIdeal.nD Cert.RefMlpIdeal.τ).loc Cert.RefMlpIdeal.main_arg4) = m' ((c.tc : Thread Cert.RefMlpIdeal.nD Cert.RefMlpIdeal.τ).loc Cert.RefMlpIdeal.main_arg4))

def preserves_MlpCtx_MlpCtxIdeal : Prop :=
  True

def algebraic_MlpCtxIdeal_RefMlpCtxIdeal [hMlpCtxIdeal : Cert.MlpCtxIdeal.Facts] [hRefMlpCtxIdeal : Cert.RefMlpCtxIdeal.Facts] : Prop :=
  ∀ (m : (ℓ : Loc Cert.MlpCtxIdeal.nD Cert.MlpCtxIdeal.τ Cert.MlpCtxIdeal.sig) → Buf (Elt Ideal) ℓ) (g : Dev Cert.MlpCtxIdeal.nD → PrngReg)
    (m' : (ℓ : Loc Cert.RefMlpCtxIdeal.nD Cert.RefMlpCtxIdeal.τ Cert.RefMlpCtxIdeal.sig) → Buf (Elt Ideal) ℓ) (g' : Dev Cert.RefMlpCtxIdeal.nD → PrngReg), Pre_MlpCtxIdeal m →
    (∀ c : Dev Cert.MlpCtxIdeal.nD,
      m' ((c.tc : Thread Cert.RefMlpCtxIdeal.nD Cert.RefMlpCtxIdeal.τ).loc Cert.RefMlpCtxIdeal.main_arg0) = m ((c.tc : Thread Cert.MlpCtxIdeal.nD Cert.MlpCtxIdeal.τ).loc Cert.MlpCtxIdeal.main_arg0)
      ∧ m' ((c.tc : Thread Cert.RefMlpCtxIdeal.nD Cert.RefMlpCtxIdeal.τ).loc Cert.RefMlpCtxIdeal.main_arg1) = m ((c.tc : Thread Cert.MlpCtxIdeal.nD Cert.MlpCtxIdeal.τ).loc Cert.MlpCtxIdeal.main_arg1)
      ∧ m' ((c.tc : Thread Cert.RefMlpCtxIdeal.nD Cert.RefMlpCtxIdeal.τ).loc Cert.RefMlpCtxIdeal.main_arg2) = m ((c.tc : Thread Cert.MlpCtxIdeal.nD Cert.MlpCtxIdeal.τ).loc Cert.MlpCtxIdeal.main_arg2)
      ∧ m' ((c.tc : Thread Cert.RefMlpCtxIdeal.nD Cert.RefMlpCtxIdeal.τ).loc Cert.RefMlpCtxIdeal.main_arg3) = m ((c.tc : Thread Cert.MlpCtxIdeal.nD Cert.MlpCtxIdeal.τ).loc Cert.MlpCtxIdeal.main_arg3)
      ∧ m' ((c.tc : Thread Cert.RefMlpCtxIdeal.nD Cert.RefMlpCtxIdeal.τ).loc Cert.RefMlpCtxIdeal.main_arg4) = m ((c.tc : Thread Cert.MlpCtxIdeal.nD Cert.MlpCtxIdeal.τ).loc Cert.MlpCtxIdeal.main_arg4)) →
    ∃ (v0 : (c : Dev Cert.MlpCtxIdeal.nD) → Buf (Elt Ideal) ((c.tc : Thread Cert.MlpCtxIdeal.nD Cert.MlpCtxIdeal.τ).loc Cert.MlpCtxIdeal.main_v0)),
      θ_run (Cert.MlpCtxIdeal.defs (F := Ideal)) (onTc (τ := Cert.MlpCtxIdeal.τ) (Cert.MlpCtxIdeal.main (F := Ideal))) ⟨m, fun _ => 0, g⟩ (fun r => ∀ c : Dev Cert.MlpCtxIdeal.nD,
          r.2.mem ((c.tc : Thread Cert.MlpCtxIdeal.nD Cert.MlpCtxIdeal.τ).loc Cert.MlpCtxIdeal.main_v0) = v0 c
          ∧ r.2.mem ((c.tc : Thread Cert.MlpCtxIdeal.nD Cert.MlpCtxIdeal.τ).loc Cert.MlpCtxIdeal.main_arg0) = m ((c.tc : Thread Cert.MlpCtxIdeal.nD Cert.MlpCtxIdeal.τ).loc Cert.MlpCtxIdeal.main_arg0)
          ∧ r.2.mem ((c.tc : Thread Cert.MlpCtxIdeal.nD Cert.MlpCtxIdeal.τ).loc Cert.MlpCtxIdeal.main_arg1) = m ((c.tc : Thread Cert.MlpCtxIdeal.nD Cert.MlpCtxIdeal.τ).loc Cert.MlpCtxIdeal.main_arg1)
          ∧ r.2.mem ((c.tc : Thread Cert.MlpCtxIdeal.nD Cert.MlpCtxIdeal.τ).loc Cert.MlpCtxIdeal.main_arg2) = m ((c.tc : Thread Cert.MlpCtxIdeal.nD Cert.MlpCtxIdeal.τ).loc Cert.MlpCtxIdeal.main_arg2)
          ∧ r.2.mem ((c.tc : Thread Cert.MlpCtxIdeal.nD Cert.MlpCtxIdeal.τ).loc Cert.MlpCtxIdeal.main_arg3) = m ((c.tc : Thread Cert.MlpCtxIdeal.nD Cert.MlpCtxIdeal.τ).loc Cert.MlpCtxIdeal.main_arg3)
          ∧ r.2.mem ((c.tc : Thread Cert.MlpCtxIdeal.nD Cert.MlpCtxIdeal.τ).loc Cert.MlpCtxIdeal.main_arg4) = m ((c.tc : Thread Cert.MlpCtxIdeal.nD Cert.MlpCtxIdeal.τ).loc Cert.MlpCtxIdeal.main_arg4))
      ∧ θ_run (Cert.RefMlpCtxIdeal.defs (F := Ideal)) (onTc (τ := Cert.RefMlpCtxIdeal.τ) (Cert.RefMlpCtxIdeal.main (F := Ideal))) ⟨m', fun _ => 0, g'⟩ (fun r => ∀ c : Dev Cert.RefMlpCtxIdeal.nD,
          r.2.mem ((c.tc : Thread Cert.RefMlpCtxIdeal.nD Cert.RefMlpCtxIdeal.τ).loc Cert.RefMlpCtxIdeal.main_v67) = v0 c
          ∧ r.2.mem ((c.tc : Thread Cert.RefMlpCtxIdeal.nD Cert.RefMlpCtxIdeal.τ).loc Cert.RefMlpCtxIdeal.main_arg0) = m' ((c.tc : Thread Cert.RefMlpCtxIdeal.nD Cert.RefMlpCtxIdeal.τ).loc Cert.RefMlpCtxIdeal.main_arg0)
          ∧ r.2.mem ((c.tc : Thread Cert.RefMlpCtxIdeal.nD Cert.RefMlpCtxIdeal.τ).loc Cert.RefMlpCtxIdeal.main_arg1) = m' ((c.tc : Thread Cert.RefMlpCtxIdeal.nD Cert.RefMlpCtxIdeal.τ).loc Cert.RefMlpCtxIdeal.main_arg1)
          ∧ r.2.mem ((c.tc : Thread Cert.RefMlpCtxIdeal.nD Cert.RefMlpCtxIdeal.τ).loc Cert.RefMlpCtxIdeal.main_arg2) = m' ((c.tc : Thread Cert.RefMlpCtxIdeal.nD Cert.RefMlpCtxIdeal.τ).loc Cert.RefMlpCtxIdeal.main_arg2)
          ∧ r.2.mem ((c.tc : Thread Cert.RefMlpCtxIdeal.nD Cert.RefMlpCtxIdeal.τ).loc Cert.RefMlpCtxIdeal.main_arg3) = m' ((c.tc : Thread Cert.RefMlpCtxIdeal.nD Cert.RefMlpCtxIdeal.τ).loc Cert.RefMlpCtxIdeal.main_arg3)
          ∧ r.2.mem ((c.tc : Thread Cert.RefMlpCtxIdeal.nD Cert.RefMlpCtxIdeal.τ).loc Cert.RefMlpCtxIdeal.main_arg4) = m' ((c.tc : Thread Cert.RefMlpCtxIdeal.nD Cert.RefMlpCtxIdeal.τ).loc Cert.RefMlpCtxIdeal.main_arg4))

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)
      ∧ m' ((c.tc : Thread Cert.RefProjIdeal.nD Cert.RefProjIdeal.τ).loc Cert.RefProjIdeal.main_arg2) = m ((c.tc : Thread Cert.ProjIdeal.nD Cert.ProjIdeal.τ).loc Cert.ProjIdeal.main_arg2)
      ∧ m' ((c.tc : Thread Cert.RefProjIdeal.nD Cert.RefProjIdeal.τ).loc Cert.RefProjIdeal.main_arg3) = m ((c.tc : Thread Cert.ProjIdeal.nD Cert.ProjIdeal.τ).loc Cert.ProjIdeal.main_arg3)
      ∧ m' ((c.tc : Thread Cert.RefProjIdeal.nD Cert.RefProjIdeal.τ).loc Cert.RefProjIdeal.main_arg4) = m ((c.tc : Thread Cert.ProjIdeal.nD Cert.ProjIdeal.τ).loc Cert.ProjIdeal.main_arg4)
      ∧ m' ((c.tc : Thread Cert.RefProjIdeal.nD Cert.RefProjIdeal.τ).loc Cert.RefProjIdeal.main_arg5) = m ((c.tc : Thread Cert.ProjIdeal.nD Cert.ProjIdeal.τ).loc Cert.ProjIdeal.main_arg5)
      ∧ m' ((c.tc : Thread Cert.RefProjIdeal.nD Cert.RefProjIdeal.τ).loc Cert.RefProjIdeal.main_arg6) = m ((c.tc : Thread Cert.ProjIdeal.nD Cert.ProjIdeal.τ).loc Cert.ProjIdeal.main_arg6)
      ∧ m' ((c.tc : Thread Cert.RefProjIdeal.nD Cert.RefProjIdeal.τ).loc Cert.RefProjIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v21_0)) (v1 : (c : Dev Cert.ProjIdeal.nD) → Buf (Elt Ideal) ((c.tc : Thread Cert.ProjIdeal.nD Cert.ProjIdeal.τ).loc Cert.ProjIdeal.main_v21_1)) (v2 : (c : Dev Cert.ProjIdeal.nD) → Buf (Elt Ideal) ((c.tc : Thread Cert.ProjIdeal.nD Cert.ProjIdeal.τ).loc Cert.ProjIdeal.main_v21_2)) (v3 : (c : Dev Cert.ProjIdeal.nD) → Buf (Elt Ideal) ((c.tc : Thread Cert.ProjIdeal.nD Cert.ProjIdeal.τ).loc Cert.ProjIdeal.main_v21_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v21_0) = v0 c
          ∧ r.2.mem ((c.tc : Thread Cert.ProjIdeal.nD Cert.ProjIdeal.τ).loc Cert.ProjIdeal.main_v21_1) = v1 c
          ∧ r.2.mem ((c.tc : Thread Cert.ProjIdeal.nD Cert.ProjIdeal.τ).loc Cert.ProjIdeal.main_v21_2) = v2 c
          ∧ r.2.mem ((c.tc : Thread Cert.ProjIdeal.nD Cert.ProjIdeal.τ).loc Cert.ProjIdeal.main_v21_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v69) = v0 c
          ∧ r.2.mem ((c.tc : Thread Cert.RefProjIdeal.nD Cert.RefProjIdeal.τ).loc Cert.RefProjIdeal.main_v71) = v1 c
          ∧ r.2.mem ((c.tc : Thread Cert.RefProjIdeal.nD Cert.RefProjIdeal.τ).loc Cert.RefProjIdeal.main_v72) = v2 c
          ∧ r.2.mem ((c.tc : Thread Cert.RefProjIdeal.nD Cert.RefProjIdeal.τ).loc Cert.RefProjIdeal.main_v73) = v3 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1)
          ∧ r.2.mem ((c.tc : Thread Cert.RefProjIdeal.nD Cert.RefProjIdeal.τ).loc Cert.RefProjIdeal.main_arg2) = m' ((c.tc : Thread Cert.RefProjIdeal.nD Cert.RefProjIdeal.τ).loc Cert.RefProjIdeal.main_arg2)
          ∧ r.2.mem ((c.tc : Thread Cert.RefProjIdeal.nD Cert.RefProjIdeal.τ).loc Cert.RefProjIdeal.main_arg3) = m' ((c.tc : Thread Cert.RefProjIdeal.nD Cert.RefProjIdeal.τ).loc Cert.RefProjIdeal.main_arg3)
          ∧ r.2.mem ((c.tc : Thread Cert.RefProjIdeal.nD Cert.RefProjIdeal.τ).loc Cert.RefProjIdeal.main_arg4) = m' ((c.tc : Thread Cert.RefProjIdeal.nD Cert.RefProjIdeal.τ).loc Cert.RefProjIdeal.main_arg4)
          ∧ r.2.mem ((c.tc : Thread Cert.RefProjIdeal.nD Cert.RefProjIdeal.τ).loc Cert.RefProjIdeal.main_arg5) = m' ((c.tc : Thread Cert.RefProjIdeal.nD Cert.RefProjIdeal.τ).loc Cert.RefProjIdeal.main_arg5)
          ∧ r.2.mem ((c.tc : Thread Cert.RefProjIdeal.nD Cert.RefProjIdeal.τ).loc Cert.RefProjIdeal.main_arg6) = m' ((c.tc : Thread Cert.RefProjIdeal.nD Cert.RefProjIdeal.τ).loc Cert.RefProjIdeal.main_arg6)
          ∧ r.2.mem ((c.tc : Thread Cert.RefProjIdeal.nD Cert.RefProjIdeal.τ).loc Cert.RefProjIdeal.main_arg7) = m' ((c.tc : Thread Cert.RefProjIdeal.nD Cert.RefProjIdeal.τ).loc Cert.RefProjIdeal.main_arg7))

def preserves_Conv_ConvIdeal : Prop :=
  True

def algebraic_ConvIdeal_RefConvIdeal [hConvIdeal : Cert.ConvIdeal.Facts] [hRefConvIdeal : Cert.RefConvIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.RefConvIdeal.nD Cert.RefConvIdeal.τ Cert.RefConvIdeal.sig) → Buf (Elt Ideal) ℓ) (g' : Dev Cert.RefConvIdeal.nD → PrngReg), Pre_ConvIdeal m →
    (∀ c : Dev Cert.ConvIdeal.nD,
      m' ((c.tc : Thread Cert.RefConvIdeal.nD Cert.RefConvIdeal.τ).loc Cert.RefConvIdeal.main_arg0) = m ((c.tc : Thread Cert.ConvIdeal.nD Cert.ConvIdeal.τ).loc Cert.ConvIdeal.main_arg0)
      ∧ m' ((c.tc : Thread Cert.RefConvIdeal.nD Cert.RefConvIdeal.τ).loc Cert.RefConvIdeal.main_arg1) = m ((c.tc : Thread Cert.ConvIdeal.nD Cert.ConvIdeal.τ).loc Cert.ConvIdeal.main_arg1)
      ∧ m' ((c.tc : Thread Cert.RefConvIdeal.nD Cert.RefConvIdeal.τ).loc Cert.RefConvIdeal.main_arg2) = m ((c.tc : Thread Cert.ConvIdeal.nD Cert.ConvIdeal.τ).loc Cert.ConvIdeal.main_arg2)
      ∧ m' ((c.tc : Thread Cert.RefConvIdeal.nD Cert.RefConvIdeal.τ).loc Cert.RefConvIdeal.main_arg3) = m ((c.tc : Thread Cert.ConvIdeal.nD Cert.ConvIdeal.τ).loc Cert.ConvIdeal.main_arg3)
      ∧ m' ((c.tc : Thread Cert.RefConvIdeal.nD Cert.RefConvIdeal.τ).loc Cert.RefConvIdeal.main_arg4) = m ((c.tc : Thread Cert.ConvIdeal.nD Cert.ConvIdeal.τ).loc Cert.ConvIdeal.main_arg4)
      ∧ m' ((c.tc : Thread Cert.RefConvIdeal.nD Cert.RefConvIdeal.τ).loc Cert.RefConvIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.RefConvIdeal.defs (F := Ideal)) (onTc (τ := Cert.RefConvIdeal.τ) (Cert.RefConvIdeal.main (F := Ideal))) ⟨m', fun _ => 0, g'⟩ (fun r => ∀ c : Dev Cert.RefConvIdeal.nD,
          r.2.mem ((c.tc : Thread Cert.RefConvIdeal.nD Cert.RefConvIdeal.τ).loc Cert.RefConvIdeal.main_v162) = v0 c
          ∧ r.2.mem ((c.tc : Thread Cert.RefConvIdeal.nD Cert.RefConvIdeal.τ).loc Cert.RefConvIdeal.main_arg0) = m' ((c.tc : Thread Cert.RefConvIdeal.nD Cert.RefConvIdeal.τ).loc Cert.RefConvIdeal.main_arg0)
          ∧ r.2.mem ((c.tc : Thread Cert.RefConvIdeal.nD Cert.RefConvIdeal.τ).loc Cert.RefConvIdeal.main_arg1) = m' ((c.tc : Thread Cert.RefConvIdeal.nD Cert.RefConvIdeal.τ).loc Cert.RefConvIdeal.main_arg1)
          ∧ r.2.mem ((c.tc : Thread Cert.RefConvIdeal.nD Cert.RefConvIdeal.τ).loc Cert.RefConvIdeal.main_arg2) = m' ((c.tc : Thread Cert.RefConvIdeal.nD Cert.RefConvIdeal.τ).loc Cert.RefConvIdeal.main_arg2)
          ∧ r.2.mem ((c.tc : Thread Cert.RefConvIdeal.nD Cert.RefConvIdeal.τ).loc Cert.RefConvIdeal.main_arg3) = m' ((c.tc : Thread Cert.RefConvIdeal.nD Cert.RefConvIdeal.τ).loc Cert.RefConvIdeal.main_arg3)
          ∧ r.2.mem ((c.tc : Thread Cert.RefConvIdeal.nD Cert.RefConvIdeal.τ).loc Cert.RefConvIdeal.main_arg4) = m' ((c.tc : Thread Cert.RefConvIdeal.nD Cert.RefConvIdeal.τ).loc Cert.RefConvIdeal.main_arg4)
          ∧ r.2.mem ((c.tc : Thread Cert.RefConvIdeal.nD Cert.RefConvIdeal.τ).loc Cert.RefConvIdeal.main_arg5) = m' ((c.tc : Thread Cert.RefConvIdeal.nD Cert.RefConvIdeal.τ).loc Cert.RefConvIdeal.main_arg5))

def preserves_TimeOut_TimeOutIdeal : Prop :=
  True

def algebraic_TimeOutIdeal_RefTimeOutIdeal [hTimeOutIdeal : Cert.TimeOutIdeal.Facts] [hRefTimeOutIdeal : Cert.RefTimeOutIdeal.Facts] : Prop :=
  ∀ (m : (ℓ : Loc Cert.TimeOutIdeal.nD Cert.TimeOutIdeal.τ Cert.TimeOutIdeal.sig) → Buf (Elt Ideal) ℓ) (g : Dev Cert.TimeOutIdeal.nD → PrngReg)
    (m' : (ℓ : Loc Cert.RefTimeOutIdeal.nD Cert.RefTimeOutIdeal.τ Cert.RefTimeOutIdeal.sig) → Buf (Elt Ideal) ℓ) (g' : Dev Cert.RefTimeOutIdeal.nD → PrngReg), Pre_TimeOutIdeal m →
    (∀ c : Dev Cert.TimeOutIdeal.nD,
      m' ((c.tc : Thread Cert.RefTimeOutIdeal.nD Cert.RefTimeOutIdeal.τ).loc Cert.RefTimeOutIdeal.main_arg0) = m ((c.tc : Thread Cert.TimeOutIdeal.nD Cert.TimeOutIdeal.τ).loc Cert.TimeOutIdeal.main_arg0)
      ∧ m' ((c.tc : Thread Cert.RefTimeOutIdeal.nD Cert.RefTimeOutIdeal.τ).loc Cert.RefTimeOutIdeal.main_arg1) = m ((c.tc : Thread Cert.TimeOutIdeal.nD Cert.TimeOutIdeal.τ).loc Cert.TimeOutIdeal.main_arg1)
      ∧ m' ((c.tc : Thread Cert.RefTimeOutIdeal.nD Cert.RefTimeOutIdeal.τ).loc Cert.RefTimeOutIdeal.main_arg2) = m ((c.tc : Thread Cert.TimeOutIdeal.nD Cert.TimeOutIdeal.τ).loc Cert.TimeOutIdeal.main_arg2)
      ∧ m' ((c.tc : Thread Cert.RefTimeOutIdeal.nD Cert.RefTimeOutIdeal.τ).loc Cert.RefTimeOutIdeal.main_arg3) = m ((c.tc : Thread Cert.TimeOutIdeal.nD Cert.TimeOutIdeal.τ).loc Cert.TimeOutIdeal.main_arg3)
      ∧ m' ((c.tc : Thread Cert.RefTimeOutIdeal.nD Cert.RefTimeOutIdeal.τ).loc Cert.RefTimeOutIdeal.main_arg4) = m ((c.tc : Thread Cert.TimeOutIdeal.nD Cert.TimeOutIdeal.τ).loc Cert.TimeOutIdeal.main_arg4)
      ∧ m' ((c.tc : Thread Cert.RefTimeOutIdeal.nD Cert.RefTimeOutIdeal.τ).loc Cert.RefTimeOutIdeal.main_arg5) = m ((c.tc : Thread Cert.TimeOutIdeal.nD Cert.TimeOutIdeal.τ).loc Cert.TimeOutIdeal.main_arg5)
      ∧ m' ((c.tc : Thread Cert.RefTimeOutIdeal.nD Cert.RefTimeOutIdeal.τ).loc Cert.RefTimeOutIdeal.main_arg6) = m ((c.tc : Thread Cert.TimeOutIdeal.nD Cert.TimeOutIdeal.τ).loc Cert.TimeOutIdeal.main_arg6)
      ∧ m' ((c.tc : Thread Cert.RefTimeOutIdeal.nD Cert.RefTimeOutIdeal.τ).loc Cert.RefTimeOutIdeal.main_arg7) = m ((c.tc : Thread Cert.TimeOutIdeal.nD Cert.TimeOutIdeal.τ).loc Cert.TimeOutIdeal.main_arg7)
      ∧ m' ((c.tc : Thread Cert.RefTimeOutIdeal.nD Cert.RefTimeOutIdeal.τ).loc Cert.RefTimeOutIdeal.main_arg8) = m ((c.tc : Thread Cert.TimeOutIdeal.nD Cert.TimeOutIdeal.τ).loc Cert.TimeOutIdeal.main_arg8)) →
    ∃ (v0 : (c : Dev Cert.TimeOutIdeal.nD) → Buf (Elt Ideal) ((c.tc : Thread Cert.TimeOutIdeal.nD Cert.TimeOutIdeal.τ).loc Cert.TimeOutIdeal.main_v0)),
      θ_run (Cert.TimeOutIdeal.defs (F := Ideal)) (onTc (τ := Cert.TimeOutIdeal.τ) (Cert.TimeOutIdeal.main (F := Ideal))) ⟨m, fun _ => 0, g⟩ (fun r => ∀ c : Dev Cert.TimeOutIdeal.nD,
          r.2.mem ((c.tc : Thread Cert.TimeOutIdeal.nD Cert.TimeOutIdeal.τ).loc Cert.TimeOutIdeal.main_v0) = v0 c
          ∧ r.2.mem ((c.tc : Thread Cert.TimeOutIdeal.nD Cert.TimeOutIdeal.τ).loc Cert.TimeOutIdeal.main_arg0) = m ((c.tc : Thread Cert.TimeOutIdeal.nD Cert.TimeOutIdeal.τ).loc Cert.TimeOutIdeal.main_arg0)
          ∧ r.2.mem ((c.tc : Thread Cert.TimeOutIdeal.nD Cert.TimeOutIdeal.τ).loc Cert.TimeOutIdeal.main_arg1) = m ((c.tc : Thread Cert.TimeOutIdeal.nD Cert.TimeOutIdeal.τ).loc Cert.TimeOutIdeal.main_arg1)
          ∧ r.2.mem ((c.tc : Thread Cert.TimeOutIdeal.nD Cert.TimeOutIdeal.τ).loc Cert.TimeOutIdeal.main_arg2) = m ((c.tc : Thread Cert.TimeOutIdeal.nD Cert.TimeOutIdeal.τ).loc Cert.TimeOutIdeal.main_arg2)
          ∧ r.2.mem ((c.tc : Thread Cert.TimeOutIdeal.nD Cert.TimeOutIdeal.τ).loc Cert.TimeOutIdeal.main_arg3) = m ((c.tc : Thread Cert.TimeOutIdeal.nD Cert.TimeOutIdeal.τ).loc Cert.TimeOutIdeal.main_arg3)
          ∧ r.2.mem ((c.tc : Thread Cert.TimeOutIdeal.nD Cert.TimeOutIdeal.τ).loc Cert.TimeOutIdeal.main_arg4) = m ((c.tc : Thread Cert.TimeOutIdeal.nD Cert.TimeOutIdeal.τ).loc Cert.TimeOutIdeal.main_arg4)
          ∧ r.2.mem ((c.tc : Thread Cert.TimeOutIdeal.nD Cert.TimeOutIdeal.τ).loc Cert.TimeOutIdeal.main_arg5) = m ((c.tc : Thread Cert.TimeOutIdeal.nD Cert.TimeOutIdeal.τ).loc Cert.TimeOutIdeal.main_arg5)
          ∧ r.2.mem ((c.tc : Thread Cert.TimeOutIdeal.nD Cert.TimeOutIdeal.τ).loc Cert.TimeOutIdeal.main_arg6) = m ((c.tc : Thread Cert.TimeOutIdeal.nD Cert.TimeOutIdeal.τ).loc Cert.TimeOutIdeal.main_arg6)
          ∧ r.2.mem ((c.tc : Thread Cert.TimeOutIdeal.nD Cert.TimeOutIdeal.τ).loc Cert.TimeOutIdeal.main_arg7) = m ((c.tc : Thread Cert.TimeOutIdeal.nD Cert.TimeOutIdeal.τ).loc Cert.TimeOutIdeal.main_arg7)
          ∧ r.2.mem ((c.tc : Thread Cert.TimeOutIdeal.nD Cert.TimeOutIdeal.τ).loc Cert.TimeOutIdeal.main_arg8) = m ((c.tc : Thread Cert.TimeOutIdeal.nD Cert.TimeOutIdeal.τ).loc Cert.TimeOutIdeal.main_arg8))
      ∧ θ_run (Cert.RefTimeOutIdeal.defs (F := Ideal)) (onTc (τ := Cert.RefTimeOutIdeal.τ) (Cert.RefTimeOutIdeal.main (F := Ideal))) ⟨m', fun _ => 0, g'⟩ (fun r => ∀ c : Dev Cert.RefTimeOutIdeal.nD,
          r.2.mem ((c.tc : Thread Cert.RefTimeOutIdeal.nD Cert.RefTimeOutIdeal.τ).loc Cert.RefTimeOutIdeal.main_v64) = v0 c
          ∧ r.2.mem ((c.tc : Thread Cert.RefTimeOutIdeal.nD Cert.RefTimeOutIdeal.τ).loc Cert.RefTimeOutIdeal.main_arg0) = m' ((c.tc : Thread Cert.RefTimeOutIdeal.nD Cert.RefTimeOutIdeal.τ).loc Cert.RefTimeOutIdeal.main_arg0)
          ∧ r.2.mem ((c.tc : Thread Cert.RefTimeOutIdeal.nD Cert.RefTimeOutIdeal.τ).loc Cert.RefTimeOutIdeal.main_arg1) = m' ((c.tc : Thread Cert.RefTimeOutIdeal.nD Cert.RefTimeOutIdeal.τ).loc Cert.RefTimeOutIdeal.main_arg1)
          ∧ r.2.mem ((c.tc : Thread Cert.RefTimeOutIdeal.nD Cert.RefTimeOutIdeal.τ).loc Cert.RefTimeOutIdeal.main_arg2) = m' ((c.tc : Thread Cert.RefTimeOutIdeal.nD Cert.RefTimeOutIdeal.τ).loc Cert.RefTimeOutIdeal.main_arg2)
          ∧ r.2.mem ((c.tc : Thread Cert.RefTimeOutIdeal.nD Cert.RefTimeOutIdeal.τ).loc Cert.RefTimeOutIdeal.main_arg3) = m' ((c.tc : Thread Cert.RefTimeOutIdeal.nD Cert.RefTimeOutIdeal.τ).loc Cert.RefTimeOutIdeal.main_arg3)
          ∧ r.2.mem ((c.tc : Thread Cert.RefTimeOutIdeal.nD Cert.RefTimeOutIdeal.τ).loc Cert.RefTimeOutIdeal.main_arg4) = m' ((c.tc : Thread Cert.RefTimeOutIdeal.nD Cert.RefTimeOutIdeal.τ).loc Cert.RefTimeOutIdeal.main_arg4)
          ∧ r.2.mem ((c.tc : Thread Cert.RefTimeOutIdeal.nD Cert.RefTimeOutIdeal.τ).loc Cert.RefTimeOutIdeal.main_arg5) = m' ((c.tc : Thread Cert.RefTimeOutIdeal.nD Cert.RefTimeOutIdeal.τ).loc Cert.RefTimeOutIdeal.main_arg5)
          ∧ r.2.mem ((c.tc : Thread Cert.RefTimeOutIdeal.nD Cert.RefTimeOutIdeal.τ).loc Cert.RefTimeOutIdeal.main_arg6) = m' ((c.tc : Thread Cert.RefTimeOutIdeal.nD Cert.RefTimeOutIdeal.τ).loc Cert.RefTimeOutIdeal.main_arg6)
          ∧ r.2.mem ((c.tc : Thread Cert.RefTimeOutIdeal.nD Cert.RefTimeOutIdeal.τ).loc Cert.RefTimeOutIdeal.main_arg7) = m' ((c.tc : Thread Cert.RefTimeOutIdeal.nD Cert.RefTimeOutIdeal.τ).loc Cert.RefTimeOutIdeal.main_arg7)
          ∧ r.2.mem ((c.tc : Thread Cert.RefTimeOutIdeal.nD Cert.RefTimeOutIdeal.τ).loc Cert.RefTimeOutIdeal.main_arg8) = m' ((c.tc : Thread Cert.RefTimeOutIdeal.nD Cert.RefTimeOutIdeal.τ).loc Cert.RefTimeOutIdeal.main_arg8))

def preserves_Fourier_FourierIdeal : Prop :=
  True

def algebraic_FourierIdeal_RefFourierIdeal [hFourierIdeal : Cert.FourierIdeal.Facts] [hRefFourierIdeal : Cert.RefFourierIdeal.Facts] : Prop :=
  ∀ (m : (ℓ : Loc Cert.FourierIdeal.nD Cert.FourierIdeal.τ Cert.FourierIdeal.sig) → Buf (Elt Ideal) ℓ) (g : Dev Cert.FourierIdeal.nD → PrngReg)
    (m' : (ℓ : Loc Cert.RefFourierIdeal.nD Cert.RefFourierIdeal.τ Cert.RefFourierIdeal.sig) → Buf (Elt Ideal) ℓ) (g' : Dev Cert.RefFourierIdeal.nD → PrngReg), Pre_FourierIdeal m →
    (∀ c : Dev Cert.FourierIdeal.nD,
      m' ((c.tc : Thread Cert.RefFourierIdeal.nD Cert.RefFourierIdeal.τ).loc Cert.RefFourierIdeal.main_arg0) = m ((c.tc : Thread Cert.FourierIdeal.nD Cert.FourierIdeal.τ).loc Cert.FourierIdeal.main_arg0)
      ∧ m' ((c.tc : Thread Cert.RefFourierIdeal.nD Cert.RefFourierIdeal.τ).loc Cert.RefFourierIdeal.main_arg1) = m ((c.tc : Thread Cert.FourierIdeal.nD Cert.FourierIdeal.τ).loc Cert.FourierIdeal.main_arg1)
      ∧ m' ((c.tc : Thread Cert.RefFourierIdeal.nD Cert.RefFourierIdeal.τ).loc Cert.RefFourierIdeal.main_arg2) = m ((c.tc : Thread Cert.FourierIdeal.nD Cert.FourierIdeal.τ).loc Cert.FourierIdeal.main_arg2)
      ∧ m' ((c.tc : Thread Cert.RefFourierIdeal.nD Cert.RefFourierIdeal.τ).loc Cert.RefFourierIdeal.main_arg3) = m ((c.tc : Thread Cert.FourierIdeal.nD Cert.FourierIdeal.τ).loc Cert.FourierIdeal.main_arg3)
      ∧ m' ((c.tc : Thread Cert.RefFourierIdeal.nD Cert.RefFourierIdeal.τ).loc Cert.RefFourierIdeal.main_arg4) = m ((c.tc : Thread Cert.FourierIdeal.nD Cert.FourierIdeal.τ).loc Cert.FourierIdeal.main_arg4)
      ∧ m' ((c.tc : Thread Cert.RefFourierIdeal.nD Cert.RefFourierIdeal.τ).loc Cert.RefFourierIdeal.main_arg5) = m ((c.tc : Thread Cert.FourierIdeal.nD Cert.FourierIdeal.τ).loc Cert.FourierIdeal.main_arg5)
      ∧ m' ((c.tc : Thread Cert.RefFourierIdeal.nD Cert.RefFourierIdeal.τ).loc Cert.RefFourierIdeal.main_arg6) = m ((c.tc : Thread Cert.FourierIdeal.nD Cert.FourierIdeal.τ).loc Cert.FourierIdeal.main_arg6)
      ∧ m' ((c.tc : Thread Cert.RefFourierIdeal.nD Cert.RefFourierIdeal.τ).loc Cert.RefFourierIdeal.main_arg7) = m ((c.tc : Thread Cert.FourierIdeal.nD Cert.FourierIdeal.τ).loc Cert.FourierIdeal.main_arg7)) →
    ∃ (v0 : (c : Dev Cert.FourierIdeal.nD) → Buf (Elt Ideal) ((c.tc : Thread Cert.FourierIdeal.nD Cert.FourierIdeal.τ).loc Cert.FourierIdeal.main_v1)),
      θ_run (Cert.FourierIdeal.defs (F := Ideal)) (onTc (τ := Cert.FourierIdeal.τ) (Cert.FourierIdeal.main (F := Ideal))) ⟨m, fun _ => 0, g⟩ (fun r => ∀ c : Dev Cert.FourierIdeal.nD,
          r.2.mem ((c.tc : Thread Cert.FourierIdeal.nD Cert.FourierIdeal.τ).loc Cert.FourierIdeal.main_v1) = v0 c
          ∧ r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
          ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1)
          ∧ r.2.mem ((c.tc : Thread Cert.FourierIdeal.nD Cert.FourierIdeal.τ).loc Cert.FourierIdeal.main_arg2) = m ((c.tc : Thread Cert.FourierIdeal.nD Cert.FourierIdeal.τ).loc Cert.FourierIdeal.main_arg2)
          ∧ r.2.mem ((c.tc : Thread Cert.FourierIdeal.nD Cert.FourierIdeal.τ).loc Cert.FourierIdeal.main_arg3) = m ((c.tc : Thread Cert.FourierIdeal.nD Cert.FourierIdeal.τ).loc Cert.FourierIdeal.main_arg3)
          ∧ r.2.mem ((c.tc : Thread Cert.FourierIdeal.nD Cert.FourierIdeal.τ).loc Cert.FourierIdeal.main_arg4) = m ((c.tc : Thread Cert.FourierIdeal.nD Cert.FourierIdeal.τ).loc Cert.FourierIdeal.main_arg4)
          ∧ r.2.mem ((c.tc : Thread Cert.FourierIdeal.nD Cert.FourierIdeal.τ).loc Cert.FourierIdeal.main_arg5) = m ((c.tc : Thread Cert.FourierIdeal.nD Cert.FourierIdeal.τ).loc Cert.FourierIdeal.main_arg5)
          ∧ r.2.mem ((c.tc : Thread Cert.FourierIdeal.nD Cert.FourierIdeal.τ).loc Cert.FourierIdeal.main_arg6) = m ((c.tc : Thread Cert.FourierIdeal.nD Cert.FourierIdeal.τ).loc Cert.FourierIdeal.main_arg6)
          ∧ r.2.mem ((c.tc : Thread Cert.FourierIdeal.nD Cert.FourierIdeal.τ).loc Cert.FourierIdeal.main_arg7) = m ((c.tc : Thread Cert.FourierIdeal.nD Cert.FourierIdeal.τ).loc Cert.FourierIdeal.main_arg7))
      ∧ θ_run (Cert.RefFourierIdeal.defs (F := Ideal)) (onTc (τ := Cert.RefFourierIdeal.τ) (Cert.RefFourierIdeal.main (F := Ideal))) ⟨m', fun _ => 0, g'⟩ (fun r => ∀ c : Dev Cert.RefFourierIdeal.nD,
          r.2.mem ((c.tc : Thread Cert.RefFourierIdeal.nD Cert.RefFourierIdeal.τ).loc Cert.RefFourierIdeal.main_v60) = v0 c
          ∧ r.2.mem ((c.tc : Thread Cert.RefFourierIdeal.nD Cert.RefFourierIdeal.τ).loc Cert.RefFourierIdeal.main_arg0) = m' ((c.tc : Thread Cert.RefFourierIdeal.nD Cert.RefFourierIdeal.τ).loc Cert.RefFourierIdeal.main_arg0)
          ∧ r.2.mem ((c.tc : Thread Cert.RefFourierIdeal.nD Cert.RefFourierIdeal.τ).loc Cert.RefFourierIdeal.main_arg1) = m' ((c.tc : Thread Cert.RefFourierIdeal.nD Cert.RefFourierIdeal.τ).loc Cert.RefFourierIdeal.main_arg1)
          ∧ r.2.mem ((c.tc : Thread Cert.RefFourierIdeal.nD Cert.RefFourierIdeal.τ).loc Cert.RefFourierIdeal.main_arg2) = m' ((c.tc : Thread Cert.RefFourierIdeal.nD Cert.RefFourierIdeal.τ).loc Cert.RefFourierIdeal.main_arg2)
          ∧ r.2.mem ((c.tc : Thread Cert.RefFourierIdeal.nD Cert.RefFourierIdeal.τ).loc Cert.RefFourierIdeal.main_arg3) = m' ((c.tc : Thread Cert.RefFourierIdeal.nD Cert.RefFourierIdeal.τ).loc Cert.RefFourierIdeal.main_arg3)
          ∧ r.2.mem ((c.tc : Thread Cert.RefFourierIdeal.nD Cert.RefFourierIdeal.τ).loc Cert.RefFourierIdeal.main_arg4) = m' ((c.tc : Thread Cert.RefFourierIdeal.nD Cert.RefFourierIdeal.τ).loc Cert.RefFourierIdeal.main_arg4)
          ∧ r.2.mem ((c.tc : Thread Cert.RefFourierIdeal.nD Cert.RefFourierIdeal.τ).loc Cert.RefFourierIdeal.main_arg5) = m' ((c.tc : Thread Cert.RefFourierIdeal.nD Cert.RefFourierIdeal.τ).loc Cert.RefFourierIdeal.main_arg5)
          ∧ r.2.mem ((c.tc : Thread Cert.RefFourierIdeal.nD Cert.RefFourierIdeal.τ).loc Cert.RefFourierIdeal.main_arg6) = m' ((c.tc : Thread Cert.RefFourierIdeal.nD Cert.RefFourierIdeal.τ).loc Cert.RefFourierIdeal.main_arg6)
          ∧ r.2.mem ((c.tc : Thread Cert.RefFourierIdeal.nD Cert.RefFourierIdeal.τ).loc Cert.RefFourierIdeal.main_arg7) = m' ((c.tc : Thread Cert.RefFourierIdeal.nD Cert.RefFourierIdeal.τ).loc Cert.RefFourierIdeal.main_arg7))

def preserves_Modulation_ModulationIdeal : Prop :=
  True

def algebraic_ModulationIdeal_RefModulationIdeal [hModulationIdeal : Cert.ModulationIdeal.Facts] [hRefModulationIdeal : Cert.RefModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.RefModulationIdeal.nD Cert.RefModulationIdeal.τ Cert.RefModulationIdeal.sig) → Buf (Elt Ideal) ℓ) (g' : Dev Cert.RefModulationIdeal.nD → PrngReg), Pre_ModulationIdeal m →
    (∀ c : Dev Cert.ModulationIdeal.nD,
      m' ((c.tc : Thread Cert.RefModulationIdeal.nD Cert.RefModulationIdeal.τ).loc Cert.RefModulationIdeal.main_arg0) = m ((c.tc : Thread Cert.ModulationIdeal.nD Cert.ModulationIdeal.τ).loc Cert.ModulationIdeal.main_arg0)
      ∧ m' ((c.tc : Thread Cert.RefModulationIdeal.nD Cert.RefModulationIdeal.τ).loc Cert.RefModulationIdeal.main_arg1) = m ((c.tc : Thread Cert.ModulationIdeal.nD Cert.ModulationIdeal.τ).loc Cert.ModulationIdeal.main_arg1)
      ∧ m' ((c.tc : Thread Cert.RefModulationIdeal.nD Cert.RefModulationIdeal.τ).loc Cert.RefModulationIdeal.main_arg2) = m ((c.tc : Thread Cert.ModulationIdeal.nD Cert.ModulationIdeal.τ).loc Cert.ModulationIdeal.main_arg2)
      ∧ m' ((c.tc : Thread Cert.RefModulationIdeal.nD Cert.RefModulationIdeal.τ).loc Cert.RefModulationIdeal.main_arg3) = m ((c.tc : Thread Cert.ModulationIdeal.nD Cert.ModulationIdeal.τ).loc Cert.ModulationIdeal.main_arg3)) →
    ∃ (v0 : (c : Dev Cert.ModulationIdeal.nD) → Buf (Elt Ideal) ((c.tc : Thread Cert.ModulationIdeal.nD Cert.ModulationIdeal.τ).loc Cert.ModulationIdeal.main_v4)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v4) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ θ_run (Cert.RefModulationIdeal.defs (F := Ideal)) (onTc (τ := Cert.RefModulationIdeal.τ) (Cert.RefModulationIdeal.main (F := Ideal))) ⟨m', fun _ => 0, g'⟩ (fun r => ∀ c : Dev Cert.RefModulationIdeal.nD,
          r.2.mem ((c.tc : Thread Cert.RefModulationIdeal.nD Cert.RefModulationIdeal.τ).loc Cert.RefModulationIdeal.main_v16) = v0 c
          ∧ r.2.mem ((c.tc : Thread Cert.RefModulationIdeal.nD Cert.RefModulationIdeal.τ).loc Cert.RefModulationIdeal.main_arg0) = m' ((c.tc : Thread Cert.RefModulationIdeal.nD Cert.RefModulationIdeal.τ).loc Cert.RefModulationIdeal.main_arg0)
          ∧ r.2.mem ((c.tc : Thread Cert.RefModulationIdeal.nD Cert.RefModulationIdeal.τ).loc Cert.RefModulationIdeal.main_arg1) = m' ((c.tc : Thread Cert.RefModulationIdeal.nD Cert.RefModulationIdeal.τ).loc Cert.RefModulationIdeal.main_arg1)
          ∧ r.2.mem ((c.tc : Thread Cert.RefModulationIdeal.nD Cert.RefModulationIdeal.τ).loc Cert.RefModulationIdeal.main_arg2) = m' ((c.tc : Thread Cert.RefModulationIdeal.nD Cert.RefModulationIdeal.τ).loc Cert.RefModulationIdeal.main_arg2)
          ∧ r.2.mem ((c.tc : Thread Cert.RefModulationIdeal.nD Cert.RefModulationIdeal.τ).loc Cert.RefModulationIdeal.main_arg3) = m' ((c.tc : Thread Cert.RefModulationIdeal.nD Cert.RefModulationIdeal.τ).loc Cert.RefModulationIdeal.main_arg3))

def preserves_MlpBoth_MlpBothIdeal : Prop :=
  True

def algebraic_MlpBothIdeal_RefMlpBothIdeal [hMlpBothIdeal : Cert.MlpBothIdeal.Facts] [hRefMlpBothIdeal : Cert.RefMlpBothIdeal.Facts] : Prop :=
  ∀ (m : (ℓ : Loc Cert.MlpBothIdeal.nD Cert.MlpBothIdeal.τ Cert.MlpBothIdeal.sig) → Buf (Elt Ideal) ℓ) (g : Dev Cert.MlpBothIdeal.nD → PrngReg)
    (m' : (ℓ : Loc Cert.RefMlpBothIdeal.nD Cert.RefMlpBothIdeal.τ Cert.RefMlpBothIdeal.sig) → Buf (Elt Ideal) ℓ) (g' : Dev Cert.RefMlpBothIdeal.nD → PrngReg), Pre_MlpBothIdeal m →
    (∀ c : Dev Cert.MlpBothIdeal.nD,
      m' ((c.tc : Thread Cert.RefMlpBothIdeal.nD Cert.RefMlpBothIdeal.τ).loc Cert.RefMlpBothIdeal.main_arg0) = m ((c.tc : Thread Cert.MlpBothIdeal.nD Cert.MlpBothIdeal.τ).loc Cert.MlpBothIdeal.main_arg0)
      ∧ m' ((c.tc : Thread Cert.RefMlpBothIdeal.nD Cert.RefMlpBothIdeal.τ).loc Cert.RefMlpBothIdeal.main_arg1) = m ((c.tc : Thread Cert.MlpBothIdeal.nD Cert.MlpBothIdeal.τ).loc Cert.MlpBothIdeal.main_arg1)
      ∧ m' ((c.tc : Thread Cert.RefMlpBothIdeal.nD Cert.RefMlpBothIdeal.τ).loc Cert.RefMlpBothIdeal.main_arg2) = m ((c.tc : Thread Cert.MlpBothIdeal.nD Cert.MlpBothIdeal.τ).loc Cert.MlpBothIdeal.main_arg2)
      ∧ m' ((c.tc : Thread Cert.RefMlpBothIdeal.nD Cert.RefMlpBothIdeal.τ).loc Cert.RefMlpBothIdeal.main_arg3) = m ((c.tc : Thread Cert.MlpBothIdeal.nD Cert.MlpBothIdeal.τ).loc Cert.MlpBothIdeal.main_arg3)
      ∧ m' ((c.tc : Thread Cert.RefMlpBothIdeal.nD Cert.RefMlpBothIdeal.τ).loc Cert.RefMlpBothIdeal.main_arg4) = m ((c.tc : Thread Cert.MlpBothIdeal.nD Cert.MlpBothIdeal.τ).loc Cert.MlpBothIdeal.main_arg4)
      ∧ m' ((c.tc : Thread Cert.RefMlpBothIdeal.nD Cert.RefMlpBothIdeal.τ).loc Cert.RefMlpBothIdeal.main_arg5) = m ((c.tc : Thread Cert.MlpBothIdeal.nD Cert.MlpBothIdeal.τ).loc Cert.MlpBothIdeal.main_arg5)
      ∧ m' ((c.tc : Thread Cert.RefMlpBothIdeal.nD Cert.RefMlpBothIdeal.τ).loc Cert.RefMlpBothIdeal.main_arg6) = m ((c.tc : Thread Cert.MlpBothIdeal.nD Cert.MlpBothIdeal.τ).loc Cert.MlpBothIdeal.main_arg6)
      ∧ m' ((c.tc : Thread Cert.RefMlpBothIdeal.nD Cert.RefMlpBothIdeal.τ).loc Cert.RefMlpBothIdeal.main_arg7) = m ((c.tc : Thread Cert.MlpBothIdeal.nD Cert.MlpBothIdeal.τ).loc Cert.MlpBothIdeal.main_arg7)
      ∧ m' ((c.tc : Thread Cert.RefMlpBothIdeal.nD Cert.RefMlpBothIdeal.τ).loc Cert.RefMlpBothIdeal.main_arg8) = m ((c.tc : Thread Cert.MlpBothIdeal.nD Cert.MlpBothIdeal.τ).loc Cert.MlpBothIdeal.main_arg8)) →
    ∃ (v0 : (c : Dev Cert.MlpBothIdeal.nD) → Buf (Elt Ideal) ((c.tc : Thread Cert.MlpBothIdeal.nD Cert.MlpBothIdeal.τ).loc Cert.MlpBothIdeal.main_v4_0)) (v1 : (c : Dev Cert.MlpBothIdeal.nD) → Buf (Elt Ideal) ((c.tc : Thread Cert.MlpBothIdeal.nD Cert.MlpBothIdeal.τ).loc Cert.MlpBothIdeal.main_v4_1)),
      θ_run (Cert.MlpBothIdeal.defs (F := Ideal)) (onTc (τ := Cert.MlpBothIdeal.τ) (Cert.MlpBothIdeal.main (F := Ideal))) ⟨m, fun _ => 0, g⟩ (fun r => ∀ c : Dev Cert.MlpBothIdeal.nD,
          r.2.mem ((c.tc : Thread Cert.MlpBothIdeal.nD Cert.MlpBothIdeal.τ).loc Cert.MlpBothIdeal.main_v4_0) = v0 c
          ∧ r.2.mem ((c.tc : Thread Cert.MlpBothIdeal.nD Cert.MlpBothIdeal.τ).loc Cert.MlpBothIdeal.main_v4_1) = v1 c
          ∧ r.2.mem ((c.tc : Thread Cert.MlpBothIdeal.nD Cert.MlpBothIdeal.τ).loc Cert.MlpBothIdeal.main_arg0) = m ((c.tc : Thread Cert.MlpBothIdeal.nD Cert.MlpBothIdeal.τ).loc Cert.MlpBothIdeal.main_arg0)
          ∧ r.2.mem ((c.tc : Thread Cert.MlpBothIdeal.nD Cert.MlpBothIdeal.τ).loc Cert.MlpBothIdeal.main_arg1) = m ((c.tc : Thread Cert.MlpBothIdeal.nD Cert.MlpBothIdeal.τ).loc Cert.MlpBothIdeal.main_arg1)
          ∧ r.2.mem ((c.tc : Thread Cert.MlpBothIdeal.nD Cert.MlpBothIdeal.τ).loc Cert.MlpBothIdeal.main_arg2) = m ((c.tc : Thread Cert.MlpBothIdeal.nD Cert.MlpBothIdeal.τ).loc Cert.MlpBothIdeal.main_arg2)
          ∧ r.2.mem ((c.tc : Thread Cert.MlpBothIdeal.nD Cert.MlpBothIdeal.τ).loc Cert.MlpBothIdeal.main_arg3) = m ((c.tc : Thread Cert.MlpBothIdeal.nD Cert.MlpBothIdeal.τ).loc Cert.MlpBothIdeal.main_arg3)
          ∧ r.2.mem ((c.tc : Thread Cert.MlpBothIdeal.nD Cert.MlpBothIdeal.τ).loc Cert.MlpBothIdeal.main_arg4) = m ((c.tc : Thread Cert.MlpBothIdeal.nD Cert.MlpBothIdeal.τ).loc Cert.MlpBothIdeal.main_arg4)
          ∧ r.2.mem ((c.tc : Thread Cert.MlpBothIdeal.nD Cert.MlpBothIdeal.τ).loc Cert.MlpBothIdeal.main_arg5) = m ((c.tc : Thread Cert.MlpBothIdeal.nD Cert.MlpBothIdeal.τ).loc Cert.MlpBothIdeal.main_arg5)
          ∧ r.2.mem ((c.tc : Thread Cert.MlpBothIdeal.nD Cert.MlpBothIdeal.τ).loc Cert.MlpBothIdeal.main_arg6) = m ((c.tc : Thread Cert.MlpBothIdeal.nD Cert.MlpBothIdeal.τ).loc Cert.MlpBothIdeal.main_arg6)
          ∧ r.2.mem ((c.tc : Thread Cert.MlpBothIdeal.nD Cert.MlpBothIdeal.τ).loc Cert.MlpBothIdeal.main_arg7) = m ((c.tc : Thread Cert.MlpBothIdeal.nD Cert.MlpBothIdeal.τ).loc Cert.MlpBothIdeal.main_arg7)
          ∧ r.2.mem ((c.tc : Thread Cert.MlpBothIdeal.nD Cert.MlpBothIdeal.τ).loc Cert.MlpBothIdeal.main_arg8) = m ((c.tc : Thread Cert.MlpBothIdeal.nD Cert.MlpBothIdeal.τ).loc Cert.MlpBothIdeal.main_arg8))
      ∧ θ_run (Cert.RefMlpBothIdeal.defs (F := Ideal)) (onTc (τ := Cert.RefMlpBothIdeal.τ) (Cert.RefMlpBothIdeal.main (F := Ideal))) ⟨m', fun _ => 0, g'⟩ (fun r => ∀ c : Dev Cert.RefMlpBothIdeal.nD,
          r.2.mem ((c.tc : Thread Cert.RefMlpBothIdeal.nD Cert.RefMlpBothIdeal.τ).loc Cert.RefMlpBothIdeal.main_v150) = v0 c
          ∧ r.2.mem ((c.tc : Thread Cert.RefMlpBothIdeal.nD Cert.RefMlpBothIdeal.τ).loc Cert.RefMlpBothIdeal.main_v153) = v1 c
          ∧ r.2.mem ((c.tc : Thread Cert.RefMlpBothIdeal.nD Cert.RefMlpBothIdeal.τ).loc Cert.RefMlpBothIdeal.main_arg0) = m' ((c.tc : Thread Cert.RefMlpBothIdeal.nD Cert.RefMlpBothIdeal.τ).loc Cert.RefMlpBothIdeal.main_arg0)
          ∧ r.2.mem ((c.tc : Thread Cert.RefMlpBothIdeal.nD Cert.RefMlpBothIdeal.τ).loc Cert.RefMlpBothIdeal.main_arg1) = m' ((c.tc : Thread Cert.RefMlpBothIdeal.nD Cert.RefMlpBothIdeal.τ).loc Cert.RefMlpBothIdeal.main_arg1)
          ∧ r.2.mem ((c.tc : Thread Cert.RefMlpBothIdeal.nD Cert.RefMlpBothIdeal.τ).loc Cert.RefMlpBothIdeal.main_arg2) = m' ((c.tc : Thread Cert.RefMlpBothIdeal.nD Cert.RefMlpBothIdeal.τ).loc Cert.RefMlpBothIdeal.main_arg2)
          ∧ r.2.mem ((c.tc : Thread Cert.RefMlpBothIdeal.nD Cert.RefMlpBothIdeal.τ).loc Cert.RefMlpBothIdeal.main_arg3) = m' ((c.tc : Thread Cert.RefMlpBothIdeal.nD Cert.RefMlpBothIdeal.τ).loc Cert.RefMlpBothIdeal.main_arg3)
          ∧ r.2.mem ((c.tc : Thread Cert.RefMlpBothIdeal.nD Cert.RefMlpBothIdeal.τ).loc Cert.RefMlpBothIdeal.main_arg4) = m' ((c.tc : Thread Cert.RefMlpBothIdeal.nD Cert.RefMlpBothIdeal.τ).loc Cert.RefMlpBothIdeal.main_arg4)
          ∧ r.2.mem ((c.tc : Thread Cert.RefMlpBothIdeal.nD Cert.RefMlpBothIdeal.τ).loc Cert.RefMlpBothIdeal.main_arg5) = m' ((c.tc : Thread Cert.RefMlpBothIdeal.nD Cert.RefMlpBothIdeal.τ).loc Cert.RefMlpBothIdeal.main_arg5)
          ∧ r.2.mem ((c.tc : Thread Cert.RefMlpBothIdeal.nD Cert.RefMlpBothIdeal.τ).loc Cert.RefMlpBothIdeal.main_arg6) = m' ((c.tc : Thread Cert.RefMlpBothIdeal.nD Cert.RefMlpBothIdeal.τ).loc Cert.RefMlpBothIdeal.main_arg6)
          ∧ r.2.mem ((c.tc : Thread Cert.RefMlpBothIdeal.nD Cert.RefMlpBothIdeal.τ).loc Cert.RefMlpBothIdeal.main_arg7) = m' ((c.tc : Thread Cert.RefMlpBothIdeal.nD Cert.RefMlpBothIdeal.τ).loc Cert.RefMlpBothIdeal.main_arg7)
          ∧ r.2.mem ((c.tc : Thread Cert.RefMlpBothIdeal.nD Cert.RefMlpBothIdeal.τ).loc Cert.RefMlpBothIdeal.main_arg8) = m' ((c.tc : Thread Cert.RefMlpBothIdeal.nD Cert.RefMlpBothIdeal.τ).loc Cert.RefMlpBothIdeal.main_arg8))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hRefMlpIdeal : Cert.RefMlpIdeal.Facts) (hMlpCtx : Cert.MlpCtx.Facts) (hMlpCtxIdeal : Cert.MlpCtxIdeal.Facts) (hRefMlpCtxIdeal : Cert.RefMlpCtxIdeal.Facts) (hProj : Cert.Proj.Facts) (hProjIdeal : Cert.ProjIdeal.Facts) (hRefProjIdeal : Cert.RefProjIdeal.Facts) (hConv : Cert.Conv.Facts) (hConvIdeal : Cert.ConvIdeal.Facts) (hRefConvIdeal : Cert.RefConvIdeal.Facts) (hTimeOut : Cert.TimeOut.Facts) (hTimeOutIdeal : Cert.TimeOutIdeal.Facts) (hRefTimeOutIdeal : Cert.RefTimeOutIdeal.Facts) (hFourier : Cert.Fourier.Facts) (hFourierIdeal : Cert.FourierIdeal.Facts) (hRefFourierIdeal : Cert.RefFourierIdeal.Facts) (hModulation : Cert.Modulation.Facts) (hModulationIdeal : Cert.ModulationIdeal.Facts) (hRefModulationIdeal : Cert.RefModulationIdeal.Facts) (hMlpBoth : Cert.MlpBoth.Facts) (hMlpBothIdeal : Cert.MlpBothIdeal.Facts) (hRefMlpBothIdeal : Cert.RefMlpBothIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Mlp (hMlp := hMlp)
    ∧ quiescent_MlpIdeal (hMlpIdeal := hMlpIdeal)
    ∧ quiescent_RefMlpIdeal (hRefMlpIdeal := hRefMlpIdeal)
    ∧ quiescent_MlpCtx (hMlpCtx := hMlpCtx)
    ∧ quiescent_MlpCtxIdeal (hMlpCtxIdeal := hMlpCtxIdeal)
    ∧ quiescent_RefMlpCtxIdeal (hRefMlpCtxIdeal := hRefMlpCtxIdeal)
    ∧ quiescent_Proj (hProj := hProj)
    ∧ quiescent_ProjIdeal (hProjIdeal := hProjIdeal)
    ∧ quiescent_RefProjIdeal (hRefProjIdeal := hRefProjIdeal)
    ∧ quiescent_Conv (hConv := hConv)
    ∧ quiescent_ConvIdeal (hConvIdeal := hConvIdeal)
    ∧ quiescent_RefConvIdeal (hRefConvIdeal := hRefConvIdeal)
    ∧ quiescent_TimeOut (hTimeOut := hTimeOut)
    ∧ quiescent_TimeOutIdeal (hTimeOutIdeal := hTimeOutIdeal)
    ∧ quiescent_RefTimeOutIdeal (hRefTimeOutIdeal := hRefTimeOutIdeal)
    ∧ quiescent_Fourier (hFourier := hFourier)
    ∧ quiescent_FourierIdeal (hFourierIdeal := hFourierIdeal)
    ∧ quiescent_RefFourierIdeal (hRefFourierIdeal := hRefFourierIdeal)
    ∧ quiescent_Modulation (hModulation := hModulation)
    ∧ quiescent_ModulationIdeal (hModulationIdeal := hModulationIdeal)
    ∧ quiescent_RefModulationIdeal (hRefModulationIdeal := hRefModulationIdeal)
    ∧ quiescent_MlpBoth (hMlpBoth := hMlpBoth)
    ∧ quiescent_MlpBothIdeal (hMlpBothIdeal := hMlpBothIdeal)
    ∧ quiescent_RefMlpBothIdeal (hRefMlpBothIdeal := hRefMlpBothIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Mlp_MlpIdeal
    ∧ algebraic_MlpIdeal_RefMlpIdeal (hMlpIdeal := hMlpIdeal) (hRefMlpIdeal := hRefMlpIdeal)
    ∧ preserves_MlpCtx_MlpCtxIdeal
    ∧ algebraic_MlpCtxIdeal_RefMlpCtxIdeal (hMlpCtxIdeal := hMlpCtxIdeal) (hRefMlpCtxIdeal := hRefMlpCtxIdeal)
    ∧ preserves_Proj_ProjIdeal
    ∧ algebraic_ProjIdeal_RefProjIdeal (hProjIdeal := hProjIdeal) (hRefProjIdeal := hRefProjIdeal)
    ∧ preserves_Conv_ConvIdeal
    ∧ algebraic_ConvIdeal_RefConvIdeal (hConvIdeal := hConvIdeal) (hRefConvIdeal := hRefConvIdeal)
    ∧ preserves_TimeOut_TimeOutIdeal
    ∧ algebraic_TimeOutIdeal_RefTimeOutIdeal (hTimeOutIdeal := hTimeOutIdeal) (hRefTimeOutIdeal := hRefTimeOutIdeal)
    ∧ preserves_Fourier_FourierIdeal
    ∧ algebraic_FourierIdeal_RefFourierIdeal (hFourierIdeal := hFourierIdeal) (hRefFourierIdeal := hRefFourierIdeal)
    ∧ preserves_Modulation_ModulationIdeal
    ∧ algebraic_ModulationIdeal_RefModulationIdeal (hModulationIdeal := hModulationIdeal) (hRefModulationIdeal := hRefModulationIdeal)
    ∧ preserves_MlpBoth_MlpBothIdeal
    ∧ algebraic_MlpBothIdeal_RefMlpBothIdeal (hMlpBothIdeal := hMlpBothIdeal) (hRefMlpBothIdeal := hRefMlpBothIdeal)
-- ==== Pre_finite_scores.lean ====
abbrev S6144x1024 : Shape := ⟨2, ![6144, 1024]⟩
abbrev S1x8x6x1024 : Shape := ⟨4, ![1, 8, 6, 1024]⟩
abbrev S4x4x1024 : Shape := ⟨3, ![4, 4, 1024]⟩
abbrev S2048x1024 : Shape := ⟨2, ![2048, 1024]⟩
abbrev S2048x512 : Shape := ⟨2, ![2048, 512]⟩
abbrev S2x1x256x256 : Shape := ⟨4, ![2, 1, 256, 256]⟩
abbrev S2048x256 : Shape := ⟨2, ![2048, 256]⟩
abbrev S2x1x256x64 : Shape := ⟨4, ![2, 1, 256, 64]⟩
abbrev S2048x64 : Shape := ⟨2, ![2048, 64]⟩
abbrev S1x256x1024 : Shape := ⟨3, ![1, 256, 1024]⟩
abbrev S1x1024x1024 : Shape := ⟨3, ![1, 1024, 1024]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S2x1x256x256 : S_.BroadcastsInDim S2x1x256x256 (![] : Fin 0 → Fin S2x1x256x256.rank)
  reducesTo_S2x1x256x256_S_d0_1_2_3 : S2x1x256x256.ReducesTo [0, 1, 2, 3] S_
  bcast_S_S2048x256 : S_.BroadcastsInDim S2048x256 (![] : Fin 0 → Fin S2048x256.rank)
  reducesTo_S2048x256_S_d0_1 : S2048x256.ReducesTo [0, 1] S_
  bcast_S_S2x1x256x64 : S_.BroadcastsInDim S2x1x256x64 (![] : Fin 0 → Fin S2x1x256x64.rank)
  reducesTo_S2x1x256x64_S_d0_1_2_3 : S2x1x256x64.ReducesTo [0, 1, 2, 3] S_
  bcast_S_S2048x64 : S_.BroadcastsInDim S2048x64 (![] : Fin 0 → Fin S2048x64.rank)
  reducesTo_S2048x64_S_d0_1 : S2048x64.ReducesTo [0, 1] S_
  bcast_S_S1x256x1024 : S_.BroadcastsInDim S1x256x1024 (![] : Fin 0 → Fin S1x256x1024.rank)
  reducesTo_S1x256x1024_S_d0_1_2 : S1x256x1024.ReducesTo [0, 1, 2] S_

variable [Facts]

def fn_part2 {F : FTy → Type} [FloatOps F] (main_v30 : IVec S_ 1) (main_v33 : IVec S1x256x1024 1) (main_c_11 : IVec S_ 1) : IVec S_ 1 :=
  let main_v34 : IVec S_ 1 := (fun x v => Host.reduce IntOp.andi x v reducesTo_S1x256x1024_S_d0_1_2 h_S_) main_v33 main_c_11
  let main_v35 : IVec S_ 1 := andi main_v30 main_v34
  main_v35

def fn_part1 {F : FTy → Type} [FloatOps F] (main_arg7 : FVec F S2x1x256x64 .f32) (main_arg8 : FVec F S2048x64 .f32) (main_arg9 : FVec F S1x256x1024 .f32) (main_v15 : IVec S_ 1) (main_v16 : FVec F S2048x256 .f32) (main_cst_4 : FVec F S_ .f32) : IVec S_ 1 :=
  let main_v17 : FVec F S2048x256 .f32 := broadcastInDim S2048x256 ![] bcast_S_S2048x256 main_cst_4
  let main_v18 : IVec S2048x256 1 := cmpf .olt main_v16 main_v17
  let main_c_5 : IVec S_ 1 := constantI S_ 1 1#1
  let main_v19 : IVec S_ 1 := (fun x v => Host.reduce IntOp.andi x v reducesTo_S2048x256_S_d0_1 h_S_) main_v18 main_c_5
  let main_v20 : IVec S_ 1 := andi main_v15 main_v19
  let main_v21 : FVec F S2x1x256x64 .f32 := Host.absf main_arg7
  let main_cst_6 : FVec F S_ .f32 := constant S_ .f32 0x7F800000#32
  let main_v22 : FVec F S2x1x256x64 .f32 := broadcastInDim S2x1x256x64 ![] bcast_S_S2x1x256x64 main_cst_6
  let main_v23 : IVec S2x1x256x64 1 := cmpf .olt main_v21 main_v22
  let main_c_7 : IVec S_ 1 := constantI S_ 1 1#1
  let main_v24 : IVec S_ 1 := (fun x v => Host.reduce IntOp.andi x v reducesTo_S2x1x256x64_S_d0_1_2_3 h_S_) main_v23 main_c_7
  let main_v25 : IVec S_ 1 := andi main_v20 main_v24
  let main_v26 : FVec F S2048x64 .f32 := Host.absf main_arg8
  let main_cst_8 : FVec F S_ .f32 := constant S_ .f32 0x7F800000#32
  let main_v27 : FVec F S2048x64 .f32 := broadcastInDim S2048x64 ![] bcast_S_S2048x64 main_cst_8
  let main_v28 : IVec S2048x64 1 := cmpf .olt main_v26 main_v27
  let main_c_9 : IVec S_ 1 := constantI S_ 1 1#1
  let main_v29 : IVec S_ 1 := (fun x v => Host.reduce IntOp.andi x v reducesTo_S2048x64_S_d0_1 h_S_) main_v28 main_c_9
  let main_v30 : IVec S_ 1 := andi main_v25 main_v29
  let main_v31 : FVec F S1x256x1024 .f32 := Host.absf main_arg9
  let main_cst_10 : FVec F S_ .f32 := constant S_ .f32 0x7F800000#32
  let main_v32 : FVec F S1x256x1024 .f32 := broadcastInDim S1x256x1024 ![] bcast_S_S1x256x1024 main_cst_10
  let main_v33 : IVec S1x256x1024 1 := cmpf .olt main_v31 main_v32
  let main_c_11 : IVec S_ 1 := constantI S_ 1 1#1
  fn_part2 (F := F) main_v30 main_v33 main_c_11

def fn {F : FTy → Type} [FloatOps F] (main_arg0 : FVec F S6144x1024 .f32) (main_arg1 : FVec F S1x8x6x1024 .f32) (main_arg2 : FVec F S4x4x1024 .f32) (main_arg3 : FVec F S2048x1024 .bf16) (main_arg4 : FVec F S2048x512 .bf16) (main_arg5 : FVec F S2x1x256x256 .f32) (main_arg6 : FVec F S2048x256 .f32) (main_arg7 : FVec F S2x1x256x64 .f32) (main_arg8 : FVec F S2048x64 .f32) (main_arg9 : FVec F S1x256x1024 .f32) (main_arg10 : FVec F S1x256x1024 .f32) (main_arg11 : FVec F S1x1024x1024 .f32) : IVec S_ 1 :=
  let main_v0 : FVec F S2048x1024 .f32 := (extf .f32 · bitsLt_bf16_f32) main_arg3
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S2048x512 .f32 := (extf .f32 · bitsLt_bf16_f32) main_arg4
  let main_v6 : FVec F S2048x512 .f32 := Host.absf main_v5
  let main_cst_0 : FVec F S_ .f32 := constant S_ .f32 0x7F800000#32
  let main_v7 : FVec F S2048x512 .f32 := broadcastInDim S2048x512 ![] bcast_S_S2048x512 main_cst_0
  let main_v8 : IVec S2048x512 1 := cmpf .olt main_v6 main_v7
  let main_c_1 : IVec S_ 1 := constantI S_ 1 1#1
  let main_v9 : IVec S_ 1 := (fun x v => Host.reduce IntOp.andi x v reducesTo_S2048x512_S_d0_1 h_S_) main_v8 main_c_1
  let main_v10 : IVec S_ 1 := andi main_v4 main_v9
  let main_v11 : FVec F S2x1x256x256 .f32 := Host.absf main_arg5
  let main_cst_2 : FVec F S_ .f32 := constant S_ .f32 0x7F800000#32
  let main_v12 : FVec F S2x1x256x256 .f32 := broadcastInDim S2x1x256x256 ![] bcast_S_S2x1x256x256 main_cst_2
  let main_v13 : IVec S2x1x256x256 1 := cmpf .olt main_v11 main_v12
  let main_c_3 : IVec S_ 1 := constantI S_ 1 1#1
  let main_v14 : IVec S_ 1 := (fun x v => Host.reduce IntOp.andi x v reducesTo_S2x1x256x256_S_d0_1_2_3 h_S_) main_v13 main_c_3
  let main_v15 : IVec S_ 1 := andi main_v10 main_v14
  let main_v16 : FVec F S2048x256 .f32 := Host.absf main_arg6
  let main_cst_4 : FVec F S_ .f32 := constant S_ .f32 0x7F800000#32
  fn_part1 (F := F) main_arg7 main_arg8 main_arg9 main_v15 main_v16 main_cst_4
-- ==== Kernel.lean ====
abbrev S6144x1024 : Shape := ⟨2, ![6144, 1024]⟩
abbrev S1x8x6x1024 : Shape := ⟨4, ![1, 8, 6, 1024]⟩
abbrev S4x4x1024 : Shape := ⟨3, ![4, 4, 1024]⟩
abbrev S2048x1024 : Shape := ⟨2, ![2048, 1024]⟩
abbrev S2048x512 : Shape := ⟨2, ![2048, 512]⟩
abbrev S2x1x256x256 : Shape := ⟨4, ![2, 1, 256, 256]⟩
abbrev S2048x256 : Shape := ⟨2, ![2048, 256]⟩
abbrev S2x1x256x64 : Shape := ⟨4, ![2, 1, 256, 64]⟩
abbrev S2048x64 : Shape := ⟨2, ![2048, 64]⟩
abbrev S1x256x1024 : Shape := ⟨3, ![1, 256, 1024]⟩
abbrev S1x1024x1024 : Shape := ⟨3, ![1, 1024, 1024]⟩
abbrev S2x256x256 : Shape := ⟨3, ![2, 256, 256]⟩
abbrev S2x1024x256 : Shape := ⟨3, ![2, 1024, 256]⟩
abbrev S2x1280x256 : Shape := ⟨3, ![2, 1280, 256]⟩
abbrev S2x256x64 : Shape := ⟨3, ![2, 256, 64]⟩
abbrev S2x1024x64 : Shape := ⟨3, ![2, 1024, 64]⟩
abbrev S2x1280x64 : Shape := ⟨3, ![2, 1280, 64]⟩
abbrev S2560x256 : Shape := ⟨2, ![2560, 256]⟩
abbrev S2560x64 : Shape := ⟨2, ![2560, 64]⟩
abbrev S256x1024 : Shape := ⟨2, ![256, 1024]⟩
abbrev S1x1x6x1024 : Shape := ⟨4, ![1, 1, 6, 1024]⟩
abbrev S1x4x1024 : Shape := ⟨3, ![1, 4, 1024]⟩
abbrev S256x512 : Shape := ⟨2, ![256, 512]⟩
abbrev S1280x256 : Shape := ⟨2, ![1280, 256]⟩
abbrev S1280x64 : Shape := ⟨2, ![1280, 64]⟩
abbrev S1280x1024 : Shape := ⟨2, ![1280, 1024]⟩
abbrev S256x128 : Shape := ⟨2, ![256, 128]⟩
abbrev S256x64 : Shape := ⟨2, ![256, 64]⟩
abbrev S256x192 : Shape := ⟨2, ![256, 192]⟩
abbrev S1280x128 : Shape := ⟨2, ![1280, 128]⟩
abbrev S1280x192 : Shape := ⟨2, ![1280, 192]⟩
abbrev S256x1280 : Shape := ⟨2, ![256, 1280]⟩
abbrev S256 : Shape := ⟨1, ![256]⟩
abbrev S256x1 : Shape := ⟨2, ![256, 1]⟩
abbrev S1024x1024 : Shape := ⟨2, ![1024, 1024]⟩
abbrev S6x1024 : Shape := ⟨2, ![6, 1024]⟩
abbrev S4x1024 : Shape := ⟨2, ![4, 1024]⟩
abbrev S1x1024 : Shape := ⟨2, ![1, 1024]⟩

abbrev nBuf : Space → Nat
  | .hbm => 21
  | .vmem => 21
  | .smem => 0
  | _ => 0

abbrev bufTy : (tb : Table) → Fin (tcTables nBuf tb) → BufTy
  | .hbm, ⟨0, _⟩ => ⟨S6144x1024, .f32⟩
  | .hbm, ⟨1, _⟩ => ⟨S1x8x6x1024, .f32⟩
  | .hbm, ⟨2, _⟩ => ⟨S4x4x1024, .f32⟩
  | .hbm, ⟨3, _⟩ => ⟨S2048x1024, .bf16⟩
  | .hbm, ⟨4, _⟩ => ⟨S2048x512, .bf16⟩
  | .hbm, ⟨5, _⟩ => ⟨S2x1x256x256, .f32⟩
  | .hbm, ⟨6, _⟩ => ⟨S2048x256, .f32⟩
  | .hbm, ⟨7, _⟩ => ⟨S2x1x256x64, .f32⟩
  | .hbm, ⟨8, _⟩ => ⟨S2048x64, .f32⟩
  | .hbm, ⟨9, _⟩ => ⟨S1x256x1024, .f32⟩
  | .hbm, ⟨10, _⟩ => ⟨S1x256x1024, .f32⟩
  | .hbm, ⟨11, _⟩ => ⟨S1x1024x1024, .f32⟩
  | .hbm, ⟨12, _⟩ => ⟨S2x256x256, .f32⟩
  | .hbm, ⟨13, _⟩ => ⟨S2x1024x256, .f32⟩
  | .hbm, ⟨14, _⟩ => ⟨S2x1280x256, .f32⟩
  | .hbm, ⟨15, _⟩ => ⟨S2x256x64, .f32⟩
  | .hbm, ⟨16, _⟩ => ⟨S2x1024x64, .f32⟩
  | .hbm, ⟨17, _⟩ => ⟨S2x1280x64, .f32⟩
  | .hbm, ⟨18, _⟩ => ⟨S2560x256, .f32⟩
  | .hbm, ⟨19, _⟩ => ⟨S2560x64, .f32⟩
  | .hbm, ⟨20, _⟩ => ⟨S6144x1024, .f32⟩
  | .local _ .vmem, ⟨0, _⟩ => ⟨S256x1024, .f32⟩
  | .local _ .vmem, ⟨1, _⟩ => ⟨S256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x4x1024, .f32⟩
  | .local _ .vmem, ⟨5, _⟩ => ⟨S256x1024, .bf16⟩
  | .local _ .vmem, ⟨6, _⟩ => ⟨S256x1024, .bf16⟩
  | .local _ .vmem, ⟨7, _⟩ => ⟨S256x512, .bf16⟩
  | .local _ .vmem, ⟨8, _⟩ => ⟨S256x512, .bf16⟩
  | .local _ .vmem, ⟨9, _⟩ => ⟨S1280x256, .f32⟩
  | .local _ .vmem, ⟨10, _⟩ => ⟨S1280x256, .f32⟩
  | .local _ .vmem, ⟨11, _⟩ => ⟨S1280x64, .f32⟩
  | .local _ .vmem, ⟨12, _⟩ => ⟨S1280x64, .f32⟩
  | .local _ .vmem, ⟨13, _⟩ => ⟨S1x256x1024, .f32⟩
  | .local _ .vmem, ⟨14, _⟩ => ⟨S1x256x1024, .f32⟩
  | .local _ .vmem, ⟨15, _⟩ => ⟨S1x1024x1024, .f32⟩
  | .local _ .vmem, ⟨16, _⟩ => ⟨S256x1024, .f32⟩
  | .local _ .vmem, ⟨17, _⟩ => ⟨S256x1024, .f32⟩
  | .local _ .vmem, ⟨18, _⟩ => ⟨S1280x1024, .bf16⟩
  | .local _ .vmem, ⟨19, _⟩ => ⟨S1280x1024, .bf16⟩
  | .local _ .vmem, ⟨20, _⟩ => ⟨S256x1024, .bf16⟩
  | _, _ => ⟨S6144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.addi v1 c16_i32
  let c0_i32 : BitVec 32 := 0#32
  let c0_i32_0 : BitVec 32 := 0#32
  ![v2.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.addi v1 c16_i32
  let c0_i32 : BitVec 32 := 0#32
  let c0_i32_0 : BitVec 32 := 0#32
  ![v2.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1280x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1280x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S6144x1024 : Shape := ⟨2, ![6144, 1024]⟩
abbrev S1x8x6x1024 : Shape := ⟨4, ![1, 8, 6, 1024]⟩
abbrev S4x4x1024 : Shape := ⟨3, ![4, 4, 1024]⟩
abbrev S2048x1024 : Shape := ⟨2, ![2048, 1024]⟩
abbrev S2048x512 : Shape := ⟨2, ![2048, 512]⟩
abbrev S2x1x256x256 : Shape := ⟨4, ![2, 1, 256, 256]⟩
abbrev S2048x256 : Shape := ⟨2, ![2048, 256]⟩
abbrev S2x1x256x64 : Shape := ⟨4, ![2, 1, 256, 64]⟩
abbrev S2048x64 : Shape := ⟨2, ![2048, 64]⟩
abbrev S1x256x1024 : Shape := ⟨3, ![1, 256, 1024]⟩
abbrev S1x1024x1024 : Shape := ⟨3, ![1, 1024, 1024]⟩
abbrev S2x1024x1024 : Shape := ⟨3, ![2, 1024, 1024]⟩
abbrev S1x2x1x1024 : Shape := ⟨4, ![1, 2, 1, 1024]⟩
abbrev S2x1024 : Shape := ⟨2, ![2, 1024]⟩
abbrev S2x1x1024 : Shape := ⟨3, ![2, 1, 1024]⟩
abbrev S2x1024x8x128 : Shape := ⟨4, ![2, 1024, 8, 128]⟩
abbrev S2x1024x8x64 : Shape := ⟨4, ![2, 1024, 8, 64]⟩
abbrev S2x256x256 : Shape := ⟨3, ![2, 256, 256]⟩
abbrev S2x1024x256 : Shape := ⟨3, ![2, 1024, 256]⟩
abbrev S2x1280x256 : Shape := ⟨3, ![2, 1280, 256]⟩
abbrev S2x256x64 : Shape := ⟨3, ![2, 256, 64]⟩
abbrev S2x1024x64 : Shape := ⟨3, ![2, 1024, 64]⟩
abbrev S2x1280x64 : Shape := ⟨3, ![2, 1280, 64]⟩
abbrev S256x1024 : Shape := ⟨2, ![256, 1024]⟩
abbrev S2x1280x1024 : Shape := ⟨3, ![2, 1280, 1024]⟩
abbrev S2x1280x8x128 : Shape := ⟨4, ![2, 1280, 8, 128]⟩
abbrev S2x8x1024x1280 : Shape := ⟨4, ![2, 8, 1024, 1280]⟩
abbrev S2x1280x1024x8 : Shape := ⟨4, ![2, 1280, 1024, 8]⟩
abbrev S_ : Shape := ⟨0, ![]⟩
abbrev S2x8x1024 : Shape := ⟨3, ![2, 8, 1024]⟩
abbrev S2x8x1024x1 : Shape := ⟨4, ![2, 8, 1024, 1]⟩
abbrev S2x8x128x1024 : Shape := ⟨4, ![2, 8, 128, 1024]⟩
abbrev S1024x1024 : Shape := ⟨2, ![1024, 1024]⟩
abbrev S1x1x1024 : Shape := ⟨3, ![1, 1, 1024]⟩
abbrev S1024 : Shape := ⟨1, ![1024]⟩
abbrev S2x1024x1 : Shape := ⟨3, ![2, 1024, 1]⟩
abbrev S4096x1024 : Shape := ⟨2, ![4096, 1024]⟩

abbrev nBuf : Space → Nat
  | .hbm => 83
  | .vmem => 0
  | .smem => 0
  | _ => 0

abbrev bufTy : (tb : Table) → Fin (tcTables nBuf tb) → BufTy
  | .hbm, ⟨0, _⟩ => ⟨S6144x1024, .f32⟩
  | .hbm, ⟨1, _⟩ => ⟨S1x8x6x1024, .f32⟩
  | .hbm, ⟨2, _⟩ => ⟨S4x4x1024, .f32⟩
  | .hbm, ⟨3, _⟩ => ⟨S2048x1024, .bf16⟩
  | .hbm, ⟨4, _⟩ => ⟨S2048x512, .bf16⟩
  | .hbm, ⟨5, _⟩ => ⟨S2x1x256x256, .f32⟩
  | .hbm, ⟨6, _⟩ => ⟨S2048x256, .f32⟩
  | .hbm, ⟨7, _⟩ => ⟨S2x1x256x64, .f32⟩
  | .hbm, ⟨8, _⟩ => ⟨S2048x64, .f32⟩
  | .hbm, ⟨9, _⟩ => ⟨S1x256x1024, .f32⟩
  | .hbm, ⟨10, _⟩ => ⟨S1x256x1024, .f32⟩
  | .hbm, ⟨11, _⟩ => ⟨S1x1024x1024, .f32⟩
  | .hbm, ⟨12, _⟩ => ⟨S2048x1024, .f32⟩
  | .hbm, ⟨13, _⟩ => ⟨S2x1024x1024, .f32⟩
  | .hbm, ⟨14, _⟩ => ⟨S1x2x1x1024, .f32⟩
  | .hbm, ⟨15, _⟩ => ⟨S2x1024, .f32⟩
  | .hbm, ⟨16, _⟩ => ⟨S2x1x1024, .f32⟩
  | .hbm, ⟨17, _⟩ => ⟨S2048x1024, .f32⟩
  | .hbm, ⟨18, _⟩ => ⟨S2x1024x8x128, .f32⟩
  | .hbm, ⟨19, _⟩ => ⟨S2048x512, .f32⟩
  | .hbm, ⟨20, _⟩ => ⟨S2x1024x8x64, .f32⟩
  | .hbm, ⟨21, _⟩ => ⟨S2x256x256, .f32⟩
  | .hbm, ⟨22, _⟩ => ⟨S2x1024x256, .f32⟩
  | .hbm, ⟨23, _⟩ => ⟨S2x1280x256, .f32⟩
  | .hbm, ⟨24, _⟩ => ⟨S2x256x64, .f32⟩
  | .hbm, ⟨25, _⟩ => ⟨S2x1024x64, .f32⟩
  | .hbm, ⟨26, _⟩ => ⟨S2x1280x64, .f32⟩
  | .hbm, ⟨27, _⟩ => ⟨S256x1024, .f32⟩
  | .hbm, ⟨28, _⟩ => ⟨S2x1280x1024, .f32⟩
  | .hbm, ⟨29, _⟩ => ⟨S2x1280x8x128, .f32⟩
  | .hbm, ⟨30, _⟩ => ⟨S256x1024, .f32⟩
  | .hbm, ⟨31, _⟩ => ⟨S2x1280x1024, .f32⟩
  | .hbm, ⟨32, _⟩ => ⟨S2x1280x8x128, .f32⟩
  | .hbm, ⟨33, _⟩ => ⟨S2x8x1024x1280, .f32⟩
  | .hbm, ⟨34, _⟩ => ⟨S2x1280x1024x8, .f32⟩
  | .hbm, ⟨35, _⟩ => ⟨S2x8x1024x1280, .f32⟩
  | .hbm, ⟨36, _⟩ => ⟨S2x8x1024x1280, .f32⟩
  | .hbm, ⟨37, _⟩ => ⟨S_, .f32⟩
  | .hbm, ⟨38, _⟩ => ⟨S2x8x1024x1280, .f32⟩
  | .hbm, ⟨39, _⟩ => ⟨S2x8x1024x1280, .f32⟩
  | .hbm, ⟨40, _⟩ => ⟨S_, .f32⟩
  | .hbm, ⟨41, _⟩ => ⟨S2x8x1024, .f32⟩
  | .hbm, ⟨42, _⟩ => ⟨S_, .f32⟩
  | .hbm, ⟨43, _⟩ => ⟨S2x8x1024, .f32⟩
  | .hbm, ⟨44, _⟩ => ⟨S2x8x1024, .f32⟩
  | .hbm, ⟨45, _⟩ => ⟨S2x8x1024x1, .f32⟩
  | .hbm, ⟨46, _⟩ => ⟨S2x8x1024x1280, .f32⟩
  | .hbm, ⟨47, _⟩ => ⟨S2x8x1024x1280, .f32⟩
  | .hbm, ⟨48, _⟩ => ⟨S2x8x1024x1280, .f32⟩
  | .hbm, ⟨49, _⟩ => ⟨S_, .f32⟩
  | .hbm, ⟨50, _⟩ => ⟨S2x8x1024, .f32⟩
  | .hbm, ⟨51, _⟩ => ⟨S2x8x1024x1, .f32⟩
  | .hbm, ⟨52, _⟩ => ⟨S2x8x1024x1280, .f32⟩
  | .hbm, ⟨53, _⟩ => ⟨S2x8x1024x1280, .f32⟩
  | .hbm, ⟨54, _⟩ => ⟨S2x8x128x1024, .f32⟩
  | .hbm, ⟨55, _⟩ => ⟨S2x1024x8x128, .f32⟩
  | .hbm, ⟨56, _⟩ => ⟨S2x1024x1024, .f32⟩
  | .hbm, ⟨57, _⟩ => ⟨S1024x1024, .f32⟩
  | .hbm, ⟨58, _⟩ => ⟨S2x1024x1024, .f32⟩
  | .hbm, ⟨59, _⟩ => ⟨S1x1x1024, .f32⟩
  | .hbm, ⟨60, _⟩ => ⟨S1024, .f32⟩
  | .hbm, ⟨61, _⟩ => ⟨S2x1024x1024, .f32⟩
  | .hbm, ⟨62, _⟩ => ⟨S_, .f32⟩
  | .hbm, ⟨63, _⟩ => ⟨S2x1024, .f32⟩
  | .hbm, ⟨64, _⟩ => ⟨S2x1024x1, .f32⟩
  | .hbm, ⟨65, _⟩ => ⟨S_, .f32⟩
  | .hbm, ⟨66, _⟩ => ⟨S2x1024x1, .f32⟩
  | .hbm, ⟨67, _⟩ => ⟨S2x1024x1, .f32⟩
  | .hbm, ⟨68, _⟩ => ⟨S_, .f32⟩
  | .hbm, ⟨69, _⟩ => ⟨S2x1024x1, .f32⟩
  | .hbm, ⟨70, _⟩ => ⟨S2x1024x1, .f32⟩
  | .hbm, ⟨71, _⟩ => ⟨S2x1024x1, .f32⟩
  | .hbm, ⟨72, _⟩ => ⟨S2x1024x1024, .f32⟩
  | .hbm, ⟨73, _⟩ => ⟨S2x1024x1024, .f32⟩
  | .hbm, ⟨74, _⟩ => ⟨S1x1x1024, .f32⟩
  | .hbm, ⟨75, _⟩ => ⟨S2x1024x1024, .f32⟩
  | .hbm, ⟨76, _⟩ => ⟨S2x1024x1024, .f32⟩
  | .hbm, ⟨77, _⟩ => ⟨S2x1024x1024, .f32⟩
  | .hbm, ⟨78, _⟩ => ⟨S2x1024x1024, .f32⟩
  | .hbm, ⟨79, _⟩ => ⟨S2x1024x1024, .f32⟩
  | .hbm, ⟨80, _⟩ => ⟨S4096x1024, .f32⟩
  | .hbm, ⟨81, _⟩ => ⟨S2048x1024, .f32⟩
  | .hbm, ⟨82, _⟩ => ⟨S6144x1024, .f32⟩
  | _, _ => ⟨S6144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_v25 : Ref sig .tc := ⟨.hbm, 38, rfl⟩
abbrev main_v26 : Ref sig .tc := ⟨.hbm, 39, rfl⟩
abbrev main_cst_0 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_2 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_3 : Ref sig .tc := ⟨.hbm, 62, rfl⟩
abbrev main_v46 : Ref sig .tc := ⟨.hbm, 63, rfl⟩
abbrev main_v47 : Ref sig .tc := ⟨.hbm, 64, rfl⟩
abbrev main_cst_4 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩

abbrev nD : Nat := 1
abbrev τ : Topo := Topo.v7x

variable {F : FTy → Type} [FloatOps F]
-- ==== Mlp.lean ====
abbrev S6144x1024 : Shape := ⟨2, ![6144, 1024]⟩
abbrev S1x8x6x1024 : Shape := ⟨4, ![1, 8, 6, 1024]⟩
abbrev S4x4x1024 : Shape := ⟨3, ![4, 4, 1024]⟩
abbrev S4x1024x4096 : Shape := ⟨3, ![4, 1024, 4096]⟩
abbrev S4x4096x1024 : Shape := ⟨3, ![4, 4096, 1024]⟩
abbrev S2048x1024 : Shape := ⟨2, ![2048, 1024]⟩
abbrev S1024x1024 : Shape := ⟨2, ![1024, 1024]⟩
abbrev S1x1x6x1024 : Shape := ⟨4, ![1, 1, 6, 1024]⟩
abbrev S1x4x1024 : Shape := ⟨3, ![1, 4, 1024]⟩
abbrev S1x1024x1024 : Shape := ⟨3, ![1, 1024, 1024]⟩
abbrev S6x1024 : Shape := ⟨2, ![6, 1024]⟩
abbrev S4x1024 : Shape := ⟨2, ![4, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 13
  | .smem => 0
  | _ => 0

abbrev bufTy : (tb : Table) → Fin (tcTables nBuf tb) → BufTy
  | .hbm, ⟨0, _⟩ => ⟨S6144x1024, .f32⟩
  | .hbm, ⟨1, _⟩ => ⟨S1x8x6x1024, .f32⟩
  | .hbm, ⟨2, _⟩ => ⟨S4x4x1024, .f32⟩
  | .hbm, ⟨3, _⟩ => ⟨S4x1024x4096, .f32⟩
  | .hbm, ⟨4, _⟩ => ⟨S4x4096x1024, .f32⟩
  | .hbm, ⟨5, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x4x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | _, _ => ⟨S6144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32_9 : BitVec 32 := 3#32
  let v12 : BitVec 1 := Scalar.cmpi .eq arg1 c3_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RefMlpIdeal.lean ====
abbrev S6144x1024 : Shape := ⟨2, ![6144, 1024]⟩
abbrev S1x8x6x1024 : Shape := ⟨4, ![1, 8, 6, 1024]⟩
abbrev S4x4x1024 : Shape := ⟨3, ![4, 4, 1024]⟩
abbrev S4x1024x4096 : Shape := ⟨3, ![4, 1024, 4096]⟩
abbrev S4x4096x1024 : Shape := ⟨3, ![4, 4096, 1024]⟩
abbrev S2048x1024 : Shape := ⟨2, ![2048, 1024]⟩
abbrev S2x1024x1024 : Shape := ⟨3, ![2, 1024, 1024]⟩
abbrev S1x2x1x1024 : Shape := ⟨4, ![1, 2, 1, 1024]⟩
abbrev S2x1024 : Shape := ⟨2, ![2, 1024]⟩
abbrev S2x1x1024 : Shape := ⟨3, ![2, 1, 1024]⟩
abbrev S1x1x1024 : Shape := ⟨3, ![1, 1, 1024]⟩
abbrev S1024 : Shape := ⟨1, ![1024]⟩
abbrev S_ : Shape := ⟨0, ![]⟩
abbrev S2x1024x1 : Shape := ⟨3, ![2, 1024, 1]⟩
abbrev S1x1024x4096 : Shape := ⟨3, ![1, 1024, 4096]⟩
abbrev S1024x4096 : Shape := ⟨2, ![1024, 4096]⟩
abbrev S2x1024x4096 : Shape := ⟨3, ![2, 1024, 4096]⟩
abbrev S1x4096x1024 : Shape := ⟨3, ![1, 4096, 1024]⟩
abbrev S4096x1024 : Shape := ⟨2, ![4096, 1024]⟩

abbrev nBuf : Space → Nat
  | .hbm => 82
  | .vmem => 0
  | .smem => 0
  | _ => 0

abbrev bufTy : (tb : Table) → Fin (tcTables nBuf tb) → BufTy
  | .hbm, ⟨0, _⟩ => ⟨S6144x1024, .f32⟩
  | .hbm, ⟨1, _⟩ => ⟨S1x8x6x1024, .f32⟩
  | .hbm, ⟨2, _⟩ => ⟨S4x4x1024, .f32⟩
  | .hbm, ⟨3, _⟩ => ⟨S4x1024x4096, .f32⟩
  | .hbm, ⟨4, _⟩ => ⟨S4x4096x1024, .f32⟩
  | .hbm, ⟨5, _⟩ => ⟨S2048x1024, .f32⟩
  | .hbm, ⟨6, _⟩ => ⟨S2x1024x1024, .f32⟩
  | .hbm, ⟨7, _⟩ => ⟨S1x2x1x1024, .f32⟩
  | .hbm, ⟨8, _⟩ => ⟨S2x1024, .f32⟩
  | .hbm, ⟨9, _⟩ => ⟨S2x1x1024, .f32⟩
  | .hbm, ⟨10, _⟩ => ⟨S1x2x1x1024, .f32⟩
  | .hbm, ⟨11, _⟩ => ⟨S2x1024, .f32⟩
  | .hbm, ⟨12, _⟩ => ⟨S2x1x1024, .f32⟩
  | .hbm, ⟨13, _⟩ => ⟨S1x2x1x1024, .f32⟩
  | .hbm, ⟨14, _⟩ => ⟨S2x1024, .f32⟩
  | .hbm, ⟨15, _⟩ => ⟨S2x1x1024, .f32⟩
  | .hbm, ⟨16, _⟩ => ⟨S1x2x1x1024, .f32⟩
  | .hbm, ⟨17, _⟩ => ⟨S2x1024, .f32⟩
  | .hbm, ⟨18, _⟩ => ⟨S2x1x1024, .f32⟩
  | .hbm, ⟨19, _⟩ => ⟨S1x2x1x1024, .f32⟩
  | .hbm, ⟨20, _⟩ => ⟨S2x1024, .f32⟩
  | .hbm, ⟨21, _⟩ => ⟨S2x1x1024, .f32⟩
  | .hbm, ⟨22, _⟩ => ⟨S1x2x1x1024, .f32⟩
  | .hbm, ⟨23, _⟩ => ⟨S2x1024, .f32⟩
  | .hbm, ⟨24, _⟩ => ⟨S2x1x1024, .f32⟩
  | .hbm, ⟨25, _⟩ => ⟨S1x1x1024, .f32⟩
  | .hbm, ⟨26, _⟩ => ⟨S1024, .f32⟩
  | .hbm, ⟨27, _⟩ => ⟨S2x1024x1024, .f32⟩
  | .hbm, ⟨28, _⟩ => ⟨S_, .f32⟩
  | .hbm, ⟨29, _⟩ => ⟨S2x1024, .f32⟩
  | .hbm, ⟨30, _⟩ => ⟨S2x1024x1, .f32⟩
  | .hbm, ⟨31, _⟩ => ⟨S_, .f32⟩
  | .hbm, ⟨32, _⟩ => ⟨S2x1024x1, .f32⟩
  | .hbm, ⟨33, _⟩ => ⟨S2x1024x1, .f32⟩
  | .hbm, ⟨34, _⟩ => ⟨S_, .f32⟩
  | .hbm, ⟨35, _⟩ => ⟨S2x1024x1, .f32⟩
  | .hbm, ⟨36, _⟩ => ⟨S2x1024x1, .f32⟩
  | .hbm, ⟨37, _⟩ => ⟨S2x1024x1, .f32⟩
  | .hbm, ⟨38, _⟩ => ⟨S2x1024x1024, .f32⟩
  | .hbm, ⟨39, _⟩ => ⟨S2x1024x1024, .f32⟩
  | .hbm, ⟨40, _⟩ => ⟨S1x1x1024, .f32⟩
  | .hbm, ⟨41, _⟩ => ⟨S2x1024x1024, .f32⟩
  | .hbm, ⟨42, _⟩ => ⟨S2x1024x1024, .f32⟩
  | .hbm, ⟨43, _⟩ => ⟨S_, .f32⟩
  | .hbm, ⟨44, _⟩ => ⟨S2x1x1024, .f32⟩
  | .hbm, ⟨45, _⟩ => ⟨S2x1x1024, .f32⟩
  | .hbm, ⟨46, _⟩ => ⟨S2x1024x1024, .f32⟩
  | .hbm, ⟨47, _⟩ => ⟨S2x1024x1024, .f32⟩
  | .hbm, ⟨48, _⟩ => ⟨S2x1024x1024, .f32⟩
  | .hbm, ⟨49, _⟩ => ⟨S2x1024x1024, .f32⟩
  | .hbm, ⟨50, _⟩ => ⟨S1x1024x4096, .f32⟩
  | .hbm, ⟨51, _⟩ => ⟨S1024x4096, .f32⟩
  | .hbm, ⟨52, _⟩ => ⟨S2x1024x4096, .f32⟩
  | .hbm, ⟨53, _⟩ => ⟨S_, .f32⟩
  | .hbm, ⟨54, _⟩ => ⟨S2x1024x4096, .f32⟩
  | .hbm, ⟨55, _⟩ => ⟨S2x1024x4096, .f32⟩
  | .hbm, ⟨56, _⟩ => ⟨S2x1024x4096, .f32⟩
  | .hbm, ⟨57, _⟩ => ⟨S1x4096x1024, .f32⟩
  | .hbm, ⟨58, _⟩ => ⟨S4096x1024, .f32⟩
  | .hbm, ⟨59, _⟩ => ⟨S2x1024x1024, .f32⟩
  | .hbm, ⟨60, _⟩ => ⟨S1x1x1024, .f32⟩
  | .hbm, ⟨61, _⟩ => ⟨S1024, .f32⟩
  | .hbm, ⟨62, _⟩ => ⟨S2x1024x1024, .f32⟩
  | .hbm, ⟨63, _⟩ => ⟨S_, .f32⟩
  | .hbm, ⟨64, _⟩ => ⟨S2x1024, .f32⟩
  | .hbm, ⟨65, _⟩ => ⟨S2x1024x1, .f32⟩
  | .hbm, ⟨66, _⟩ => ⟨S_, .f32⟩
  | .hbm, ⟨67, _⟩ => ⟨S2x1024x1, .f32⟩
  | .hbm, ⟨68, _⟩ => ⟨S2x1024x1, .f32⟩
  | .hbm, ⟨69, _⟩ => ⟨S_, .f32⟩
  | .hbm, ⟨70, _⟩ => ⟨S2x1024x1, .f32⟩
  | .hbm, ⟨71, _⟩ => ⟨S2x1024x1, .f32⟩
  | .hbm, ⟨72, _⟩ => ⟨S2x1024x1, .f32⟩
  | .hbm, ⟨73, _⟩ => ⟨S2x1024x1024, .f32⟩
  | .hbm, ⟨74, _⟩ => ⟨S2x1024x1024, .f32⟩
  | .hbm, ⟨75, _⟩ => ⟨S1x1x1024, .f32⟩
  | .hbm, ⟨76, _⟩ => ⟨S2x1024x1024, .f32⟩
  | .hbm, ⟨77, _⟩ => ⟨S2x1024x1024, .f32⟩
  | .hbm, ⟨78, _⟩ => ⟨S2x1024x1024, .f32⟩
  | .hbm, ⟨79, _⟩ => ⟨S2x1024x1024, .f32⟩
  | .hbm, ⟨80, _⟩ => ⟨S2x1024x1024, .f32⟩
  | .hbm, ⟨81, _⟩ => ⟨S2048x1024, .f32⟩
  | _, _ => ⟨S6144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_call0_cst : Ref sig .tc := ⟨.hbm, 53, rfl⟩
abbrev main_call0_v0 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_3 : Ref sig .tc := ⟨.hbm, 63, rfl⟩
abbrev main_v52 : Ref sig .tc := ⟨.hbm, 64, rfl⟩
abbrev main_v53 : Ref sig .tc := ⟨.hbm, 65, rfl⟩
abbrev main_cst_4 : Ref sig .tc := ⟨.hbm, 66, rfl⟩
abbrev main_v54 : Ref sig .tc := ⟨.hbm, 67, rfl⟩
abbrev main_v55 : Ref sig .tc := ⟨.hbm, 68, rfl⟩
abbrev main_cst_5 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩

abbrev nD : Nat := 1
abbrev τ : Topo := Topo.v7x

variable {F : FTy → Type} [FloatOps F]
-- ==== MlpCtx.lean ====
abbrev S6144x1024 : Shape := ⟨2, ![6144, 1024]⟩
abbrev S1x8x6x1024 : Shape := ⟨4, ![1, 8, 6, 1024]⟩
abbrev S4x4x1024 : Shape := ⟨3, ![4, 4, 1024]⟩
abbrev S4x1024x4096 : Shape := ⟨3, ![4, 1024, 4096]⟩
abbrev S4x4096x1024 : Shape := ⟨3, ![4, 4096, 1024]⟩
abbrev S4096x1024 : Shape := ⟨2, ![4096, 1024]⟩
abbrev S1024x1024 : Shape := ⟨2, ![1024, 1024]⟩
abbrev S1x1x6x1024 : Shape := ⟨4, ![1, 1, 6, 1024]⟩
abbrev S1x4x1024 : Shape := ⟨3, ![1, 4, 1024]⟩
abbrev S1x1024x1024 : Shape := ⟨3, ![1, 1024, 1024]⟩
abbrev S6x1024 : Shape := ⟨2, ![6, 1024]⟩
abbrev S4x1024 : Shape := ⟨2, ![4, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S6144x1024, .f32⟩
  | .hbm, ⟨1, _⟩ => ⟨S1x8x6x1024, .f32⟩
  | .hbm, ⟨2, _⟩ => ⟨S4x4x1024, .f32⟩
  | .hbm, ⟨3, _⟩ => ⟨S4x1024x4096, .f32⟩
  | .hbm, ⟨4, _⟩ => ⟨S4x4096x1024, .f32⟩
  | .hbm, ⟨5, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x6x1024, .f32⟩
  | .local _ .vmem, ⟨3, _⟩ => ⟨S1x4x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S6144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32_9 : BitVec 32 := 3#32
  let v12 : BitVec 1 := Scalar.cmpi .eq arg1 c3_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RefMlpCtxIdeal.lean ====
abbrev S6144x1024 : Shape := ⟨2, ![6144, 1024]⟩
abbrev S1x8x6x1024 : Shape := ⟨4, ![1, 8, 6, 1024]⟩
abbrev S4x4x1024 : Shape := ⟨3, ![4, 4, 1024]⟩
abbrev S4x1024x4096 : Shape := ⟨3, ![4, 1024, 4096]⟩
abbrev S4x4096x1024 : Shape := ⟨3, ![4, 4096, 1024]⟩
abbrev S4096x1024 : Shape := ⟨2, ![4096, 1024]⟩
abbrev S16x256x1024 : Shape := ⟨3, ![16, 256, 1024]⟩
abbrev S1x1x1x1024 : Shape := ⟨4, ![1, 1, 1, 1024]⟩
abbrev S1x1024 : Shape := ⟨2, ![1, 1024]⟩
abbrev S1x1x1024 : Shape := ⟨3, ![1, 1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1x1024x4096 : Shape := ⟨3, ![1, 1024, 4096]⟩
abbrev S1024x4096 : Shape := ⟨2, ![1024, 4096]⟩
abbrev S16x256x4096 : Shape := ⟨3, ![16, 256, 4096]⟩
abbrev S1x4096x1024 : Shape := ⟨3, ![1, 4096, 1024]⟩

abbrev nBuf : Space → Nat
  | .hbm => 82
  | .vmem => 0
  | .smem => 0
  | _ => 0

abbrev bufTy : (tb : Table) → Fin (tcTables nBuf tb) → BufTy
  | .hbm, ⟨0, _⟩ => ⟨S6144x1024, .f32⟩
  | .hbm, ⟨1, _⟩ => ⟨S1x8x6x1024, .f32⟩
  | .hbm, ⟨2, _⟩ => ⟨S4x4x1024, .f32⟩
  | .hbm, ⟨3, _⟩ => ⟨S4x1024x4096, .f32⟩
  | .hbm, ⟨4, _⟩ => ⟨S4x4096x1024, .f32⟩
  | .hbm, ⟨5, _⟩ => ⟨S4096x1024, .f32⟩
  | .hbm, ⟨6, _⟩ => ⟨S16x256x1024, .f32⟩
  | .hbm, ⟨7, _⟩ => ⟨S1x1x1x1024, .f32⟩
  | .hbm, ⟨8, _⟩ => ⟨S1x1024, .f32⟩
  | .hbm, ⟨9, _⟩ => ⟨S1x1x1024, .f32⟩
  | .hbm, ⟨10, _⟩ => ⟨S1x1x1x1024, .f32⟩
  | .hbm, ⟨11, _⟩ => ⟨S1x1024, .f32⟩
  | .hbm, ⟨12, _⟩ => ⟨S1x1x1024, .f32⟩
  | .hbm, ⟨13, _⟩ => ⟨S1x1x1x1024, .f32⟩
  | .hbm, ⟨14, _⟩ => ⟨S1x1024, .f32⟩
  | .hbm, ⟨15, _⟩ => ⟨S1x1x1024, .f32⟩
  | .hbm, ⟨16, _⟩ => ⟨S1x1x1x1024, .f32⟩
  | .hbm, ⟨17, _⟩ => ⟨S1x1024, .f32⟩
  | .hbm, ⟨18, _⟩ => ⟨S1x1x1024, .f32⟩
  | .hbm, ⟨19, _⟩ => ⟨S1x1x1x1024, .f32⟩
  | .hbm, ⟨20, _⟩ => ⟨S1x1024, .f32⟩
  | .hbm, ⟨21, _⟩ => ⟨S1x1x1024, .f32⟩
  | .hbm, ⟨22, _⟩ => ⟨S1x1x1x1024, .f32⟩
  | .hbm, ⟨23, _⟩ => ⟨S1x1024, .f32⟩
  | .hbm, ⟨24, _⟩ => ⟨S1x1x1024, .f32⟩
  | .hbm, ⟨25, _⟩ => ⟨S1x1x1024, .f32⟩
  | .hbm, ⟨26, _⟩ => ⟨S1024, .f32⟩
  | .hbm, ⟨27, _⟩ => ⟨S16x256x1024, .f32⟩
  | .hbm, ⟨28, _⟩ => ⟨S_, .f32⟩
  | .hbm, ⟨29, _⟩ => ⟨S16x256, .f32⟩
  | .hbm, ⟨30, _⟩ => ⟨S16x256x1, .f32⟩
  | .hbm, ⟨31, _⟩ => ⟨S_, .f32⟩
  | .hbm, ⟨32, _⟩ => ⟨S16x256x1, .f32⟩
  | .hbm, ⟨33, _⟩ => ⟨S16x256x1, .f32⟩
  | .hbm, ⟨34, _⟩ => ⟨S_, .f32⟩
  | .hbm, ⟨35, _⟩ => ⟨S16x256x1, .f32⟩
  | .hbm, ⟨36, _⟩ => ⟨S16x256x1, .f32⟩
  | .hbm, ⟨37, _⟩ => ⟨S16x256x1, .f32⟩
  | .hbm, ⟨38, _⟩ => ⟨S16x256x1024, .f32⟩
  | .hbm, ⟨39, _⟩ => ⟨S16x256x1024, .f32⟩
  | .hbm, ⟨40, _⟩ => ⟨S1x1x1024, .f32⟩
  | .hbm, ⟨41, _⟩ => ⟨S16x256x1024, .f32⟩
  | .hbm, ⟨42, _⟩ => ⟨S16x256x1024, .f32⟩
  | .hbm, ⟨43, _⟩ => ⟨S_, .f32⟩
  | .hbm, ⟨44, _⟩ => ⟨S1x1x1024, .f32⟩
  | .hbm, ⟨45, _⟩ => ⟨S1x1x1024, .f32⟩
  | .hbm, ⟨46, _⟩ => ⟨S16x256x1024, .f32⟩
  | .hbm, ⟨47, _⟩ => ⟨S16x256x1024, .f32⟩
  | .hbm, ⟨48, _⟩ => ⟨S16x256x1024, .f32⟩
  | .hbm, ⟨49, _⟩ => ⟨S16x256x1024, .f32⟩
  | .hbm, ⟨50, _⟩ => ⟨S1x1024x4096, .f32⟩
  | .hbm, ⟨51, _⟩ => ⟨S1024x4096, .f32⟩
  | .hbm, ⟨52, _⟩ => ⟨S16x256x4096, .f32⟩
  | .hbm, ⟨53, _⟩ => ⟨S_, .f32⟩
  | .hbm, ⟨54, _⟩ => ⟨S16x256x4096, .f32⟩
  | .hbm, ⟨55, _⟩ => ⟨S16x256x4096, .f32⟩
  | .hbm, ⟨56, _⟩ => ⟨S16x256x4096, .f32⟩
  | .hbm, ⟨57, _⟩ => ⟨S1x4096x1024, .f32⟩
  | .hbm, ⟨58, _⟩ => ⟨S4096x1024, .f32⟩
  | .hbm, ⟨59, _⟩ => ⟨S16x256x1024, .f32⟩
  | .hbm, ⟨60, _⟩ => ⟨S1x1x1024, .f32⟩
  | .hbm, ⟨61, _⟩ => ⟨S1024, .f32⟩
  | .hbm, ⟨62, _⟩ => ⟨S16x256x1024, .f32⟩
  | .hbm, ⟨63, _⟩ => ⟨S_, .f32⟩
  | .hbm, ⟨64, _⟩ => ⟨S16x256, .f32⟩
  | .hbm, ⟨65, _⟩ => ⟨S16x256x1, .f32⟩
  | .hbm, ⟨66, _⟩ => ⟨S_, .f32⟩
  | .hbm, ⟨67, _⟩ => ⟨S16x256x1, .f32⟩
  | .hbm, ⟨68, _⟩ => ⟨S16x256x1, .f32⟩
  | .hbm, ⟨69, _⟩ => ⟨S_, .f32⟩
  | .hbm, ⟨70, _⟩ => ⟨S16x256x1, .f32⟩
  | .hbm, ⟨71, _⟩ => ⟨S16x256x1, .f32⟩
  | .hbm, ⟨72, _⟩ => ⟨S16x256x1, .f32⟩
  | .hbm, ⟨73, _⟩ => ⟨S16x256x1024, .f32⟩
  | .hbm, ⟨74, _⟩ => ⟨S16x256x1024, .f32⟩
  | .hbm, ⟨75, _⟩ => ⟨S1x1x1024, .f32⟩
  | .hbm, ⟨76, _⟩ => ⟨S16x256x1024, .f32⟩
  | .hbm, ⟨77, _⟩ => ⟨S16x256x1024, .f32⟩
  | .hbm, ⟨78, _⟩ => ⟨S16x256x1024, .f32⟩
  | .hbm, ⟨79, _⟩ => ⟨S16x256x1024, .f32⟩
  | .hbm, ⟨80, _⟩ => ⟨S16x256x1024, .f32⟩
  | .hbm, ⟨81, _⟩ => ⟨S4096x1024, .f32⟩
  | _, _ => ⟨S6144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_call0_cst : Ref sig .tc := ⟨.hbm, 53, rfl⟩
abbrev main_call0_v0 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_3 : Ref sig .tc := ⟨.hbm, 63, rfl⟩
abbrev main_v52 : Ref sig .tc := ⟨.hbm, 64, rfl⟩
abbrev main_v53 : Ref sig .tc := ⟨.hbm, 65, rfl⟩
abbrev main_cst_4 : Ref sig .tc := ⟨.hbm, 66, rfl⟩
abbrev main_v54 : Ref sig .tc := ⟨.hbm, 67, rfl⟩
abbrev main_v55 : Ref sig .tc := ⟨.hbm, 68, rfl⟩
abbrev main_cst_5 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩

abbrev nD : Nat := 1
abbrev τ : Topo := Topo.v7x

variable {F : FTy → Type} [FloatOps F]
-- ==== Proj.lean ====
abbrev S6144x1024 : Shape := ⟨2, ![6144, 1024]⟩
abbrev S1x8x6x1024 : Shape := ⟨4, ![1, 8, 6, 1024]⟩
abbrev S4x4x1024 : Shape := ⟨3, ![4, 4, 1024]⟩
abbrev S1x1024x384 : Shape := ⟨3, ![1, 1024, 384]⟩
abbrev S1x384 : Shape := ⟨2, ![1, 384]⟩
abbrev S1x384x1536 : Shape := ⟨3, ![1, 384, 1536]⟩
abbrev S1x1024x320 : Shape := ⟨3, ![1, 1024, 320]⟩
abbrev S1x256 : Shape := ⟨2, ![1, 256]⟩
abbrev S64 : Shape := ⟨1, ![64]⟩
abbrev S384x1536 : Shape := ⟨2, ![384, 1536]⟩
abbrev S384x8x192 : Shape := ⟨3, ![384, 8, 192]⟩
abbrev S384x8x64 : Shape := ⟨3, ![384, 8, 64]⟩
abbrev S1024x320 : Shape := ⟨2, ![1024, 320]⟩
abbrev S1024x64 : Shape := ⟨2, ![1024, 64]⟩
abbrev S384x8x128 : Shape := ⟨3, ![384, 8, 128]⟩
abbrev S384x1024 : Shape := ⟨2, ![384, 1024]⟩
abbrev S384x512 : Shape := ⟨2, ![384, 512]⟩
abbrev S_ : Shape := ⟨0, ![]⟩
abbrev S64x1 : Shape := ⟨2, ![64, 1]⟩
abbrev S1024x256 : Shape := ⟨2, ![1024, 256]⟩
abbrev S4096x1024 : Shape := ⟨2, ![4096, 1024]⟩
abbrev S4096x512 : Shape := ⟨2, ![4096, 512]⟩
abbrev S4096x256 : Shape := ⟨2, ![4096, 256]⟩
abbrev S4096x64 : Shape := ⟨2, ![4096, 64]⟩
abbrev S1024x1024 : Shape := ⟨2, ![1024, 1024]⟩
abbrev S1x1x6x1024 : Shape := ⟨4, ![1, 1, 6, 1024]⟩
abbrev S1x4x1024 : Shape := ⟨3, ![1, 4, 1024]⟩
abbrev S1024x512 : Shape := ⟨2, ![1024, 512]⟩
abbrev S6x1024 : Shape := ⟨2, ![6, 1024]⟩
abbrev S4x1024 : Shape := ⟨2, ![4, 1024]⟩
abbrev S1x1024 : Shape := ⟨2, ![1, 1024]⟩
abbrev S1024 : Shape := ⟨1, ![1024]⟩
abbrev S1024x1 : Shape := ⟨2, ![1024, 1]⟩
abbrev S1024x384 : Shape := ⟨2, ![1024, 384]⟩

abbrev nBuf : Space → Nat
  | .hbm => 38
  | .vmem => 21
  | .smem => 0
  | _ => 0

abbrev bufTy : (tb : Table) → Fin (tcTables nBuf tb) → BufTy
  | .hbm, ⟨0, _⟩ => ⟨S6144x1024, .f32⟩
  | .hbm, ⟨1, _⟩ => ⟨S1x8x6x1024, .f32⟩
  | .hbm, ⟨2, _⟩ => ⟨S4x4x1024, .f32⟩
  | .hbm, ⟨3, _⟩ => ⟨S1x1024x384, .f32⟩
  | .hbm, ⟨4, _⟩ => ⟨S1x384, .f32⟩
  | .hbm, ⟨5, _⟩ => ⟨S1x384x1536, .f32⟩
  | .hbm, ⟨6, _⟩ => ⟨S1x1024x320, .f32⟩
  | .hbm, ⟨7, _⟩ => ⟨S1x256, .f32⟩
  | .hbm, ⟨8, _⟩ => ⟨S64, .i32⟩
  | .hbm, ⟨9, _⟩ => ⟨S64, .i1⟩
  | .hbm, ⟨10, _⟩ => ⟨S64, .i1⟩
  | .hbm, ⟨11, _⟩ => ⟨S384x1536, .f32⟩
  | .hbm, ⟨12, _⟩ => ⟨S384x8x192, .f32⟩
  | .hbm, ⟨13, _⟩ => ⟨S384x8x64, .f32⟩
  | .hbm, ⟨14, _⟩ => ⟨S1024x320, .f32⟩
  | .hbm, ⟨15, _⟩ => ⟨S1024x64, .f32⟩
  | .hbm, ⟨16, _⟩ => ⟨S384x8x128, .f32⟩
  | .hbm, ⟨17, _⟩ => ⟨S384x1024, .f32⟩
  | .hbm, ⟨18, _⟩ => ⟨S384x512, .f32⟩
  | .hbm, ⟨19, _⟩ => ⟨S_, .i32⟩
  | .hbm, ⟨20, _⟩ => ⟨S64, .i32⟩
  | .hbm, ⟨21, _⟩ => ⟨S64, .i32⟩
  | .hbm, ⟨22, _⟩ => ⟨S64, .i32⟩
  | .hbm, ⟨23, _⟩ => ⟨S64x1, .i32⟩
  | .hbm, ⟨24, _⟩ => ⟨S384x8x64, .f32⟩
  | .hbm, ⟨25, _⟩ => ⟨S384x512, .f32⟩
  | .hbm, ⟨26, _⟩ => ⟨S1024x320, .f32⟩
  | .hbm, ⟨27, _⟩ => ⟨S1024x256, .f32⟩
  | .hbm, ⟨28, _⟩ => ⟨S_, .i32⟩
  | .hbm, ⟨29, _⟩ => ⟨S64, .i32⟩
  | .hbm, ⟨30, _⟩ => ⟨S64, .i32⟩
  | .hbm, ⟨31, _⟩ => ⟨S64, .i32⟩
  | .hbm, ⟨32, _⟩ => ⟨S64x1, .i32⟩
  | .hbm, ⟨33, _⟩ => ⟨S1024x64, .f32⟩
  | .hbm, ⟨34, _⟩ => ⟨S4096x1024, .bf16⟩
  | .hbm, ⟨35, _⟩ => ⟨S4096x512, .bf16⟩
  | .hbm, ⟨36, _⟩ => ⟨S4096x256, .f32⟩
  | .hbm, ⟨37, _⟩ => ⟨S4096x64, .f32⟩
  | .local _ .vmem, ⟨0, _⟩ => ⟨S1024x1024, .f32⟩
  | .local _ .vmem, ⟨1, _⟩ => ⟨S1024x1024, .f32⟩
  | .local _ .vmem, ⟨2, _⟩ => ⟨S1x1x6x1024, .f32⟩
  | .local _ .vmem, ⟨3, _⟩ => ⟨S1x4x1024, .f32⟩
  | .local _ .vmem, ⟨4, _⟩ => ⟨S1x1024x384, .f32⟩
  | .local _ .vmem, ⟨5, _⟩ => ⟨S1x384, .f32⟩
  | .local _ .vmem, ⟨6, _⟩ => ⟨S384x1024, .f32⟩
  | .local _ .vmem, ⟨7, _⟩ => ⟨S384x512, .f32⟩
  | .local _ .vmem, ⟨8, _⟩ => ⟨S384x512, .f32⟩
  | .local _ .vmem, ⟨9, _⟩ => ⟨S1024x256, .f32⟩
  | .local _ .vmem, ⟨10, _⟩ => ⟨S1024x64, .f32⟩
  | .local _ .vmem, ⟨11, _⟩ => ⟨S1024x64, .f32⟩
  | .local _ .vmem, ⟨12, _⟩ => ⟨S1x256, .f32⟩
  | .local _ .vmem, ⟨13, _⟩ => ⟨S1024x1024, .bf16⟩
  | .local _ .vmem, ⟨14, _⟩ => ⟨S1024x1024, .bf16⟩
  | .local _ .vmem, ⟨15, _⟩ => ⟨S1024x512, .bf16⟩
  | .local _ .vmem, ⟨16, _⟩ => ⟨S1024x512, .bf16⟩
  | .local _ .vmem, ⟨17, _⟩ => ⟨S1024x256, .f32⟩
  | .local _ .vmem, ⟨18, _⟩ => ⟨S1024x256, .f32⟩
  | .local _ .vmem, ⟨19, _⟩ => ⟨S1024x64, .f32⟩
  | .local _ .vmem, ⟨20, _⟩ => ⟨S1024x64, .f32⟩
  | _, _ => ⟨S6144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev main_v21_2 : Ref sig .tc := ⟨.hbm, 36, rfl⟩
abbrev main_v21_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== RefProjIdeal.lean ====
abbrev S6144x1024 : Shape := ⟨2, ![6144, 1024]⟩
abbrev S1x8x6x1024 : Shape := ⟨4, ![1, 8, 6, 1024]⟩
abbrev S4x4x1024 : Shape := ⟨3, ![4, 4, 1024]⟩
abbrev S1x1024x384 : Shape := ⟨3, ![1, 1024, 384]⟩
abbrev S1x384 : Shape := ⟨2, ![1, 384]⟩
abbrev S1x384x1536 : Shape := ⟨3, ![1, 384, 1536]⟩
abbrev S1x1024x320 : Shape := ⟨3, ![1, 1024, 320]⟩
abbrev S1x256 : Shape := ⟨2, ![1, 256]⟩
abbrev S4096x1024 : Shape := ⟨2, ![4096, 1024]⟩
abbrev S16x256x1024 : Shape := ⟨3, ![16, 256, 1024]⟩
abbrev S1x1x1x1024 : Shape := ⟨4, ![1, 1, 1, 1024]⟩
abbrev S1x1024 : Shape := ⟨2, ![1, 1024]⟩
abbrev S1x1x1024 : Shape := ⟨3, ![1, 1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1024x384 : Shape := ⟨2, ![1024, 384]⟩
abbrev S16x256x384 : Shape := ⟨3, ![16, 256, 384]⟩
abbrev S384 : Shape := ⟨1, ![384]⟩
abbrev S1x1x384 : Shape := ⟨3, ![1, 1, 384]⟩
abbrev S384x1536 : Shape := ⟨2, ![384, 1536]⟩
abbrev S16x256x1536 : Shape := ⟨3, ![16, 256, 1536]⟩
abbrev S16x256x8x192 : Shape := ⟨4, ![16, 256, 8, 192]⟩
abbrev S16x256x8x128 : Shape := ⟨4, ![16, 256, 8, 128]⟩
abbrev S16x256x8x64 : Shape := ⟨4, ![16, 256, 8, 64]⟩
abbrev S1024x320 : Shape := ⟨2, ![1024, 320]⟩
abbrev S16x256x320 : Shape := ⟨3, ![16, 256, 320]⟩
abbrev S16x256x256 : Shape := ⟨3, ![16, 256, 256]⟩
abbrev S256 : Shape := ⟨1, ![256]⟩
abbrev S1x1x256 : Shape := ⟨3, ![1, 1, 256]⟩
abbrev S16x256x64 : Shape := ⟨3, ![16, 256, 64]⟩
abbrev S4096x512 : Shape := ⟨2, ![4096, 512]⟩
abbrev S4096x256 : Shape := ⟨2, ![4096, 256]⟩
abbrev S4096x64 : Shape := ⟨2, ![4096, 64]⟩

abbrev nBuf : Space → Nat
  | .hbm => 92
  | .vmem => 0
  | .smem => 0
  | _ => 0

abbrev bufTy : (tb : Table) → Fin (tcTables nBuf tb) → BufTy
  | .hbm, ⟨0, _⟩ => ⟨S6144x1024, .f32⟩
  | .hbm, ⟨1, _⟩ => ⟨S1x8x6x1024, .f32⟩
  | .hbm, ⟨2, _⟩ => ⟨S4x4x1024, .f32⟩
  | .hbm, ⟨3, _⟩ => ⟨S1x1024x384, .f32⟩
  | .hbm, ⟨4, _⟩ => ⟨S1x384, .f32⟩
  | .hbm, ⟨5, _⟩ => ⟨S1x384x1536, .f32⟩
  | .hbm, ⟨6, _⟩ => ⟨S1x1024x320, .f32⟩
  | .hbm, ⟨7, _⟩ => ⟨S1x256, .f32⟩
  | .hbm, ⟨8, _⟩ => ⟨S4096x1024, .f32⟩
  | .hbm, ⟨9, _⟩ => ⟨S16x256x1024, .f32⟩
  | .hbm, ⟨10, _⟩ => ⟨S1x1x1x1024, .f32⟩
  | .hbm, ⟨11, _⟩ => ⟨S1x1024, .f32⟩
  | .hbm, ⟨12, _⟩ => ⟨S1x1x1024, .f32⟩
  | .hbm, ⟨13, _⟩ => ⟨S1x1x1x1024, .f32⟩
  | .hbm, ⟨14, _⟩ => ⟨S1x1024, .f32⟩
  | .hbm, ⟨15, _⟩ => ⟨S1x1x1024, .f32⟩
  | .hbm, ⟨16, _⟩ => ⟨S1x1x1024, .f32⟩
  | .hbm, ⟨17, _⟩ => ⟨S1024, .f32⟩
  | .hbm, ⟨18, _⟩ => ⟨S16x256x1024, .f32⟩
  | .hbm, ⟨19, _⟩ => ⟨S_, .f32⟩
  | .hbm, ⟨20, _⟩ => ⟨S16x256, .f32⟩
  | .hbm, ⟨21, _⟩ => ⟨S16x256x1, .f32⟩
  | .hbm, ⟨22, _⟩ => ⟨S_, .f32⟩
  | .hbm, ⟨23, _⟩ => ⟨S16x256x1, .f32⟩
  | .hbm, ⟨24, _⟩ => ⟨S16x256x1, .f32⟩
  | .hbm, ⟨25, _⟩ => ⟨S_, .f32⟩
  | .hbm, ⟨26, _⟩ => ⟨S16x256x1, .f32⟩
  | .hbm, ⟨27, _⟩ => ⟨S16x256x1, .f32⟩
  | .hbm, ⟨28, _⟩ => ⟨S16x256x1, .f32⟩
  | .hbm, ⟨29, _⟩ => ⟨S16x256x1024, .f32⟩
  | .hbm, ⟨30, _⟩ => ⟨S16x256x1024, .f32⟩
  | .hbm, ⟨31, _⟩ => ⟨S1x1x1024, .f32⟩
  | .hbm, ⟨32, _⟩ => ⟨S16x256x1024, .f32⟩
  | .hbm, ⟨33, _⟩ => ⟨S16x256x1024, .f32⟩
  | .hbm, ⟨34, _⟩ => ⟨S_, .f32⟩
  | .hbm, ⟨35, _⟩ => ⟨S1x1x1024, .f32⟩
  | .hbm, ⟨36, _⟩ => ⟨S1x1x1024, .f32⟩
  | .hbm, ⟨37, _⟩ => ⟨S16x256x1024, .f32⟩
  | .hbm, ⟨38, _⟩ => ⟨S16x256x1024, .f32⟩
  | .hbm, ⟨39, _⟩ => ⟨S16x256x1024, .f32⟩
  | .hbm, ⟨40, _⟩ => ⟨S16x256x1024, .f32⟩
  | .hbm, ⟨41, _⟩ => ⟨S1024x384, .f32⟩
  | .hbm, ⟨42, _⟩ => ⟨S16x256x384, .f32⟩
  | .hbm, ⟨43, _⟩ => ⟨S384, .f32⟩
  | .hbm, ⟨44, _⟩ => ⟨S16x256x384, .f32⟩
  | .hbm, ⟨45, _⟩ => ⟨S_, .f32⟩
  | .hbm, ⟨46, _⟩ => ⟨S16x256, .f32⟩
  | .hbm, ⟨47, _⟩ => ⟨S16x256x1, .f32⟩
  | .hbm, ⟨48, _⟩ => ⟨S_, .f32⟩
  | .hbm, ⟨49, _⟩ => ⟨S16x256x1, .f32⟩
  | .hbm, ⟨50, _⟩ => ⟨S16x256x1, .f32⟩
  | .hbm, ⟨51, _⟩ => ⟨S_, .f32⟩
  | .hbm, ⟨52, _⟩ => ⟨S16x256x1, .f32⟩
  | .hbm, ⟨53, _⟩ => ⟨S16x256x1, .f32⟩
  | .hbm, ⟨54, _⟩ => ⟨S16x256x1, .f32⟩
  | .hbm, ⟨55, _⟩ => ⟨S16x256x384, .f32⟩
  | .hbm, ⟨56, _⟩ => ⟨S16x256x384, .f32⟩
  | .hbm, ⟨57, _⟩ => ⟨S1x1x384, .f32⟩
  | .hbm, ⟨58, _⟩ => ⟨S16x256x384, .f32⟩
  | .hbm, ⟨59, _⟩ => ⟨S16x256x384, .f32⟩
  | .hbm, ⟨60, _⟩ => ⟨S384x1536, .f32⟩
  | .hbm, ⟨61, _⟩ => ⟨S16x256x1536, .f32⟩
  | .hbm, ⟨62, _⟩ => ⟨S16x256x8x192, .f32⟩
  | .hbm, ⟨63, _⟩ => ⟨S16x256x8x128, .f32⟩
  | .hbm, ⟨64, _⟩ => ⟨S16x256x8x64, .f32⟩
  | .hbm, ⟨65, _⟩ => ⟨S1024x320, .f32⟩
  | .hbm, ⟨66, _⟩ => ⟨S16x256x320, .f32⟩
  | .hbm, ⟨67, _⟩ => ⟨S16x256x256, .f32⟩
  | .hbm, ⟨68, _⟩ => ⟨S256, .f32⟩
  | .hbm, ⟨69, _⟩ => ⟨S16x256x256, .f32⟩
  | .hbm, ⟨70, _⟩ => ⟨S_, .f32⟩
  | .hbm, ⟨71, _⟩ => ⟨S16x256, .f32⟩
  | .hbm, ⟨72, _⟩ => ⟨S16x256x1, .f32⟩
  | .hbm, ⟨73, _⟩ => ⟨S_, .f32⟩
  | .hbm, ⟨74, _⟩ => ⟨S16x256x1, .f32⟩
  | .hbm, ⟨75, _⟩ => ⟨S16x256x1, .f32⟩
  | .hbm, ⟨76, _⟩ => ⟨S_, .f32⟩
  | .hbm, ⟨77, _⟩ => ⟨S16x256x1, .f32⟩
  | .hbm, ⟨78, _⟩ => ⟨S16x256x1, .f32⟩
  | .hbm, ⟨79, _⟩ => ⟨S16x256x1, .f32⟩
  | .hbm, ⟨80, _⟩ => ⟨S16x256x256, .f32⟩
  | .hbm, ⟨81, _⟩ => ⟨S16x256x256, .f32⟩
  | .hbm, ⟨82, _⟩ => ⟨S1x1x256, .f32⟩
  | .hbm, ⟨83, _⟩ => ⟨S16x256x256, .f32⟩
  | .hbm, ⟨84, _⟩ => ⟨S16x256x256, .f32⟩
  | .hbm, ⟨85, _⟩ => ⟨S16x256x64, .f32⟩
  | .hbm, ⟨86, _⟩ => ⟨S4096x1024, .f32⟩
  | .hbm, ⟨87, _⟩ => ⟨S4096x1024, .bf16⟩
  | .hbm, ⟨88, _⟩ => ⟨S4096x512, .f32⟩
  | .hbm, ⟨89, _⟩ => ⟨S4096x512, .bf16⟩
  | .hbm, ⟨90, _⟩ => ⟨S4096x256, .f32⟩
  | .hbm, ⟨91, _⟩ => ⟨S4096x64, .f32⟩
  | _, _ => ⟨S6144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_6 : Ref sig .tc := ⟨.hbm, 70, rfl⟩
abbrev main_v55 : Ref sig .tc := ⟨.hbm, 71, rfl⟩
abbrev main_v56 : Ref sig .tc := ⟨.hbm, 72, rfl⟩
abbrev main_cst_7 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== Conv.lean ====
abbrev S6144x1024 : Shape := ⟨2, ![6144, 1024]⟩
abbrev S1x8x6x1024 : Shape := ⟨4, ![1, 8, 6, 1024]⟩
abbrev S4x4x1024 : Shape := ⟨3, ![4, 4, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S1024x1024 : Shape := ⟨2, ![1024, 1024]⟩
abbrev S1x1x6x1024 : Shape := ⟨4, ![1, 1, 6, 1024]⟩
abbrev S1x4x1024 : Shape := ⟨3, ![1, 4, 1024]⟩
abbrev S1x1024x512 : Shape := ⟨3, ![1, 1024, 512]⟩
abbrev S1x3x512 : Shape := ⟨3, ![1, 3, 512]⟩
abbrev S1x512x1024 : Shape := ⟨3, ![1, 512, 1024]⟩
abbrev S6x1024 : Shape := ⟨2, ![6, 1024]⟩
abbrev S4x1024 : Shape := ⟨2, ![4, 1024]⟩
abbrev S1x1024 : Shape := ⟨2, ![1, 1024]⟩
abbrev S1024 : Shape := ⟨1, ![1024]⟩
abbrev S1024x1 : Shape := ⟨2, ![1024, 1]⟩
abbrev S1x1024x256 : Shape := ⟨3, ![1, 1024, 256]⟩
abbrev S1024x256 : Shape := ⟨2, ![1024, 256]⟩
abbrev S1024x128 : Shape := ⟨2, ![1024, 128]⟩
abbrev S1x1x256 : Shape := ⟨3, ![1, 1, 256]⟩
abbrev S1x256 : Shape := ⟨2, ![1, 256]⟩
abbrev S1x256x1024 : Shape := ⟨3, ![1, 256, 1024]⟩
abbrev S256x1024 : Shape := ⟨2, ![256, 1024]⟩

abbrev nBuf : Space → Nat
  | .hbm => 7
  | .vmem => 19
  | .smem => 0
  | _ => 0

abbrev bufTy : (tb : Table) → Fin (tcTables nBuf tb) → BufTy
  | .hbm, ⟨0, _⟩ => ⟨S6144x1024, .f32⟩
  | .hbm, ⟨1, _⟩ => ⟨S1x8x6x1024, .f32⟩
  | .hbm, ⟨2, _⟩ => ⟨S4x4x1024, .f32⟩
  | .hbm, ⟨3, _⟩ => ⟨S1x1024x3072, .f32⟩
  | .hbm, ⟨4, _⟩ => ⟨S1x3x1024, .f32⟩
  | .hbm, ⟨5, _⟩ => ⟨S1x1024x1024, .f32⟩
  | .hbm, ⟨6, _⟩ => ⟨S6144x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x4x1024, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x3x512, .f32⟩
  | .local _ .vmem, ⟨12, _⟩ => ⟨S1x3x512, .f32⟩
  | .local _ .vmem, ⟨13, _⟩ => ⟨S1x512x1024, .f32⟩
  | .local _ .vmem, ⟨14, _⟩ => ⟨S1x512x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .f32⟩
  | _, _ => ⟨S6144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![6, 2], ![false, false]⟩

def k0_cond3 (i : grid0.Coords) : BitVec 1 :=
  let arg1 : BitVec 32 := BitVec.ofNat 32 (i 1).val
  let c1_i32_9 : BitVec 32 := 1#32
  let v14 : BitVec 1 := Scalar.cmpi .eq arg1 c1_i32_9
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi arg0 c3_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![c0_i32_0.toNat, v1.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== RefConvIdeal.lean ====
abbrev S6144x1024 : Shape := ⟨2, ![6144, 1024]⟩
abbrev S1x8x6x1024 : Shape := ⟨4, ![1, 8, 6, 1024]⟩
abbrev S4x4x1024 : Shape := ⟨3, ![4, 4, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S4096x1024 : Shape := ⟨2, ![4096, 1024]⟩
abbrev S16x256x1024 : Shape := ⟨3, ![16, 256, 1024]⟩
abbrev S2048x1024 : Shape := ⟨2, ![2048, 1024]⟩
abbrev S2x1024x1024 : Shape := ⟨3, ![2, 1024, 1024]⟩
abbrev S1x1x1x1024 : Shape := ⟨4, ![1, 1, 1, 1024]⟩
abbrev S1x1024 : Shape := ⟨2, ![1, 1024]⟩
abbrev S1x1x1024 : Shape := ⟨3, ![1, 1, 1024]⟩
abbrev S1x2x1x1024 : Shape := ⟨4, ![1, 2, 1, 1024]⟩
abbrev S2x1024 : Shape := ⟨2, ![2, 1024]⟩
abbrev S2x1x1024 : Shape := ⟨3, ![2, 1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S2x1024x1 : Shape := ⟨3, ![2, 1024, 1]⟩
abbrev S1024x3072 : Shape := ⟨2, ![1024, 3072]⟩
abbrev S3x1024 : Shape := ⟨2, ![3, 1024]⟩
abbrev S1024x1024 : Shape := ⟨2, ![1024, 1024]⟩
abbrev S16x256x3072 : Shape := ⟨3, ![16, 256, 3072]⟩
abbrev S16x258x1024 : Shape := ⟨3, ![16, 258, 1024]⟩
abbrev S2x1024x3072 : Shape := ⟨3, ![2, 1024, 3072]⟩
abbrev S2x1026x1024 : Shape := ⟨3, ![2, 1026, 1024]⟩

abbrev nBuf : Space → Nat
  | .hbm => 187
  | .vmem => 0
  | .smem => 0
  | _ => 0

abbrev hbmTy0_0 (i : Nat) : BufTy := match i % 128 with
  | 0 => ⟨S6144x1024, .f32⟩
  | 1 => ⟨S1x8x6x1024, .f32⟩
  | 2 => ⟨S4x4x1024, .f32⟩
  | 3 => ⟨S1x1024x3072, .f32⟩
  | 4 => ⟨S1x3x1024, .f32⟩
  | 5 => ⟨S1x1024x1024, .f32⟩
  | 6 => ⟨S4096x1024, .f32⟩
  | 7 => ⟨S16x256x1024, .f32⟩
  | 8 => ⟨S2048x1024, .f32⟩
  | 9 => ⟨S2x1024x1024, .f32⟩
  | 10 => ⟨S1x1x1x1024, .f32⟩
  | 11 => ⟨S1x1024, .f32⟩
  | 12 => ⟨S1x1x1024, .f32⟩
  | 13 => ⟨S1x1x1x1024, .f32⟩
  | 14 => ⟨S1x1024, .f32⟩
  | 15 => ⟨S1x1x1024, .f32⟩
  | 16 => ⟨S1x1x1x1024, .f32⟩
  | 17 => ⟨S1x1024, .f32⟩
  | 18 => ⟨S1x1x1024, .f32⟩
  | 19 => ⟨S1x2x1x1024, .f32⟩
  | 20 => ⟨S2x1024, .f32⟩
  | 21 => ⟨S2x1x1024, .f32⟩
  | 22 => ⟨S1x2x1x1024, .f32⟩
  | 23 => ⟨S2x1024, .f32⟩
  | 24 => ⟨S2x1x1024, .f32⟩
  | 25 => ⟨S1x2x1x1024, .f32⟩
  | 26 => ⟨S2x1024, .f32⟩
  | 27 => ⟨S2x1x1024, .f32⟩
  | 28 => ⟨S1x1x1024, .f32⟩
  | 29 => ⟨S1024, .f32⟩
  | 30 => ⟨S16x256x1024, .f32⟩
  | 31 => ⟨S_, .f32⟩
  | 32 => ⟨S16x256, .f32⟩
  | 33 => ⟨S16x256x1, .f32⟩
  | 34 => ⟨S_, .f32⟩
  | 35 => ⟨S16x256x1, .f32⟩
  | 36 => ⟨S16x256x1, .f32⟩
  | 37 => ⟨S_, .f32⟩
  | 38 => ⟨S16x256x1, .f32⟩
  | 39 => ⟨S16x256x1, .f32⟩
  | 40 => ⟨S16x256x1, .f32⟩
  | 41 => ⟨S16x256x1024, .f32⟩
  | 42 => ⟨S16x256x1024, .f32⟩
  | 43 => ⟨S1x1x1024, .f32⟩
  | 44 => ⟨S16x256x1024, .f32⟩
  | 45 => ⟨S16x256x1024, .f32⟩
  | 46 => ⟨S_, .f32⟩
  | 47 => ⟨S1x1x1024, .f32⟩
  | 48 => ⟨S1x1x1024, .f32⟩
  | 49 => ⟨S16x256x1024, .f32⟩
  | 50 => ⟨S16x256x1024, .f32⟩
  | 51 => ⟨S16x256x1024, .f32⟩
  | 52 => ⟨S16x256x1024, .f32⟩
  | 53 => ⟨S1x1x1024, .f32⟩
  | 54 => ⟨S1024, .f32⟩
  | 55 => ⟨S2x1024x1024, .f32⟩
  | 56 => ⟨S_, .f32⟩
  | 57 => ⟨S2x1024, .f32⟩
  | 58 => ⟨S2x1024x1, .f32⟩
  | 59 => ⟨S_, .f32⟩
  | 60 => ⟨S2x1024x1, .f32⟩
  | 61 => ⟨S2x1024x1, .f32⟩
  | 62 => ⟨S_, .f32⟩
  | 63 => ⟨S2x1024x1, .f32⟩
  | 64 => ⟨S2x1024x1, .f32⟩
  | 65 => ⟨S2x1024x1, .f32⟩
  | 66 => ⟨S2x1024x1024, .f32⟩
  | 67 => ⟨S2x1024x1024, .f32⟩
  | 68 => ⟨S1x1x1024, .f32⟩
  | 69 => ⟨S2x1024x1024, .f32⟩
  | 70 => ⟨S2x1024x1024, .f32⟩
  | 71 => ⟨S_, .f32⟩
  | 72 => ⟨S2x1x1024, .f32⟩
  | 73 => ⟨S2x1x1024, .f32⟩
  | 74 => ⟨S2x1024x1024, .f32⟩
  | 75 => ⟨S2x1024x1024, .f32⟩
  | 76 => ⟨S2x1024x1024, .f32⟩
  | 77 => ⟨S2x1024x1024, .f32⟩
  | 78 => ⟨S1024x3072, .f32⟩
  | 79 => ⟨S3x1024, .f32⟩
  | 80 => ⟨S1024x1024, .f32⟩
  | 81 => ⟨S16x256x3072, .f32⟩
  | 82 => ⟨S16x256x1024, .f32⟩
  | 83 => ⟨S16x256x1024, .f32⟩
  | 84 => ⟨S16x256x1024, .f32⟩
  | 85 => ⟨S16x256x1024, .f32⟩
  | 86 => ⟨S_, .i32⟩
  | 87 => ⟨S_, .f32⟩
  | 88 => ⟨S16x258x1024, .f32⟩
  | 89 => ⟨S16x256x1024, .f32⟩
  | 90 => ⟨S16x256x1024, .f32⟩
  | 91 => ⟨S1x1024, .f32⟩
  | 92 => ⟨S1024, .f32⟩
  | 93 => ⟨S1x1x1024, .f32⟩
  | 94 => ⟨S16x256x1024, .f32⟩
  | 95 => ⟨S16x256x1024, .f32⟩
  | 96 => ⟨S1x1024, .f32⟩
  | 97 => ⟨S1024, .f32⟩
  | 98 => ⟨S1x1x1024, .f32⟩
  | 99 => ⟨S16x256x1024, .f32⟩
  | 100 => ⟨S16x256x1024, .f32⟩
  | 101 => ⟨S16x256x1024, .f32⟩
  | 102 => ⟨S1x1024, .f32⟩
  | 103 => ⟨S1024, .f32⟩
  | 104 => ⟨S1x1x1024, .f32⟩
  | 105 => ⟨S16x256x1024, .f32⟩
  | 106 => ⟨S16x256x1024, .f32⟩
  | 107 => ⟨S16x256x1024, .f32⟩
  | 108 => ⟨S16x256x1024, .f32⟩
  | 109 => ⟨S16x256x1024, .f32⟩
  | 110 => ⟨S1024x3072, .f32⟩
  | 111 => ⟨S3x1024, .f32⟩
  | 112 => ⟨S1024x1024, .f32⟩
  | 113 => ⟨S2x1024x3072, .f32⟩
  | 114 => ⟨S2x1024x1024, .f32⟩
  | 115 => ⟨S2x1024x1024, .f32⟩
  | 116 => ⟨S2x1024x1024, .f32⟩
  | 117 => ⟨S2x1024x1024, .f32⟩
  | 118 => ⟨S_, .i32⟩
  | 119 => ⟨S_, .f32⟩
  | 120 => ⟨S2x1026x1024, .f32⟩
  | 121 => ⟨S2x1024x1024, .f32⟩
  | 122 => ⟨S2x1024x1024, .f32⟩
  | 123 => ⟨S1x1024, .f32⟩
  | 124 => ⟨S1024, .f32⟩
  | 125 => ⟨S1x1x1024, .f32⟩
  | 126 => ⟨S2x1024x1024, .f32⟩
  | 127 => ⟨S2x1024x1024, .f32⟩
  | _ => ⟨S6144x1024, .f32⟩

abbrev hbmTy0_1 (i : Nat) : BufTy := match i % 128 with
  | 0 => ⟨S1x1024, .f32⟩
  | 1 => ⟨S1024, .f32⟩
  | 2 => ⟨S1x1x1024, .f32⟩
  | 3 => ⟨S2x1024x1024, .f32⟩
  | 4 => ⟨S2x1024x1024, .f32⟩
  | 5 => ⟨S2x1024x1024, .f32⟩
  | 6 => ⟨S1x1024, .f32⟩
  | 7 => ⟨S1024, .f32⟩
  | 8 => ⟨S1x1x1024, .f32⟩
  | 9 => ⟨S2x1024x1024, .f32⟩
  | 10 => ⟨S2x1024x1024, .f32⟩
  | 11 => ⟨S2x1024x1024, .f32⟩
  | 12 => ⟨S2x1024x1024, .f32⟩
  | 13 => ⟨S2x1024x1024, .f32⟩
  | 14 => ⟨S1x1x1024, .f32⟩
  | 15 => ⟨S1024, .f32⟩
  | 16 => ⟨S16x256x1024, .f32⟩
  | 17 => ⟨S_, .f32⟩
  | 18 => ⟨S16x256, .f32⟩
  | 19 => ⟨S16x256x1, .f32⟩
  | 20 => ⟨S_, .f32⟩
  | 21 => ⟨S16x256x1, .f32⟩
  | 22 => ⟨S16x256x1, .f32⟩
  | 23 => ⟨S_, .f32⟩
  | 24 => ⟨S16x256x1, .f32⟩
  | 25 => ⟨S16x256x1, .f32⟩
  | 26 => ⟨S16x256x1, .f32⟩
  | 27 => ⟨S16x256x1024, .f32⟩
  | 28 => ⟨S16x256x1024, .f32⟩
  | 29 => ⟨S1x1x1024, .f32⟩
  | 30 => ⟨S16x256x1024, .f32⟩
  | 31 => ⟨S16x256x1024, .f32⟩
  | 32 => ⟨S16x256x1024, .f32⟩
  | 33 => ⟨S16x256x1024, .f32⟩
  | 34 => ⟨S16x256x1024, .f32⟩
  | 35 => ⟨S1x1x1024, .f32⟩
  | 36 => ⟨S1024, .f32⟩
  | 37 => ⟨S2x1024x1024, .f32⟩
  | 38 => ⟨S_, .f32⟩
  | 39 => ⟨S2x1024, .f32⟩
  | 40 => ⟨S2x1024x1, .f32⟩
  | 41 => ⟨S_, .f32⟩
  | 42 => ⟨S2x1024x1, .f32⟩
  | 43 => ⟨S2x1024x1, .f32⟩
  | 44 => ⟨S_, .f32⟩
  | 45 => ⟨S2x1024x1, .f32⟩
  | 46 => ⟨S2x1024x1, .f32⟩
  | 47 => ⟨S2x1024x1, .f32⟩
  | 48 => ⟨S2x1024x1024, .f32⟩
  | 49 => ⟨S2x1024x1024, .f32⟩
  | 50 => ⟨S1x1x1024, .f32⟩
  | 51 => ⟨S2x1024x1024, .f32⟩
  | 52 => ⟨S2x1024x1024, .f32⟩
  | 53 => ⟨S2x1024x1024, .f32⟩
  | 54 => ⟨S2x1024x1024, .f32⟩
  | 55 => ⟨S2x1024x1024, .f32⟩
  | 56 => ⟨S4096x1024, .f32⟩
  | 57 => ⟨S2048x1024, .f32⟩
  | 58 => ⟨S6144x1024, .f32⟩
  | _ => ⟨S6144x1024, .f32⟩

abbrev hbmTy (i : Nat) : BufTy := match i / 128 with
  | 0 => hbmTy0_0 i
  | 1 => hbmTy0_1 i
  | _ => ⟨S6144x1024, .f32⟩

abbrev bufTy : (tb : Table) → Fin (tcTables nBuf tb) → BufTy
  | .hbm, ⟨i, _⟩ => hbmTy i
  | _, _ => ⟨S6144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_v25 : Ref sig .tc := ⟨.hbm, 32, rfl⟩
abbrev main_v26 : Ref sig .tc := ⟨.hbm, 33, rfl⟩
abbrev main_cst_0 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_2 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_3 : Ref sig .tc := ⟨.hbm, 56, rfl⟩
abbrev main_v46 : Ref sig .tc := ⟨.hbm, 57, rfl⟩
abbrev main_v47 : Ref sig .tc := ⟨.hbm, 58, rfl⟩
abbrev main_cst_4 : Ref sig .tc := ⟨.hbm, 59, rfl⟩
abbrev main_v48 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_6 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_c : Ref sig .tc := ⟨.hbm, 86, rfl⟩
abbrev main_call0_v0 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_c_7 : Ref sig .tc := ⟨.hbm, 118, rfl⟩
abbrev main_call1_v0 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_cst_8 : Ref sig .tc := ⟨.hbm, 145, rfl⟩
abbrev main_v127 : Ref sig .tc := ⟨.hbm, 146, rfl⟩
abbrev main_v128 : Ref sig .tc := ⟨.hbm, 147, rfl⟩
abbrev main_cst_9 : Ref sig .tc := ⟨.hbm, 148, rfl⟩
abbrev main_v129 : Ref sig .tc := ⟨.hbm, 149, rfl⟩
abbrev main_v130 : Ref sig .tc := ⟨.hbm, 150, rfl⟩
abbrev main_cst_10 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_cst_11 : Ref sig .tc := ⟨.hbm, 166, rfl⟩
abbrev main_v145 : Ref sig .tc := ⟨.hbm, 167, rfl⟩
abbrev main_v146 : Ref sig .tc := ⟨.hbm, 168, rfl⟩
abbrev main_cst_12 : Ref sig .tc := ⟨.hbm, 169, rfl⟩
abbrev main_v147 : Ref sig .tc := ⟨.hbm, 170, rfl⟩
abbrev main_v148 : Ref sig .tc := ⟨.hbm, 171, rfl⟩
abbrev main_cst_13 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩

abbrev nD : Nat := 1
abbrev τ : Topo := Topo.v7x

variable {F : FTy → Type} [FloatOps F]
-- ==== TimeOut.lean ====
abbrev S6144x1024 : Shape := ⟨2, ![6144, 1024]⟩
abbrev S1x8x6x1024 : Shape := ⟨4, ![1, 8, 6, 1024]⟩
abbrev S4x4x1024 : Shape := ⟨3, ![4, 4, 1024]⟩
abbrev S2048x1024 : Shape := ⟨2, ![2048, 1024]⟩
abbrev S1x1024 : Shape := ⟨2, ![1, 1024]⟩
abbrev S1x1024x1024 : Shape := ⟨3, ![1, 1024, 1024]⟩
abbrev S1024x1024 : Shape := ⟨2, ![1024, 1024]⟩
abbrev S1x1x6x1024 : Shape := ⟨4, ![1, 1, 6, 1024]⟩
abbrev S1x4x1024 : Shape := ⟨3, ![1, 4, 1024]⟩
abbrev S1024x512 : Shape := ⟨2, ![1024, 512]⟩
abbrev S1x512 : Shape := ⟨2, ![1, 512]⟩
abbrev S1x512x1024 : Shape := ⟨3, ![1, 512, 1024]⟩
abbrev S512x512 : Shape := ⟨2, ![512, 512]⟩
abbrev S512x1024 : Shape := ⟨2, ![512, 1024]⟩
abbrev S6x1024 : Shape := ⟨2, ![6, 1024]⟩
abbrev S4x1024 : Shape := ⟨2, ![4, 1024]⟩
abbrev S1024 : Shape := ⟨1, ![1024]⟩
abbrev S1024x1 : Shape := ⟨2, ![1024, 1]⟩

abbrev nBuf : Space → Nat
  | .hbm => 10
  | .vmem => 20
  | .smem => 0
  | _ => 0

abbrev bufTy : (tb : Table) → Fin (tcTables nBuf tb) → BufTy
  | .hbm, ⟨0, _⟩ => ⟨S6144x1024, .f32⟩
  | .hbm, ⟨1, _⟩ => ⟨S1x8x6x1024, .f32⟩
  | .hbm, ⟨2, _⟩ => ⟨S4x4x1024, .f32⟩
  | .hbm, ⟨3, _⟩ => ⟨S2048x1024, .bf16⟩
  | .hbm, ⟨4, _⟩ => ⟨S6144x1024, .bf16⟩
  | .hbm, ⟨5, _⟩ => ⟨S6144x1024, .bf16⟩
  | .hbm, ⟨6, _⟩ => ⟨S1x1024, .f32⟩
  | .hbm, ⟨7, _⟩ => ⟨S1x1024, .f32⟩
  | .hbm, ⟨8, _⟩ => ⟨S1x1024x1024, .f32⟩
  | .hbm, ⟨9, _⟩ => ⟨S6144x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x4x1024, .f32⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512x1024, .f32⟩
  | .local _ .vmem, ⟨16, _⟩ => ⟨S1x512x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | _, _ => ⟨S6144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg1 : BitVec 32 := BitVec.ofNat 32 (i 1).val
  let c1_i32_3 : BitVec 32 := 1#32
  let v8 : BitVec 1 := Scalar.cmpi .eq arg1 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![v0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== RefTimeOutIdeal.lean ====
abbrev S6144x1024 : Shape := ⟨2, ![6144, 1024]⟩
abbrev S1x8x6x1024 : Shape := ⟨4, ![1, 8, 6, 1024]⟩
abbrev S4x4x1024 : Shape := ⟨3, ![4, 4, 1024]⟩
abbrev S2048x1024 : Shape := ⟨2, ![2048, 1024]⟩
abbrev S1x1024 : Shape := ⟨2, ![1, 1024]⟩
abbrev S1x1024x1024 : Shape := ⟨3, ![1, 1024, 1024]⟩
abbrev S2x1024x1024 : Shape := ⟨3, ![2, 1024, 1024]⟩
abbrev S1x2x1x1024 : Shape := ⟨4, ![1, 2, 1, 1024]⟩
abbrev S2x1024 : Shape := ⟨2, ![2, 1024]⟩
abbrev S2x1x1024 : Shape := ⟨3, ![2, 1, 1024]⟩
abbrev S2x1024x16x64 : Shape := ⟨4, ![2, 1024, 16, 64]⟩
abbrev S_ : Shape := ⟨0, ![]⟩
abbrev S2x1024x16 : Shape := ⟨3, ![2, 1024, 16]⟩
abbrev S2x1024x16x1 : Shape := ⟨4, ![2, 1024, 16, 1]⟩
abbrev S1024 : Shape := ⟨1, ![1024]⟩
abbrev S1x1x1024 : Shape := ⟨3, ![1, 1, 1024]⟩
abbrev S1024x1024 : Shape := ⟨2, ![1024, 1024]⟩
abbrev S2x1024x1 : Shape := ⟨3, ![2, 1024, 1]⟩
abbrev S4096x1024 : Shape := ⟨2, ![4096, 1024]⟩

abbrev nBuf : Space → Nat
  | .hbm => 82
  | .vmem => 0
  | .smem => 0
  | _ => 0

abbrev bufTy : (tb : Table) → Fin (tcTables nBuf tb) → BufTy
  | .hbm, ⟨0, _⟩ => ⟨S6144x1024, .f32⟩
  | .hbm, ⟨1, _⟩ => ⟨S1x8x6x1024, .f32⟩
  | .hbm, ⟨2, _⟩ => ⟨S4x4x1024, .f32⟩
  | .hbm, ⟨3, _⟩ => ⟨S2048x1024, .bf16⟩
  | .hbm, ⟨4, _⟩ => ⟨S6144x1024, .bf16⟩
  | .hbm, ⟨5, _⟩ => ⟨S6144x1024, .bf16⟩
  | .hbm, ⟨6, _⟩ => ⟨S1x1024, .f32⟩
  | .hbm, ⟨7, _⟩ => ⟨S1x1024, .f32⟩
  | .hbm, ⟨8, _⟩ => ⟨S1x1024x1024, .f32⟩
  | .hbm, ⟨9, _⟩ => ⟨S2048x1024, .f32⟩
  | .hbm, ⟨10, _⟩ => ⟨S2x1024x1024, .f32⟩
  | .hbm, ⟨11, _⟩ => ⟨S1x2x1x1024, .f32⟩
  | .hbm, ⟨12, _⟩ => ⟨S2x1024, .f32⟩
  | .hbm, ⟨13, _⟩ => ⟨S2x1x1024, .f32⟩
  | .hbm, ⟨14, _⟩ => ⟨S2048x1024, .f32⟩
  | .hbm, ⟨15, _⟩ => ⟨S2x1024x16x64, .f32⟩
  | .hbm, ⟨16, _⟩ => ⟨S_, .f32⟩
  | .hbm, ⟨17, _⟩ => ⟨S2x1024x16, .f32⟩
  | .hbm, ⟨18, _⟩ => ⟨S2x1024x16x1, .f32⟩
  | .hbm, ⟨19, _⟩ => ⟨S_, .f32⟩
  | .hbm, ⟨20, _⟩ => ⟨S2x1024x16x1, .f32⟩
  | .hbm, ⟨21, _⟩ => ⟨S2x1024x16x1, .f32⟩
  | .hbm, ⟨22, _⟩ => ⟨S2x1024x16x64, .f32⟩
  | .hbm, ⟨23, _⟩ => ⟨S2x1024x16x64, .f32⟩
  | .hbm, ⟨24, _⟩ => ⟨S2x1024x16x64, .f32⟩
  | .hbm, ⟨25, _⟩ => ⟨S_, .f32⟩
  | .hbm, ⟨26, _⟩ => ⟨S2x1024x16, .f32⟩
  | .hbm, ⟨27, _⟩ => ⟨S2x1024x16x1, .f32⟩
  | .hbm, ⟨28, _⟩ => ⟨S_, .f32⟩
  | .hbm, ⟨29, _⟩ => ⟨S2x1024x16x1, .f32⟩
  | .hbm, ⟨30, _⟩ => ⟨S2x1024x16x1, .f32⟩
  | .hbm, ⟨31, _⟩ => ⟨S2x1024x16x64, .f32⟩
  | .hbm, ⟨32, _⟩ => ⟨S2x1024x16x64, .f32⟩
  | .hbm, ⟨33, _⟩ => ⟨S_, .f32⟩
  | .hbm, ⟨34, _⟩ => ⟨S2x1024x16x1, .f32⟩
  | .hbm, ⟨35, _⟩ => ⟨S2x1024x16x1, .f32⟩
  | .hbm, ⟨36, _⟩ => ⟨S2x1024x16x1, .f32⟩
  | .hbm, ⟨37, _⟩ => ⟨S2x1024x16x64, .f32⟩
  | .hbm, ⟨38, _⟩ => ⟨S2x1024x16x64, .f32⟩
  | .hbm, ⟨39, _⟩ => ⟨S2x1024x1024, .f32⟩
  | .hbm, ⟨40, _⟩ => ⟨S1024, .f32⟩
  | .hbm, ⟨41, _⟩ => ⟨S1x1x1024, .f32⟩
  | .hbm, ⟨42, _⟩ => ⟨S2x1024x1024, .f32⟩
  | .hbm, ⟨43, _⟩ => ⟨S2x1024x1024, .f32⟩
  | .hbm, ⟨44, _⟩ => ⟨S1024, .f32⟩
  | .hbm, ⟨45, _⟩ => ⟨S1x1x1024, .f32⟩
  | .hbm, ⟨46, _⟩ => ⟨S2x1024x1024, .f32⟩
  | .hbm, ⟨47, _⟩ => ⟨S2x1024x1024, .f32⟩
  | .hbm, ⟨48, _⟩ => ⟨S2048x1024, .bf16⟩
  | .hbm, ⟨49, _⟩ => ⟨S2048x1024, .f32⟩
  | .hbm, ⟨50, _⟩ => ⟨S2x1024x1024, .f32⟩
  | .hbm, ⟨51, _⟩ => ⟨S2x1024x1024, .f32⟩
  | .hbm, ⟨52, _⟩ => ⟨S2048x1024, .bf16⟩
  | .hbm, ⟨53, _⟩ => ⟨S2048x1024, .f32⟩
  | .hbm, ⟨54, _⟩ => ⟨S2x1024x1024, .f32⟩
  | .hbm, ⟨55, _⟩ => ⟨S2x1024x1024, .f32⟩
  | .hbm, ⟨56, _⟩ => ⟨S1024x1024, .f32⟩
  | .hbm, ⟨57, _⟩ => ⟨S2x1024x1024, .f32⟩
  | .hbm, ⟨58, _⟩ => ⟨S1x1x1024, .f32⟩
  | .hbm, ⟨59, _⟩ => ⟨S1024, .f32⟩
  | .hbm, ⟨60, _⟩ => ⟨S2x1024x1024, .f32⟩
  | .hbm, ⟨61, _⟩ => ⟨S_, .f32⟩
  | .hbm, ⟨62, _⟩ => ⟨S2x1024, .f32⟩
  | .hbm, ⟨63, _⟩ => ⟨S2x1024x1, .f32⟩
  | .hbm, ⟨64, _⟩ => ⟨S_, .f32⟩
  | .hbm, ⟨65, _⟩ => ⟨S2x1024x1, .f32⟩
  | .hbm, ⟨66, _⟩ => ⟨S2x1024x1, .f32⟩
  | .hbm, ⟨67, _⟩ => ⟨S_, .f32⟩
  | .hbm, ⟨68, _⟩ => ⟨S2x1024x1, .f32⟩
  | .hbm, ⟨69, _⟩ => ⟨S2x1024x1, .f32⟩
  | .hbm, ⟨70, _⟩ => ⟨S2x1024x1, .f32⟩
  | .hbm, ⟨71, _⟩ => ⟨S2x1024x1024, .f32⟩
  | .hbm, ⟨72, _⟩ => ⟨S2x1024x1024, .f32⟩
  | .hbm, ⟨73, _⟩ => ⟨S1x1x1024, .f32⟩
  | .hbm, ⟨74, _⟩ => ⟨S2x1024x1024, .f32⟩
  | .hbm, ⟨75, _⟩ => ⟨S2x1024x1024, .f32⟩
  | .hbm, ⟨76, _⟩ => ⟨S2x1024x1024, .f32⟩
  | .hbm, ⟨77, _⟩ => ⟨S2x1024x1024, .f32⟩
  | .hbm, ⟨78, _⟩ => ⟨S2x1024x1024, .f32⟩
  | .hbm, ⟨79, _⟩ => ⟨S4096x1024, .f32⟩
  | .hbm, ⟨80, _⟩ => ⟨S2048x1024, .f32⟩
  | .hbm, ⟨81, _⟩ => ⟨S6144x1024, .f32⟩
  | _, _ => ⟨S6144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_v48 : Ref sig .tc := ⟨.hbm, 63, rfl⟩
abbrev main_cst_5 : Ref sig .tc := ⟨.hbm, 64, rfl⟩
abbrev main_v49 : Ref sig .tc := ⟨.hbm, 65, rfl⟩
abbrev main_v50 : Ref sig .tc := ⟨.hbm, 66, rfl⟩
abbrev main_cst_6 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== Fourier.lean ====
abbrev S2048x1024 : Shape := ⟨2, ![2048, 1024]⟩
abbrev S1x8x6x1024 : Shape := ⟨4, ![1, 8, 6, 1024]⟩
abbrev S4x4x1024 : Shape := ⟨3, ![4, 4, 1024]⟩
abbrev S128x128 : Shape := ⟨2, ![128, 128]⟩
abbrev S1024x1024 : Shape := ⟨2, ![1024, 1024]⟩
abbrev S1x1024x1024 : Shape := ⟨3, ![1, 1024, 1024]⟩
abbrev S128x256 : Shape := ⟨2, ![128, 256]⟩
abbrev S1x1x6x1024 : Shape := ⟨4, ![1, 1, 6, 1024]⟩
abbrev S1x4x1024 : Shape := ⟨3, ![1, 4, 1024]⟩
abbrev S6x1024 : Shape := ⟨2, ![6, 1024]⟩
abbrev S4x1024 : Shape := ⟨2, ![4, 1024]⟩
abbrev S1x1024 : Shape := ⟨2, ![1, 1024]⟩
abbrev S1024 : Shape := ⟨1, ![1024]⟩
abbrev S1024x1 : Shape := ⟨2, ![1024, 1]⟩
abbrev S1024x128 : Shape := ⟨2, ![1024, 128]⟩
abbrev S1024x256 : Shape := ⟨2, ![1024, 256]⟩

abbrev nBuf : Space → Nat
  | .hbm => 10
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1x8x6x1024, .f32⟩
  | .hbm, ⟨2, _⟩ => ⟨S4x4x1024, .f32⟩
  | .hbm, ⟨3, _⟩ => ⟨S128x128, .f32⟩
  | .hbm, ⟨4, _⟩ => ⟨S128x128, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S128x256, .f32⟩
  | .hbm, ⟨9, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x4x1024, .f32⟩
  | .local _ .vmem, ⟨5, _⟩ => ⟨S128x256, .f32⟩
  | .local _ .vmem, ⟨6, _⟩ => ⟨S1024x1024, .f32⟩
  | .local _ .vmem, ⟨7, _⟩ => ⟨S1024x1024, .f32⟩
  | .local _ .vmem, ⟨8, _⟩ => ⟨S1x1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 4 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefFourierIdeal.lean ====
abbrev S2048x1024 : Shape := ⟨2, ![2048, 1024]⟩
abbrev S1x8x6x1024 : Shape := ⟨4, ![1, 8, 6, 1024]⟩
abbrev S4x4x1024 : Shape := ⟨3, ![4, 4, 1024]⟩
abbrev S128x128 : Shape := ⟨2, ![128, 128]⟩
abbrev S1024x1024 : Shape := ⟨2, ![1024, 1024]⟩
abbrev S1x1024x1024 : Shape := ⟨3, ![1, 1024, 1024]⟩
abbrev S2x1024x1024 : Shape := ⟨3, ![2, 1024, 1024]⟩
abbrev S1x2x1x1024 : Shape := ⟨4, ![1, 2, 1, 1024]⟩
abbrev S2x1024 : Shape := ⟨2, ![2, 1024]⟩
abbrev S2x1x1024 : Shape := ⟨3, ![2, 1, 1024]⟩
abbrev S1x1x1024 : Shape := ⟨3, ![1, 1, 1024]⟩
abbrev S1024 : Shape := ⟨1, ![1024]⟩
abbrev S_ : Shape := ⟨0, ![]⟩
abbrev S2x1024x1 : Shape := ⟨3, ![2, 1024, 1]⟩
abbrev S2x1024x8x128 : Shape := ⟨4, ![2, 1024, 8, 128]⟩
abbrev S2x8x128x1024 : Shape := ⟨4, ![2, 8, 128, 1024]⟩

abbrev nBuf : Space → Nat
  | .hbm => 76
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x8x6x1024, .f32⟩
  | .hbm, ⟨2, _⟩ => ⟨S4x4x1024, .f32⟩
  | .hbm, ⟨3, _⟩ => ⟨S128x128, .f32⟩
  | .hbm, ⟨4, _⟩ => ⟨S128x128, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S2x1024x1024, .f32⟩
  | .hbm, ⟨9, _⟩ => ⟨S1x2x1x1024, .f32⟩
  | .hbm, ⟨10, _⟩ => ⟨S2x1024, .f32⟩
  | .hbm, ⟨11, _⟩ => ⟨S2x1x1024, .f32⟩
  | .hbm, ⟨12, _⟩ => ⟨S1x2x1x1024, .f32⟩
  | .hbm, ⟨13, _⟩ => ⟨S2x1024, .f32⟩
  | .hbm, ⟨14, _⟩ => ⟨S2x1x1024, .f32⟩
  | .hbm, ⟨15, _⟩ => ⟨S1x2x1x1024, .f32⟩
  | .hbm, ⟨16, _⟩ => ⟨S2x1024, .f32⟩
  | .hbm, ⟨17, _⟩ => ⟨S2x1x1024, .f32⟩
  | .hbm, ⟨18, _⟩ => ⟨S1x1x1024, .f32⟩
  | .hbm, ⟨19, _⟩ => ⟨S1024, .f32⟩
  | .hbm, ⟨20, _⟩ => ⟨S2x1024x1024, .f32⟩
  | .hbm, ⟨21, _⟩ => ⟨S_, .f32⟩
  | .hbm, ⟨22, _⟩ => ⟨S2x1024, .f32⟩
  | .hbm, ⟨23, _⟩ => ⟨S2x1024x1, .f32⟩
  | .hbm, ⟨24, _⟩ => ⟨S_, .f32⟩
  | .hbm, ⟨25, _⟩ => ⟨S2x1024x1, .f32⟩
  | .hbm, ⟨26, _⟩ => ⟨S2x1024x1, .f32⟩
  | .hbm, ⟨27, _⟩ => ⟨S_, .f32⟩
  | .hbm, ⟨28, _⟩ => ⟨S2x1024x1, .f32⟩
  | .hbm, ⟨29, _⟩ => ⟨S2x1024x1, .f32⟩
  | .hbm, ⟨30, _⟩ => ⟨S2x1024x1, .f32⟩
  | .hbm, ⟨31, _⟩ => ⟨S2x1024x1024, .f32⟩
  | .hbm, ⟨32, _⟩ => ⟨S2x1024x1024, .f32⟩
  | .hbm, ⟨33, _⟩ => ⟨S1x1x1024, .f32⟩
  | .hbm, ⟨34, _⟩ => ⟨S2x1024x1024, .f32⟩
  | .hbm, ⟨35, _⟩ => ⟨S2x1024x1024, .f32⟩
  | .hbm, ⟨36, _⟩ => ⟨S_, .f32⟩
  | .hbm, ⟨37, _⟩ => ⟨S2x1x1024, .f32⟩
  | .hbm, ⟨38, _⟩ => ⟨S2x1x1024, .f32⟩
  | .hbm, ⟨39, _⟩ => ⟨S2x1024x1024, .f32⟩
  | .hbm, ⟨40, _⟩ => ⟨S2x1024x1024, .f32⟩
  | .hbm, ⟨41, _⟩ => ⟨S2x1024x1024, .f32⟩
  | .hbm, ⟨42, _⟩ => ⟨S2x1024x1024, .f32⟩
  | .hbm, ⟨43, _⟩ => ⟨S1024x1024, .f32⟩
  | .hbm, ⟨44, _⟩ => ⟨S2x1024x8x128, .f32⟩
  | .hbm, ⟨45, _⟩ => ⟨S2x1024x8x128, .f32⟩
  | .hbm, ⟨46, _⟩ => ⟨S2x8x128x1024, .f32⟩
  | .hbm, ⟨47, _⟩ => ⟨S2x1024x8x128, .f32⟩
  | .hbm, ⟨48, _⟩ => ⟨S2x1024x8x128, .f32⟩
  | .hbm, ⟨49, _⟩ => ⟨S2x8x128x1024, .f32⟩
  | .hbm, ⟨50, _⟩ => ⟨S2x1024x8x128, .f32⟩
  | .hbm, ⟨51, _⟩ => ⟨S2x1024x8x128, .f32⟩
  | .hbm, ⟨52, _⟩ => ⟨S2x1024x1024, .f32⟩
  | .hbm, ⟨53, _⟩ => ⟨S2x1024x1024, .f32⟩
  | .hbm, ⟨54, _⟩ => ⟨S1x1x1024, .f32⟩
  | .hbm, ⟨55, _⟩ => ⟨S1024, .f32⟩
  | .hbm, ⟨56, _⟩ => ⟨S2x1024x1024, .f32⟩
  | .hbm, ⟨57, _⟩ => ⟨S_, .f32⟩
  | .hbm, ⟨58, _⟩ => ⟨S2x1024, .f32⟩
  | .hbm, ⟨59, _⟩ => ⟨S2x1024x1, .f32⟩
  | .hbm, ⟨60, _⟩ => ⟨S_, .f32⟩
  | .hbm, ⟨61, _⟩ => ⟨S2x1024x1, .f32⟩
  | .hbm, ⟨62, _⟩ => ⟨S2x1024x1, .f32⟩
  | .hbm, ⟨63, _⟩ => ⟨S_, .f32⟩
  | .hbm, ⟨64, _⟩ => ⟨S2x1024x1, .f32⟩
  | .hbm, ⟨65, _⟩ => ⟨S2x1024x1, .f32⟩
  | .hbm, ⟨66, _⟩ => ⟨S2x1024x1, .f32⟩
  | .hbm, ⟨67, _⟩ => ⟨S2x1024x1024, .f32⟩
  | .hbm, ⟨68, _⟩ => ⟨S2x1024x1024, .f32⟩
  | .hbm, ⟨69, _⟩ => ⟨S1x1x1024, .f32⟩
  | .hbm, ⟨70, _⟩ => ⟨S2x1024x1024, .f32⟩
  | .hbm, ⟨71, _⟩ => ⟨S2x1024x1024, .f32⟩
  | .hbm, ⟨72, _⟩ => ⟨S2x1024x1024, .f32⟩
  | .hbm, ⟨73, _⟩ => ⟨S2x1024x1024, .f32⟩
  | .hbm, ⟨74, _⟩ => ⟨S2x1024x1024, .f32⟩
  | .hbm, ⟨75, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_3 : Ref sig .tc := ⟨.hbm, 57, rfl⟩
abbrev main_v45 : Ref sig .tc := ⟨.hbm, 58, rfl⟩
abbrev main_v46 : Ref sig .tc := ⟨.hbm, 59, rfl⟩
abbrev main_cst_4 : Ref sig .tc := ⟨.hbm, 60, rfl⟩
abbrev main_v47 : Ref sig .tc := ⟨.hbm, 61, rfl⟩
abbrev main_v48 : Ref sig .tc := ⟨.hbm, 62, rfl⟩
abbrev main_cst_5 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩

abbrev nD : Nat := 1
abbrev τ : Topo := Topo.v7x

variable {F : FTy → Type} [FloatOps F]
-- ==== Modulation.lean ====
abbrev S2x1024 : Shape := ⟨2, ![2, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S4x1x6144 : Shape := ⟨3, ![4, 1, 6144]⟩
abbrev S8x6144 : Shape := ⟨2, ![8, 6144]⟩
abbrev S1x1024x1536 : Shape := ⟨3, ![1, 1024, 1536]⟩
abbrev S1x1x1536 : Shape := ⟨3, ![1, 1, 1536]⟩
abbrev S8x1536 : Shape := ⟨2, ![8, 1536]⟩
abbrev S1024x1536 : Shape := ⟨2, ![1024, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S4x1x6144, .f32⟩
  | .hbm, ⟨9, _⟩ => ⟨S8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S8x1536, .f32⟩
  | .local _ .vmem, ⟨6, _⟩ => ⟨S8x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefModulationIdeal.lean ====
abbrev S2x1024 : Shape := ⟨2, ![2, 1024]⟩
abbrev S1024 : Shape := ⟨1, ![1024]⟩
abbrev S4x1024x6144 : Shape := ⟨3, ![4, 1024, 6144]⟩
abbrev S4x6144 : Shape := ⟨2, ![4, 6144]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S1x1024 : Shape := ⟨2, ![1, 1024]⟩
abbrev S_ : Shape := ⟨0, ![]⟩
abbrev S2x6144 : Shape := ⟨2, ![2, 6144]⟩
abbrev S5x6144 : Shape := ⟨2, ![5, 6144]⟩
abbrev S8x6144 : Shape := ⟨2, ![8, 6144]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024x6144, .f32⟩
  | .hbm, ⟨5, _⟩ => ⟨S1024x6144, .f32⟩
  | .hbm, ⟨6, _⟩ => ⟨S1x6144, .f32⟩
  | .hbm, ⟨7, _⟩ => ⟨S6144, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x6144, .f32⟩
  | .hbm, ⟨19, _⟩ => ⟨S1x6144, .f32⟩
  | .hbm, ⟨20, _⟩ => ⟨S1x6144, .f32⟩
  | .hbm, ⟨21, _⟩ => ⟨S2x1024, .f32⟩
  | .hbm, ⟨22, _⟩ => ⟨S2x1024, .f32⟩
  | .hbm, ⟨23, _⟩ => ⟨S_, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S2x6144, .f32⟩
  | .hbm, ⟨31, _⟩ => ⟨S1x6144, .f32⟩
  | .hbm, ⟨32, _⟩ => ⟨S2x6144, .f32⟩
  | .hbm, ⟨33, _⟩ => ⟨S2x6144, .f32⟩
  | .hbm, ⟨34, _⟩ => ⟨S1x6144, .f32⟩
  | .hbm, ⟨35, _⟩ => ⟨S5x6144, .f32⟩
  | .hbm, ⟨36, _⟩ => ⟨S8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩

abbrev nD : Nat := 1
abbrev τ : Topo := Topo.v7x

variable {F : FTy → Type} [FloatOps F]
-- ==== MlpBoth.lean ====
abbrev S6144x1024 : Shape := ⟨2, ![6144, 1024]⟩
abbrev S1x8x6x1024 : Shape := ⟨4, ![1, 8, 6, 1024]⟩
abbrev S4x4x1024 : Shape := ⟨3, ![4, 4, 1024]⟩
abbrev S4x1024x4096 : Shape := ⟨3, ![4, 1024, 4096]⟩
abbrev S4x4096x1024 : Shape := ⟨3, ![4, 4096, 1024]⟩
abbrev S2x1024 : Shape := ⟨2, ![2, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S4x1x6144 : Shape := ⟨3, ![4, 1, 6144]⟩
abbrev S8x6144 : Shape := ⟨2, ![8, 6144]⟩
abbrev S1024x1024 : Shape := ⟨2, ![1024, 1024]⟩
abbrev S1x1x6x1024 : Shape := ⟨4, ![1, 1, 6, 1024]⟩
abbrev S1x4x1024 : Shape := ⟨3, ![1, 4, 1024]⟩
abbrev S1x1024x1024 : Shape := ⟨3, ![1, 1024, 1024]⟩
abbrev S1x1024x256 : Shape := ⟨3, ![1, 1024, 256]⟩
abbrev S1x1x256 : Shape := ⟨3, ![1, 1, 256]⟩
abbrev S8x256 : Shape := ⟨2, ![8, 256]⟩
abbrev S1024x256 : Shape := ⟨2, ![1024, 256]⟩
abbrev S1x256 : Shape := ⟨2, ![1, 256]⟩
abbrev S6x1024 : Shape := ⟨2, ![6, 1024]⟩
abbrev S4x1024 : Shape := ⟨2, ![4, 1024]⟩
abbrev S1024x1 : Shape := ⟨2, ![1024, 1]⟩

abbrev nBuf : Space → Nat
  | .hbm => 16
  | .vmem => 20
  | .smem => 0
  | _ => 0

abbrev bufTy : (tb : Table) → Fin (tcTables nBuf tb) → BufTy
  | .hbm, ⟨0, _⟩ => ⟨S6144x1024, .f32⟩
  | .hbm, ⟨1, _⟩ => ⟨S1x8x6x1024, .f32⟩
  | .hbm, ⟨2, _⟩ => ⟨S4x4x1024, .f32⟩
  | .hbm, ⟨3, _⟩ => ⟨S4x1024x4096, .f32⟩
  | .hbm, ⟨4, _⟩ => ⟨S4x4096x1024, .f32⟩
  | .hbm, ⟨5, _⟩ => ⟨S2x1024, .f32⟩
  | .hbm, ⟨6, _⟩ => ⟨S1024, .f32⟩
  | .hbm, ⟨7, _⟩ => ⟨S4x1024x6144, .f32⟩
  | .hbm, ⟨8, _⟩ => ⟨S4x6144, .f32⟩
  | .hbm, ⟨9, _⟩ => ⟨S1x1024, .f32⟩
  | .hbm, ⟨10, _⟩ => ⟨S_, .f32⟩
  | .hbm, ⟨11, _⟩ => ⟨S5x1024, .f32⟩
  | .hbm, ⟨12, _⟩ => ⟨S8x1024, .f32⟩
  | .hbm, ⟨13, _⟩ => ⟨S4x1x6144, .f32⟩
  | .hbm, ⟨14, _⟩ => ⟨S6144x1024, .f32⟩
  | .hbm, ⟨15, _⟩ => ⟨S8x6144, .f32⟩
  | .local _ .vmem, ⟨0, _⟩ => ⟨S1024x1024, .f32⟩
  | .local _ .vmem, ⟨1, _⟩ => ⟨S1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x4x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S8x1024, .f32⟩
  | .local _ .vmem, ⟨10, _⟩ => ⟨S1x1024x256, .f32⟩
  | .local _ .vmem, ⟨11, _⟩ => ⟨S1x1024x256, .f32⟩
  | .local _ .vmem, ⟨12, _⟩ => ⟨S1x1x256, .f32⟩
  | .local _ .vmem, ⟨13, _⟩ => ⟨S1x1x256, .f32⟩
  | .local _ .vmem, ⟨14, _⟩ => ⟨S1024x1024, .f32⟩
  | .local _ .vmem, ⟨15, _⟩ => ⟨S1024x1024, .f32⟩
  | .local _ .vmem, ⟨16, _⟩ => ⟨S8x256, .f32⟩
  | .local _ .vmem, ⟨17, _⟩ => ⟨S8x256, .f32⟩
  | .local _ .vmem, ⟨18, _⟩ => ⟨S1024x1024, .bf16⟩
  | .local _ .vmem, ⟨19, _⟩ => ⟨S1024x1024, .f32⟩
  | _, _ => ⟨S6144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![6, 4], ![false, false]⟩

def k0_cond3 (i : grid0.Coords) : BitVec 1 :=
  let arg1 : BitVec 32 := BitVec.ofNat 32 (i 1).val
  let c3_i32_22 : BitVec 32 := 3#32
  let v32 : BitVec 1 := Scalar.cmpi .eq arg1 c3_i32_22
  let v33 : BitVec 32 := Scalar.extui v32
  let c0_i32_23 : BitVec 32 := 0#32
  let v34 : BitVec 1 := Scalar.cmpi .ne v33 c0_i32_23
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi arg0 c3_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![c0_i32_0.toNat, v1.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  let c0_i32_0 : BitVec 32 := 0#32
  ![c2_i32.toNat, c0_i32.toNat, v1.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  let c0_i32_0 : BitVec 32 := 0#32
  ![c2_i32.toNat, c0_i32.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== RefMlpBothIdeal.lean ====
abbrev S6144x1024 : Shape := ⟨2, ![6144, 1024]⟩
abbrev S1x8x6x1024 : Shape := ⟨4, ![1, 8, 6, 1024]⟩
abbrev S4x4x1024 : Shape := ⟨3, ![4, 4, 1024]⟩
abbrev S4x1024x4096 : Shape := ⟨3, ![4, 1024, 4096]⟩
abbrev S4x4096x1024 : Shape := ⟨3, ![4, 4096, 1024]⟩
abbrev S2x1024 : Shape := ⟨2, ![2, 1024]⟩
abbrev S1024 : Shape := ⟨1, ![1024]⟩
abbrev S4x1024x6144 : Shape := ⟨3, ![4, 1024, 6144]⟩
abbrev S4x6144 : Shape := ⟨2, ![4, 6144]⟩
abbrev S4096x1024 : Shape := ⟨2, ![4096, 1024]⟩
abbrev S16x256x1024 : Shape := ⟨3, ![16, 256, 1024]⟩
abbrev S2048x1024 : Shape := ⟨2, ![2048, 1024]⟩
abbrev S2x1024x1024 : Shape := ⟨3, ![2, 1024, 1024]⟩
abbrev S1x1x1x1024 : Shape := ⟨4, ![1, 1, 1, 1024]⟩
abbrev S1x1024 : Shape := ⟨2, ![1, 1024]⟩
abbrev S1x1x1024 : Shape := ⟨3, ![1, 1, 1024]⟩
abbrev S1x2x1x1024 : Shape := ⟨4, ![1, 2, 1, 1024]⟩
abbrev S2x1x1024 : Shape := ⟨3, ![2, 1, 1024]⟩
abbrev S_ : Shape := ⟨0, ![]⟩
abbrev S16x256 : Shape := ⟨2, ![16, 256]⟩
abbrev S16x256x1 : Shape := ⟨3, ![16, 256, 1]⟩
abbrev S2x1024x1 : Shape := ⟨3, ![2, 1024, 1]⟩
abbrev S1x1024x4096 : Shape := ⟨3, ![1, 1024, 4096]⟩
abbrev S1024x4096 : Shape := ⟨2, ![1024, 4096]⟩
abbrev S16x256x4096 : Shape := ⟨3, ![16, 256, 4096]⟩
abbrev S1x4096x1024 : Shape := ⟨3, ![1, 4096, 1024]⟩
abbrev S2x1024x4096 : Shape := ⟨3, ![2, 1024, 4096]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S2x6144 : Shape := ⟨2, ![2, 6144]⟩
abbrev S5x6144 : Shape := ⟨2, ![5, 6144]⟩
abbrev S8x6144 : Shape := ⟨2, ![8, 6144]⟩

abbrev nBuf : Space → Nat
  | .hbm => 197
  | .vmem => 0
  | .smem => 0
  | _ => 0

abbrev hbmTy0_0 (i : Nat) : BufTy := match i % 128 with
  | 0 => ⟨S6144x1024, .f32⟩
  | 1 => ⟨S1x8x6x1024, .f32⟩
  | 2 => ⟨S4x4x1024, .f32⟩
  | 3 => ⟨S4x1024x4096, .f32⟩
  | 4 => ⟨S4x4096x1024, .f32⟩
  | 5 => ⟨S2x1024, .f32⟩
  | 6 => ⟨S1024, .f32⟩
  | 7 => ⟨S4x1024x6144, .f32⟩
  | 8 => ⟨S4x6144, .f32⟩
  | 9 => ⟨S4096x1024, .f32⟩
  | 10 => ⟨S16x256x1024, .f32⟩
  | 11 => ⟨S2048x1024, .f32⟩
  | 12 => ⟨S2x1024x1024, .f32⟩
  | 13 => ⟨S1x1x1x1024, .f32⟩
  | 14 => ⟨S1x1024, .f32⟩
  | 15 => ⟨S1x1x1024, .f32⟩
  | 16 => ⟨S1x1x1x1024, .f32⟩
  | 17 => ⟨S1x1024, .f32⟩
  | 18 => ⟨S1x1x1024, .f32⟩
  | 19 => ⟨S1x1x1x1024, .f32⟩
  | 20 => ⟨S1x1024, .f32⟩
  | 21 => ⟨S1x1x1024, .f32⟩
  | 22 => ⟨S1x1x1x1024, .f32⟩
  | 23 => ⟨S1x1024, .f32⟩
  | 24 => ⟨S1x1x1024, .f32⟩
  | 25 => ⟨S1x1x1x1024, .f32⟩
  | 26 => ⟨S1x1024, .f32⟩
  | 27 => ⟨S1x1x1024, .f32⟩
  | 28 => ⟨S1x1x1x1024, .f32⟩
  | 29 => ⟨S1x1024, .f32⟩
  | 30 => ⟨S1x1x1024, .f32⟩
  | 31 => ⟨S1x2x1x1024, .f32⟩
  | 32 => ⟨S2x1024, .f32⟩
  | 33 => ⟨S2x1x1024, .f32⟩
  | 34 => ⟨S1x2x1x1024, .f32⟩
  | 35 => ⟨S2x1024, .f32⟩
  | 36 => ⟨S2x1x1024, .f32⟩
  | 37 => ⟨S1x2x1x1024, .f32⟩
  | 38 => ⟨S2x1024, .f32⟩
  | 39 => ⟨S2x1x1024, .f32⟩
  | 40 => ⟨S1x2x1x1024, .f32⟩
  | 41 => ⟨S2x1024, .f32⟩
  | 42 => ⟨S2x1x1024, .f32⟩
  | 43 => ⟨S1x2x1x1024, .f32⟩
  | 44 => ⟨S2x1024, .f32⟩
  | 45 => ⟨S2x1x1024, .f32⟩
  | 46 => ⟨S1x2x1x1024, .f32⟩
  | 47 => ⟨S2x1024, .f32⟩
  | 48 => ⟨S2x1x1024, .f32⟩
  | 49 => ⟨S1x1x1024, .f32⟩
  | 50 => ⟨S1024, .f32⟩
  | 51 => ⟨S16x256x1024, .f32⟩
  | 52 => ⟨S_, .f32⟩
  | 53 => ⟨S16x256, .f32⟩
  | 54 => ⟨S16x256x1, .f32⟩
  | 55 => ⟨S_, .f32⟩
  | 56 => ⟨S16x256x1, .f32⟩
  | 57 => ⟨S16x256x1, .f32⟩
  | 58 => ⟨S_, .f32⟩
  | 59 => ⟨S16x256x1, .f32⟩
  | 60 => ⟨S16x256x1, .f32⟩
  | 61 => ⟨S16x256x1, .f32⟩
  | 62 => ⟨S16x256x1024, .f32⟩
  | 63 => ⟨S16x256x1024, .f32⟩
  | 64 => ⟨S1x1x1024, .f32⟩
  | 65 => ⟨S16x256x1024, .f32⟩
  | 66 => ⟨S16x256x1024, .f32⟩
  | 67 => ⟨S_, .f32⟩
  | 68 => ⟨S1x1x1024, .f32⟩
  | 69 => ⟨S1x1x1024, .f32⟩
  | 70 => ⟨S16x256x1024, .f32⟩
  | 71 => ⟨S16x256x1024, .f32⟩
  | 72 => ⟨S16x256x1024, .f32⟩
  | 73 => ⟨S16x256x1024, .f32⟩
  | 74 => ⟨S1x1x1024, .f32⟩
  | 75 => ⟨S1024, .f32⟩
  | 76 => ⟨S2x1024x1024, .f32⟩
  | 77 => ⟨S_, .f32⟩
  | 78 => ⟨S2x1024, .f32⟩
  | 79 => ⟨S2x1024x1, .f32⟩
  | 80 => ⟨S_, .f32⟩
  | 81 => ⟨S2x1024x1, .f32⟩
  | 82 => ⟨S2x1024x1, .f32⟩
  | 83 => ⟨S_, .f32⟩
  | 84 => ⟨S2x1024x1, .f32⟩
  | 85 => ⟨S2x1024x1, .f32⟩
  | 86 => ⟨S2x1024x1, .f32⟩
  | 87 => ⟨S2x1024x1024, .f32⟩
  | 88 => ⟨S2x1024x1024, .f32⟩
  | 89 => ⟨S1x1x1024, .f32⟩
  | 90 => ⟨S2x1024x1024, .f32⟩
  | 91 => ⟨S2x1024x1024, .f32⟩
  | 92 => ⟨S_, .f32⟩
  | 93 => ⟨S2x1x1024, .f32⟩
  | 94 => ⟨S2x1x1024, .f32⟩
  | 95 => ⟨S2x1024x1024, .f32⟩
  | 96 => ⟨S2x1024x1024, .f32⟩
  | 97 => ⟨S2x1024x1024, .f32⟩
  | 98 => ⟨S2x1024x1024, .f32⟩
  | 99 => ⟨S1x1024x4096, .f32⟩
  | 100 => ⟨S1024x4096, .f32⟩
  | 101 => ⟨S16x256x4096, .f32⟩
  | 102 => ⟨S_, .f32⟩
  | 103 => ⟨S16x256x4096, .f32⟩
  | 104 => ⟨S16x256x4096, .f32⟩
  | 105 => ⟨S16x256x4096, .f32⟩
  | 106 => ⟨S1x4096x1024, .f32⟩
  | 107 => ⟨S4096x1024, .f32⟩
  | 108 => ⟨S16x256x1024, .f32⟩
  | 109 => ⟨S1x1024x4096, .f32⟩
  | 110 => ⟨S1024x4096, .f32⟩
  | 111 => ⟨S2x1024x4096, .f32⟩
  | 112 => ⟨S_, .f32⟩
  | 113 => ⟨S2x1024x4096, .f32⟩
  | 114 => ⟨S2x1024x4096, .f32⟩
  | 115 => ⟨S2x1024x4096, .f32⟩
  | 116 => ⟨S1x4096x1024, .f32⟩
  | 117 => ⟨S4096x1024, .f32⟩
  | 118 => ⟨S2x1024x1024, .f32⟩
  | 119 => ⟨S1x1x1024, .f32⟩
  | 120 => ⟨S1024, .f32⟩
  | 121 => ⟨S16x256x1024, .f32⟩
  | 122 => ⟨S_, .f32⟩
  | 123 => ⟨S16x256, .f32⟩
  | 124 => ⟨S16x256x1, .f32⟩
  | 125 => ⟨S_, .f32⟩
  | 126 => ⟨S16x256x1, .f32⟩
  | 127 => ⟨S16x256x1, .f32⟩
  | _ => ⟨S6144x1024, .f32⟩

abbrev hbmTy0_1 (i : Nat) : BufTy := match i % 128 with
  | 0 => ⟨S_, .f32⟩
  | 1 => ⟨S16x256x1, .f32⟩
  | 2 => ⟨S16x256x1, .f32⟩
  | 3 => ⟨S16x256x1, .f32⟩
  | 4 => ⟨S16x256x1024, .f32⟩
  | 5 => ⟨S16x256x1024, .f32⟩
  | 6 => ⟨S1x1x1024, .f32⟩
  | 7 => ⟨S16x256x1024, .f32⟩
  | 8 => ⟨S16x256x1024, .f32⟩
  | 9 => ⟨S16x256x1024, .f32⟩
  | 10 => ⟨S16x256x1024, .f32⟩
  | 11 => ⟨S16x256x1024, .f32⟩
  | 12 => ⟨S1x1x1024, .f32⟩
  | 13 => ⟨S1024, .f32⟩
  | 14 => ⟨S2x1024x1024, .f32⟩
  | 15 => ⟨S_, .f32⟩
  | 16 => ⟨S2x1024, .f32⟩
  | 17 => ⟨S2x1024x1, .f32⟩
  | 18 => ⟨S_, .f32⟩
  | 19 => ⟨S2x1024x1, .f32⟩
  | 20 => ⟨S2x1024x1, .f32⟩
  | 21 => ⟨S_, .f32⟩
  | 22 => ⟨S2x1024x1, .f32⟩
  | 23 => ⟨S2x1024x1, .f32⟩
  | 24 => ⟨S2x1024x1, .f32⟩
  | 25 => ⟨S2x1024x1024, .f32⟩
  | 26 => ⟨S2x1024x1024, .f32⟩
  | 27 => ⟨S1x1x1024, .f32⟩
  | 28 => ⟨S2x1024x1024, .f32⟩
  | 29 => ⟨S2x1024x1024, .f32⟩
  | 30 => ⟨S2x1024x1024, .f32⟩
  | 31 => ⟨S2x1024x1024, .f32⟩
  | 32 => ⟨S2x1024x1024, .f32⟩
  | 33 => ⟨S1x1024x6144, .f32⟩
  | 34 => ⟨S1024x6144, .f32⟩
  | 35 => ⟨S1x6144, .f32⟩
  | 36 => ⟨S6144, .f32⟩
  | 37 => ⟨S1x1024, .f32⟩
  | 38 => ⟨S1x1024, .f32⟩
  | 39 => ⟨S1x1024, .f32⟩
  | 40 => ⟨S_, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S1x6144, .f32⟩
  | 48 => ⟨S1x6144, .f32⟩
  | 49 => ⟨S1x6144, .f32⟩
  | 50 => ⟨S2x1024, .f32⟩
  | 51 => ⟨S2x1024, .f32⟩
  | 52 => ⟨S_, .f32⟩
  | 53 => ⟨S2x1024, .f32⟩
  | 54 => ⟨S2x1024, .f32⟩
  | 55 => ⟨S_, .f32⟩
  | 56 => ⟨S2x1024, .f32⟩
  | 57 => ⟨S2x1024, .f32⟩
  | 58 => ⟨S2x1024, .f32⟩
  | 59 => ⟨S2x6144, .f32⟩
  | 60 => ⟨S1x6144, .f32⟩
  | 61 => ⟨S2x6144, .f32⟩
  | 62 => ⟨S2x6144, .f32⟩
  | 63 => ⟨S4096x1024, .f32⟩
  | 64 => ⟨S2048x1024, .f32⟩
  | 65 => ⟨S6144x1024, .f32⟩
  | 66 => ⟨S1x6144, .f32⟩
  | 67 => ⟨S5x6144, .f32⟩
  | 68 => ⟨S8x6144, .f32⟩
  | _ => ⟨S6144x1024, .f32⟩

abbrev hbmTy (i : Nat) : BufTy := match i / 128 with
  | 0 => hbmTy0_0 i
  | 1 => hbmTy0_1 i
  | _ => ⟨S6144x1024, .f32⟩

abbrev bufTy : (tb : Table) → Fin (tcTables nBuf tb) → BufTy
  | .hbm, ⟨i, _⟩ => hbmTy i
  | _, _ => ⟨S6144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst : Ref sig .tc := ⟨.hbm, 52, rfl⟩
abbrev main_v43 : Ref sig .tc := ⟨.hbm, 53, rfl⟩
abbrev main_v44 : Ref sig .tc := ⟨.hbm, 54, rfl⟩
abbrev main_cst_0 : Ref sig .tc := ⟨.hbm, 55, rfl⟩
abbrev main_v45 : Ref sig .tc := ⟨.hbm, 56, rfl⟩
abbrev main_v46 : Ref sig .tc := ⟨.hbm, 57, rfl⟩
abbrev main_cst_1 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_2 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_3 : Ref sig .tc := ⟨.hbm, 77, rfl⟩
abbrev main_v64 : Ref sig .tc := ⟨.hbm, 78, rfl⟩
abbrev main_v65 : Ref sig .tc := ⟨.hbm, 79, rfl⟩
abbrev main_cst_4 : Ref sig .tc := ⟨.hbm, 80, rfl⟩
abbrev main_v66 : Ref sig .tc := ⟨.hbm, 81, rfl⟩
abbrev main_v67 : Ref sig .tc := ⟨.hbm, 82, rfl⟩
abbrev main_cst_5 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_6 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_call0_cst : Ref sig .tc := ⟨.hbm, 102, rfl⟩
abbrev main_call0_v0 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_call1_cst : Ref sig .tc := ⟨.hbm, 112, rfl⟩
abbrev main_call1_v0 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_cst_7 : Ref sig .tc := ⟨.hbm, 122, rfl⟩
abbrev main_v101 : Ref sig .tc := ⟨.hbm, 123, rfl⟩
abbrev main_v102 : Ref sig .tc := ⟨.hbm, 124, rfl⟩
abbrev main_cst_8 : Ref sig .tc := ⟨.hbm, 125, rfl⟩
abbrev main_v103 : Ref sig .tc := ⟨.hbm, 126, rfl⟩
abbrev main_v104 : Ref sig .tc := ⟨.hbm, 127, rfl⟩
abbrev main_cst_9 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_cst_10 : Ref sig .tc := ⟨.hbm, 143, rfl⟩
abbrev main_v119 : Ref sig .tc := ⟨.hbm, 144, rfl⟩
abbrev main_v120 : Ref sig .tc := ⟨.hbm, 145, rfl⟩
abbrev main_cst_11 : Ref sig .tc := ⟨.hbm, 146, rfl⟩
abbrev main_v121 : Ref sig .tc := ⟨.hbm, 147, rfl⟩
abbrev main_v122 : Ref sig .tc := ⟨.hbm, 148, rfl⟩
abbrev main_cst_12 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_call2_v0 : Ref sig .tc := ⟨.hbm, 166, rfl⟩
abbrev main_call2_v1 : Ref sig .tc := ⟨.hbm, 167, rfl⟩
abbrev main_call2_cst : Ref sig .tc := ⟨.hbm, 168, rfl⟩
abbrev main_call2_v2 : Ref sig .tc := ⟨.hbm, 169, rfl⟩
abbrev main_call2_v3 : Ref sig .tc := ⟨.hbm, 170, rfl⟩
abbrev main_call2_cst_0 : Ref sig .tc := ⟨.hbm, 171, rfl⟩
abbrev main_call2_v4 : Ref sig .tc := ⟨.hbm, 172, rfl⟩
abbrev main_call2_v5 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_call3_v0 : Ref sig .tc := ⟨.hbm, 178, rfl⟩
abbrev main_call3_v1 : Ref sig .tc := ⟨.hbm, 179, rfl⟩
abbrev main_call3_cst : Ref sig .tc := ⟨.hbm, 180, rfl⟩
abbrev main_call3_v2 : Ref sig .tc := ⟨.hbm, 181, rfl⟩
abbrev main_call3_v3 : Ref sig .tc := ⟨.hbm, 182, rfl⟩
abbrev main_call3_cst_0 : Ref sig .tc := ⟨.hbm, 183, rfl⟩
abbrev main_call3_v4 : Ref sig .tc := ⟨.hbm, 184, rfl⟩
abbrev main_call3_v5 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩

abbrev nD : Nat := 1
abbrev τ : Topo := Topo.v7x

variable {F : FTy → Type} [FloatOps F]
-- ==== Proof.Layer.lean ====
/- The layer's arithmetic over the extended reals, on plain functions of row and column numbers: root-mean-square
   normalisation of a row, the squared rectifier, and the channel mixer of one token. Every kernel and every reference
   of this directory is read as one of these, so that an equation between a kernel and its reference is an equation
   between two uses of the same definition. -/
module

public import Idealize.ShloMosaic.Lib.Pointwise
public import Idealize.ShloMosaic.PureOps.Ideal.Laws

@[expose] public section

noncomputable section

open Idealize.ShloMosaic

namespace Cert.Layer

/-- Entry `j` of the row `f` after root-mean-square normalisation with gain `g`: the row entry times the reciprocal
    square root of (the mean of the squares plus the printed epsilon), times the gain. -/
def rms (f g : Fin 1024 → EReal) (j : Fin 1024) : EReal :=
  f j * Ideal.rsqrt (Ideal.div (∑ k, f k * f k) (Ideal.ofBits FTy.f32 0x44800000#32) + Ideal.ofBits FTy.f32 0x358637BD#32) * g j

/-- The squared rectifier. -/
def relu2 (x : EReal) : EReal := max x 0 * max x 0

/-- Entry `k` of a normalised row after the layer's affine modulation: scale `1 + s`, shift `b`. -/
def modulated (x g s b : Fin 1024 → EReal) (k : Fin 1024) : EReal := rms x g k * (1 + s k) + b k

/-- Entry `j` of the two-layer perceptron's output on a row `h`: 4096 hidden units, squared rectifier between. -/
def ffn (h : Fin 1024 → EReal) (w1 : Fin 1024 → Fin 4096 → EReal) (w2 : Fin 4096 → Fin 1024 → EReal) (j : Fin 1024) : EReal :=
  ∑ f : Fin 4096, relu2 (∑ k, h k * w1 k f) * w2 f j

/-- Hidden units `1024 n … 1024 n + 1023` alone: the part of `ffn` one grid point adds. -/
def ffnPart (h : Fin 1024 → EReal) (w1 : Fin 1024 → Fin 4096 → EReal) (w2 : Fin 4096 → Fin 1024 → EReal) (n : Fin 4)
    (j : Fin 1024) : EReal :=
  ∑ f : Fin 1024, relu2 (∑ k, h k * w1 k ⟨n.val * 1024 + f.val, by omega⟩) * w2 ⟨n.val * 1024 + f.val, by omega⟩ j

/-- The four parts, added in grid order, are the whole sum. -/
theorem ffn_eq_parts (h : Fin 1024 → EReal) (w1 : Fin 1024 → Fin 4096 → EReal) (w2 : Fin 4096 → Fin 1024 → EReal) (j : Fin 1024) :
    ffnPart h w1 w2 0 j + ffnPart h w1 w2 1 j + ffnPart h w1 w2 2 j + ffnPart h w1 w2 3 j = ffn h w1 w2 j := by
  unfold ffn
  rw [Fin.sum_univ_tiles 4 1024 rfl, Fin.sum_univ_four]
  rfl

/-- One token through the channel mixer: the row `x`, plus the gate `γ` times the normalised perceptron output of the
    normalised and modulated row. -/
def mlpToken (x g2 s b γ g3 : Fin 1024 → EReal) (w1 : Fin 1024 → Fin 4096 → EReal) (w2 : Fin 4096 → Fin 1024 → EReal)
    (j : Fin 1024) : EReal :=
  x j + γ j * rms (ffn (modulated x g2 s b) w1 w2) g3 j

end Cert.Layer

end
-- ==== Proof.Attention.lean ====
/- Attention over a list of keys, on extended reals: the score of a query against a key, the weights with the largest
   score taken off first, and the two orders of normalising — dividing the weighted sum once at the end, or every weight
   before the sum. The two agree as soon as every score is a real number. -/
module

public import proofs.«01_k».proof.Proof.Layer
public import Idealize.ShloMosaic.PureOps.Ideal
public import Idealize.ShloMosaic.PureOps.IdealRules
public import Mathlib.Data.EReal.Inv

@[expose] public section

noncomputable section

open Idealize.ShloMosaic

namespace Cert.Layer

/-- The extended real is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- An extended real whose absolute value is below `⊤` is a real number. -/
theorem IsReal.of_abs_lt {x : EReal} (h : max x (-x) < ⊤) : IsReal x := by
  induction x with
  | bot => exact absurd h (by simp)
  | top => exact absurd h (by simp)
  | coe a => exact ⟨a, rfl⟩

/-- The score of a query against a key: the product of the position-free parts plus the product of the rotated parts, scaled. -/
def score {a b : ℕ} (qn kn : Fin a → EReal) (qr kr : Fin b → EReal) : EReal :=
  (∑ k, qn k * kn k + ∑ k, qr k * kr k) * Ideal.ofBits .f32 0x3D93CD3A#32

/-- The largest score. -/
def peak {n : ℕ} (s : Fin n → EReal) : EReal := Finset.fold max (Ideal.ofBits .f32 0xFF800000#32) s Finset.univ

/-- The values weighted by the exponentials, the sum divided once by the sum of the exponentials. -/
def attend {n : ℕ} (s v : Fin n → EReal) : EReal :=
  Ideal.div (∑ k, Ideal.exp (s k - peak s) * v k) (∑ k, Ideal.exp (s k - peak s))

/-- The values weighted by the normalised exponentials. -/
def attendSoftmax {n : ℕ} (s v : Fin n → EReal) : EReal :=
  ∑ k, v k * Ideal.div (Ideal.exp (s k - max (Ideal.ofBits .f32 0xFF800000#32) (peak s)))
    (∑ k, Ideal.exp (s k - max (Ideal.ofBits .f32 0xFF800000#32) (peak s)))

theorem low_eq_bot : Ideal.ofBits .f32 0xFF800000#32 = ⊥ := by simp [Ideal.ofBits, Ideal.ieee]

theorem high_eq_top : Ideal.ofBits .f32 0x7F800000#32 = ⊤ := by simp [Ideal.ofBits, Ideal.ieee]

theorem scale_isReal : IsReal (Ideal.ofBits .f32 0x3D93CD3A#32) :=
  ⟨_, by simp [Ideal.ofBits, Ideal.ieee, -EReal.coe_mul]; rfl⟩

theorem score_isReal {a b : ℕ} {qn kn : Fin a → EReal} {qr kr : Fin b → EReal} (h1 : ∀ k, IsReal (qn k)) (h2 : ∀ k, IsReal (kn k))
    (h3 : ∀ k, IsReal (qr k)) (h4 : ∀ k, IsReal (kr k)) : IsReal (score qn kn qr kr) :=
  ((IsReal.sum _ _ fun k => (h1 k).mul (h2 k)).add (IsReal.sum _ _ fun k => (h3 k).mul (h4 k))).mul scale_isReal

/-- The largest of real scores is a real number, as long as there is a score. -/
theorem peak_isReal {n : ℕ} (s : Fin (n + 1) → EReal) (h : ∀ k, IsReal (s k)) : IsReal (peak s) := by
  classical
  have key : ∀ t : Finset (Fin (n + 1)), t.Nonempty → IsReal (Finset.fold max (⊥ : EReal) s t) := by
    intro t ht
    induction ht using Finset.Nonempty.cons_induction with
    | singleton a => rw [Finset.fold_singleton, max_bot_right]; exact h a
    | cons a t ha _ ih =>
      rw [Finset.fold_cons]
      rcases max_choice (s a) (Finset.fold max ⊥ s t) with e | e <;> rw [e]
      · exact h a
      · exact ih
  unfold peak
  rw [low_eq_bot]
  exact key _ Finset.univ_nonempty

/-- A real factor that isn't negative distributes over a sum of extended reals. -/
theorem sum_mul_real {n : ℕ} (f : Fin n → EReal) {c : ℝ} (hc : 0 ≤ c) : (∑ k, f k) * (c : EReal) = ∑ k, f k * (c : EReal) := by
  have key : ∀ t : Finset (Fin n), (∑ k ∈ t, f k) * (c : EReal) = ∑ k ∈ t, f k * (c : EReal) := by
    classical
    intro t
    induction t using Finset.induction_on with
    | empty => simp
    | insert a t ha ih =>
      rw [Finset.sum_insert ha, Finset.sum_insert ha,
        EReal.right_distrib_of_nonneg_of_ne_top (by exact_mod_cast hc) (EReal.coe_ne_top c), ih]
  exact key _

/-- With real scores the two orders of normalising agree, whatever the values. -/
theorem attend_eq_softmax {n : ℕ} (s v : Fin (n + 1) → EReal) (h : ∀ k, IsReal (s k)) : attend s v = attendSoftmax s v := by
  obtain ⟨p, hp⟩ := peak_isReal s h
  choose r hr using h
  have hm : max (Ideal.ofBits .f32 0xFF800000#32) (peak s) = peak s := by rw [low_eq_bot]; exact max_eq_right bot_le
  have he : ∀ k, Ideal.exp (s k - peak s) = ((Real.exp (r k - p) : ℝ) : EReal) := fun k => by
    rw [hr k, hp, ← EReal.coe_sub]; rfl
  have hS : ∑ k, ((Real.exp (r k - p) : ℝ) : EReal) = ((∑ k, Real.exp (r k - p) : ℝ) : EReal) := by
    have key : ∀ t : Finset (Fin (n + 1)), ∑ k ∈ t, ((Real.exp (r k - p) : ℝ) : EReal) = ((∑ k ∈ t, Real.exp (r k - p) : ℝ) : EReal) := by
      classical
      intro t
      induction t using Finset.induction_on with
      | empty => simp
      | insert a t ha ih => rw [Finset.sum_insert ha, Finset.sum_insert ha, ih, EReal.coe_add]
    exact key _
  have hpos : 0 < ∑ k, Real.exp (r k - p) := Finset.sum_pos (fun k _ => Real.exp_pos _) Finset.univ_nonempty
  unfold attend attendSoftmax
  rw [hm]
  simp only [he, hS, Ideal.div_coe hpos.ne']
  rw [sum_mul_real _ (by positivity)]
  exact Finset.sum_congr rfl fun k _ => by rw [mul_comm (v k), mul_assoc, mul_assoc, mul_comm (v k)]

/-! ## A row of queries against all keys, head by head -/

/-- The keys of the cache followed by the new ones. -/
def past {n m : ℕ} (c : Fin n → EReal) (f : Fin m → EReal) (k : Fin (n + m)) : EReal :=
  if h : k.val < n then c ⟨k.val, h⟩ else f ⟨k.val - n, by omega⟩

theorem past_isReal {n m : ℕ} {c : Fin n → EReal} {f : Fin m → EReal} (hc : ∀ k, IsReal (c k)) (hf : ∀ k, IsReal (f k))
    (k : Fin (n + m)) : IsReal (past c f k) := by
  unfold past
  split
  · exact hc _
  · exact hf _

/-- Column `a` of head `j / 128` (head width 128), for an output column `j`. -/
abbrev col128 (j : Fin 1024) (a : Fin 128) : Fin 1024 := ⟨j.val / 128 * 128 + a.val, by omega⟩

/-- Column `a` of head `j / 128` in the rotated part (head width 64). -/
abbrev col64 (j : Fin 1024) (a : Fin 64) : Fin 512 := ⟨j.val / 128 * 64 + a.val, by omega⟩

/-- The score of key `k` for the head that output column `j` belongs to. -/
def headScore {n : ℕ} (qn : Fin 1024 → EReal) (qr : Fin 512 → EReal) (kn : Fin n → Fin 1024 → EReal) (kr : Fin n → Fin 64 → EReal)
    (j : Fin 1024) (k : Fin n) : EReal :=
  score (fun a => qn (col128 j a)) (fun a => kn k (col128 j a)) (fun a => qr (col64 j a)) (kr k)

/-- Column `j` of the heads side by side. -/
def heads {n : ℕ} (qn : Fin 1024 → EReal) (qr : Fin 512 → EReal) (kn : Fin n → Fin 1024 → EReal) (kr : Fin n → Fin 64 → EReal)
    (v : Fin n → Fin 1024 → EReal) (j : Fin 1024) : EReal :=
  attend (headScore qn qr kn kr j) (fun k => v k j)

/-- A row after attention: the heads through the output matrix, normalised, gated, added to the row. -/
def attnToken {n : ℕ} (x γ g : Fin 1024 → EReal) (qn : Fin 1024 → EReal) (qr : Fin 512 → EReal) (kn : Fin n → Fin 1024 → EReal)
    (kr : Fin n → Fin 64 → EReal) (v : Fin n → Fin 1024 → EReal) (wo : Fin 1024 → Fin 1024 → EReal) (j : Fin 1024) : EReal :=
  x j + γ j * rms (fun i => ∑ k, heads qn qr kn kr v k * wo k i) g j

end Cert.Layer

end
-- ==== Proof.AttnBlock.lean ====
/- The attention kernel on the sample tokens, one grid point at a time: what the body leaves in the two scratch buffers
   (the position-free keys and the values of a sequence) and in the output block, read at an index. -/
module

public import proofs.«01_k».proof.Proof.Gen.KernelIdeal.Value
public import proofs.«01_k».proof.Proof.Attention
public import Idealize.ShloMosaic.Lib.Pipeline.ValueKit.Tiles
public import Idealize.ShloMosaic.Lib.Pipeline.ReadBack
public import Idealize.ShloMosaic.Lib.Tactic

@[expose] public section

noncomputable section

open Idealize.ShloMosaic Idealize.ShloMosaic.TcCoe Idealize.SL.Sem

namespace Cert.KernelIdeal.Block

open Cert.KernelIdeal Cert.KernelIdeal.Gen Cert.Layer

theorem z2 : (![0, 0] : Fin 2 → Nat) = fun _ => 0 := funext fun a => by fin_cases a <;> rfl
theorem z2' (a : Fin 2) : (![0, 0] : Fin 2 → Nat) a = 0 := congrFun z2 a
theorem z3 : (![0, 0, 0] : Fin 3 → Nat) = fun _ => 0 := funext fun a => by fin_cases a <;> rfl
theorem z4 : (![0, 0, 0, 0] : Fin 4 → Nat) = fun _ => 0 := funext fun a => by fin_cases a <;> rfl

/-! ## The stored values read at an index -/

theorem expand_keys_apply (c : Vec Ideal S1280x256 .f32) (w : Vec Ideal S1x256x1024 .f32) (k : Fin 1280) (j : Fin 1024) :
    k0_pay2 (F := Ideal) c w (ix2 k j) = ∑ i : Fin 256, c (ix2 k i) * w (ix3 0 i j) := by
  pointwise [k0_pay2, k0_pay1]

theorem expand_values_apply (c : Vec Ideal S1280x256 .f32) (w : Vec Ideal S1x256x1024 .f32) (k : Fin 1280) (j : Fin 1024) :
    k0_pay3 (F := Ideal) c w (ix2 k j) = ∑ i : Fin 256, c (ix2 k i) * w (ix3 0 i j) := by
  pointwise [k0_pay3, k0_pay1]

theorem scores_apply (qn : Vec Ideal S256x128 .bf16) (qr : Vec Ideal S256x64 .bf16) (kn : Vec Ideal S1280x128 .bf16)
    (kr : Vec Ideal S1280x64 .f32) (r : Fin 256) (k : Fin 1280) :
    k0_pay4 (F := Ideal) qn qr kn kr (ix2 r k)
      = score (fun a => qn (ix2 r a)) (fun a => kn (ix2 k a)) (fun a => qr (ix2 r a)) (fun a => kr (ix2 k a)) := by
  pointwise [k0_pay4, score]

theorem attend_apply (s : FVec Ideal S256x1280 .f32) (v : Vec Ideal S1280x128 .bf16) (r : Fin 256) (j : Fin 128) :
    k0_pay8 (F := Ideal) s v (ix2 r j) = attend (fun k => s (ix2 r k)) (fun k => v (ix2 k j)) := by
  pointwise [k0_pay8, attend, peak]

theorem mix_apply (o : Vec Ideal S256x1024 .bf16) (w : Vec Ideal S1x1024x1024 .f32) (x1 : Vec Ideal S1x1x6x1024 .f32)
    (x2 : Vec Ideal S1x4x1024 .f32) (x0 : Vec Ideal S256x1024 .f32) (r : Fin 256) (j : Fin 1024) :
    k0_pay28 (F := Ideal) o w x1 x2 x0 (ix2 r j)
      = x0 (ix2 r j) + x1 (ix4 0 0 2 j) * rms (fun n => ∑ k, o (ix2 r k) * w (ix3 0 k n)) (fun n => x2 (ix3 0 1 n)) j := by
  pointwise [k0_pay28, rms]

/-! ## The heads side by side -/

/-- The block of head outputs as one function of its index: row `i 0`, head `i 1 / 128`. -/
def headBlock (x3 : Vec Ideal S256x1024 .bf16) (x4 : Vec Ideal S256x512 .bf16) (kn : Vec Ideal S1280x1024 .bf16)
    (x6 : Vec Ideal S1280x64 .f32) (v : Vec Ideal S1280x1024 .bf16) : Vec Ideal S256x1024 .bf16 := fun i =>
  heads (fun a => x3 (ix2 (i 0) a)) (fun a => x4 (ix2 (i 0) a)) (fun k a => kn (ix2 k a)) (fun k a => x6 (ix2 k a))
    (fun k a => v (ix2 k a)) (i 1)

/-- What head `h` stores is columns `128 h … 128 h + 127` of that block. -/
theorem headPiece (h c d : ℕ) (hh : h < 8) (hc : c = h * 128) (hd : d = h * 64)
    (x3 : Vec Ideal S256x1024 .bf16) (x4 : Vec Ideal S256x512 .bf16) (kn : Vec Ideal S1280x1024 .bf16)
    (x6 : Vec Ideal S1280x64 .f32) (v : Vec Ideal S1280x1024 .bf16)
    (i1 : ∀ a, (![0, c] : Fin 2 → ℕ) a + (![256, 128] : Fin 2 → ℕ) a ≤ S256x1024.size a)
    (i2 : ∀ a, (![0, d] : Fin 2 → ℕ) a + (![256, 64] : Fin 2 → ℕ) a ≤ S256x512.size a)
    (i3 : ∀ a, (![0, c] : Fin 2 → ℕ) a + (![1280, 128] : Fin 2 → ℕ) a ≤ S1280x1024.size a)
    (x : (Rect.unit (s := S256x1024) ![0, c] ![256, 128] i1).shape.Idx) :
    k0_pay8 (F := Ideal) (k0_pay4 (View.ld x3 (Rect.unit (s := S256x1024) ![0, c] ![256, 128] i1))
        (View.ld x4 (Rect.unit (s := S256x512) ![0, d] ![256, 64] i2))
        (View.ld kn (Rect.unit (s := S1280x1024) ![0, c] ![1280, 128] i3)) x6)
        (View.ld v (Rect.unit (s := S1280x1024) ![0, c] ![1280, 128] i3)) x
      = headBlock x3 x4 kn x6 v ((Rect.unit (s := S256x1024) ![0, c] ![256, 128] i1).emb x) := by
  obtain ⟨r, j, rfl⟩ : ∃ (r : Fin 256) (j : Fin 128), x = ix2 r j := ⟨x 0, x 1, by
    funext a
    match a with
    | ⟨0, _⟩ => rfl
    | ⟨1, _⟩ => rfl⟩
  have e : (Rect.unit (s := S256x1024) ![0, c] ![256, 128] i1).emb (ix2 r j) = ix2 r ⟨h * 128 + j.val, by omega⟩ := by
    funext a
    apply Fin.ext
    match a with
    | ⟨0, _⟩ => show 0 + 1 * r.val = r.val; omega
    | ⟨1, _⟩ => show c + 1 * j.val = h * 128 + j.val; omega
  have q : (h * 128 + j.val) / 128 = h := by omega
  have l3 : ∀ a : Fin 128, View.ld x3 (Rect.unit (s := S256x1024) ![0, c] ![256, 128] i1) (ix2 r a)
      = x3 (ix2 r (col128 ⟨h * 128 + j.val, by omega⟩ a)) := fun a => View.ld_unit_apply_of _ _ _ _ _ _ fun b => by
    match b with
    | ⟨0, _⟩ => show r.val = 0 + r.val; omega
    | ⟨1, _⟩ => show (h * 128 + j.val) / 128 * 128 + a.val = c + a.val; rw [q]; omega
  have l4 : ∀ a : Fin 64, View.ld x4 (Rect.unit (s := S256x512) ![0, d] ![256, 64] i2) (ix2 r a)
      = x4 (ix2 r (col64 ⟨h * 128 + j.val, by omega⟩ a)) := fun a => View.ld_unit_apply_of _ _ _ _ _ _ fun b => by
    match b with
    | ⟨0, _⟩ => show r.val = 0 + r.val; omega
    | ⟨1, _⟩ => show (h * 128 + j.val) / 128 * 64 + a.val = d + a.val; rw [q]; omega
  have lk : ∀ (k : Fin 1280) (a : Fin 128), View.ld kn (Rect.unit (s := S1280x1024) ![0, c] ![1280, 128] i3) (ix2 k a)
      = kn (ix2 k (col128 ⟨h * 128 + j.val, by omega⟩ a)) := fun k a => View.ld_unit_apply_of _ _ _ _ _ _ fun b => by
    match b with
    | ⟨0, _⟩ => show k.val = 0 + k.val; omega
    | ⟨1, _⟩ => show (h * 128 + j.val) / 128 * 128 + a.val = c + a.val; rw [q]; omega
  have lv : ∀ k : Fin 1280, View.ld v (Rect.unit (s := S1280x1024) ![0, c] ![1280, 128] i3) (ix2 k j)
      = v (ix2 k ⟨h * 128 + j.val, by omega⟩) := fun k => View.ld_unit_apply_of _ _ _ _ _ _ fun b => by
    match b with
    | ⟨0, _⟩ => show k.val = 0 + k.val; omega
    | ⟨1, _⟩ => show h * 128 + j.val = c + j.val; omega
  rw [e]
  refine (attend_apply _ _ r j).trans ?_
  show _ = attend _ _
  refine congrArg₂ attend (funext fun k => ?_) (funext lv)
  refine (scores_apply _ _ _ x6 r k).trans ?_
  show _ = score _ _ _ _
  rw [funext l3, funext l4, funext (lk k)]
  rfl

section Cases

variable (c : Dev nD) (i : grid0.Coords) (arg2 : Memref sig .tc .vmem S256x1024 .f32) (harg2 : arg2.IsWhole) (arg3 : Memref sig .tc .vmem S1x1x6x1024 .f32) (harg3 : arg3.IsWhole) (arg4 : Memref sig .tc .vmem S1x4x1024 .f32) (harg4 : arg4.IsWhole) (arg5 : Memref sig .tc .vmem S256x1024 .bf16) (harg5 : arg5.IsWhole) (arg6 : Memref sig .tc .vmem S256x512 .bf16) (harg6 : arg6.IsWhole) (arg7 : Memref sig .tc .vmem S1280x256 .f32) (harg7 : arg7.IsWhole) (arg8 : Memref sig .tc .vmem S1280x64 .f32) (harg8 : arg8.IsWhole) (arg9 : Memref sig .tc .vmem S1x256x1024 .f32) (harg9 : arg9.IsWhole) (arg10 : Memref sig .tc .vmem S1x256x1024 .f32) (harg10 : arg10.IsWhole) (arg11 : Memref sig .tc .vmem S1x1024x1024 .f32) (harg11 : arg11.IsWhole) (arg12 : Memref sig .tc .vmem S256x1024 .f32) (harg12 : arg12.IsWhole) (arg13 : Memref sig .tc .vmem S1280x1024 .bf16) (harg13 : arg13.IsWhole) (arg14 : Memref sig .tc .vmem S1280x1024 .bf16) (harg14 : arg14.IsWhole) (arg15 : Memref sig .tc .vmem S256x1024 .bf16) (harg15 : arg15.IsWhole)
  (x0 : Vec Ideal S256x1024 .f32) (x1 : Vec Ideal S1x1x6x1024 .f32) (x2 : Vec Ideal S1x4x1024 .f32) (x3 : Vec Ideal S256x1024 .bf16)
  (x4 : Vec Ideal S256x512 .bf16) (x5 : Vec Ideal S1280x256 .f32) (x6 : Vec Ideal S1280x64 .f32) (x7 x8 : Vec Ideal S1x256x1024 .f32)
  (x9 : Vec Ideal S1x1024x1024 .f32) (xs0 xs1 : Vec Ideal S1280x1024 .bf16)

/-- The first point of a sequence leaves its position-free keys in the first scratch buffer -/
theorem sout_A_0 (hc0) : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = k0_pay2 x5 x7 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_unit_zero z2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1280x256) z2, View.ld_unit_zero (S := S1x256x1024) z3]

/-- and its values in the second. -/
theorem sout_A_1 (hc0) : sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = k0_pay3 x5 x8 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_unit_zero z2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1280x256) z2, View.ld_unit_zero (S := S1x256x1024) z3]

/-- The later points of a sequence read them there, -/
theorem out_B (hc0) : out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1
    = k0_pay28 (headBlock x3 x4 xs0 x6 xs1) x9 x1 x2 x0 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1)]
  unfold kernelRun0_B
  dsimp only
  sl_unfold_words
  rw [View.canon_unit_zero z2]
  simp only [View.readAt_eq_ld, harg2.read_unread, harg3.read_unread, harg4.read_unread, harg5.read_unread, harg6.read_unread, harg7.read_unread, harg8.read_unread, harg9.read_unread, harg10.read_unread, harg11.read_unread, harg13.read_unread, harg14.read_unread, View.ld_unit_zero (S := S256x1024) z2, View.ld_unit_zero (S := S1280x64) z2, View.ld_unit_zero (S := S1x1x6x1024) z4, View.ld_unit_zero (S := S1x4x1024) z3, View.ld_unit_zero (S := S1x1024x1024) z3]
  refine congrArg (fun o => k0_pay28 o x9 x1 x2 x0) ?_
  rw [View.readCov_eq_canon']
  funext y
  refine (View.canon_apply_of_pieces (headBlock x3 x4 xs0 x6 xs1) _ (View.PiecesOf.mem ?_) _ (View.cover_of_tiled_head _ _ _ (by rfl) _)).trans ?_
  · refine ⟨?_, ?_, ?_, ?_, ?_, ?_, ?_, ?_, trivial⟩
    · exact headPiece 7 896 448 (by decide) rfl rfl x3 x4 xs0 x6 xs1 _ _ _
    · exact headPiece 6 768 384 (by decide) rfl rfl x3 x4 xs0 x6 xs1 _ _ _
    · exact headPiece 5 640 320 (by decide) rfl rfl x3 x4 xs0 x6 xs1 _ _ _
    · exact headPiece 4 512 256 (by decide) rfl rfl x3 x4 xs0 x6 xs1 _ _ _
    · exact headPiece 3 384 192 (by decide) rfl rfl x3 x4 xs0 x6 xs1 _ _ _
    · exact headPiece 2 256 128 (by decide) rfl rfl x3 x4 xs0 x6 xs1 _ _ _
    · exact headPiece 1 128 64 (by decide) rfl rfl x3 x4 xs0 x6 xs1 _ _ _
    · exact headPiece 0 0 0 (by decide) rfl rfl x3 x4 xs0 x6 xs1 _ _ _
  · refine congrArg (headBlock x3 x4 xs0 x6 xs1) (funext fun a => Fin.ext ?_)
    match a with
    | ⟨0, _⟩ => show 0 + 1 * (y 0).val = (y 0).val; omega
    | ⟨1, _⟩ => show 0 + 1 * (y 1).val = (y 1).val; omega

/-- and the first point reads what it has just stored. -/
theorem out_A (hc0) : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9
    = k0_pay28 (headBlock x3 x4 (k0_pay2 x5 x7) x6 (k0_pay3 x5 x8)) x9 x1 x2 x0 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_unit_zero z2]
  simp only [View.readAt_eq_ld, harg2.read_unread, harg3.read_unread, harg4.read_unread, harg5.read_unread, harg6.read_unread, harg7.read_unread, harg8.read_unread, harg9.read_unread, harg10.read_unread, harg11.read_unread, View.readCov_fill (s := S1280x1024) _ _ _ _ _ z2', View.ld_unit_zero (S := S256x1024) z2, View.ld_unit_zero (S := S1280x64) z2, View.ld_unit_zero (S := S1280x256) z2, View.ld_unit_zero (S := S1x256x1024) z3, View.ld_unit_zero (S := S1x1x6x1024) z4, View.ld_unit_zero (S := S1x4x1024) z3, View.ld_unit_zero (S := S1x1024x1024) z3]
  generalize k0_pay2 (F := Ideal) x5 x7 = kn
  generalize k0_pay3 (F := Ideal) x5 x8 = v
  refine congrArg (fun o => k0_pay28 o x9 x1 x2 x0) ?_
  rw [View.readCov_eq_canon']
  funext y
  refine (View.canon_apply_of_pieces (headBlock x3 x4 kn x6 v) _ (View.PiecesOf.mem ?_) _ (View.cover_of_tiled_head _ _ _ (by rfl) _)).trans ?_
  · refine ⟨?_, ?_, ?_, ?_, ?_, ?_, ?_, ?_, trivial⟩
    · exact headPiece 7 896 448 (by decide) rfl rfl x3 x4 kn x6 v _ _ _
    · exact headPiece 6 768 384 (by decide) rfl rfl x3 x4 kn x6 v _ _ _
    · exact headPiece 5 640 320 (by decide) rfl rfl x3 x4 kn x6 v _ _ _
    · exact headPiece 4 512 256 (by decide) rfl rfl x3 x4 kn x6 v _ _ _
    · exact headPiece 3 384 192 (by decide) rfl rfl x3 x4 kn x6 v _ _ _
    · exact headPiece 2 256 128 (by decide) rfl rfl x3 x4 kn x6 v _ _ _
    · exact headPiece 1 128 64 (by decide) rfl rfl x3 x4 kn x6 v _ _ _
    · exact headPiece 0 0 0 (by decide) rfl rfl x3 x4 kn x6 v _ _ _
  · refine congrArg (headBlock x3 x4 kn x6 v) (funext fun a => Fin.ext ?_)
    match a with
    | ⟨0, _⟩ => show 0 + 1 * (y 0).val = (y 0).val; omega
    | ⟨1, _⟩ => show 0 + 1 * (y 1).val = (y 1).val; omega

end Cases

end Cert.KernelIdeal.Block

end
-- ==== Proof.AttnReference.lean ====
/- Attention's reference on the sample tokens, read at an index, stage by stage. -/
module

public import proofs.«01_k».proof.Proof.Gen.ReferenceIdeal.Read
public import proofs.«01_k».proof.Proof.Attention
public import Idealize.ShloMosaic.Lib.Tactic

@[expose] public section

noncomputable section

open Idealize.ShloMosaic Idealize.ShloMosaic.TcCoe Idealize.SL.Sem

namespace Cert.ReferenceIdeal.Block

open Cert.ReferenceIdeal Cert.ReferenceIdeal.Gen Cert.ReferenceIdeal.Read Cert.Layer

variable (x3 : Vec Ideal S2048x1024 .bf16) (x4 : Vec Ideal S2048x512 .bf16) (x5 : Vec Ideal S2x1x256x256 .f32) (x6 : Vec Ideal S2048x256 .f32) (x7 : Vec Ideal S2x1x256x64 .f32) (x8 : Vec Ideal S2048x64 .f32) (x9 : Vec Ideal S1x256x1024 .f32) (x10 : Vec Ideal S1x256x1024 .f32)
  (b : Fin 2)

/-- Key `k` of sequence `b` in the compressed cache, -/
abbrev ckv (k : Fin 1280) (i : Fin 256) : EReal :=
  past (n := 256) (m := 1024) (fun s => x5 (ix4 b 0 s i)) (fun s => x6 (ix2 ⟨b.val * 1024 + s.val, by omega⟩ i)) k

/-- its rotated part, -/
abbrev kr (k : Fin 1280) (i : Fin 64) : EReal :=
  past (n := 256) (m := 1024) (fun s => x7 (ix4 b 0 s i)) (fun s => x8 (ix2 ⟨b.val * 1024 + s.val, by omega⟩ i)) k

/-- and the compressed cache through a matrix: the position-free keys, or the values. -/
abbrev expand (k : Fin 1280) (j : Fin 1024) : EReal := ∑ i, ckv x5 x6 b k i * x9 (ix3 0 i j)

theorem score_apply (h : Fin 8) (q : Fin 1024) (k : Fin 1280) :
    val_main_v26 (F := Ideal) x3 x4 x5 x6 x7 x8 x9 (ix4 b h q k)
      = score (fun a : Fin 128 => x3 (ix2 ⟨b.val * 1024 + q.val, by omega⟩ ⟨h.val * 128 + a.val, by omega⟩))
          (fun a => expand x5 x6 x9 b k ⟨h.val * 128 + a.val, by omega⟩)
          (fun a : Fin 64 => x4 (ix2 ⟨b.val * 1024 + q.val, by omega⟩ ⟨h.val * 64 + a.val, by omega⟩)) (kr x7 x8 b k) := by
  have e : score (fun a : Fin 128 => x3 (ix2 ⟨b.val * 1024 + q.val, by omega⟩ ⟨h.val * 128 + a.val, by omega⟩))
          (fun a => expand x5 x6 x9 b k ⟨h.val * 128 + a.val, by omega⟩)
          (fun a : Fin 64 => x4 (ix2 ⟨b.val * 1024 + q.val, by omega⟩ ⟨h.val * 64 + a.val, by omega⟩)) (kr x7 x8 b k)
      = (∑ a : Fin 128, x3 (ix2 ⟨b.val * 1024 + q.val, by omega⟩ ⟨h.val * 128 + a.val, by omega⟩) * expand x5 x6 x9 b k ⟨h.val * 128 + a.val, by omega⟩
          + ∑ a : Fin 64, kr x7 x8 b k a * x4 (ix2 ⟨b.val * 1024 + q.val, by omega⟩ ⟨h.val * 64 + a.val, by omega⟩))
        * Ideal.ofBits .f32 0x3D93CD3A#32 := by
    unfold score
    rw [Finset.sum_congr rfl fun a _ => mul_comm (x4 (ix2 ⟨b.val * 1024 + q.val, by omega⟩ ⟨h.val * 64 + a.val, by omega⟩)) (kr x7 x8 b k a)]
  rw [e]
  pointwise [expand, ckv, kr, past, val_main_v5, val_main_v6, val_main_v7, val_main_v8, val_main_v9, val_main_v10, val_main_v11, val_main_v12, val_main_v13,
    val_main_v14, val_main_v15, val_main_v16, val_main_v17, val_main_v21, val_main_v22, val_main_v23, val_main_v24, val_main_v25, val_main_v26,
    val_main_cst]

theorem value_apply (h : Fin 8) (d : Fin 128) (k : Fin 1280) :
    val_main_v20 (F := Ideal) x5 x6 x10 (ix4 b k h d) = expand x5 x6 x10 b k ⟨h.val * 128 + d.val, by omega⟩ := by
  pointwise [expand, ckv, kr, past, val_main_v9, val_main_v10, val_main_v11, val_main_v18, val_main_v19, val_main_v20]

/-- A reduction by maximum over the last of four axes, from −∞, at an index: the largest along that axis. -/
theorem hostMax {n0 n1 n2 n3 : ℕ} {u : Shape} (y : FVec Ideal (⟨4, ![n0, n1, n2, n3]⟩ : Shape) .f32) (z : FVec Ideal u .f32)
    (h : (⟨4, ![n0, n1, n2, n3]⟩ : Shape).ReducesTo [3] (⟨3, ![n0, n1, n2]⟩ : Shape)) (hu : 0 < u.numel)
    (hz : z (Shape.Idx.first hu) = Ideal.ofBits .f32 0xFF800000#32) (i0 : Fin n0) (i1 : Fin n1) (i2 : Fin n2) :
    Host.reduce (FloatOps.maximumf (F := Ideal) (φ := .f32)) y z h hu (ix3 i0 i1 i2) = peak (fun k : Fin n3 => y (ix4 i0 i1 i2 k)) := by
  refine (Host.reduce_eq_fold _ y z h hu (ix3 i0 i1 i2)).trans ?_
  rw [hz]
  exact h.fold_fiber_r4_a3 (ix3 i0 i1 i2) (FloatOps.maximumf (F := Ideal) (φ := .f32)) _ y

theorem peak_of (y : FVec Ideal S2x8x1024x1280 .f32) (h : Fin 8) (q : Fin 1024) :
    Host.reduce (FloatOps.maximumf (F := Ideal) (φ := .f32)) y (val_main_cst_0 (F := Ideal)) reducesTo_S2x8x1024x1280_S2x8x1024_d3 h_S_
      (ix3 b h q) = peak fun k => y (ix4 b h q k) :=
  hostMax y (val_main_cst_0 (F := Ideal)) reducesTo_S2x8x1024x1280_S2x8x1024_d3 h_S_ (val_main_cst_0_apply _) b h q

theorem peak_apply (h : Fin 8) (q : Fin 1024) :
    val_main_v27 (F := Ideal) x3 x4 x5 x6 x7 x8 x9 (ix3 b h q)
      = peak fun k => val_main_v26 (F := Ideal) x3 x4 x5 x6 x7 x8 x9 (ix4 b h q k) :=
  peak_of b (val_main_v26 (F := Ideal) x3 x4 x5 x6 x7 x8 x9) h q

theorem exp_apply (h : Fin 8) (q : Fin 1024) (k : Fin 1280) :
    val_main_v33 (F := Ideal) x3 x4 x5 x6 x7 x8 x9 (ix4 b h q k)
      = Ideal.exp (val_main_v26 (F := Ideal) x3 x4 x5 x6 x7 x8 x9 (ix4 b h q k)
          - max (Ideal.ofBits .f32 0xFF800000#32) (val_main_v27 (F := Ideal) x3 x4 x5 x6 x7 x8 x9 (ix3 b h q))) := by
  have e : idx_main_v30 (idx_main_v31 (ix4 b h q k)) = ix3 b h q := by
    funext a
    match a with
    | ⟨0, _⟩ => rfl
    | ⟨1, _⟩ => rfl
    | ⟨2, _⟩ => rfl
  rw [val_main_v33_apply, val_main_v32_apply, val_main_v31_apply, val_main_v30_apply, val_main_v29_apply, val_main_v28_apply,
    val_main_cst_1_apply, e]
  rfl

theorem weight_apply (h : Fin 8) (q : Fin 1024) (k : Fin 1280) :
    val_main_v37 (F := Ideal) x3 x4 x5 x6 x7 x8 x9 (ix4 b h q k)
      = Ideal.div (val_main_v33 (F := Ideal) x3 x4 x5 x6 x7 x8 x9 (ix4 b h q k))
          (∑ l, val_main_v33 (F := Ideal) x3 x4 x5 x6 x7 x8 x9 (ix4 b h q l)) := by
  unfold val_main_v37 val_main_v36 val_main_v35 val_main_v34
  generalize val_main_v33 (F := Ideal) x3 x4 x5 x6 x7 x8 x9 = y
  pointwise [val_main_cst_2]

theorem context_apply (h : Fin 8) (d : Fin 128) (q : Fin 1024) :
    val_main_v38 (F := Ideal) x3 x4 x5 x6 x7 x8 x9 x10 (ix4 b h d q)
      = ∑ k, val_main_v20 (F := Ideal) x5 x6 x10 (ix4 b k h d) * val_main_v37 (F := Ideal) x3 x4 x5 x6 x7 x8 x9 (ix4 b h q k) := by
  unfold val_main_v38
  generalize val_main_v37 (F := Ideal) x3 x4 x5 x6 x7 x8 x9 = y
  generalize val_main_v20 (F := Ideal) x5 x6 x10 = z
  pointwise []

theorem out_apply (x11 : Vec Ideal S1x1024x1024 .f32) (q : Fin 1024) (n : Fin 1024) :
    val_main_v42 (F := Ideal) x3 x4 x5 x6 x7 x8 x9 x10 x11 (ix3 b q n)
      = ∑ k : Fin 1024, val_main_v38 (F := Ideal) x3 x4 x5 x6 x7 x8 x9 x10 (ix4 b ⟨k.val / 128, by omega⟩ ⟨k.val % 128, by omega⟩ q)
          * x11 (ix3 0 k n) := by
  unfold val_main_v42 val_main_v40 val_main_v39
  generalize val_main_v38 (F := Ideal) x3 x4 x5 x6 x7 x8 x9 x10 = y
  pointwise [val_main_v41]

theorem gain_apply (x2 : Vec Ideal S4x4x1024 .f32) (q j : Fin 1024) : val_main_v56 (F := Ideal) x2 (ix3 b q j) = x2 (ix3 3 1 j) := by
  pointwise [val_main_v43, val_main_v44, val_main_v55, val_main_v56]

theorem normed_apply (x2 : Vec Ideal S4x4x1024 .f32) (x11 : Vec Ideal S1x1024x1024 .f32) (q j : Fin 1024) :
    val_main_v57 (F := Ideal) x2 x3 x4 x5 x6 x7 x8 x9 x10 x11 (ix3 b q j)
      = rms (fun n => val_main_v42 (F := Ideal) x3 x4 x5 x6 x7 x8 x9 x10 x11 (ix3 b q n)) (fun n => x2 (ix3 3 1 n)) j := by
  have e : idx_main_v47 (idx_main_v53 (ix3 b q j)) = ix2 b q := by
    funext a
    match a with
    | ⟨0, _⟩ => rfl
    | ⟨1, _⟩ => rfl
  have e' : ∀ k : Fin 1024, idx_main_v46 (ix2 b q) k = ix3 b q k := fun k => by
    funext a
    match a with
    | ⟨0, _⟩ => rfl
    | ⟨1, _⟩ => rfl
    | ⟨2, _⟩ => rfl
  rw [val_main_v57_apply, val_main_v54_apply, gain_apply, val_main_v53_apply, val_main_v52_apply, val_main_v51_apply, val_main_v50_apply,
    val_main_cst_5_apply, val_main_v49_apply, val_main_v48_apply, val_main_cst_4_apply, val_main_v47_apply, e, val_main_v46_apply,
    val_main_cst_3_apply]
  have e2 : ∀ k : Fin 1024, val_main_v45 (F := Ideal) x3 x4 x5 x6 x7 x8 x9 x10 x11 (idx_main_v46 (ix2 b q) k)
      = (val_main_v42 (F := Ideal) x3 x4 x5 x6 x7 x8 x9 x10 x11 (ix3 b q k) : EReal)
        * val_main_v42 (F := Ideal) x3 x4 x5 x6 x7 x8 x9 x10 x11 (ix3 b q k) := fun k => by
    rw [e', val_main_v45_apply]
    rfl
  rw [Finset.sum_congr rfl fun k _ => e2 k]
  generalize val_main_v42 (F := Ideal) x3 x4 x5 x6 x7 x8 x9 x10 x11 = y
  show (y (ix3 b q j) : EReal) * Ideal.rsqrt (Ideal.div (Ideal.ofBits .f32 0x00000000#32 + ∑ k, y (ix3 b q k) * y (ix3 b q k))
    (Ideal.ofBits .f32 0x44800000#32) + Ideal.ofBits .f32 0x358637BD#32) * x2 (ix3 3 1 j) = _
  rw [Ideal.ofBits_zero_f32, zero_add]
  rfl

theorem gate_apply (x1 : Vec Ideal S1x8x6x1024 .f32) (q j : Fin 1024) :
    val_main_v58 (F := Ideal) x1 (ix3 b q j) = x1 (ix4 0 ⟨1 + b.val, by omega⟩ 2 j) := by
  pointwise [val_main_v2, val_main_v3, val_main_v4, val_main_v58]

theorem rows_apply (x0 : Vec Ideal S6144x1024 .f32) (q j : Fin 1024) :
    val_main_v1 (F := Ideal) x0 (ix3 b q j) = x0 (ix2 ⟨4096 + (b.val * 1024 + q.val), by omega⟩ j) := by
  pointwise [val_main_v0, val_main_v1]

theorem token_apply (x0 : Vec Ideal S6144x1024 .f32) (x1 : Vec Ideal S1x8x6x1024 .f32) (x2 : Vec Ideal S4x4x1024 .f32)
    (x11 : Vec Ideal S1x1024x1024 .f32) (q j : Fin 1024) :
    val_main_v60 (F := Ideal) x0 x1 x2 x3 x4 x5 x6 x7 x8 x9 x10 x11 (ix3 b q j)
      = x0 (ix2 ⟨4096 + (b.val * 1024 + q.val), by omega⟩ j) + x1 (ix4 0 ⟨1 + b.val, by omega⟩ 2 j)
          * rms (fun n => val_main_v42 (F := Ideal) x3 x4 x5 x6 x7 x8 x9 x10 x11 (ix3 b q n)) (fun n => x2 (ix3 3 1 n)) j := by
  rw [val_main_v60_apply, val_main_v59_apply, rows_apply, gate_apply, normed_apply]
  rfl

theorem row_apply (x0 : Vec Ideal S6144x1024 .f32) (x1 : Vec Ideal S1x8x6x1024 .f32) (x2 : Vec Ideal S4x4x1024 .f32)
    (x11 : Vec Ideal S1x1024x1024 .f32) (i : Fin 6144) (j : Fin 1024) :
    val_main_v63 (F := Ideal) x0 x1 x2 x3 x4 x5 x6 x7 x8 x9 x10 x11 (ix2 i j)
      = if h : i.val < 4096 then x0 (ix2 ⟨i.val, by omega⟩ j) else
        val_main_v60 (F := Ideal) x0 x1 x2 x3 x4 x5 x6 x7 x8 x9 x10 x11
          (ix3 ⟨(i.val - 4096) / 1024, by omega⟩ ⟨(i.val - 4096) % 1024, by omega⟩ j) := by
  unfold val_main_v63 val_main_v61 val_main_v62
  generalize val_main_v60 (F := Ideal) x0 x1 x2 x3 x4 x5 x6 x7 x8 x9 x10 x11 = y
  pointwise []

end Cert.ReferenceIdeal.Block

end
-- ==== Proof.AttnValue.lean ====
/- The attention kernel on the sample tokens: what its result array holds after the run. Grid point `t` reads query tile
   `t % 4` of sequence `t / 4`; the first point of a sequence expands its keys and values, the later ones reuse them; each
   leaves its rows' `Layer.attnToken`. -/
module

public import proofs.«01_k».proof.Proof.AttnBlock
public import proofs.«01_k».proof.Proof.AttnReference
public import Idealize.ShloMosaic.Lib.StableHlo.Run

@[expose] public section

noncomputable section

open Idealize.ShloMosaic Idealize.ShloMosaic.TcCoe Idealize.SL.Sem

namespace Cert.KernelIdeal.Block

open Cert.KernelIdeal Cert.KernelIdeal.Gen Cert.KernelIdeal.Value Cert.Layer

variable (m : (ℓ : Loc nD τ sig) → Buf (Elt Ideal) ℓ)

theorem lt8 (t : Fin cfg0.N) : t.val < 8 := lt_of_lt_of_eq t.isLt (show cfg0.N = 8 from N_0)

/-- The array row that row `r` of grid point `t` is, among the sample's rows -/
abbrev srow (t : Fin cfg0.N) (r : Fin 256) : Fin 2048 := ⟨t.val * 256 + r.val, by have := lt8 t; omega⟩
/-- and among all rows. -/
abbrev row (t : Fin cfg0.N) (r : Fin 256) : Fin 6144 := ⟨4096 + (t.val * 256 + r.val), by have := lt8 t; omega⟩
/-- The sequence of grid point `t`. -/
abbrev seq (t : Fin cfg0.N) : Fin 2 := ⟨t.val / 4, by have := lt8 t; omega⟩

/-! ## The arrays the host prepares: the cache followed by the new keys, sequence after sequence -/

theorem V_main_v6 (c : Dev nD) : V m c main_v6
    = shapeCast S2560x256 (concatenate S2x1280x256 1
        [⟨S2x256x256, shapeCast S2x256x256 (m ((c : Thread nD τ).loc main_arg5)) shapeCasts_S2x1x256x256_S2x256x256⟩,
         ⟨S2x1024x256, shapeCast S2x1024x256 (m ((c : Thread nD τ).loc main_arg6)) shapeCasts_S2048x256_S2x1024x256⟩]
        concatenates_S2x256x256_S2x1024x256_S2x1280x256_d1) shapeCasts_S2x1280x256_S2560x256 := by
  unfold V hostOps0
  after_results
  rfl

theorem V_main_v7 (c : Dev nD) : V m c main_v7
    = shapeCast S2560x64 (concatenate S2x1280x64 1
        [⟨S2x256x64, shapeCast S2x256x64 (m ((c : Thread nD τ).loc main_arg7)) shapeCasts_S2x1x256x64_S2x256x64⟩,
         ⟨S2x1024x64, shapeCast S2x1024x64 (m ((c : Thread nD τ).loc main_arg8)) shapeCasts_S2048x64_S2x1024x64⟩]
        concatenates_S2x256x64_S2x1024x64_S2x1280x64_d1) shapeCasts_S2x1280x64_S2560x64 := by
  unfold V hostOps0
  after_results
  rfl

theorem V_main_v8 (c : Dev nD) : V m c main_v8 = m ((c : Thread nD τ).loc main_arg0) := by
  unfold V hostOps0
  after_results
  rfl

/-- Key `k` of sequence `b` in the compressed cache, -/
abbrev C (c : Dev nD) (b : Fin 2) : Fin 1280 → Fin 256 → EReal :=
  Cert.ReferenceIdeal.Block.ckv (m ((c : Thread nD τ).loc main_arg5)) (m ((c : Thread nD τ).loc main_arg6)) b
/-- its rotated part, -/
abbrev R (c : Dev nD) (b : Fin 2) : Fin 1280 → Fin 64 → EReal :=
  Cert.ReferenceIdeal.Block.kr (m ((c : Thread nD τ).loc main_arg7)) (m ((c : Thread nD τ).loc main_arg8)) b
/-- its position-free part, -/
abbrev K (c : Dev nD) (b : Fin 2) : Fin 1280 → Fin 1024 → EReal :=
  Cert.ReferenceIdeal.Block.expand (m ((c : Thread nD τ).loc main_arg5)) (m ((c : Thread nD τ).loc main_arg6)) (m ((c : Thread nD τ).loc main_arg9)) b
/-- and its value. -/
abbrev U (c : Dev nD) (b : Fin 2) : Fin 1280 → Fin 1024 → EReal :=
  Cert.ReferenceIdeal.Block.expand (m ((c : Thread nD τ).loc main_arg5)) (m ((c : Thread nD τ).loc main_arg6)) (m ((c : Thread nD τ).loc main_arg10)) b

theorem compressed_apply (x5 : Vec Ideal S2x1x256x256 .f32) (x6 : Vec Ideal S2048x256 .f32) (b : Fin 2) (k : Fin 1280) (i : Fin 256) :
    shapeCast S2560x256 (concatenate S2x1280x256 1
        [⟨S2x256x256, shapeCast S2x256x256 x5 shapeCasts_S2x1x256x256_S2x256x256⟩,
         ⟨S2x1024x256, shapeCast S2x1024x256 x6 shapeCasts_S2048x256_S2x1024x256⟩]
        concatenates_S2x256x256_S2x1024x256_S2x1280x256_d1) shapeCasts_S2x1280x256_S2560x256 (ix2 ⟨b.val * 1280 + k.val, by omega⟩ i)
      = Cert.ReferenceIdeal.Block.ckv x5 x6 b k i := by
  pointwise [Cert.ReferenceIdeal.Block.ckv, past]

theorem rotated_apply (x7 : Vec Ideal S2x1x256x64 .f32) (x8 : Vec Ideal S2048x64 .f32) (b : Fin 2) (k : Fin 1280) (i : Fin 64) :
    shapeCast S2560x64 (concatenate S2x1280x64 1
        [⟨S2x256x64, shapeCast S2x256x64 x7 shapeCasts_S2x1x256x64_S2x256x64⟩,
         ⟨S2x1024x64, shapeCast S2x1024x64 x8 shapeCasts_S2048x64_S2x1024x64⟩]
        concatenates_S2x256x64_S2x1024x64_S2x1280x64_d1) shapeCasts_S2x1280x64_S2560x64 (ix2 ⟨b.val * 1280 + k.val, by omega⟩ i)
      = Cert.ReferenceIdeal.Block.kr x7 x8 b k i := by
  pointwise [Cert.ReferenceIdeal.Block.kr, past]

/-! ## The input windows' blocks -/

theorem index0 : ∀ t : Fin cfg0.N, win0_0.index t 0 = 16 + t.val ∧ win0_0.index t 1 = 0 := (by decide +kernel : ∀ t : Fin grid0.N, _)
theorem index1 : ∀ t : Fin cfg0.N, win0_1.index t 0 = 0 ∧ win0_1.index t 1 = 1 + t.val / 4 ∧ win0_1.index t 2 = 0 ∧ win0_1.index t 3 = 0 := (by decide +kernel : ∀ t : Fin grid0.N, _)
theorem index2 : ∀ t : Fin cfg0.N, win0_2.index t 0 = 3 ∧ win0_2.index t 1 = 0 ∧ win0_2.index t 2 = 0 := (by decide +kernel : ∀ t : Fin grid0.N, _)
theorem index3 : ∀ t : Fin cfg0.N, win0_3.index t 0 = t.val ∧ win0_3.index t 1 = 0 := (by decide +kernel : ∀ t : Fin grid0.N, _)
theorem index4 : ∀ t : Fin cfg0.N, win0_4.index t 0 = t.val ∧ win0_4.index t 1 = 0 := (by decide +kernel : ∀ t : Fin grid0.N, _)
theorem index5 : ∀ t : Fin cfg0.N, win0_5.index t 0 = t.val / 4 ∧ win0_5.index t 1 = 0 := (by decide +kernel : ∀ t : Fin grid0.N, _)
theorem index6 : ∀ t : Fin cfg0.N, win0_6.index t 0 = t.val / 4 ∧ win0_6.index t 1 = 0 := (by decide +kernel : ∀ t : Fin grid0.N, _)
theorem index7 : ∀ t : Fin cfg0.N, win0_7.index t 0 = 0 ∧ win0_7.index t 1 = 0 ∧ win0_7.index t 2 = 0 := (by decide +kernel : ∀ t : Fin grid0.N, _)
theorem index8 : ∀ t : Fin cfg0.N, win0_8.index t 0 = 0 ∧ win0_8.index t 1 = 0 ∧ win0_8.index t 2 = 0 := (by decide +kernel : ∀ t : Fin grid0.N, _)
theorem index9 : ∀ t : Fin cfg0.N, win0_9.index t 0 = 0 ∧ win0_9.index t 1 = 0 ∧ win0_9.index t 2 = 0 := (by decide +kernel : ∀ t : Fin grid0.N, _)

theorem blk0 (c : Dev nD) (t : Fin cfg0.N) (r : Fin 256) (j : Fin 1024) :
    (iblk m c 0 t : Vec Ideal S256x1024 .f32) (ix2 r j) = m ((c : Thread nD τ).loc main_arg0) (ix2 (row t r) j) := by
  obtain ⟨h0, h1⟩ := index0 t
  unfold iblk
  rw [View.read_apply]
  show V m c main_arg0 _ = _
  rw [V_main_arg0]
  congr 1
  funext a
  apply Fin.ext
  match a with
  | ⟨0, _⟩ => show win0_0.index t 0 * 256 + 1 * r.val = 4096 + (t.val * 256 + r.val); rw [h0]; omega
  | ⟨1, _⟩ => show win0_0.index t 1 * 1024 + 1 * j.val = j.val; rw [h1]; omega

theorem blk1 (c : Dev nD) (t : Fin cfg0.N) (p : Fin 6) (j : Fin 1024) :
    (iblk m c 1 t : Vec Ideal S1x1x6x1024 .f32) (ix4 0 0 p j) = m ((c : Thread nD τ).loc main_arg1) (ix4 0 ⟨1 + t.val / 4, by have := lt8 t; omega⟩ p j) := by
  obtain ⟨h0, h1, h2, h3⟩ := index1 t
  unfold iblk
  rw [View.read_apply]
  show V m c main_arg1 _ = _
  rw [V_main_arg1]
  congr 1
  funext a
  apply Fin.ext
  match a with
  | ⟨0, _⟩ => show win0_1.index t 0 * 1 + 1 * 0 = 0; rw [h0]
  | ⟨1, _⟩ => show win0_1.index t 1 * 1 + 1 * 0 = 1 + t.val / 4; rw [h1]; omega
  | ⟨2, _⟩ => show win0_1.index t 2 * 6 + 1 * p.val = p.val; rw [h2]; omega
  | ⟨3, _⟩ => show win0_1.index t 3 * 1024 + 1 * j.val = j.val; rw [h3]; omega

theorem blk2 (c : Dev nD) (t : Fin cfg0.N) (p : Fin 4) (j : Fin 1024) :
    (iblk m c 2 t : Vec Ideal S1x4x1024 .f32) (ix3 0 p j) = m ((c : Thread nD τ).loc main_arg2) (ix3 3 p j) := by
  obtain ⟨h0, h1, h2⟩ := index2 t
  unfold iblk
  rw [View.read_apply]
  show V m c main_arg2 _ = _
  rw [V_main_arg2]
  congr 1
  funext a
  apply Fin.ext
  match a with
  | ⟨0, _⟩ => show win0_2.index t 0 * 1 + 1 * 0 = 3; rw [h0]
  | ⟨1, _⟩ => show win0_2.index t 1 * 4 + 1 * p.val = p.val; rw [h1]; omega
  | ⟨2, _⟩ => show win0_2.index t 2 * 1024 + 1 * j.val = j.val; rw [h2]; omega

theorem blk3 (c : Dev nD) (t : Fin cfg0.N) (r : Fin 256) (j : Fin 1024) :
    (iblk m c 3 t : Vec Ideal S256x1024 .bf16) (ix2 r j) = m ((c : Thread nD τ).loc main_arg3) (ix2 (srow t r) j) := by
  obtain ⟨h0, h1⟩ := index3 t
  unfold iblk
  rw [View.read_apply]
  show V m c main_arg3 _ = _
  rw [V_main_arg3]
  congr 1
  funext a
  apply Fin.ext
  match a with
  | ⟨0, _⟩ => show win0_3.index t 0 * 256 + 1 * r.val = t.val * 256 + r.val; rw [h0]; omega
  | ⟨1, _⟩ => show win0_3.index t 1 * 1024 + 1 * j.val = j.val; rw [h1]; omega

theorem blk4 (c : Dev nD) (t : Fin cfg0.N) (r : Fin 256) (j : Fin 512) :
    (iblk m c 4 t : Vec Ideal S256x512 .bf16) (ix2 r j) = m ((c : Thread nD τ).loc main_arg4) (ix2 (srow t r) j) := by
  obtain ⟨h0, h1⟩ := index4 t
  unfold iblk
  rw [View.read_apply]
  show V m c main_arg4 _ = _
  rw [V_main_arg4]
  congr 1
  funext a
  apply Fin.ext
  match a with
  | ⟨0, _⟩ => show win0_4.index t 0 * 256 + 1 * r.val = t.val * 256 + r.val; rw [h0]; omega
  | ⟨1, _⟩ => show win0_4.index t 1 * 512 + 1 * j.val = j.val; rw [h1]; omega

theorem blk5 (c : Dev nD) (t : Fin cfg0.N) (k : Fin 1280) (i : Fin 256) :
    (iblk m c 5 t : Vec Ideal S1280x256 .f32) (ix2 k i) = C m c (seq t) k i := by
  obtain ⟨h0, h1⟩ := index5 t
  unfold iblk
  rw [View.read_apply]
  show V m c main_v6 _ = _
  rw [V_main_v6]
  refine Eq.trans ?_ (compressed_apply _ _ (seq t) k i)
  congr 1
  funext a
  apply Fin.ext
  match a with
  | ⟨0, _⟩ => show win0_5.index t 0 * 1280 + 1 * k.val = t.val / 4 * 1280 + k.val; rw [h0]; omega
  | ⟨1, _⟩ => show win0_5.index t 1 * 256 + 1 * i.val = i.val; rw [h1]; omega

theorem blk6 (c : Dev nD) (t : Fin cfg0.N) (k : Fin 1280) (i : Fin 64) :
    (iblk m c 6 t : Vec Ideal S1280x64 .f32) (ix2 k i) = R m c (seq t) k i := by
  obtain ⟨h0, h1⟩ := index6 t
  unfold iblk
  rw [View.read_apply]
  show V m c main_v7 _ = _
  rw [V_main_v7]
  refine Eq.trans ?_ (rotated_apply _ _ (seq t) k i)
  congr 1
  funext a
  apply Fin.ext
  match a with
  | ⟨0, _⟩ => show win0_6.index t 0 * 1280 + 1 * k.val = t.val / 4 * 1280 + k.val; rw [h0]; omega
  | ⟨1, _⟩ => show win0_6.index t 1 * 64 + 1 * i.val = i.val; rw [h1]; omega

theorem blk7 (c : Dev nD) (t : Fin cfg0.N) (k : Fin 256) (j : Fin 1024) :
    (iblk m c 7 t : Vec Ideal S1x256x1024 .f32) (ix3 0 k j) = m ((c : Thread nD τ).loc main_arg9) (ix3 0 k j) := by
  obtain ⟨h0, h1, h2⟩ := index7 t
  unfold iblk
  rw [View.read_apply]
  show V m c main_arg9 _ = _
  rw [V_main_arg9]
  congr 1
  funext a
  apply Fin.ext
  match a with
  | ⟨0, _⟩ => show win0_7.index t 0 * 1 + 1 * 0 = 0; rw [h0]
  | ⟨1, _⟩ => show win0_7.index t 1 * 256 + 1 * k.val = k.val; rw [h1]; omega
  | ⟨2, _⟩ => show win0_7.index t 2 * 1024 + 1 * j.val = j.val; rw [h2]; omega

theorem blk8 (c : Dev nD) (t : Fin cfg0.N) (k : Fin 256) (j : Fin 1024) :
    (iblk m c 8 t : Vec Ideal S1x256x1024 .f32) (ix3 0 k j) = m ((c : Thread nD τ).loc main_arg10) (ix3 0 k j) := by
  obtain ⟨h0, h1, h2⟩ := index8 t
  unfold iblk
  rw [View.read_apply]
  show V m c main_arg10 _ = _
  rw [V_main_arg10]
  congr 1
  funext a
  apply Fin.ext
  match a with
  | ⟨0, _⟩ => show win0_8.index t 0 * 1 + 1 * 0 = 0; rw [h0]
  | ⟨1, _⟩ => show win0_8.index t 1 * 256 + 1 * k.val = k.val; rw [h1]; omega
  | ⟨2, _⟩ => show win0_8.index t 2 * 1024 + 1 * j.val = j.val; rw [h2]; omega

theorem blk9 (c : Dev nD) (t : Fin cfg0.N) (k : Fin 1024) (j : Fin 1024) :
    (iblk m c 9 t : Vec Ideal S1x1024x1024 .f32) (ix3 0 k j) = m ((c : Thread nD τ).loc main_arg11) (ix3 0 k j) := by
  obtain ⟨h0, h1, h2⟩ := index9 t
  unfold iblk
  rw [View.read_apply]
  show V m c main_arg11 _ = _
  rw [V_main_arg11]
  congr 1
  funext a
  apply Fin.ext
  match a with
  | ⟨0, _⟩ => show win0_9.index t 0 * 1 + 1 * 0 = 0; rw [h0]
  | ⟨1, _⟩ => show win0_9.index t 1 * 1024 + 1 * k.val = k.val; rw [h1]; omega
  | ⟨2, _⟩ => show win0_9.index t 2 * 1024 + 1 * j.val = j.val; rw [h2]; omega

/-! ## The points of a sequence -/

/-- After every point of sequence `b` the first scratch buffer holds its position-free keys and the second its values. -/
theorem scratch (c : Dev nD) (b : Fin 2) : ∀ (n : ℕ) (hn : n < 4) (h : 4 * b.val + n < cfg0.N),
    (outsAt0 m c (4 * b.val + n) h).2.1 = (fun i => K m c b (i 0) (i 1)) ∧ (outsAt0 m c (4 * b.val + n) h).2.2 = (fun i => U m c b (i 0) (i 1))
  | 0, _, h => by
    have e : seq ⟨4 * b.val + 0, h⟩ = b := Fin.ext (by show (4 * b.val + 0) / 4 = b.val; omega)
    rw [show outsAt0 m c (4 * b.val + 0) h = _ from outsAt0_A m c ⟨4 * b.val + 0, h⟩ (by dsimp only; omega)]
    dsimp only
    rw [sout_A_0, sout_A_1]
    refine ⟨funext fun i => ?_, funext fun i => ?_⟩
    · obtain ⟨k, j, rfl⟩ : ∃ (k : Fin 1280) (j : Fin 1024), i = ix2 k j := ⟨i 0, i 1, eq_ix2 i⟩
      rw [expand_keys_apply]
      simp only [blk5, blk7, e]
      rfl
    · obtain ⟨k, j, rfl⟩ : ∃ (k : Fin 1280) (j : Fin 1024), i = ix2 k j := ⟨i 0, i 1, eq_ix2 i⟩
      rw [expand_values_apply]
      simp only [blk5, blk8, e]
      rfl
  | n + 1, hn, h => by
    have ih := scratch c b n (by omega) (by omega)
    rw [show outsAt0 m c (4 * b.val + (n + 1)) h = _ from outsAt0_B m c ⟨4 * b.val + (n + 1), h⟩ (by dsimp only; omega)]
    exact ih

theorem headBlock_apply (x3 : Vec Ideal S256x1024 .bf16) (x4 : Vec Ideal S256x512 .bf16) (kn : Vec Ideal S1280x1024 .bf16)
    (x6 : Vec Ideal S1280x64 .f32) (v : Vec Ideal S1280x1024 .bf16) (r : Fin 256) (j : Fin 1024) :
    headBlock x3 x4 kn x6 v (ix2 r j) = heads (fun a => x3 (ix2 r a)) (fun a => x4 (ix2 r a)) (fun k a => kn (ix2 k a))
      (fun k a => x6 (ix2 k a)) (fun k a => v (ix2 k a)) j := rfl

/-- The body's last step on keys and values known by their entries. -/
theorem point (c : Dev nD) (t : Fin cfg0.N) (kn v : Vec Ideal S1280x1024 .bf16)
    (hk : ∀ k a, kn (ix2 k a) = K m c (seq t) k a) (hv : ∀ k a, v (ix2 k a) = U m c (seq t) k a) (r : Fin 256) (j : Fin 1024) :
    k0_pay28 (F := Ideal) (headBlock (iblk m c 3 t) (iblk m c 4 t) kn (iblk m c 6 t) v) (iblk m c 9 t) (iblk m c 1 t) (iblk m c 2 t) (iblk m c 0 t) (ix2 r j)
      = attnToken (fun k => m ((c : Thread nD τ).loc main_arg0) (ix2 (row t r) k)) (fun k => m ((c : Thread nD τ).loc main_arg1) (ix4 0 ⟨1 + t.val / 4, by have := lt8 t; omega⟩ 2 k))
          (fun k => m ((c : Thread nD τ).loc main_arg2) (ix3 3 1 k)) (fun a => m ((c : Thread nD τ).loc main_arg3) (ix2 (srow t r) a)) (fun a => m ((c : Thread nD τ).loc main_arg4) (ix2 (srow t r) a))
          (K m c (seq t)) (R m c (seq t)) (U m c (seq t)) (fun k n => m ((c : Thread nD τ).loc main_arg11) (ix3 0 k n)) j := by
  rw [mix_apply]
  simp only [headBlock_apply, hk, hv, blk0, blk1, blk2, blk3, blk4, blk6, blk9]
  rfl

/-- Every point leaves its rows through attention. -/
theorem tile (c : Dev nD) (t : Fin cfg0.N) (r : Fin 256) (j : Fin 1024) :
    (outsAt0 m c t.val t.isLt).1 (ix2 r j)
      = attnToken (fun k => m ((c : Thread nD τ).loc main_arg0) (ix2 (row t r) k)) (fun k => m ((c : Thread nD τ).loc main_arg1) (ix4 0 ⟨1 + t.val / 4, by have := lt8 t; omega⟩ 2 k))
          (fun k => m ((c : Thread nD τ).loc main_arg2) (ix3 3 1 k)) (fun a => m ((c : Thread nD τ).loc main_arg3) (ix2 (srow t r) a)) (fun a => m ((c : Thread nD τ).loc main_arg4) (ix2 (srow t r) a))
          (K m c (seq t)) (R m c (seq t)) (U m c (seq t)) (fun k n => m ((c : Thread nD τ).loc main_arg11) (ix3 0 k n)) j := by
  by_cases h0 : t.val % 4 = 0
  · rw [outsAt0_A m c t h0]
    dsimp only
    rw [out_A]
    refine point m c t _ _ (fun k a => ?_) (fun k a => ?_) r j
    · rw [expand_keys_apply]
      simp only [blk5, blk7]
    · rw [expand_values_apply]
      simp only [blk5, blk8]
  · have hp : t.val - 1 = 4 * (t.val / 4) + (t.val % 4 - 1) := by omega
    have hs := scratch m c (seq t) (t.val % 4 - 1) (by omega) (by have := t.isLt; show 4 * (t.val / 4) + _ < _; omega)
    rw [outsAt0_B m c t h0]
    dsimp only
    rw [out_B]
    have e : ∀ (n : ℕ) (h : n < cfg0.N) (h' : t.val - 1 < cfg0.N), t.val - 1 = n → outsAt0 m c (t.val - 1) h' = outsAt0 m c n h := by
      intro n h h' q
      subst q
      rfl
    rw [e _ (by have := t.isLt; omega) _ hp]
    refine point m c t _ _ (fun k a => ?_) (fun k a => ?_) r j
    · exact congrFun hs.1 (ix2 k a)
    · exact congrFun hs.2 (ix2 k a)

/-- The result array at a sample row: that row through attention. -/
theorem result (c : Dev nD) (b : Fin 2) (q j : Fin 1024) :
    G10 m c (ix2 ⟨4096 + (b.val * 1024 + q.val), by omega⟩ j)
      = attnToken (fun k => m ((c : Thread nD τ).loc main_arg0) (ix2 ⟨4096 + (b.val * 1024 + q.val), by omega⟩ k)) (fun k => m ((c : Thread nD τ).loc main_arg1) (ix4 0 ⟨1 + b.val, by omega⟩ 2 k))
          (fun k => m ((c : Thread nD τ).loc main_arg2) (ix3 3 1 k)) (fun a => m ((c : Thread nD τ).loc main_arg3) (ix2 ⟨b.val * 1024 + q.val, by omega⟩ a)) (fun a => m ((c : Thread nD τ).loc main_arg4) (ix2 ⟨b.val * 1024 + q.val, by omega⟩ a))
          (K m c b) (R m c b) (U m c b) (fun k n => m ((c : Thread nD τ).loc main_arg11) (ix3 0 k n)) j := by
  have hN : cfg0.N = 8 := N_0
  obtain ⟨t, ht⟩ : ∃ t : Fin cfg0.N, t.val = 4 * b.val + q.val / 256 := ⟨⟨4 * b.val + q.val / 256, by omega⟩, rfl⟩
  have hp : pt10Of (ix2 (⟨4096 + (b.val * 1024 + q.val), by omega⟩ : Fin 6144) j) = t.val := by
    show 1 * ((4096 + (b.val * 1024 + q.val)) / 256 - 16) + 1 * (j.val / 1024 - 0) = _
    omega
  have hl : loc10Of (ix2 (⟨4096 + (b.val * 1024 + q.val), by omega⟩ : Fin 6144) j) = ix2 ⟨q.val % 256, by omega⟩ j := by
    funext a
    apply Fin.ext
    match a with
    | ⟨0, _⟩ => show (4096 + (b.val * 1024 + q.val)) % 256 = q.val % 256; omega
    | ⟨1, _⟩ => show j.val % 1024 = j.val; omega
  unfold G10
  rw [dif_pos (by rw [hp]; exact t.isLt), hl, fold0_congr m c _ _ t.val (by have := t.isLt; omega) hp, ← outsAt0_sweep m c t.val t.isLt, tile m c t]
  have e0 : row t ⟨q.val % 256, by omega⟩ = ⟨4096 + (b.val * 1024 + q.val), by omega⟩ := Fin.ext (by dsimp only; omega)
  have e1 : srow t ⟨q.val % 256, by omega⟩ = ⟨b.val * 1024 + q.val, by omega⟩ := Fin.ext (by dsimp only; omega)
  have e2 : seq t = b := Fin.ext (by dsimp only; omega)
  have e3 : (⟨1 + t.val / 4, by omega⟩ : Fin 8) = ⟨1 + b.val, by omega⟩ := Fin.ext (by dsimp only; omega)
  rw [e0, e1, e2, e3]

end Cert.KernelIdeal.Block

end
-- ==== Proof.AttnFinite.lean ====
/- The precondition of the attention claim, read back: every entry of the arrays the scores are made of is a real number. -/
module

public import proofs.«01_k».proof.Pre_finite_scores
public import proofs.«01_k».proof.Proof.Attention
public import Idealize.ShloMosaic.Lib.ReduceAll
public import Idealize.ShloMosaic.Lib.Affine

@[expose] public section

noncomputable section

open Idealize.ShloMosaic Idealize.ShloMosaic.TcCoe Idealize.SL.Sem

namespace Cert.Pre_finite_scores

open Cert.Layer

/-- The shape relations the printed precondition names. -/
instance facts : Cert.Pre_finite_scores.Facts := ⟨by decide, by decide, by decide, by decide, by decide, by decide, by decide, by decide, by decide, by decide, by decide, by decide, by decide, by decide, by decide, by decide⟩

/-- There is one index of the empty shape. -/
instance : Subsingleton S_.Idx := ⟨fun _ _ => funext fun a => a.elim0⟩

/-- An array whose absolute values are all below +∞ holds real numbers only. -/
theorem real_of_all {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant S_ .f32 0x7F800000#32)))
      (constantI S_ 1 1#1) h hu j = 1#1) (i : s.Idx) : IsReal (x i) := by
  have q : Ideal.cmp .olt (max (x i) (-(x i))) (Ideal.ofBits .f32 0x7F800000#32) = 1#1 := Host.reduce_andi_all _ _ _ _ j e i
  refine IsReal.of_abs_lt ?_
  rw [high_eq_top] at q
  by_contra hn
  have : Ideal.cmp .olt (max (x i) (-(x i))) ⊤ = 0#1 := by
    show BitVec.ofBool (decide (max (x i) (-(x i)) < ⊤)) = 0#1
    rw [decide_eq_false hn]
    rfl
  rw [this] at q
  exact absurd q (by decide)

/-- The seven arrays the precondition names hold real numbers only. -/
theorem real_of_fn (x0 : Vec Ideal S6144x1024 .f32) (x1 : Vec Ideal S1x8x6x1024 .f32) (x2 : Vec Ideal S4x4x1024 .f32)
    (x3 : Vec Ideal S2048x1024 .bf16) (x4 : Vec Ideal S2048x512 .bf16) (x5 : Vec Ideal S2x1x256x256 .f32) (x6 : Vec Ideal S2048x256 .f32)
    (x7 : Vec Ideal S2x1x256x64 .f32) (x8 : Vec Ideal S2048x64 .f32) (x9 x10 : Vec Ideal S1x256x1024 .f32) (x11 : Vec Ideal S1x1024x1024 .f32)
    (e : fn (F := Ideal) x0 x1 x2 x3 x4 x5 x6 x7 x8 x9 x10 x11 = fun _ => 1#1) :
    (∀ i, IsReal (x3 i)) ∧ (∀ i, IsReal (x4 i)) ∧ (∀ i, IsReal (x5 i)) ∧ (∀ i, IsReal (x6 i)) ∧ (∀ i, IsReal (x7 i)) ∧ (∀ i, IsReal (x8 i))
      ∧ (∀ i, IsReal (x9 i)) := by
  have e0 := congrFun e (fun a => a.elim0)
  unfold fn fn_part1 fn_part2 at e0
  dsimp only at e0
  obtain ⟨e0, h9⟩ := IntOp.andi_eq_one.1 e0
  obtain ⟨e0, h8⟩ := IntOp.andi_eq_one.1 e0
  obtain ⟨e0, h7⟩ := IntOp.andi_eq_one.1 e0
  obtain ⟨e0, h6⟩ := IntOp.andi_eq_one.1 e0
  obtain ⟨e0, h5⟩ := IntOp.andi_eq_one.1 e0
  obtain ⟨h3, h4⟩ := IntOp.andi_eq_one.1 e0
  exact ⟨real_of_all _ _ _ _ _ h3, real_of_all _ _ _ _ _ h4, real_of_all _ _ _ _ _ h5, real_of_all _ _ _ _ _ h6, real_of_all _ _ _ _ _ h7,
    real_of_all _ _ _ _ _ h8, real_of_all _ _ _ _ _ h9⟩

end Cert.Pre_finite_scores

end
-- ==== Proof.AttnEquation.lean ====
/- The attention claim's equation: where the scores are made of real numbers, the kernel's result array is the
   reference's result on the same arguments. -/
module

public import proofs.«01_k».proof.Proof.AttnValue
public import proofs.«01_k».proof.Proof.AttnFinite

@[expose] public section

noncomputable section

open Idealize.ShloMosaic Idealize.ShloMosaic.TcCoe Idealize.SL.Sem

namespace Cert.ReferenceIdeal.Block

open Cert.ReferenceIdeal Cert.ReferenceIdeal.Gen Cert.ReferenceIdeal.Read Cert.Layer

/-- One head's output in the reference, column by column, is the kernel's order of the same attention: real scores let the
    division by the sum of the exponentials come last. -/
theorem head_apply (x3 : Vec Ideal S2048x1024 .bf16) (x4 : Vec Ideal S2048x512 .bf16) (x5 : Vec Ideal S2x1x256x256 .f32)
    (x6 : Vec Ideal S2048x256 .f32) (x7 : Vec Ideal S2x1x256x64 .f32) (x8 : Vec Ideal S2048x64 .f32) (x9 x10 : Vec Ideal S1x256x1024 .f32)
    (h3 : ∀ i, IsReal (x3 i)) (h4 : ∀ i, IsReal (x4 i)) (h5 : ∀ i, IsReal (x5 i)) (h6 : ∀ i, IsReal (x6 i)) (h7 : ∀ i, IsReal (x7 i))
    (h8 : ∀ i, IsReal (x8 i)) (h9 : ∀ i, IsReal (x9 i)) (b : Fin 2) (q j : Fin 1024) :
    val_main_v38 (F := Ideal) x3 x4 x5 x6 x7 x8 x9 x10 (ix4 b ⟨j.val / 128, by omega⟩ ⟨j.val % 128, by omega⟩ q)
      = heads (fun a => x3 (ix2 ⟨b.val * 1024 + q.val, by omega⟩ a)) (fun a => x4 (ix2 ⟨b.val * 1024 + q.val, by omega⟩ a))
          (expand x5 x6 x9 b) (kr x7 x8 b) (expand x5 x6 x10 b) j := by
  have hkr : ∀ k a, IsReal (kr x7 x8 b k a) := fun k a => past_isReal (n := 256) (m := 1024) (fun _ => h7 _) (fun _ => h8 _) k
  have hkn : ∀ k a, IsReal (expand x5 x6 x9 b k a) := fun k a =>
    IsReal.sum _ _ fun i => (past_isReal (n := 256) (m := 1024) (fun _ => h5 _) (fun _ => h6 _) k).mul (h9 _)
  have hs : ∀ k, IsReal (headScore (fun a => x3 (ix2 (⟨b.val * 1024 + q.val, by omega⟩ : Fin 2048) a))
      (fun a => x4 (ix2 (⟨b.val * 1024 + q.val, by omega⟩ : Fin 2048) a)) (expand x5 x6 x9 b) (kr x7 x8 b) j k) := fun k =>
    score_isReal (fun _ => h3 _) (fun _ => hkn _ _) (fun _ => h4 _) (fun _ => hkr _ _)
  unfold heads
  rw [attend_eq_softmax (n := 1279) _ _ hs, context_apply]
  have hj : (⟨j.val / 128 * 128 + j.val % 128, by omega⟩ : Fin 1024) = j := Fin.ext (by dsimp only; omega)
  have e : ∀ k, val_main_v26 (F := Ideal) x3 x4 x5 x6 x7 x8 x9 (ix4 b ⟨j.val / 128, by omega⟩ q k)
      = headScore (fun a => x3 (ix2 (⟨b.val * 1024 + q.val, by omega⟩ : Fin 2048) a))
      (fun a => x4 (ix2 (⟨b.val * 1024 + q.val, by omega⟩ : Fin 2048) a)) (expand x5 x6 x9 b) (kr x7 x8 b) j k := fun k =>
    score_apply _ _ _ _ _ _ _ b ⟨j.val / 128, by omega⟩ q k
  unfold attendSoftmax
  refine Finset.sum_congr rfl fun k _ => ?_
  rw [value_apply, weight_apply]
  refine congrArg₂ (· * ·) (congrArg (expand x5 x6 x10 b k) hj) ?_
  have e2 : ∀ k, val_main_v33 (F := Ideal) x3 x4 x5 x6 x7 x8 x9 (ix4 b ⟨j.val / 128, by omega⟩ q k)
      = Ideal.exp (headScore (fun a => x3 (ix2 (⟨b.val * 1024 + q.val, by omega⟩ : Fin 2048) a))
          (fun a => x4 (ix2 (⟨b.val * 1024 + q.val, by omega⟩ : Fin 2048) a)) (expand x5 x6 x9 b) (kr x7 x8 b) j k
        - max (Ideal.ofBits .f32 0xFF800000#32) (peak (headScore (fun a => x3 (ix2 (⟨b.val * 1024 + q.val, by omega⟩ : Fin 2048) a))
          (fun a => x4 (ix2 (⟨b.val * 1024 + q.val, by omega⟩ : Fin 2048) a)) (expand x5 x6 x9 b) (kr x7 x8 b) j))) := fun k => by
    rw [exp_apply, peak_apply, e, funext e]
  rw [e2, Finset.sum_congr rfl fun l _ => e2 l]

/-- A sample row of the reference's result. -/
theorem sample_apply (x0 : Vec Ideal S6144x1024 .f32) (x1 : Vec Ideal S1x8x6x1024 .f32) (x2 : Vec Ideal S4x4x1024 .f32)
    (x3 : Vec Ideal S2048x1024 .bf16) (x4 : Vec Ideal S2048x512 .bf16) (x5 : Vec Ideal S2x1x256x256 .f32)
    (x6 : Vec Ideal S2048x256 .f32) (x7 : Vec Ideal S2x1x256x64 .f32) (x8 : Vec Ideal S2048x64 .f32) (x9 x10 : Vec Ideal S1x256x1024 .f32)
    (x11 : Vec Ideal S1x1024x1024 .f32)
    (h3 : ∀ i, IsReal (x3 i)) (h4 : ∀ i, IsReal (x4 i)) (h5 : ∀ i, IsReal (x5 i)) (h6 : ∀ i, IsReal (x6 i)) (h7 : ∀ i, IsReal (x7 i))
    (h8 : ∀ i, IsReal (x8 i)) (h9 : ∀ i, IsReal (x9 i)) (b : Fin 2) (q j : Fin 1024) :
    val_main_v60 (F := Ideal) x0 x1 x2 x3 x4 x5 x6 x7 x8 x9 x10 x11 (ix3 b q j)
      = attnToken (fun k => x0 (ix2 ⟨4096 + (b.val * 1024 + q.val), by omega⟩ k)) (fun k => x1 (ix4 0 ⟨1 + b.val, by omega⟩ 2 k))
          (fun k => x2 (ix3 3 1 k)) (fun a => x3 (ix2 ⟨b.val * 1024 + q.val, by omega⟩ a)) (fun a => x4 (ix2 ⟨b.val * 1024 + q.val, by omega⟩ a))
          (expand x5 x6 x9 b) (kr x7 x8 b) (expand x5 x6 x10 b) (fun k n => x11 (ix3 0 k n)) j := by
  rw [token_apply]
  unfold attnToken
  refine congrArg (fun f => x0 (ix2 ⟨4096 + (b.val * 1024 + q.val), by omega⟩ j) + x1 (ix4 0 ⟨1 + b.val, by omega⟩ 2 j)
    * rms f (fun n => x2 (ix3 3 1 n)) j) (funext fun n => ?_)
  rw [out_apply]
  exact Finset.sum_congr rfl fun k _ => congrArg (· * x11 (ix3 0 k n)) (head_apply x3 x4 x5 x6 x7 x8 x9 x10 h3 h4 h5 h6 h7 h8 h9 b q k)

end Cert.ReferenceIdeal.Block

namespace Cert.KernelIdeal.Block

open Cert.KernelIdeal Cert.KernelIdeal.Gen Cert.KernelIdeal.Value Cert.Layer

/-- The kernel's result array (the argument's rows with the sample's replaced) is the reference's result on the same arguments. -/
theorem result_eq_reference (m : (ℓ : Loc nD τ sig) → Buf (Elt Ideal) ℓ) (c : Dev nD)
    (h : Cert.Pre_finite_scores.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) = fun _ => 1#1) :
    (fun i => if 4096 ≤ (i 0).val ∧ (i 0).val < 6144 ∧ 0 ≤ (i 1).val ∧ (i 1).val < 1024 then G10 m c i else V m c (Pipeline.arrRef spec0 10) i)
      = Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  obtain ⟨h3, h4, h5, h6, h7, h8, h9⟩ := Cert.Pre_finite_scores.real_of_fn _ _ _ _ _ _ _ _ _ _ _ _ h
  funext i
  obtain ⟨r, j, rfl⟩ : ∃ (r : Fin 6144) (j : Fin 1024), i = ix2 r j := ⟨i 0, i 1, eq_ix2 i⟩
  refine Eq.trans ?_ (Cert.ReferenceIdeal.Block.row_apply _ _ _ _ _ _ _ _ _ _ _ _ r j).symm
  by_cases hr : r.val < 4096
  · rw [dif_pos hr]
    refine (if_neg fun q => ?_).trans ?_
    · exact absurd q.1 (by show ¬ 4096 ≤ r.val; omega)
    · exact congrFun (V_main_v8 m c) (ix2 r j)
  · rw [dif_neg hr]
    refine (if_pos ⟨by show 4096 ≤ r.val; omega, r.isLt, Nat.zero_le _, j.isLt⟩).trans ?_
    refine Eq.trans ?_ (Cert.ReferenceIdeal.Block.sample_apply _ _ _ _ _ _ _ _ _ _ _ _ h3 h4 h5 h6 h7 h8 h9 ⟨(r.val - 4096) / 1024, by omega⟩
      ⟨(r.val - 4096) % 1024, by omega⟩ j).symm
    refine Eq.trans ?_ (result m c ⟨(r.val - 4096) / 1024, by omega⟩ ⟨(r.val - 4096) % 1024, by omega⟩ j)
    exact congrArg (fun r => G10 m c (ix2 r j)) (Fin.ext (by dsimp only; omega))

end Cert.KernelIdeal.Block

end
-- ==== Proof.MlpBlock.lean ====
/- The channel-mixer kernel on the sample tokens, one grid point at a time: what the body leaves in the two scratch
   buffers and in the output block, read at an index. -/
module

public import proofs.«01_k».proof.Proof.Gen.MlpIdeal.Value
public import proofs.«01_k».proof.Proof.Layer
public import Idealize.ShloMosaic.Lib.Tactic

@[expose] public section

noncomputable section

open Idealize.ShloMosaic Idealize.ShloMosaic.TcCoe Idealize.SL.Sem

namespace Cert.MlpIdeal.Block

open Cert.MlpIdeal Cert.MlpIdeal.Gen Cert.Layer

theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl

section Cases

variable (c : Dev nD) (i : grid0.Coords) (arg2 : Memref sig .tc .vmem S1024x1024 .f32) (harg2 : arg2.IsWhole) (arg3 : Memref sig .tc .vmem S1x1x6x1024 .f32) (harg3 : arg3.IsWhole) (arg4 : Memref sig .tc .vmem S1x4x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .f32) (harg9 : arg9.IsWhole)
  (x0 : Vec Ideal S1024x1024 .f32) (x1 : Vec Ideal S1x1x6x1024 .f32) (x2 : Vec Ideal S1x4x1024 .f32) (x3 x4 : Vec Ideal S1x1024x1024 .f32)
  (xs0 : Vec Ideal S1024x1024 .bf16) (xs1 : Vec Ideal S1024x1024 .f32)

/-- The first point of a row tile leaves the modulated rows in the first scratch buffer. -/
theorem sout_A_0 (hc0) (hc1) (hc2) :
    sout0_A_0 (F := Ideal) c i arg2 harg2 arg3 harg3 arg4 harg4 arg5 harg5 arg6 harg6 arg7 harg7 arg8 harg8 arg9 harg9 hc0 hc1 hc2 x0 x1 x2 x3 x4
      = k0_pay6 (k0_pay1 x1) (k0_pay2 x2) x0 := by
  unfold sout0_A_0
  rw [View.read_writes_eq_canon _ _ _ (scover0_A_0 c i arg2 harg2 arg3 harg3 arg4 harg4 arg5 harg5 arg6 harg6 arg7 harg7 arg8 harg8 arg9 harg9 hc0 hc1 hc2 x0 x1 x2 x3 x4)]
  unfold kernelRun0_A
  dsimp only
  sl_unfold_words
  rw [View.canon_unit_zero z2]
  simp only [View.readAt_eq_ld, harg2.read_unread, harg3.read_unread, harg4.read_unread, View.ld_unit_zero (S := S1024x1024) z2, View.ld_unit_zero (S := S1x1x6x1024) z4, View.ld_unit_zero (S := S1x4x1024) z3]

/-- … and the first quarter of the hidden units' contribution in the second. -/
theorem sout_A_1 (hc0) (hc1) (hc2) :
    sout0_A_1 (F := Ideal) c i arg2 harg2 arg3 harg3 arg4 harg4 arg5 harg5 arg6 harg6 arg7 harg7 arg8 harg8 arg9 harg9 hc0 hc1 hc2 x0 x1 x2 x3 x4
      = k0_pay3 (k0_pay7 (k0_pay6 (k0_pay1 x1) (k0_pay2 x2) x0) x3 x4) := by
  unfold sout0_A_1
  rw [View.read_writes_eq_canon _ _ _ (scover0_A_1 c i arg2 harg2 arg3 harg3 arg4 harg4 arg5 harg5 arg6 harg6 arg7 harg7 arg8 harg8 arg9 harg9 hc0 hc1 hc2 x0 x1 x2 x3 x4)]
  unfold kernelRun0_A
  dsimp only
  sl_unfold_words
  rw [View.canon_unit_zero z2]
  simp only [View.readAt_eq_ld, harg2.read_unread, harg3.read_unread, harg4.read_unread, harg5.read_unread, harg6.read_unread, View.readCov_unit_zero (S := S1024x1024) _ z2, View.ld_unit_zero (S := S1024x1024) z2, View.ld_unit_zero (S := S1x1x6x1024) z4, View.ld_unit_zero (S := S1x4x1024) z3, View.ld_unit_zero (S := S1x1024x1024) z3]

/-- The two middle points add their quarter. -/
theorem sout_B_1 (hc0) (hc1) (hc2) :
    sout0_B_1 (F := Ideal) c i arg2 harg2 arg3 harg3 arg4 harg4 arg5 harg5 arg6 harg6 arg7 harg7 arg8 harg8 arg9 harg9 hc0 hc1 hc2 x0 x1 x2 x3 x4 xs0 xs1
      = k0_pay4 xs1 xs0 x3 x4 := by
  unfold sout0_B_1
  rw [View.read_writes_eq_canon _ _ _ (scover0_B_1 c i arg2 harg2 arg3 harg3 arg4 harg4 arg5 harg5 arg6 harg6 arg7 harg7 arg8 harg8 arg9 harg9 hc0 hc1 hc2 x0 x1 x2 x3 x4 xs0 xs1)]
  unfold kernelRun0_B
  dsimp only
  sl_unfold_words
  rw [View.canon_unit_zero z2]
  simp only [View.readAt_eq_ld, harg5.read_unread, harg6.read_unread, harg8.read_unread, harg9.read_unread, View.ld_unit_zero (S := S1024x1024) z2, View.ld_unit_zero (S := S1x1024x1024) z3]

/-- The last point adds the last quarter, normalises, gates and adds the residual row. -/
theorem out_C (hc0) (hc1) (hc2) :
    out0_C_5 (F := Ideal) c i arg2 harg2 arg3 harg3 arg4 harg4 arg5 harg5 arg6 harg6 arg7 harg7 arg8 harg8 arg9 harg9 hc0 hc1 hc2 x0 x1 x2 x3 x4 xs0 xs1
      = k0_pay5 x1 x2 xs1 xs0 x3 x4 x0 := by
  unfold out0_C_5
  rw [View.read_writes_eq_canon _ _ _ (cover0_C_5 c i arg2 harg2 arg3 harg3 arg4 harg4 arg5 harg5 arg6 harg6 arg7 harg7 arg8 harg8 arg9 harg9 hc0 hc1 hc2 x0 x1 x2 x3 x4 xs0 xs1)]
  unfold kernelRun0_C
  dsimp only
  sl_unfold_words
  rw [View.canon_unit_zero z2]
  simp only [View.readAt_eq_ld, harg2.read_unread, harg3.read_unread, harg4.read_unread, harg5.read_unread, harg6.read_unread, harg8.read_unread, harg9.read_unread, View.ld_unit_zero (S := S1024x1024) z2, View.ld_unit_zero (S := S1x1x6x1024) z4, View.ld_unit_zero (S := S1x4x1024) z3, View.ld_unit_zero (S := S1x1024x1024) z3]

end Cases

/-! ## The stored values read at an index -/

theorem pay6_apply (x1 : Vec Ideal S1x1x6x1024 .f32) (x2 : Vec Ideal S1x4x1024 .f32) (x : Vec Ideal S1024x1024 .f32) (r j : Fin 1024) :
    k0_pay6 (F := Ideal) (k0_pay1 x1) (k0_pay2 x2) x (ix2 r j)
      = modulated (fun k => x (ix2 r k)) (fun k => x2 (ix3 0 2 k)) (fun k => x1 (ix4 0 0 4 k)) (fun k => x1 (ix4 0 0 3 k)) j := by
  pointwise [k0_pay6, k0_pay1, k0_pay2, modulated, rms]

theorem pay7_apply (h : Vec Ideal S1024x1024 .bf16) (w1 w2 : Vec Ideal S1x1024x1024 .f32) (r j : Fin 1024) :
    k0_pay3 (F := Ideal) (k0_pay7 h w1 w2) (ix2 r j)
      = ∑ f : Fin 1024, relu2 (∑ k : Fin 1024, h (ix2 r k) * w1 (ix3 0 k f)) * w2 (ix3 0 f j) := by
  pointwise [k0_pay3, k0_pay7, relu2]

theorem pay4_apply (a : Vec Ideal S1024x1024 .f32) (h : Vec Ideal S1024x1024 .bf16) (w1 w2 : Vec Ideal S1x1024x1024 .f32) (r j : Fin 1024) :
    k0_pay4 (F := Ideal) a h w1 w2 (ix2 r j)
      = a (ix2 r j) + ∑ f : Fin 1024, relu2 (∑ k : Fin 1024, h (ix2 r k) * w1 (ix3 0 k f)) * w2 (ix3 0 f j) := by
  pointwise [k0_pay4, relu2]

theorem pay5_apply (x1 : Vec Ideal S1x1x6x1024 .f32) (x2 : Vec Ideal S1x4x1024 .f32) (a : Vec Ideal S1024x1024 .f32)
    (h : Vec Ideal S1024x1024 .bf16) (w1 w2 : Vec Ideal S1x1024x1024 .f32) (x : Vec Ideal S1024x1024 .f32) (r j : Fin 1024) :
    k0_pay5 (F := Ideal) x1 x2 a h w1 w2 x (ix2 r j)
      = x (ix2 r j) + x1 (ix4 0 0 5 j) * rms (fun n => a (ix2 r n)
          + ∑ f : Fin 1024, relu2 (∑ k : Fin 1024, h (ix2 r k) * w1 (ix3 0 k f)) * w2 (ix3 0 f n)) (fun n => x2 (ix3 0 3 n)) j := by
  pointwise [k0_pay5, k0_pay1, k0_pay2, relu2, rms]

end Cert.MlpIdeal.Block

end
-- ==== Proof.MlpValue.lean ====
/- The channel-mixer kernel on the sample tokens: what its result array holds after the run. A grid point `4 q + n` reads
   row tile `q` of the sample and quarter `n` of the hidden units; the four points of a tile together leave every row's
   `Layer.mlpToken`. -/
module

public import proofs.«01_k».proof.Proof.MlpBlock

@[expose] public section

noncomputable section

open Idealize.ShloMosaic Idealize.ShloMosaic.TcCoe Idealize.SL.Sem

namespace Cert.MlpIdeal.Block

open Cert.MlpIdeal Cert.MlpIdeal.Gen Cert.MlpIdeal.Value Cert.Layer

variable (m : (ℓ : Loc nD τ sig) → Buf (Elt Ideal) ℓ)

theorem lt8 (t : Fin cfg0.N) : t.val < 8 := lt_of_lt_of_eq t.isLt (show cfg0.N = 8 from N_0)

/-! ## The input windows' blocks -/

theorem index0 : ∀ t : Fin cfg0.N, win0_0.index t 0 = 4 + t.val / 4 ∧ win0_0.index t 1 = 0 := (by decide +kernel : ∀ t : Fin grid0.N, _)
theorem index1 : ∀ t : Fin cfg0.N, win0_1.index t 0 = 0 ∧ win0_1.index t 1 = 1 + t.val / 4 ∧ win0_1.index t 2 = 0 ∧ win0_1.index t 3 = 0 := (by decide +kernel : ∀ t : Fin grid0.N, _)
theorem index2 : ∀ t : Fin cfg0.N, win0_2.index t 0 = 3 ∧ win0_2.index t 1 = 0 ∧ win0_2.index t 2 = 0 := (by decide +kernel : ∀ t : Fin grid0.N, _)
theorem index3 : ∀ t : Fin cfg0.N, win0_3.index t 0 = 3 ∧ win0_3.index t 1 = 0 ∧ win0_3.index t 2 = t.val % 4 := (by decide +kernel : ∀ t : Fin grid0.N, _)
theorem index4 : ∀ t : Fin cfg0.N, win0_4.index t 0 = 3 ∧ win0_4.index t 1 = t.val % 4 ∧ win0_4.index t 2 = 0 := (by decide +kernel : ∀ t : Fin grid0.N, _)

/-- The array row that row `r` of tile `q` is. -/
abbrev row (q : ℕ) (hq : q < 2) (r : Fin 1024) : Fin 6144 := ⟨4096 + (q * 1024 + r.val), by omega⟩

theorem blk0 (c : Dev nD) (t : Fin cfg0.N) (r j : Fin 1024) :
    (iblk m c 0 t : Vec Ideal S1024x1024 .f32) (ix2 r j)
      = m ((c : Thread nD τ).loc main_arg0) (ix2 (row (t.val / 4) (by have := lt8 t; omega) r) j) := by
  obtain ⟨h0, h1⟩ := index0 t
  unfold iblk
  rw [View.read_apply]
  show V m c main_arg0 _ = _
  rw [V_main_arg0]
  congr 1
  funext a
  apply Fin.ext
  match a with
  | ⟨0, _⟩ => show win0_0.index t 0 * 1024 + 1 * r.val = 4096 + (t.val / 4 * 1024 + r.val); rw [h0]; omega
  | ⟨1, _⟩ => show win0_0.index t 1 * 1024 + 1 * j.val = j.val; rw [h1]; omega

theorem blk1 (c : Dev nD) (t : Fin cfg0.N) (p : Fin 6) (j : Fin 1024) :
    (iblk m c 1 t : Vec Ideal S1x1x6x1024 .f32) (ix4 0 0 p j)
      = m ((c : Thread nD τ).loc main_arg1) (ix4 0 ⟨1 + t.val / 4, by have := lt8 t; omega⟩ p j) := by
  obtain ⟨h0, h1, h2, h3⟩ := index1 t
  unfold iblk
  rw [View.read_apply]
  show V m c main_arg1 _ = _
  rw [V_main_arg1]
  congr 1
  funext a
  apply Fin.ext
  match a with
  | ⟨0, _⟩ => show win0_1.index t 0 * 1 + 1 * 0 = 0; rw [h0]
  | ⟨1, _⟩ => show win0_1.index t 1 * 1 + 1 * 0 = 1 + t.val / 4; rw [h1]; omega
  | ⟨2, _⟩ => show win0_1.index t 2 * 6 + 1 * p.val = p.val; rw [h2]; omega
  | ⟨3, _⟩ => show win0_1.index t 3 * 1024 + 1 * j.val = j.val; rw [h3]; omega

theorem blk2 (c : Dev nD) (t : Fin cfg0.N) (p : Fin 4) (j : Fin 1024) :
    (iblk m c 2 t : Vec Ideal S1x4x1024 .f32) (ix3 0 p j) = m ((c : Thread nD τ).loc main_arg2) (ix3 3 p j) := by
  obtain ⟨h0, h1, h2⟩ := index2 t
  unfold iblk
  rw [View.read_apply]
  show V m c main_arg2 _ = _
  rw [V_main_arg2]
  congr 1
  funext a
  apply Fin.ext
  match a with
  | ⟨0, _⟩ => show win0_2.index t 0 * 1 + 1 * 0 = 3; rw [h0]
  | ⟨1, _⟩ => show win0_2.index t 1 * 4 + 1 * p.val = p.val; rw [h1]; omega
  | ⟨2, _⟩ => show win0_2.index t 2 * 1024 + 1 * j.val = j.val; rw [h2]; omega

theorem blk3 (c : Dev nD) (t : Fin cfg0.N) (k f : Fin 1024) :
    (iblk m c 3 t : Vec Ideal S1x1024x1024 .f32) (ix3 0 k f)
      = m ((c : Thread nD τ).loc main_arg3) (ix3 3 k ⟨t.val % 4 * 1024 + f.val, by omega⟩) := by
  obtain ⟨h0, h1, h2⟩ := index3 t
  unfold iblk
  rw [View.read_apply]
  show V m c main_arg3 _ = _
  rw [V_main_arg3]
  congr 1
  funext a
  apply Fin.ext
  match a with
  | ⟨0, _⟩ => show win0_3.index t 0 * 1 + 1 * 0 = 3; rw [h0]
  | ⟨1, _⟩ => show win0_3.index t 1 * 1024 + 1 * k.val = k.val; rw [h1]; omega
  | ⟨2, _⟩ => show win0_3.index t 2 * 1024 + 1 * f.val = t.val % 4 * 1024 + f.val; rw [h2]; omega

theorem blk4 (c : Dev nD) (t : Fin cfg0.N) (f j : Fin 1024) :
    (iblk m c 4 t : Vec Ideal S1x1024x1024 .f32) (ix3 0 f j)
      = m ((c : Thread nD τ).loc main_arg4) (ix3 3 ⟨t.val % 4 * 1024 + f.val, by omega⟩ j) := by
  obtain ⟨h0, h1, h2⟩ := index4 t
  unfold iblk
  rw [View.read_apply]
  show V m c main_arg4 _ = _
  rw [V_main_arg4]
  congr 1
  funext a
  apply Fin.ext
  match a with
  | ⟨0, _⟩ => show win0_4.index t 0 * 1 + 1 * 0 = 3; rw [h0]
  | ⟨1, _⟩ => show win0_4.index t 1 * 1024 + 1 * f.val = t.val % 4 * 1024 + f.val; rw [h1]; omega
  | ⟨2, _⟩ => show win0_4.index t 2 * 1024 + 1 * j.val = j.val; rw [h2]; omega

/-! ## The arguments as functions of row and column -/

abbrev X (c : Dev nD) (q : ℕ) (hq : q < 2) (r k : Fin 1024) : EReal := m ((c : Thread nD τ).loc main_arg0) (ix2 (row q hq r) k)
abbrev M (c : Dev nD) (q : ℕ) (hq : q < 2) (p : Fin 6) (k : Fin 1024) : EReal := m ((c : Thread nD τ).loc main_arg1) (ix4 0 ⟨1 + q, by omega⟩ p k)
abbrev Gn (c : Dev nD) (p : Fin 4) (k : Fin 1024) : EReal := m ((c : Thread nD τ).loc main_arg2) (ix3 3 p k)
abbrev W1 (c : Dev nD) (k : Fin 1024) (f : Fin 4096) : EReal := m ((c : Thread nD τ).loc main_arg3) (ix3 3 k f)
abbrev W2 (c : Dev nD) (f : Fin 4096) (j : Fin 1024) : EReal := m ((c : Thread nD τ).loc main_arg4) (ix3 3 f j)

/-- The modulated row `r` of tile `q`. -/
abbrev H (c : Dev nD) (q : ℕ) (hq : q < 2) (r : Fin 1024) : Fin 1024 → EReal :=
  modulated (X m c q hq r) (Gn m c 2) (M m c q hq 4) (M m c q hq 3)

/-! ## The four points of a row tile -/

/-- The first point of tile `q` leaves the modulated rows in the first scratch buffer, -/
theorem h0_A (c : Dev nD) (t : Fin cfg0.N) (q : ℕ) (hq : q < 2) (ht : t.val = 4 * q) (r j : Fin 1024) :
    (outsAt0 m c t.val t.isLt).2.1 (ix2 r j) = H m c q hq r j := by
  obtain rfl : q = t.val / 4 := by omega
  rw [outsAt0_A m c t (by omega) (by omega) (by omega)]
  dsimp only
  rw [sout_A_0, pay6_apply]
  simp only [blk0, blk1, blk2]

/-- and the first part of the perceptron's sum in the second. -/
theorem h1_A (c : Dev nD) (t : Fin cfg0.N) (q : ℕ) (hq : q < 2) (ht : t.val = 4 * q) (r j : Fin 1024) :
    (outsAt0 m c t.val t.isLt).2.2 (ix2 r j) = ffnPart (H m c q hq r) (W1 m c) (W2 m c) 0 j := by
  obtain rfl : q = t.val / 4 := by omega
  rw [outsAt0_A m c t (by omega) (by omega) (by omega)]
  dsimp only
  rw [sout_A_1, pay7_apply]
  simp only [pay6_apply, blk0, blk1, blk2, blk3, blk4, show t.val % 4 = 0 by omega]
  rfl

/-- The two middle points keep the modulated rows -/
theorem h0_B (c : Dev nD) (t : Fin cfg0.N) (h1 : 1 ≤ t.val % 4 ∧ t.val % 4 ≤ 2) :
    (outsAt0 m c t.val t.isLt).2.1 = (outsAt0 m c (t.val - 1) (by have := t.isLt; omega)).2.1 := by
  rw [outsAt0_B m c t (by omega) h1 (by omega)]
  rfl

/-- and add their part of the sum. -/
theorem h1_B (c : Dev nD) (t : Fin cfg0.N) (n : Fin 4) (hn : t.val % 4 = n.val) (h1 : 1 ≤ t.val % 4 ∧ t.val % 4 ≤ 2)
    (hrow : Fin 1024 → EReal) (r j : Fin 1024)
    (hh : ∀ k, (outsAt0 m c (t.val - 1) (by have := t.isLt; omega)).2.1 (ix2 r k) = hrow k) :
    (outsAt0 m c t.val t.isLt).2.2 (ix2 r j)
      = (outsAt0 m c (t.val - 1) (by have := t.isLt; omega)).2.2 (ix2 r j) + ffnPart hrow (W1 m c) (W2 m c) n j := by
  rw [outsAt0_B m c t (by omega) h1 (by omega)]
  dsimp only
  rw [sout_B_1, pay4_apply]
  simp only [hh, blk3, blk4, hn]
  rfl

/-- The last point adds its part, normalises the sum, gates it and adds the row. -/
theorem h_C (c : Dev nD) (t : Fin cfg0.N) (q : ℕ) (hq : q < 2) (ht : t.val = 4 * q + 3) (hrow acc : Fin 1024 → EReal) (r j : Fin 1024)
    (hh : ∀ k, (outsAt0 m c (t.val - 1) (by have := t.isLt; omega)).2.1 (ix2 r k) = hrow k)
    (ha : ∀ k, (outsAt0 m c (t.val - 1) (by have := t.isLt; omega)).2.2 (ix2 r k) = acc k) :
    (outsAt0 m c t.val t.isLt).1 (ix2 r j)
      = X m c q hq r j + M m c q hq 5 j
          * rms (fun n => acc n + ffnPart hrow (W1 m c) (W2 m c) 3 n) (Gn m c 3) j := by
  obtain rfl : q = t.val / 4 := by omega
  rw [outsAt0_C m c t (by omega) (by omega) (by omega)]
  dsimp only
  rw [out_C, pay5_apply]
  simp only [hh, ha, blk0, blk1, blk2, blk3, blk4, show t.val % 4 = 3 by omega]
  rfl

/-- The last point of row tile `q` leaves every row of the tile through the whole channel mixer. -/
theorem tile (c : Dev nD) (q : ℕ) (hq : q < 2) (r j : Fin 1024) :
    (outsAt0 m c (4 * q + 3) (by rw [show cfg0.N = 8 from N_0]; omega)).1 (ix2 r j)
      = mlpToken (X m c q hq r) (Gn m c 2) (M m c q hq 4) (M m c q hq 3) (M m c q hq 5) (Gn m c 3) (W1 m c) (W2 m c) j := by
  have hN : cfg0.N = 8 := N_0
  have b : ∀ n, n < 4 → 4 * q + n < cfg0.N := fun n hn => by omega
  have e0 : ∀ k, (outsAt0 m c (4 * q + 0) (b 0 (by omega))).2.1 (ix2 r k) = H m c q hq r k := fun k =>
    h0_A m c ⟨4 * q + 0, b 0 (by omega)⟩ q hq rfl r k
  have a0 : ∀ k, (outsAt0 m c (4 * q + 0) (b 0 (by omega))).2.2 (ix2 r k) = ffnPart (H m c q hq r) (W1 m c) (W2 m c) 0 k := fun k =>
    h1_A m c ⟨4 * q + 0, b 0 (by omega)⟩ q hq rfl r k
  have e1 : ∀ k, (outsAt0 m c (4 * q + 1) (b 1 (by omega))).2.1 (ix2 r k) = H m c q hq r k := fun k =>
    (congrFun (h0_B m c ⟨4 * q + 1, b 1 (by omega)⟩ (by dsimp only; omega)) _).trans (e0 k)
  have a1 : ∀ k, (outsAt0 m c (4 * q + 1) (b 1 (by omega))).2.2 (ix2 r k)
      = ffnPart (H m c q hq r) (W1 m c) (W2 m c) 0 k + ffnPart (H m c q hq r) (W1 m c) (W2 m c) 1 k := fun k => by
    rw [← a0 k]
    exact h1_B m c ⟨4 * q + 1, b 1 (by omega)⟩ 1 (by dsimp only; omega) (by dsimp only; omega) (H m c q hq r) r k e0
  have e2 : ∀ k, (outsAt0 m c (4 * q + 2) (b 2 (by omega))).2.1 (ix2 r k) = H m c q hq r k := fun k =>
    (congrFun (h0_B m c ⟨4 * q + 2, b 2 (by omega)⟩ (by dsimp only; omega)) _).trans (e1 k)
  have a2 : ∀ k, (outsAt0 m c (4 * q + 2) (b 2 (by omega))).2.2 (ix2 r k)
      = ffnPart (H m c q hq r) (W1 m c) (W2 m c) 0 k + ffnPart (H m c q hq r) (W1 m c) (W2 m c) 1 k
        + ffnPart (H m c q hq r) (W1 m c) (W2 m c) 2 k := fun k => by
    rw [← a1 k]
    exact h1_B m c ⟨4 * q + 2, b 2 (by omega)⟩ 2 (by dsimp only; omega) (by dsimp only; omega) (H m c q hq r) r k e1
  refine (h_C m c ⟨4 * q + 3, b 3 (by omega)⟩ q hq rfl (H m c q hq r) _ r j e2 a2).trans ?_
  unfold mlpToken
  rw [show (fun n => ffnPart (H m c q hq r) (W1 m c) (W2 m c) 0 n + ffnPart (H m c q hq r) (W1 m c) (W2 m c) 1 n
        + ffnPart (H m c q hq r) (W1 m c) (W2 m c) 2 n + ffnPart (H m c q hq r) (W1 m c) (W2 m c) 3 n)
      = ffn (H m c q hq r) (W1 m c) (W2 m c) from funext (ffn_eq_parts (H m c q hq r) (W1 m c) (W2 m c))]

/-- The result array: every sample row through the channel mixer. -/
theorem result (c : Dev nD) (r : Fin 2048) (j : Fin 1024) :
    G5 m c (ix2 r j)
      = mlpToken (X m c (r.val / 1024) (by omega) ⟨r.val % 1024, by omega⟩) (Gn m c 2) (M m c (r.val / 1024) (by omega) 4)
          (M m c (r.val / 1024) (by omega) 3) (M m c (r.val / 1024) (by omega) 5) (Gn m c 3) (W1 m c) (W2 m c) j := by
  have hN : cfg0.N = 8 := N_0
  have hp : pt5Of (ix2 r j) = 4 * (r.val / 1024) + 3 := by
    show 4 * (1 * (r.val / 1024 - 0) + 1 * (j.val / 1024 - 0)) + 3 = _
    omega
  have hl : loc5Of (ix2 r j) = ix2 ⟨r.val % 1024, by omega⟩ j := by
    funext a
    apply Fin.ext
    match a with
    | ⟨0, _⟩ => rfl
    | ⟨1, _⟩ => show j.val % 1024 = j.val; omega
  unfold G5
  rw [dif_pos (by rw [hp]; omega), hl, fold0_congr m c _ _ (4 * (r.val / 1024) + 3) (by omega) hp, ← outsAt0_sweep]
  exact tile m c (r.val / 1024) (by omega) _ j

end Cert.MlpIdeal.Block

end
-- ==== Proof.MlpEquation.lean ====
/- The channel mixer's reference on the sample tokens, read at an index, and the equation with the kernel's result array. -/
module

public import proofs.«01_k».proof.Proof.MlpValue
public import proofs.«01_k».proof.Proof.Gen.RefMlpIdeal.Read

@[expose] public section

noncomputable section

open Idealize.ShloMosaic Idealize.ShloMosaic.TcCoe Idealize.SL.Sem

namespace Cert.RefMlpIdeal.Block

open Cert.RefMlpIdeal Cert.RefMlpIdeal.Gen Cert.RefMlpIdeal.Read Cert.Layer

/-- The reference's result at row `i 0`, column `i 1`: that sample row through the channel mixer. -/
theorem reference_apply (x0 : Vec Ideal S6144x1024 .f32) (x1 : Vec Ideal S1x8x6x1024 .f32) (x2 : Vec Ideal S4x4x1024 .f32)
    (x3 : Vec Ideal S4x1024x4096 .f32) (x4 : Vec Ideal S4x4096x1024 .f32) (r : Fin 2048) (j : Fin 1024) :
    val_main_v67 (F := Ideal) x0 x1 x2 x3 x4 (ix2 r j)
      = mlpToken (fun k => x0 (ix2 ⟨4096 + r.val, by omega⟩ k)) (fun k => x2 (ix3 3 2 k))
          (fun k => x1 (ix4 0 ⟨1 + r.val / 1024, by omega⟩ 4 k)) (fun k => x1 (ix4 0 ⟨1 + r.val / 1024, by omega⟩ 3 k))
          (fun k => x1 (ix4 0 ⟨1 + r.val / 1024, by omega⟩ 5 k)) (fun k => x2 (ix3 3 3 k))
          (fun k f => x3 (ix3 3 k f)) (fun f k => x4 (ix3 3 f k)) j := by
  pointwise [mlpToken, ffn, relu2, modulated, rms,
    val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v17, val_main_v18, val_main_v19, val_main_v20, val_main_v21, val_main_v22, val_main_cst,
    val_main_v23, val_main_v24, val_main_cst_0, val_main_v25, val_main_v26, val_main_cst_1, val_main_v27,
    val_main_v28, val_main_v29, val_main_v30, val_main_v31, val_main_v32, val_main_v33, val_main_v34, val_main_cst_2,
    val_main_v35, val_main_v36, val_main_v37, val_main_v38, val_main_v39, val_main_v40, val_main_v41, val_main_v42,
    val_main_v43, val_main_call0_cst, val_main_call0_v0, val_main_v44, val_main_v45, val_main_v46, val_main_v47,
    val_main_v48, val_main_v49, val_main_v50, val_main_v51, val_main_cst_3, val_main_v52, val_main_v53,
    val_main_cst_4, val_main_v54, val_main_v55, val_main_cst_5, val_main_v56, val_main_v57, val_main_v58,
    val_main_v59, val_main_v60, val_main_v61, val_main_v62, val_main_v63, val_main_v64, val_main_v65, val_main_v66,
    val_main_v67]

end Cert.RefMlpIdeal.Block

namespace Cert.MlpIdeal.Block

open Cert.MlpIdeal Cert.MlpIdeal.Gen Cert.MlpIdeal.Value Cert.Layer

/-- The kernel's result array is the reference's result on the same arguments. -/
theorem result_eq_reference (m : (ℓ : Loc nD τ sig) → Buf (Elt Ideal) ℓ) (c : Dev nD) :
    G5 m c = Cert.RefMlpIdeal.Read.val_main_v67 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  funext i
  obtain ⟨r, j, rfl⟩ : ∃ (r : Fin 2048) (j : Fin 1024), i = ix2 r j := ⟨i 0, i 1, eq_ix2 i⟩
  have hr : row (r.val / 1024) (by omega) ⟨r.val % 1024, by omega⟩ = ⟨4096 + r.val, by omega⟩ := Fin.ext (by dsimp only; omega)
  rw [result]
  refine Eq.trans ?_ (Cert.RefMlpIdeal.Block.reference_apply _ _ _ _ _ r j).symm
  unfold X
  rw [hr]

end Cert.MlpIdeal.Block

end
-- ==== Proof.MlpCtxBlock.lean ====
/- The channel-mixer kernel on the prompt tokens, one grid point at a time: what the body leaves in the two scratch
   buffers and in the output block, read at an index. -/
module

public import proofs.«01_k».proof.Proof.Gen.MlpCtxIdeal.Value
public import proofs.«01_k».proof.Proof.MlpBlock
public import Idealize.ShloMosaic.Lib.Tactic

@[expose] public section

noncomputable section

open Idealize.ShloMosaic Idealize.ShloMosaic.TcCoe Idealize.SL.Sem

namespace Cert.MlpCtxIdeal.Block

open Cert.MlpCtxIdeal Cert.MlpCtxIdeal.Gen Cert.Layer

theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl

section Cases

variable (c : Dev nD) (i : grid0.Coords) (arg2 : Memref sig .tc .vmem S1024x1024 .f32) (harg2 : arg2.IsWhole) (arg3 : Memref sig .tc .vmem S1x1x6x1024 .f32) (harg3 : arg3.IsWhole) (arg4 : Memref sig .tc .vmem S1x4x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .f32) (harg9 : arg9.IsWhole)
  (x0 : Vec Ideal S1024x1024 .f32) (x1 : Vec Ideal S1x1x6x1024 .f32) (x2 : Vec Ideal S1x4x1024 .f32) (x3 x4 : Vec Ideal S1x1024x1024 .f32)
  (xs0 : Vec Ideal S1024x1024 .bf16) (xs1 : Vec Ideal S1024x1024 .f32)

/-- The first point of a row tile leaves the modulated rows in the first scratch buffer. -/
theorem sout_A_0 (hc0) (hc1) (hc2) :
    sout0_A_0 (F := Ideal) c i arg2 harg2 arg3 harg3 arg4 harg4 arg5 harg5 arg6 harg6 arg7 harg7 arg8 harg8 arg9 harg9 hc0 hc1 hc2 x0 x1 x2 x3 x4
      = k0_pay6 (k0_pay1 x1) (k0_pay2 x2) x0 := by
  unfold sout0_A_0
  rw [View.read_writes_eq_canon _ _ _ (scover0_A_0 c i arg2 harg2 arg3 harg3 arg4 harg4 arg5 harg5 arg6 harg6 arg7 harg7 arg8 harg8 arg9 harg9 hc0 hc1 hc2 x0 x1 x2 x3 x4)]
  unfold kernelRun0_A
  dsimp only
  sl_unfold_words
  rw [View.canon_unit_zero z2]
  simp only [View.readAt_eq_ld, harg2.read_unread, harg3.read_unread, harg4.read_unread, View.ld_unit_zero (S := S1024x1024) z2, View.ld_unit_zero (S := S1x1x6x1024) z4, View.ld_unit_zero (S := S1x4x1024) z3]

/-- … and the first quarter of the hidden units' contribution in the second. -/
theorem sout_A_1 (hc0) (hc1) (hc2) :
    sout0_A_1 (F := Ideal) c i arg2 harg2 arg3 harg3 arg4 harg4 arg5 harg5 arg6 harg6 arg7 harg7 arg8 harg8 arg9 harg9 hc0 hc1 hc2 x0 x1 x2 x3 x4
      = k0_pay3 (k0_pay7 (k0_pay6 (k0_pay1 x1) (k0_pay2 x2) x0) x3 x4) := by
  unfold sout0_A_1
  rw [View.read_writes_eq_canon _ _ _ (scover0_A_1 c i arg2 harg2 arg3 harg3 arg4 harg4 arg5 harg5 arg6 harg6 arg7 harg7 arg8 harg8 arg9 harg9 hc0 hc1 hc2 x0 x1 x2 x3 x4)]
  unfold kernelRun0_A
  dsimp only
  sl_unfold_words
  rw [View.canon_unit_zero z2]
  simp only [View.readAt_eq_ld, harg2.read_unread, harg3.read_unread, harg4.read_unread, harg5.read_unread, harg6.read_unread, View.readCov_unit_zero (S := S1024x1024) _ z2, View.ld_unit_zero (S := S1024x1024) z2, View.ld_unit_zero (S := S1x1x6x1024) z4, View.ld_unit_zero (S := S1x4x1024) z3, View.ld_unit_zero (S := S1x1024x1024) z3]

/-- The two middle points add their quarter. -/
theorem sout_B_1 (hc0) (hc1) (hc2) :
    sout0_B_1 (F := Ideal) c i arg2 harg2 arg3 harg3 arg4 harg4 arg5 harg5 arg6 harg6 arg7 harg7 arg8 harg8 arg9 harg9 hc0 hc1 hc2 x0 x1 x2 x3 x4 xs0 xs1
      = k0_pay4 xs1 xs0 x3 x4 := by
  unfold sout0_B_1
  rw [View.read_writes_eq_canon _ _ _ (scover0_B_1 c i arg2 harg2 arg3 harg3 arg4 harg4 arg5 harg5 arg6 harg6 arg7 harg7 arg8 harg8 arg9 harg9 hc0 hc1 hc2 x0 x1 x2 x3 x4 xs0 xs1)]
  unfold kernelRun0_B
  dsimp only
  sl_unfold_words
  rw [View.canon_unit_zero z2]
  simp only [View.readAt_eq_ld, harg5.read_unread, harg6.read_unread, harg8.read_unread, harg9.read_unread, View.ld_unit_zero (S := S1024x1024) z2, View.ld_unit_zero (S := S1x1024x1024) z3]

/-- The last point adds the last quarter, normalises, gates and adds the residual row. -/
theorem out_C (hc0) (hc1) (hc2) :
    out0_C_5 (F := Ideal) c i arg2 harg2 arg3 harg3 arg4 harg4 arg5 harg5 arg6 harg6 arg7 harg7 arg8 harg8 arg9 harg9 hc0 hc1 hc2 x0 x1 x2 x3 x4 xs0 xs1
      = k0_pay5 x1 x2 xs1 xs0 x3 x4 x0 := by
  unfold out0_C_5
  rw [View.read_writes_eq_canon _ _ _ (cover0_C_5 c i arg2 harg2 arg3 harg3 arg4 harg4 arg5 harg5 arg6 harg6 arg7 harg7 arg8 harg8 arg9 harg9 hc0 hc1 hc2 x0 x1 x2 x3 x4 xs0 xs1)]
  unfold kernelRun0_C
  dsimp only
  sl_unfold_words
  rw [View.canon_unit_zero z2]
  simp only [View.readAt_eq_ld, harg2.read_unread, harg3.read_unread, harg4.read_unread, harg5.read_unread, harg6.read_unread, harg8.read_unread, harg9.read_unread, View.ld_unit_zero (S := S1024x1024) z2, View.ld_unit_zero (S := S1x1x6x1024) z4, View.ld_unit_zero (S := S1x4x1024) z3, View.ld_unit_zero (S := S1x1024x1024) z3]

end Cases

/-! ## The stored values read at an index: the body is the one that runs on the sample tokens -/

theorem pay6_apply (x1 : Vec Ideal S1x1x6x1024 .f32) (x2 : Vec Ideal S1x4x1024 .f32) (x : Vec Ideal S1024x1024 .f32) (r j : Fin 1024) :
    k0_pay6 (F := Ideal) (k0_pay1 x1) (k0_pay2 x2) x (ix2 r j)
      = modulated (fun k => x (ix2 r k)) (fun k => x2 (ix3 0 2 k)) (fun k => x1 (ix4 0 0 4 k)) (fun k => x1 (ix4 0 0 3 k)) j :=
  Cert.MlpIdeal.Block.pay6_apply x1 x2 x r j

theorem pay7_apply (h : Vec Ideal S1024x1024 .bf16) (w1 w2 : Vec Ideal S1x1024x1024 .f32) (r j : Fin 1024) :
    k0_pay3 (F := Ideal) (k0_pay7 h w1 w2) (ix2 r j)
      = ∑ f : Fin 1024, relu2 (∑ k : Fin 1024, h (ix2 r k) * w1 (ix3 0 k f)) * w2 (ix3 0 f j) :=
  Cert.MlpIdeal.Block.pay7_apply h w1 w2 r j

theorem pay4_apply (a : Vec Ideal S1024x1024 .f32) (h : Vec Ideal S1024x1024 .bf16) (w1 w2 : Vec Ideal S1x1024x1024 .f32) (r j : Fin 1024) :
    k0_pay4 (F := Ideal) a h w1 w2 (ix2 r j)
      = a (ix2 r j) + ∑ f : Fin 1024, relu2 (∑ k : Fin 1024, h (ix2 r k) * w1 (ix3 0 k f)) * w2 (ix3 0 f j) :=
  Cert.MlpIdeal.Block.pay4_apply a h w1 w2 r j

theorem pay5_apply (x1 : Vec Ideal S1x1x6x1024 .f32) (x2 : Vec Ideal S1x4x1024 .f32) (a : Vec Ideal S1024x1024 .f32)
    (h : Vec Ideal S1024x1024 .bf16) (w1 w2 : Vec Ideal S1x1024x1024 .f32) (x : Vec Ideal S1024x1024 .f32) (r j : Fin 1024) :
    k0_pay5 (F := Ideal) x1 x2 a h w1 w2 x (ix2 r j)
      = x (ix2 r j) + x1 (ix4 0 0 5 j) * rms (fun n => a (ix2 r n)
          + ∑ f : Fin 1024, relu2 (∑ k : Fin 1024, h (ix2 r k) * w1 (ix3 0 k f)) * w2 (ix3 0 f n)) (fun n => x2 (ix3 0 3 n)) j :=
  Cert.MlpIdeal.Block.pay5_apply x1 x2 a h w1 w2 x r j

end Cert.MlpCtxIdeal.Block

end
-- ==== Proof.MlpCtxValue.lean ====
/- The channel-mixer kernel on the prompt tokens: what its result array holds after the run. A grid point `4 q + n` reads
   row tile `q` of the prompt and quarter `n` of the hidden units; the four points of a tile together leave every row's
   `Layer.mlpToken`. -/
module

public import proofs.«01_k».proof.Proof.MlpCtxBlock

@[expose] public section

noncomputable section

open Idealize.ShloMosaic Idealize.ShloMosaic.TcCoe Idealize.SL.Sem

namespace Cert.MlpCtxIdeal.Block

open Cert.MlpCtxIdeal Cert.MlpCtxIdeal.Gen Cert.MlpCtxIdeal.Value Cert.Layer

variable (m : (ℓ : Loc nD τ sig) → Buf (Elt Ideal) ℓ)

theorem lt16 (t : Fin cfg0.N) : t.val < 16 := lt_of_lt_of_eq t.isLt (show cfg0.N = 16 from N_0)

/-! ## The input windows' blocks -/

theorem index0 : ∀ t : Fin cfg0.N, win0_0.index t 0 = t.val / 4 ∧ win0_0.index t 1 = 0 := (by decide +kernel : ∀ t : Fin grid0.N, _)
theorem index1 : ∀ t : Fin cfg0.N, win0_1.index t 0 = 0 ∧ win0_1.index t 1 = 0 ∧ win0_1.index t 2 = 0 ∧ win0_1.index t 3 = 0 := (by decide +kernel : ∀ t : Fin grid0.N, _)
theorem index2 : ∀ t : Fin cfg0.N, win0_2.index t 0 = 3 ∧ win0_2.index t 1 = 0 ∧ win0_2.index t 2 = 0 := (by decide +kernel : ∀ t : Fin grid0.N, _)
theorem index3 : ∀ t : Fin cfg0.N, win0_3.index t 0 = 3 ∧ win0_3.index t 1 = 0 ∧ win0_3.index t 2 = t.val % 4 := (by decide +kernel : ∀ t : Fin grid0.N, _)
theorem index4 : ∀ t : Fin cfg0.N, win0_4.index t 0 = 3 ∧ win0_4.index t 1 = t.val % 4 ∧ win0_4.index t 2 = 0 := (by decide +kernel : ∀ t : Fin grid0.N, _)

/-- The array row that row `r` of tile `q` is. -/
abbrev row (q : ℕ) (hq : q < 4) (r : Fin 1024) : Fin 6144 := ⟨q * 1024 + r.val, by omega⟩

theorem blk0 (c : Dev nD) (t : Fin cfg0.N) (r j : Fin 1024) :
    (iblk m c 0 t : Vec Ideal S1024x1024 .f32) (ix2 r j)
      = m ((c : Thread nD τ).loc main_arg0) (ix2 (row (t.val / 4) (by have := lt16 t; omega) r) j) := by
  obtain ⟨h0, h1⟩ := index0 t
  unfold iblk
  rw [View.read_apply]
  show V m c main_arg0 _ = _
  rw [V_main_arg0]
  congr 1
  funext a
  apply Fin.ext
  match a with
  | ⟨0, _⟩ => show win0_0.index t 0 * 1024 + 1 * r.val = t.val / 4 * 1024 + r.val; rw [h0]; omega
  | ⟨1, _⟩ => show win0_0.index t 1 * 1024 + 1 * j.val = j.val; rw [h1]; omega

theorem blk1 (c : Dev nD) (t : Fin cfg0.N) (p : Fin 6) (j : Fin 1024) :
    (iblk m c 1 t : Vec Ideal S1x1x6x1024 .f32) (ix4 0 0 p j)
      = m ((c : Thread nD τ).loc main_arg1) (ix4 0 0 p j) := by
  obtain ⟨h0, h1, h2, h3⟩ := index1 t
  unfold iblk
  rw [View.read_apply]
  show V m c main_arg1 _ = _
  rw [V_main_arg1]
  congr 1
  funext a
  apply Fin.ext
  match a with
  | ⟨0, _⟩ => show win0_1.index t 0 * 1 + 1 * 0 = 0; rw [h0]
  | ⟨1, _⟩ => show win0_1.index t 1 * 1 + 1 * 0 = 0; rw [h1]
  | ⟨2, _⟩ => show win0_1.index t 2 * 6 + 1 * p.val = p.val; rw [h2]; omega
  | ⟨3, _⟩ => show win0_1.index t 3 * 1024 + 1 * j.val = j.val; rw [h3]; omega

theorem blk2 (c : Dev nD) (t : Fin cfg0.N) (p : Fin 4) (j : Fin 1024) :
    (iblk m c 2 t : Vec Ideal S1x4x1024 .f32) (ix3 0 p j) = m ((c : Thread nD τ).loc main_arg2) (ix3 3 p j) := by
  obtain ⟨h0, h1, h2⟩ := index2 t
  unfold iblk
  rw [View.read_apply]
  show V m c main_arg2 _ = _
  rw [V_main_arg2]
  congr 1
  funext a
  apply Fin.ext
  match a with
  | ⟨0, _⟩ => show win0_2.index t 0 * 1 + 1 * 0 = 3; rw [h0]
  | ⟨1, _⟩ => show win0_2.index t 1 * 4 + 1 * p.val = p.val; rw [h1]; omega
  | ⟨2, _⟩ => show win0_2.index t 2 * 1024 + 1 * j.val = j.val; rw [h2]; omega

theorem blk3 (c : Dev nD) (t : Fin cfg0.N) (k f : Fin 1024) :
    (iblk m c 3 t : Vec Ideal S1x1024x1024 .f32) (ix3 0 k f)
      = m ((c : Thread nD τ).loc main_arg3) (ix3 3 k ⟨t.val % 4 * 1024 + f.val, by omega⟩) := by
  obtain ⟨h0, h1, h2⟩ := index3 t
  unfold iblk
  rw [View.read_apply]
  show V m c main_arg3 _ = _
  rw [V_main_arg3]
  congr 1
  funext a
  apply Fin.ext
  match a with
  | ⟨0, _⟩ => show win0_3.index t 0 * 1 + 1 * 0 = 3; rw [h0]
  | ⟨1, _⟩ => show win0_3.index t 1 * 1024 + 1 * k.val = k.val; rw [h1]; omega
  | ⟨2, _⟩ => show win0_3.index t 2 * 1024 + 1 * f.val = t.val % 4 * 1024 + f.val; rw [h2]; omega

theorem blk4 (c : Dev nD) (t : Fin cfg0.N) (f j : Fin 1024) :
    (iblk m c 4 t : Vec Ideal S1x1024x1024 .f32) (ix3 0 f j)
      = m ((c : Thread nD τ).loc main_arg4) (ix3 3 ⟨t.val % 4 * 1024 + f.val, by omega⟩ j) := by
  obtain ⟨h0, h1, h2⟩ := index4 t
  unfold iblk
  rw [View.read_apply]
  show V m c main_arg4 _ = _
  rw [V_main_arg4]
  congr 1
  funext a
  apply Fin.ext
  match a with
  | ⟨0, _⟩ => show win0_4.index t 0 * 1 + 1 * 0 = 3; rw [h0]
  | ⟨1, _⟩ => show win0_4.index t 1 * 1024 + 1 * f.val = t.val % 4 * 1024 + f.val; rw [h1]; omega
  | ⟨2, _⟩ => show win0_4.index t 2 * 1024 + 1 * j.val = j.val; rw [h2]; omega

/-! ## The arguments as functions of row and column -/

abbrev X (c : Dev nD) (q : ℕ) (hq : q < 4) (r k : Fin 1024) : EReal := m ((c : Thread nD τ).loc main_arg0) (ix2 (row q hq r) k)
abbrev M (c : Dev nD) (p : Fin 6) (k : Fin 1024) : EReal := m ((c : Thread nD τ).loc main_arg1) (ix4 0 0 p k)
abbrev Gn (c : Dev nD) (p : Fin 4) (k : Fin 1024) : EReal := m ((c : Thread nD τ).loc main_arg2) (ix3 3 p k)
abbrev W1 (c : Dev nD) (k : Fin 1024) (f : Fin 4096) : EReal := m ((c : Thread nD τ).loc main_arg3) (ix3 3 k f)
abbrev W2 (c : Dev nD) (f : Fin 4096) (j : Fin 1024) : EReal := m ((c : Thread nD τ).loc main_arg4) (ix3 3 f j)

/-- The modulated row `r` of tile `q`. -/
abbrev H (c : Dev nD) (q : ℕ) (hq : q < 4) (r : Fin 1024) : Fin 1024 → EReal :=
  modulated (X m c q hq r) (Gn m c 2) (M m c 4) (M m c 3)

/-! ## The four points of a row tile -/

/-- The first point of tile `q` leaves the modulated rows in the first scratch buffer, -/
theorem h0_A (c : Dev nD) (t : Fin cfg0.N) (q : ℕ) (hq : q < 4) (ht : t.val = 4 * q) (r j : Fin 1024) :
    (outsAt0 m c t.val t.isLt).2.1 (ix2 r j) = H m c q hq r j := by
  obtain rfl : q = t.val / 4 := by omega
  rw [outsAt0_A m c t (by omega) (by omega) (by omega)]
  dsimp only
  rw [sout_A_0, pay6_apply]
  simp only [blk0, blk1, blk2]

/-- and the first part of the perceptron's sum in the second. -/
theorem h1_A (c : Dev nD) (t : Fin cfg0.N) (q : ℕ) (hq : q < 4) (ht : t.val = 4 * q) (r j : Fin 1024) :
    (outsAt0 m c t.val t.isLt).2.2 (ix2 r j) = ffnPart (H m c q hq r) (W1 m c) (W2 m c) 0 j := by
  obtain rfl : q = t.val / 4 := by omega
  rw [outsAt0_A m c t (by omega) (by omega) (by omega)]
  dsimp only
  rw [sout_A_1, pay7_apply]
  simp only [pay6_apply, blk0, blk1, blk2, blk3, blk4, show t.val % 4 = 0 by omega]
  rfl

/-- The two middle points keep the modulated rows -/
theorem h0_B (c : Dev nD) (t : Fin cfg0.N) (h1 : 1 ≤ t.val % 4 ∧ t.val % 4 ≤ 2) :
    (outsAt0 m c t.val t.isLt).2.1 = (outsAt0 m c (t.val - 1) (by have := t.isLt; omega)).2.1 := by
  rw [outsAt0_B m c t (by omega) h1 (by omega)]
  rfl

/-- and add their part of the sum. -/
theorem h1_B (c : Dev nD) (t : Fin cfg0.N) (n : Fin 4) (hn : t.val % 4 = n.val) (h1 : 1 ≤ t.val % 4 ∧ t.val % 4 ≤ 2)
    (hrow : Fin 1024 → EReal) (r j : Fin 1024)
    (hh : ∀ k, (outsAt0 m c (t.val - 1) (by have := t.isLt; omega)).2.1 (ix2 r k) = hrow k) :
    (outsAt0 m c t.val t.isLt).2.2 (ix2 r j)
      = (outsAt0 m c (t.val - 1) (by have := t.isLt; omega)).2.2 (ix2 r j) + ffnPart hrow (W1 m c) (W2 m c) n j := by
  rw [outsAt0_B m c t (by omega) h1 (by omega)]
  dsimp only
  rw [sout_B_1, pay4_apply]
  simp only [hh, blk3, blk4, hn]
  rfl

/-- The last point adds its part, normalises the sum, gates it and adds the row. -/
theorem h_C (c : Dev nD) (t : Fin cfg0.N) (q : ℕ) (hq : q < 4) (ht : t.val = 4 * q + 3) (hrow acc : Fin 1024 → EReal) (r j : Fin 1024)
    (hh : ∀ k, (outsAt0 m c (t.val - 1) (by have := t.isLt; omega)).2.1 (ix2 r k) = hrow k)
    (ha : ∀ k, (outsAt0 m c (t.val - 1) (by have := t.isLt; omega)).2.2 (ix2 r k) = acc k) :
    (outsAt0 m c t.val t.isLt).1 (ix2 r j)
      = X m c q hq r j + M m c 5 j
          * rms (fun n => acc n + ffnPart hrow (W1 m c) (W2 m c) 3 n) (Gn m c 3) j := by
  obtain rfl : q = t.val / 4 := by omega
  rw [outsAt0_C m c t (by omega) (by omega) (by omega)]
  dsimp only
  rw [out_C, pay5_apply]
  simp only [hh, ha, blk0, blk1, blk2, blk3, blk4, show t.val % 4 = 3 by omega]
  rfl

/-- The last point of row tile `q` leaves every row of the tile through the whole channel mixer. -/
theorem tile (c : Dev nD) (q : ℕ) (hq : q < 4) (r j : Fin 1024) :
    (outsAt0 m c (4 * q + 3) (by rw [show cfg0.N = 16 from N_0]; omega)).1 (ix2 r j)
      = mlpToken (X m c q hq r) (Gn m c 2) (M m c 4) (M m c 3) (M m c 5) (Gn m c 3) (W1 m c) (W2 m c) j := by
  have hN : cfg0.N = 16 := N_0
  have b : ∀ n, n < 4 → 4 * q + n < cfg0.N := fun n hn => by omega
  have e0 : ∀ k, (outsAt0 m c (4 * q + 0) (b 0 (by omega))).2.1 (ix2 r k) = H m c q hq r k := fun k =>
    h0_A m c ⟨4 * q + 0, b 0 (by omega)⟩ q hq rfl r k
  have a0 : ∀ k, (outsAt0 m c (4 * q + 0) (b 0 (by omega))).2.2 (ix2 r k) = ffnPart (H m c q hq r) (W1 m c) (W2 m c) 0 k := fun k =>
    h1_A m c ⟨4 * q + 0, b 0 (by omega)⟩ q hq rfl r k
  have e1 : ∀ k, (outsAt0 m c (4 * q + 1) (b 1 (by omega))).2.1 (ix2 r k) = H m c q hq r k := fun k =>
    (congrFun (h0_B m c ⟨4 * q + 1, b 1 (by omega)⟩ (by dsimp only; omega)) _).trans (e0 k)
  have a1 : ∀ k, (outsAt0 m c (4 * q + 1) (b 1 (by omega))).2.2 (ix2 r k)
      = ffnPart (H m c q hq r) (W1 m c) (W2 m c) 0 k + ffnPart (H m c q hq r) (W1 m c) (W2 m c) 1 k := fun k => by
    rw [← a0 k]
    exact h1_B m c ⟨4 * q + 1, b 1 (by omega)⟩ 1 (by dsimp only; omega) (by dsimp only; omega) (H m c q hq r) r k e0
  have e2 : ∀ k, (outsAt0 m c (4 * q + 2) (b 2 (by omega))).2.1 (ix2 r k) = H m c q hq r k := fun k =>
    (congrFun (h0_B m c ⟨4 * q + 2, b 2 (by omega)⟩ (by dsimp only; omega)) _).trans (e1 k)
  have a2 : ∀ k, (outsAt0 m c (4 * q + 2) (b 2 (by omega))).2.2 (ix2 r k)
      = ffnPart (H m c q hq r) (W1 m c) (W2 m c) 0 k + ffnPart (H m c q hq r) (W1 m c) (W2 m c) 1 k
        + ffnPart (H m c q hq r) (W1 m c) (W2 m c) 2 k := fun k => by
    rw [← a1 k]
    exact h1_B m c ⟨4 * q + 2, b 2 (by omega)⟩ 2 (by dsimp only; omega) (by dsimp only; omega) (H m c q hq r) r k e1
  refine (h_C m c ⟨4 * q + 3, b 3 (by omega)⟩ q hq rfl (H m c q hq r) _ r j e2 a2).trans ?_
  unfold mlpToken
  rw [show (fun n => ffnPart (H m c q hq r) (W1 m c) (W2 m c) 0 n + ffnPart (H m c q hq r) (W1 m c) (W2 m c) 1 n
        + ffnPart (H m c q hq r) (W1 m c) (W2 m c) 2 n + ffnPart (H m c q hq r) (W1 m c) (W2 m c) 3 n)
      = ffn (H m c q hq r) (W1 m c) (W2 m c) from funext (ffn_eq_parts (H m c q hq r) (W1 m c) (W2 m c))]

/-- The result array: every prompt row through the channel mixer. -/
theorem result (c : Dev nD) (r : Fin 4096) (j : Fin 1024) :
    G5 m c (ix2 r j)
      = mlpToken (X m c (r.val / 1024) (by omega) ⟨r.val % 1024, by omega⟩) (Gn m c 2) (M m c 4)
          (M m c 3) (M m c 5) (Gn m c 3) (W1 m c) (W2 m c) j := by
  have hN : cfg0.N = 16 := N_0
  have hp : pt5Of (ix2 r j) = 4 * (r.val / 1024) + 3 := by
    show 4 * (1 * (r.val / 1024 - 0) + 1 * (j.val / 1024 - 0)) + 3 = _
    omega
  have hl : loc5Of (ix2 r j) = ix2 ⟨r.val % 1024, by omega⟩ j := by
    funext a
    apply Fin.ext
    match a with
    | ⟨0, _⟩ => rfl
    | ⟨1, _⟩ => show j.val % 1024 = j.val; omega
  unfold G5
  rw [dif_pos (by rw [hp]; omega), hl, fold0_congr m c _ _ (4 * (r.val / 1024) + 3) (by omega) hp, ← outsAt0_sweep]
  exact tile m c (r.val / 1024) (by omega) _ j

end Cert.MlpCtxIdeal.Block

end
-- ==== Proof.MlpCtxEquation.lean ====
/- The channel mixer's reference on the prompt tokens, read at an index, and the equation with the kernel's result array. -/
module

public import proofs.«01_k».proof.Proof.MlpCtxValue
public import proofs.«01_k».proof.Proof.Gen.RefMlpCtxIdeal.Read

@[expose] public section

noncomputable section

open Idealize.ShloMosaic Idealize.ShloMosaic.TcCoe Idealize.SL.Sem

namespace Cert.RefMlpCtxIdeal.Block

open Cert.RefMlpCtxIdeal Cert.RefMlpCtxIdeal.Gen Cert.RefMlpCtxIdeal.Read Cert.Layer

/-- The reference's result at row `i 0`, column `i 1`: that prompt row through the channel mixer. -/
theorem reference_apply (x0 : Vec Ideal S6144x1024 .f32) (x1 : Vec Ideal S1x8x6x1024 .f32) (x2 : Vec Ideal S4x4x1024 .f32)
    (x3 : Vec Ideal S4x1024x4096 .f32) (x4 : Vec Ideal S4x4096x1024 .f32) (r : Fin 4096) (j : Fin 1024) :
    val_main_v67 (F := Ideal) x0 x1 x2 x3 x4 (ix2 r j)
      = mlpToken (fun k => x0 (ix2 ⟨r.val, by omega⟩ k)) (fun k => x2 (ix3 3 2 k))
          (fun k => x1 (ix4 0 0 4 k)) (fun k => x1 (ix4 0 0 3 k))
          (fun k => x1 (ix4 0 0 5 k)) (fun k => x2 (ix3 3 3 k))
          (fun k f => x3 (ix3 3 k f)) (fun f k => x4 (ix3 3 f k)) j := by
  pointwise [mlpToken, ffn, relu2, modulated, rms,
    val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v17, val_main_v18, val_main_v19, val_main_v20, val_main_v21, val_main_v22, val_main_cst,
    val_main_v23, val_main_v24, val_main_cst_0, val_main_v25, val_main_v26, val_main_cst_1, val_main_v27,
    val_main_v28, val_main_v29, val_main_v30, val_main_v31, val_main_v32, val_main_v33, val_main_v34, val_main_cst_2,
    val_main_v35, val_main_v36, val_main_v37, val_main_v38, val_main_v39, val_main_v40, val_main_v41, val_main_v42,
    val_main_v43, val_main_call0_cst, val_main_call0_v0, val_main_v44, val_main_v45, val_main_v46, val_main_v47,
    val_main_v48, val_main_v49, val_main_v50, val_main_v51, val_main_cst_3, val_main_v52, val_main_v53,
    val_main_cst_4, val_main_v54, val_main_v55, val_main_cst_5, val_main_v56, val_main_v57, val_main_v58,
    val_main_v59, val_main_v60, val_main_v61, val_main_v62, val_main_v63, val_main_v64, val_main_v65, val_main_v66,
    val_main_v67]

end Cert.RefMlpCtxIdeal.Block

namespace Cert.MlpCtxIdeal.Block

open Cert.MlpCtxIdeal Cert.MlpCtxIdeal.Gen Cert.MlpCtxIdeal.Value Cert.Layer

/-- The kernel's result array is the reference's result on the same arguments. -/
theorem result_eq_reference (m : (ℓ : Loc nD τ sig) → Buf (Elt Ideal) ℓ) (c : Dev nD) :
    G5 m c = Cert.RefMlpCtxIdeal.Read.val_main_v67 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  funext i
  obtain ⟨r, j, rfl⟩ : ∃ (r : Fin 4096) (j : Fin 1024), i = ix2 r j := ⟨i 0, i 1, eq_ix2 i⟩
  have hr : row (r.val / 1024) (by omega) ⟨r.val % 1024, by omega⟩ = ⟨r.val, by omega⟩ := Fin.ext (by dsimp only; omega)
  rw [result]
  refine Eq.trans ?_ (Cert.RefMlpCtxIdeal.Block.reference_apply _ _ _ _ _ r j).symm
  unfold X
  rw [hr]

end Cert.MlpCtxIdeal.Block

end
-- ==== Proof.ProjBlock.lean ====
/- The projection kernel of the latent attention on the prompt tokens, one grid point at a time: the values the body
   stores in its four output blocks, read at an index. -/
module

public import proofs.«01_k».proof.Proof.Gen.ProjIdeal.Value
public import proofs.«01_k».proof.Proof.Layer
public import Idealize.ShloMosaic.Lib.Tactic

@[expose] public section

noncomputable section

open Idealize.ShloMosaic Idealize.ShloMosaic.TcCoe Idealize.SL.Sem

namespace Cert.Layer

/-- Entry `j` of a row of any width after root-mean-square normalisation, the sum of the squares divided by `d`. -/
def rmsOver {n : Nat} (d : EReal) (f g : Fin n → EReal) (j : Fin n) : EReal :=
  f j * Ideal.rsqrt (Ideal.div (∑ k, f k * f k) d + Ideal.ofBits FTy.f32 0x358637BD#32) * g j

/-- Entry `i` of a token's query latent: the row `h` through the down projection `w`, normalised over its 384 entries. -/
def queryLatent (h : Fin 1024 → EReal) (w : Fin 1024 → Fin 384 → EReal) (g : Fin 384 → EReal) (i : Fin 384) : EReal :=
  rmsOver (Ideal.ofBits FTy.f32 0x43C00000#32) (fun i => ∑ k, h k * w k i) g i

/-- One entry of a token's queries: the query latent through one column `u` of the up projection. -/
def queryEntry (h : Fin 1024 → EReal) (w : Fin 1024 → Fin 384 → EReal) (g u : Fin 384 → EReal) : EReal :=
  ∑ i, queryLatent h w g i * u i

/-- Entry `j` of a token's key-value latent: the row `h` through 256 columns `w`, normalised over its 256 entries. -/
def valueLatent (h : Fin 1024 → EReal) (w : Fin 1024 → Fin 256 → EReal) (g : Fin 256 → EReal) (j : Fin 256) : EReal :=
  rmsOver (Ideal.ofBits FTy.f32 0x43800000#32) (fun i => ∑ k, h k * w k i) g j

end Cert.Layer

namespace Cert.ProjIdeal.Block

open Cert.ProjIdeal Cert.ProjIdeal.Gen Cert.Layer

theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl

section Payloads

variable (x0 : Vec Ideal S1024x1024 .f32) (x1 : Vec Ideal S1x1x6x1024 .f32) (x2 : Vec Ideal S1x4x1024 .f32) (x3 : Vec Ideal S1x1024x384 .f32)

/-- Row `r` of the block, normalised and modulated. -/
abbrev modRow (r : Fin 1024) (k : Fin 1024) : EReal :=
  modulated (fun k => x0 (ix2 r k)) (fun k => x2 (ix3 0 0 k)) (fun k => x1 (ix4 0 0 1 k)) (fun k => x1 (ix4 0 0 0 k)) k

theorem pay3_apply (r j : Fin 1024) : k0_pay3 (F := Ideal) x1 x2 x0 (ix2 r j) = modRow x0 x1 x2 r j := by
  pointwise [k0_pay3, modRow, modulated, rms]

theorem pay4_apply (r : Fin 1024) (i : Fin 384) :
    k0_pay4 (F := Ideal) x1 x2 x0 x3 (ix2 r i) = ∑ k, modRow x0 x1 x2 r k * x3 (ix3 0 k i) := by
  pointwise [k0_pay4, k0_pay3, modRow, modulated, rms]

theorem pay5_apply (r : Fin 1024) :
    k0_pay5 (F := Ideal) x1 x2 x0 x3 (ix2 r 0)
      = Ideal.rsqrt (Ideal.div (∑ i : Fin 384, (∑ k, modRow x0 x1 x2 r k * x3 (ix3 0 k i)) * (∑ k, modRow x0 x1 x2 r k * x3 (ix3 0 k i)))
          (Ideal.ofBits FTy.f32 0x43C00000#32) + Ideal.ofBits FTy.f32 0x358637BD#32) := by
  simp only [← pay4_apply]
  unfold k0_pay5
  generalize k0_pay4 (F := Ideal) x1 x2 x0 x3 = q
  pointwise []

theorem pay7_apply (q : Vec Ideal S1024x384 .f32) (d : Vec Ideal S1024x1 .f32) (g : Vec Ideal S1x384 .f32) (w : Vec Ideal S384x1024 .f32)
    (r j : Fin 1024) :
    k0_pay7 (F := Ideal) q d g w (ix2 r j) = ∑ i : Fin 384, q (ix2 r i) * d (ix2 r 0) * g (ix2 0 i) * w (ix2 i j) := by
  pointwise [k0_pay7, k0_pay6]

theorem pay8_apply (q : Vec Ideal S1024x384 .f32) (d : Vec Ideal S1024x1 .f32) (g : Vec Ideal S1x384 .f32) (w : Vec Ideal S384x512 .f32)
    (r : Fin 1024) (j : Fin 512) :
    k0_pay2 (F := Ideal) (k0_pay8 q d g w) (ix2 r j) = ∑ i : Fin 384, q (ix2 r i) * d (ix2 r 0) * g (ix2 0 i) * w (ix2 i j) := by
  pointwise [k0_pay2, k0_pay8, k0_pay6]

theorem pay9_apply (h : Vec Ideal S1024x1024 .bf16) (w : Vec Ideal S1024x256 .f32) (g : Vec Ideal S1x256 .f32) (r : Fin 1024) (j : Fin 256) :
    k0_pay9 (F := Ideal) h w g (ix2 r j) = valueLatent (fun k => h (ix2 r k)) (fun k i => w (ix2 k i)) (fun i => g (ix2 0 i)) j := by
  pointwise [k0_pay9, valueLatent, rmsOver]

theorem pay1_apply (h : Vec Ideal S1024x1024 .bf16) (w : Vec Ideal S1024x64 .f32) (r : Fin 1024) (j : Fin 64) :
    k0_pay1 (F := Ideal) h (k0_pay10 w) (ix2 r j) = ∑ k : Fin 1024, h (ix2 r k) * w (ix2 k j) := by
  pointwise [k0_pay1, k0_pay10]

end Payloads

section Outputs

variable (x0 : Vec Ideal S1024x1024 .f32) (x1 : Vec Ideal S1x1x6x1024 .f32) (x2 : Vec Ideal S1x4x1024 .f32) (x3 : Vec Ideal S1x1024x384 .f32)
  (x4 : Vec Ideal S1x384 .f32) (x5 : Vec Ideal S384x1024 .f32) (x6 x7 : Vec Ideal S384x512 .f32) (x8 : Vec Ideal S1024x256 .f32)
  (x9 x10 : Vec Ideal S1024x64 .f32) (x11 : Vec Ideal S1x256 .f32) (r : Fin 1024)

/-- The block of queries' unrotated parts. -/
theorem out12_apply (j : Fin 1024) :
    out0_12 (F := Ideal) x0 x1 x2 x3 x4 x5 x6 x7 x8 x9 x10 x11 (ix2 r j)
      = queryEntry (modRow x0 x1 x2 r) (fun k i => x3 (ix3 0 k i)) (fun i => x4 (ix2 0 i)) (fun i => x5 (ix2 i j)) := by
  unfold out0_12 k0_pay12 k0_pay13
  rw [View.canon_unit_zero z2]
  simp only [View.ld_unit_zero (S := S1024x1024) z2, View.ld_unit_zero (S := S1x1x6x1024) z4, View.ld_unit_zero (S := S1x4x1024) z3,
    View.ld_unit_zero (S := S1x1024x384) z3, View.ld_unit_zero (S := S1x384) z2, View.ld_unit_zero (S := S384x1024) z2]
  rw [pay7_apply, pay5_apply]
  simp only [pay4_apply]
  rfl

/-- The block of queries' parts for rotation. -/
theorem out13_apply (j : Fin 512) :
    out0_13 (F := Ideal) x0 x1 x2 x3 x4 x5 x6 x7 x8 x9 x10 x11 (ix2 r j)
      = queryEntry (modRow x0 x1 x2 r) (fun k i => x3 (ix3 0 k i)) (fun i => x4 (ix2 0 i)) (fun i => x6 (ix2 i j)) := by
  unfold out0_13 k0_pay12 k0_pay13
  rw [View.canon_unit_zero z2]
  simp only [View.ld_unit_zero (S := S1024x1024) z2, View.ld_unit_zero (S := S1x1x6x1024) z4, View.ld_unit_zero (S := S1x4x1024) z3,
    View.ld_unit_zero (S := S1x1024x384) z3, View.ld_unit_zero (S := S1x384) z2, View.ld_unit_zero (S := S384x512) z2]
  rw [pay8_apply, pay5_apply]
  simp only [pay4_apply]
  rfl

/-- The block of key-value latents. -/
theorem out14_apply (j : Fin 256) :
    out0_14 (F := Ideal) x0 x1 x2 x3 x4 x5 x6 x7 x8 x9 x10 x11 (ix2 r j)
      = valueLatent (modRow x0 x1 x2 r) (fun k i => x8 (ix2 k i)) (fun i => x11 (ix2 0 i)) j := by
  unfold out0_14 k0_pay11
  rw [View.canon_unit_zero z2]
  simp only [View.ld_unit_zero (S := S1024x1024) z2, View.ld_unit_zero (S := S1x1x6x1024) z4, View.ld_unit_zero (S := S1x4x1024) z3,
    View.ld_unit_zero (S := S1024x256) z2, View.ld_unit_zero (S := S1x256) z2]
  rw [pay9_apply]
  simp only [pay3_apply]

/-- The block of keys' parts for rotation. -/
theorem out15_apply (j : Fin 64) :
    out0_15 (F := Ideal) x0 x1 x2 x3 x4 x5 x6 x7 x8 x9 x10 x11 (ix2 r j)
      = ∑ k : Fin 1024, modRow x0 x1 x2 r k * x9 (ix2 k j) := by
  unfold out0_15 k0_pay11
  rw [View.canon_unit_zero z2]
  simp only [View.ld_unit_zero (S := S1024x1024) z2, View.ld_unit_zero (S := S1x1x6x1024) z4, View.ld_unit_zero (S := S1x4x1024) z3,
    View.ld_unit_zero (S := S1024x64) z2]
  rw [pay1_apply]
  simp only [pay3_apply]

end Outputs

end Cert.ProjIdeal.Block

end
-- ==== Proof.ProjValue.lean ====
/- The projection kernel of the latent attention on the prompt tokens: what its four result arrays hold after the run.
   Grid point `t` reads and writes the 1024 rows of tile `t`; the weights are read whole at every point. -/
module

public import proofs.«01_k».proof.Proof.ProjBlock
public import Idealize.ShloMosaic.Lib.StableHlo.Run

@[expose] public section

noncomputable section

open Idealize.ShloMosaic Idealize.ShloMosaic.TcCoe Idealize.SL.Sem

namespace Cert.ProjIdeal.Block

open Cert.ProjIdeal Cert.ProjIdeal.Gen Cert.ProjIdeal.Value Cert.Layer

variable (m : (ℓ : Loc nD τ sig) → Buf (Elt Ideal) ℓ)

theorem lt4 (t : Fin cfg0.N) : t.val < 4 := lt_of_lt_of_eq t.isLt (show cfg0.N = 4 from N_0)

/-! ## The weight arrays the host prepares -/

/-- Of each head's 192 query columns the first 128, -/
theorem V_nope (c : Dev nD) : V m c main_v6 = shapeCast S384x1024 (extractStridedSlice S384x8x128 ![0, 0, 0]
    (shapeCast S384x8x192 (shapeCast S384x1536 (m ((c : Thread nD τ).loc main_arg5)) shapeCasts_S1x384x1536_S384x1536) shapeCasts_S384x1536_S384x8x192)
    slices_S384x8x192_S384x8x128_0_0_0) shapeCasts_S384x8x128_S384x1024 := by
  unfold V hostOps0
  after_results
  rfl

/-- and the last 64; -/
theorem V_rope (c : Dev nD) : V m c main_v7 = shapeCast S384x512 (extractStridedSlice S384x8x64 ![0, 0, 128]
    (shapeCast S384x8x192 (shapeCast S384x1536 (m ((c : Thread nD τ).loc main_arg5)) shapeCasts_S1x384x1536_S384x1536) shapeCasts_S384x1536_S384x8x192)
    slices_S384x8x192_S384x8x64_0_0_128) shapeCasts_S384x8x64_S384x512 := by
  unfold V hostOps0
  after_results
  rfl

/-- of the 320 key-value columns the first 256, -/
theorem V_latent (c : Dev nD) : V m c main_v15 = extractStridedSlice S1024x256 ![0, 0]
    (shapeCast S1024x320 (m ((c : Thread nD τ).loc main_arg6)) shapeCasts_S1x1024x320_S1024x320) slices_S1024x320_S1024x256_0_0 := by
  unfold V hostOps0
  after_results
  rfl

/-- and the last 64. -/
theorem V_key (c : Dev nD) : V m c main_v4 = extractStridedSlice S1024x64 ![0, 256]
    (shapeCast S1024x320 (m ((c : Thread nD τ).loc main_arg6)) shapeCasts_S1x1024x320_S1024x320) slices_S1024x320_S1024x64_0_256 := by
  unfold V hostOps0
  after_results
  rfl

/-- Entry `d` of head `h` in the query weights laid out by heads. -/
theorem heads_apply (w : Vec Ideal S1x384x1536 .f32) (i : Fin 384) (h : Fin 8) (d : Fin 192) :
    shapeCast S384x8x192 (shapeCast S384x1536 w shapeCasts_S1x384x1536_S384x1536) shapeCasts_S384x1536_S384x8x192 (ix3 i h d)
      = w (ix3 0 i ⟨h.val * 192 + d.val, by omega⟩) := by
  refine (shapeCast_apply _ _ (ix3 i h d) (ix2 i ⟨h.val * 192 + d.val, by omega⟩) ?_).trans
    (shapeCast_apply _ _ (ix2 i _) (ix3 0 i ⟨h.val * 192 + d.val, by omega⟩) ?_)
  · rw [Shape.rowMajor_val_two, Shape.rowMajor_val_three]
    show i.val * 1536 + (h.val * 192 + d.val) = (i.val * 8 + h.val) * 192 + d.val
    omega
  · rw [Shape.rowMajor_val_two, Shape.rowMajor_val_three]
    show (0 * 384 + i.val) * 1536 + (h.val * 192 + d.val) = i.val * 1536 + (h.val * 192 + d.val)
    omega

theorem nope_apply (c : Dev nD) (i : Fin 384) (j : Fin 1024) : (V m c main_v6 : Vec Ideal S384x1024 .f32) (ix2 i j)
    = m ((c : Thread nD τ).loc main_arg5) (ix3 0 i ⟨j.val / 128 * 192 + j.val % 128, by omega⟩) := by
  rw [V_nope]
  refine (shapeCast_apply _ _ (ix2 i j) (ix3 i (⟨j.val / 128, by omega⟩ : Fin 8) (⟨j.val % 128, by omega⟩ : Fin 128)) ?_).trans
    ((extractStridedSlice_apply _ _ _ _ (ix3 i (⟨j.val / 128, by omega⟩ : Fin 8) (⟨j.val % 128, by omega⟩ : Fin 192)) ?_).trans (heads_apply _ _ _ _))
  · rw [Shape.rowMajor_val_two, Shape.rowMajor_val_three]
    show (i.val * 8 + j.val / 128) * 128 + j.val % 128 = i.val * 1024 + j.val
    omega
  · intro a
    match a with
    | ⟨0, _⟩ => show i.val = 0 + i.val; omega
    | ⟨1, _⟩ => show j.val / 128 = 0 + j.val / 128; omega
    | ⟨2, _⟩ => show j.val % 128 = 0 + j.val % 128; omega

theorem rope_apply (c : Dev nD) (i : Fin 384) (j : Fin 512) : (V m c main_v7 : Vec Ideal S384x512 .f32) (ix2 i j)
    = m ((c : Thread nD τ).loc main_arg5) (ix3 0 i ⟨j.val / 64 * 192 + (128 + j.val % 64), by omega⟩) := by
  rw [V_rope]
  refine (shapeCast_apply _ _ (ix2 i j) (ix3 i (⟨j.val / 64, by omega⟩ : Fin 8) (⟨j.val % 64, by omega⟩ : Fin 64)) ?_).trans
    ((extractStridedSlice_apply _ _ _ _ (ix3 i (⟨j.val / 64, by omega⟩ : Fin 8) (⟨128 + j.val % 64, by omega⟩ : Fin 192)) ?_).trans (heads_apply _ _ _ _))
  · rw [Shape.rowMajor_val_two, Shape.rowMajor_val_three]
    show (i.val * 8 + j.val / 64) * 64 + j.val % 64 = i.val * 512 + j.val
    omega
  · intro a
    match a with
    | ⟨0, _⟩ => show i.val = 0 + i.val; omega
    | ⟨1, _⟩ => show j.val / 64 = 0 + j.val / 64; omega
    | ⟨2, _⟩ => show 128 + j.val % 64 = 128 + j.val % 64; rfl

/-- Column `q` of the key-value weights. -/
theorem columns_apply (w : Vec Ideal S1x1024x320 .f32) (k : Fin 1024) (q : Fin 320) :
    shapeCast S1024x320 w shapeCasts_S1x1024x320_S1024x320 (ix2 k q) = w (ix3 0 k q) := by
  refine shapeCast_apply _ _ (ix2 k q) (ix3 0 k q) ?_
  rw [Shape.rowMajor_val_two, Shape.rowMajor_val_three]
  show (0 * 1024 + k.val) * 320 + q.val = k.val * 320 + q.val
  omega

theorem latent_apply (c : Dev nD) (k : Fin 1024) (j : Fin 256) : (V m c main_v15 : Vec Ideal S1024x256 .f32) (ix2 k j)
    = m ((c : Thread nD τ).loc main_arg6) (ix3 0 k ⟨j.val, by omega⟩) := by
  rw [V_latent]
  refine (extractStridedSlice_apply _ _ _ _ (ix2 k (⟨j.val, by omega⟩ : Fin 320)) ?_).trans (columns_apply _ _ _)
  intro a
  match a with
  | ⟨0, _⟩ => show k.val = 0 + k.val; omega
  | ⟨1, _⟩ => show j.val = 0 + j.val; omega

theorem key_apply (c : Dev nD) (k : Fin 1024) (j : Fin 64) : (V m c main_v4 : Vec Ideal S1024x64 .f32) (ix2 k j)
    = m ((c : Thread nD τ).loc main_arg6) (ix3 0 k ⟨256 + j.val, by omega⟩) := by
  rw [V_key]
  refine (extractStridedSlice_apply _ _ _ _ (ix2 k (⟨256 + j.val, by omega⟩ : Fin 320)) ?_).trans (columns_apply _ _ _)
  intro a
  match a with
  | ⟨0, _⟩ => show k.val = 0 + k.val; omega
  | ⟨1, _⟩ => show 256 + j.val = 256 + j.val; rfl

/-! ## The windows' blocks -/

theorem index0 : ∀ t : Fin cfg0.N, win0_0.index t 0 = t.val ∧ win0_0.index t 1 = 0 := (by decide +kernel : ∀ t : Fin grid0.N, _)
theorem index1 : ∀ t : Fin cfg0.N, win0_1.index t 0 = 0 ∧ win0_1.index t 1 = 0 ∧ win0_1.index t 2 = 0 ∧ win0_1.index t 3 = 0 := (by decide +kernel : ∀ t : Fin grid0.N, _)
theorem index2 : ∀ t : Fin cfg0.N, win0_2.index t 0 = 3 ∧ win0_2.index t 1 = 0 ∧ win0_2.index t 2 = 0 := (by decide +kernel : ∀ t : Fin grid0.N, _)
theorem index3 : ∀ t : Fin cfg0.N, win0_3.index t 0 = 0 ∧ win0_3.index t 1 = 0 ∧ win0_3.index t 2 = 0 := (by decide +kernel : ∀ t : Fin grid0.N, _)
theorem index4 : ∀ t : Fin cfg0.N, win0_4.index t 0 = 0 ∧ win0_4.index t 1 = 0 := (by decide +kernel : ∀ t : Fin grid0.N, _)
theorem index5 : ∀ t : Fin cfg0.N, win0_5.index t 0 = 0 ∧ win0_5.index t 1 = 0 := (by decide +kernel : ∀ t : Fin grid0.N, _)
theorem index6 : ∀ t : Fin cfg0.N, win0_6.index t 0 = 0 ∧ win0_6.index t 1 = 0 := (by decide +kernel : ∀ t : Fin grid0.N, _)
theorem index8 : ∀ t : Fin cfg0.N, win0_8.index t 0 = 0 ∧ win0_8.index t 1 = 0 := (by decide +kernel : ∀ t : Fin grid0.N, _)
theorem index9 : ∀ t : Fin cfg0.N, win0_9.index t 0 = 0 ∧ win0_9.index t 1 = 0 := (by decide +kernel : ∀ t : Fin grid0.N, _)
theorem index11 : ∀ t : Fin cfg0.N, win0_11.index t 0 = 0 ∧ win0_11.index t 1 = 0 := (by decide +kernel : ∀ t : Fin grid0.N, _)

/-- The array row that row `r` of tile `q` is. -/
abbrev row (q : ℕ) (hq : q < 4) (r : Fin 1024) : Fin 6144 := ⟨q * 1024 + r.val, by omega⟩

theorem blk0 (c : Dev nD) (t : Fin cfg0.N) (r j : Fin 1024) :
    (iblk m c 0 t : Vec Ideal S1024x1024 .f32) (ix2 r j)
      = m ((c : Thread nD τ).loc main_arg0) (ix2 (row t.val (lt4 t) r) j) := by
  obtain ⟨h0, h1⟩ := index0 t
  unfold iblk
  rw [View.read_apply]
  show V m c main_arg0 _ = _
  rw [V_main_arg0]
  congr 1
  funext a
  apply Fin.ext
  match a with
  | ⟨0, _⟩ => show win0_0.index t 0 * 1024 + 1 * r.val = t.val * 1024 + r.val; rw [h0]; omega
  | ⟨1, _⟩ => show win0_0.index t 1 * 1024 + 1 * j.val = j.val; rw [h1]; omega

theorem blk1 (c : Dev nD) (t : Fin cfg0.N) (p : Fin 6) (j : Fin 1024) :
    (iblk m c 1 t : Vec Ideal S1x1x6x1024 .f32) (ix4 0 0 p j)
      = m ((c : Thread nD τ).loc main_arg1) (ix4 0 0 p j) := by
  obtain ⟨h0, h1, h2, h3⟩ := index1 t
  unfold iblk
  rw [View.read_apply]
  show V m c main_arg1 _ = _
  rw [V_main_arg1]
  congr 1
  funext a
  apply Fin.ext
  match a with
  | ⟨0, _⟩ => show win0_1.index t 0 * 1 + 1 * 0 = 0; rw [h0]
  | ⟨1, _⟩ => show win0_1.index t 1 * 1 + 1 * 0 = 0; rw [h1]
  | ⟨2, _⟩ => show win0_1.index t 2 * 6 + 1 * p.val = p.val; rw [h2]; omega
  | ⟨3, _⟩ => show win0_1.index t 3 * 1024 + 1 * j.val = j.val; rw [h3]; omega

theorem blk2 (c : Dev nD) (t : Fin cfg0.N) (p : Fin 4) (j : Fin 1024) :
    (iblk m c 2 t : Vec Ideal S1x4x1024 .f32) (ix3 0 p j)
      = m ((c : Thread nD τ).loc main_arg2) (ix3 3 p j) := by
  obtain ⟨h0, h1, h2⟩ := index2 t
  unfold iblk
  rw [View.read_apply]
  show V m c main_arg2 _ = _
  rw [V_main_arg2]
  congr 1
  funext a
  apply Fin.ext
  match a with
  | ⟨0, _⟩ => show win0_2.index t 0 * 1 + 1 * 0 = 3; rw [h0]
  | ⟨1, _⟩ => show win0_2.index t 1 * 4 + 1 * p.val = p.val; rw [h1]; omega
  | ⟨2, _⟩ => show win0_2.index t 2 * 1024 + 1 * j.val = j.val; rw [h2]; omega

theorem blk3 (c : Dev nD) (t : Fin cfg0.N) (k : Fin 1024) (i : Fin 384) :
    (iblk m c 3 t : Vec Ideal S1x1024x384 .f32) (ix3 0 k i)
      = m ((c : Thread nD τ).loc main_arg3) (ix3 0 k i) := by
  obtain ⟨h0, h1, h2⟩ := index3 t
  unfold iblk
  rw [View.read_apply]
  show V m c main_arg3 _ = _
  rw [V_main_arg3]
  congr 1
  funext a
  apply Fin.ext
  match a with
  | ⟨0, _⟩ => show win0_3.index t 0 * 1 + 1 * 0 = 0; rw [h0]
  | ⟨1, _⟩ => show win0_3.index t 1 * 1024 + 1 * k.val = k.val; rw [h1]; omega
  | ⟨2, _⟩ => show win0_3.index t 2 * 384 + 1 * i.val = i.val; rw [h2]; omega

theorem blk4 (c : Dev nD) (t : Fin cfg0.N) (i : Fin 384) :
    (iblk m c 4 t : Vec Ideal S1x384 .f32) (ix2 0 i)
      = m ((c : Thread nD τ).loc main_arg4) (ix2 0 i) := by
  obtain ⟨h0, h1⟩ := index4 t
  unfold iblk
  rw [View.read_apply]
  show V m c main_arg4 _ = _
  rw [V_main_arg4]
  congr 1
  funext a
  apply Fin.ext
  match a with
  | ⟨0, _⟩ => show win0_4.index t 0 * 1 + 1 * 0 = 0; rw [h0]
  | ⟨1, _⟩ => show win0_4.index t 1 * 384 + 1 * i.val = i.val; rw [h1]; omega

theorem blk5 (c : Dev nD) (t : Fin cfg0.N) (i : Fin 384) (j : Fin 1024) :
    (iblk m c 5 t : Vec Ideal S384x1024 .f32) (ix2 i j)
      = m ((c : Thread nD τ).loc main_arg5) (ix3 0 i ⟨j.val / 128 * 192 + j.val % 128, by omega⟩) := by
  obtain ⟨h0, h1⟩ := index5 t
  unfold iblk
  rw [View.read_apply]
  show V m c main_v6 _ = _
  refine Eq.trans ?_ (nope_apply m c i j)
  congr 1
  funext a
  apply Fin.ext
  match a with
  | ⟨0, _⟩ => show win0_5.index t 0 * 384 + 1 * i.val = i.val; rw [h0]; omega
  | ⟨1, _⟩ => show win0_5.index t 1 * 1024 + 1 * j.val = j.val; rw [h1]; omega

theorem blk6 (c : Dev nD) (t : Fin cfg0.N) (i : Fin 384) (j : Fin 512) :
    (iblk m c 6 t : Vec Ideal S384x512 .f32) (ix2 i j)
      = m ((c : Thread nD τ).loc main_arg5) (ix3 0 i ⟨j.val / 64 * 192 + (128 + j.val % 64), by omega⟩) := by
  obtain ⟨h0, h1⟩ := index6 t
  unfold iblk
  rw [View.read_apply]
  show V m c main_v7 _ = _
  refine Eq.trans ?_ (rope_apply m c i j)
  congr 1
  funext a
  apply Fin.ext
  match a with
  | ⟨0, _⟩ => show win0_6.index t 0 * 384 + 1 * i.val = i.val; rw [h0]; omega
  | ⟨1, _⟩ => show win0_6.index t 1 * 512 + 1 * j.val = j.val; rw [h1]; omega

theorem blk8 (c : Dev nD) (t : Fin cfg0.N) (k : Fin 1024) (j : Fin 256) :
    (iblk m c 8 t : Vec Ideal S1024x256 .f32) (ix2 k j)
      = m ((c : Thread nD τ).loc main_arg6) (ix3 0 k ⟨j.val, by omega⟩) := by
  obtain ⟨h0, h1⟩ := index8 t
  unfold iblk
  rw [View.read_apply]
  show V m c main_v15 _ = _
  refine Eq.trans ?_ (latent_apply m c k j)
  congr 1
  funext a
  apply Fin.ext
  match a with
  | ⟨0, _⟩ => show win0_8.index t 0 * 1024 + 1 * k.val = k.val; rw [h0]; omega
  | ⟨1, _⟩ => show win0_8.index t 1 * 256 + 1 * j.val = j.val; rw [h1]; omega

theorem blk9 (c : Dev nD) (t : Fin cfg0.N) (k : Fin 1024) (j : Fin 64) :
    (iblk m c 9 t : Vec Ideal S1024x64 .f32) (ix2 k j)
      = m ((c : Thread nD τ).loc main_arg6) (ix3 0 k ⟨256 + j.val, by omega⟩) := by
  obtain ⟨h0, h1⟩ := index9 t
  unfold iblk
  rw [View.read_apply]
  show V m c main_v4 _ = _
  refine Eq.trans ?_ (key_apply m c k j)
  congr 1
  funext a
  apply Fin.ext
  match a with
  | ⟨0, _⟩ => show win0_9.index t 0 * 1024 + 1 * k.val = k.val; rw [h0]; omega
  | ⟨1, _⟩ => show win0_9.index t 1 * 64 + 1 * j.val = j.val; rw [h1]; omega

theorem blk11 (c : Dev nD) (t : Fin cfg0.N) (j : Fin 256) :
    (iblk m c 11 t : Vec Ideal S1x256 .f32) (ix2 0 j)
      = m ((c : Thread nD τ).loc main_arg7) (ix2 0 j) := by
  obtain ⟨h0, h1⟩ := index11 t
  unfold iblk
  rw [View.read_apply]
  show V m c main_arg7 _ = _
  rw [V_main_arg7]
  congr 1
  funext a
  apply Fin.ext
  match a with
  | ⟨0, _⟩ => show win0_11.index t 0 * 1 + 1 * 0 = 0; rw [h0]
  | ⟨1, _⟩ => show win0_11.index t 1 * 256 + 1 * j.val = j.val; rw [h1]; omega

/-! ## The result arrays -/

/-- Token `r` of the prompt, normalised and modulated. -/
abbrev H (c : Dev nD) (r : Fin 4096) (k : Fin 1024) : EReal :=
  modulated (fun k => m ((c : Thread nD τ).loc main_arg0) (ix2 ⟨r.val, by omega⟩ k)) (fun k => m ((c : Thread nD τ).loc main_arg2) (ix3 3 0 k))
    (fun k => m ((c : Thread nD τ).loc main_arg1) (ix4 0 0 1 k)) (fun k => m ((c : Thread nD τ).loc main_arg1) (ix4 0 0 0 k)) k

/-- The tile row `r` lies in. -/
abbrev tile (r : Fin 4096) : Fin cfg0.N := ⟨r.val / 1024, lt_of_lt_of_eq (by omega) N_0.symm⟩

/-- The rows a grid point reads are its tile's tokens. -/
theorem modRow_eq (c : Dev nD) (r : Fin 4096) :
    modRow (iblk m c 0 (tile r)) (iblk m c 1 (tile r)) (iblk m c 2 (tile r)) ⟨r.val % 1024, by omega⟩ = H m c r := by
  have hr : row (tile r).val (lt4 (tile r)) ⟨r.val % 1024, by omega⟩ = ⟨r.val, by omega⟩ := Fin.ext (by dsimp only; omega)
  funext k
  unfold modRow H
  simp only [blk0, blk1, blk2, hr]

theorem index12 : ∀ t : Fin cfg0.N, win0_12.index t 0 = t.val ∧ win0_12.index t 1 = 0 := (by decide +kernel : ∀ t : Fin grid0.N, _)
theorem flush12 : ∀ t : Fin cfg0.N, (cfg0.win 12).flush t = true := (by decide +kernel : ∀ t : Fin grid0.N, _)
theorem index13 : ∀ t : Fin cfg0.N, win0_13.index t 0 = t.val ∧ win0_13.index t 1 = 0 := (by decide +kernel : ∀ t : Fin grid0.N, _)
theorem flush13 : ∀ t : Fin cfg0.N, (cfg0.win 13).flush t = true := (by decide +kernel : ∀ t : Fin grid0.N, _)
theorem index14 : ∀ t : Fin cfg0.N, win0_14.index t 0 = t.val ∧ win0_14.index t 1 = 0 := (by decide +kernel : ∀ t : Fin grid0.N, _)
theorem flush14 : ∀ t : Fin cfg0.N, (cfg0.win 14).flush t = true := (by decide +kernel : ∀ t : Fin grid0.N, _)
theorem index15 : ∀ t : Fin cfg0.N, win0_15.index t 0 = t.val ∧ win0_15.index t 1 = 0 := (by decide +kernel : ∀ t : Fin grid0.N, _)
theorem flush15 : ∀ t : Fin cfg0.N, (cfg0.win 15).flush t = true := (by decide +kernel : ∀ t : Fin grid0.N, _)

/-- The array of the queries' unrotated parts. -/
theorem result12 (c : Dev nD) (r : Fin 4096) (j : Fin 1024) :
    ((dats m 0 c).arrAt 12 cfg0.N : Vec Ideal S4096x1024 .bf16) (ix2 r j)
      = queryEntry (H m c r) (fun k i => m ((c : Thread nD τ).loc main_arg3) (ix3 0 k i)) (fun i => m ((c : Thread nD τ).loc main_arg4) (ix2 0 i))
          (fun i => m ((c : Thread nD τ).loc main_arg5) (ix3 0 i ⟨j.val / 128 * 192 + j.val % 128, by omega⟩)) := by
  obtain ⟨h0, h1⟩ := index12 (tile r)
  have e : ((cfg0.win 12).blk (tile r)).view.emb (ix2 (⟨r.val % 1024, by omega⟩ : Fin 1024) j) = ix2 r j := by
    funext a
    apply Fin.ext
    match a with
    | ⟨0, _⟩ => show win0_12.index (tile r) 0 * 1024 + 1 * (r.val % 1024) = r.val; rw [h0]; show r.val / 1024 * 1024 + 1 * (r.val % 1024) = r.val; omega
    | ⟨1, _⟩ => show win0_12.index (tile r) 1 * 1024 + 1 * j.val = j.val; rw [h1]; omega
  have b := congrFun (blocks12 m c (tile r) (flush12 _)) (ix2 (⟨r.val % 1024, by omega⟩ : Fin 1024) j)
  rw [View.read_apply, flushed12] at b
  erw [e] at b
  refine b.trans ?_
  refine (out12_apply _ _ _ _ _ _ _ _ _ _ _ _ (⟨r.val % 1024, by omega⟩ : Fin 1024) j).trans ?_
  rw [modRow_eq]
  simp only [blk3, blk4, blk5]

/-- The array of the queries' parts for rotation. -/
theorem result13 (c : Dev nD) (r : Fin 4096) (j : Fin 512) :
    ((dats m 0 c).arrAt 13 cfg0.N : Vec Ideal S4096x512 .bf16) (ix2 r j)
      = queryEntry (H m c r) (fun k i => m ((c : Thread nD τ).loc main_arg3) (ix3 0 k i)) (fun i => m ((c : Thread nD τ).loc main_arg4) (ix2 0 i))
          (fun i => m ((c : Thread nD τ).loc main_arg5) (ix3 0 i ⟨j.val / 64 * 192 + (128 + j.val % 64), by omega⟩)) := by
  obtain ⟨h0, h1⟩ := index13 (tile r)
  have e : ((cfg0.win 13).blk (tile r)).view.emb (ix2 (⟨r.val % 1024, by omega⟩ : Fin 1024) j) = ix2 r j := by
    funext a
    apply Fin.ext
    match a with
    | ⟨0, _⟩ => show win0_13.index (tile r) 0 * 1024 + 1 * (r.val % 1024) = r.val; rw [h0]; show r.val / 1024 * 1024 + 1 * (r.val % 1024) = r.val; omega
    | ⟨1, _⟩ => show win0_13.index (tile r) 1 * 512 + 1 * j.val = j.val; rw [h1]; omega
  have b := congrFun (blocks13 m c (tile r) (flush13 _)) (ix2 (⟨r.val % 1024, by omega⟩ : Fin 1024) j)
  rw [View.read_apply, flushed13] at b
  erw [e] at b
  refine b.trans ?_
  refine (out13_apply _ _ _ _ _ _ _ _ _ _ _ _ (⟨r.val % 1024, by omega⟩ : Fin 1024) j).trans ?_
  rw [modRow_eq]
  simp only [blk3, blk4, blk6]

/-- The array of the key-value latents. -/
theorem result14 (c : Dev nD) (r : Fin 4096) (j : Fin 256) :
    ((dats m 0 c).arrAt 14 cfg0.N : Vec Ideal S4096x256 .f32) (ix2 r j)
      = valueLatent (H m c r) (fun k i => m ((c : Thread nD τ).loc main_arg6) (ix3 0 k ⟨i.val, by omega⟩))
          (fun i => m ((c : Thread nD τ).loc main_arg7) (ix2 0 i)) j := by
  obtain ⟨h0, h1⟩ := index14 (tile r)
  have e : ((cfg0.win 14).blk (tile r)).view.emb (ix2 (⟨r.val % 1024, by omega⟩ : Fin 1024) j) = ix2 r j := by
    funext a
    apply Fin.ext
    match a with
    | ⟨0, _⟩ => show win0_14.index (tile r) 0 * 1024 + 1 * (r.val % 1024) = r.val; rw [h0]; show r.val / 1024 * 1024 + 1 * (r.val % 1024) = r.val; omega
    | ⟨1, _⟩ => show win0_14.index (tile r) 1 * 256 + 1 * j.val = j.val; rw [h1]; omega
  have b := congrFun (blocks14 m c (tile r) (flush14 _)) (ix2 (⟨r.val % 1024, by omega⟩ : Fin 1024) j)
  rw [View.read_apply, flushed14] at b
  erw [e] at b
  refine b.trans ?_
  refine (out14_apply _ _ _ _ _ _ _ _ _ _ _ _ (⟨r.val % 1024, by omega⟩ : Fin 1024) j).trans ?_
  rw [modRow_eq]
  simp only [blk8, blk11]

/-- The array of the keys' parts for rotation. -/
theorem result15 (c : Dev nD) (r : Fin 4096) (j : Fin 64) :
    ((dats m 0 c).arrAt 15 cfg0.N : Vec Ideal S4096x64 .f32) (ix2 r j)
      = ∑ k, H m c r k * m ((c : Thread nD τ).loc main_arg6) (ix3 0 k ⟨256 + j.val, by omega⟩) := by
  obtain ⟨h0, h1⟩ := index15 (tile r)
  have e : ((cfg0.win 15).blk (tile r)).view.emb (ix2 (⟨r.val % 1024, by omega⟩ : Fin 1024) j) = ix2 r j := by
    funext a
    apply Fin.ext
    match a with
    | ⟨0, _⟩ => show win0_15.index (tile r) 0 * 1024 + 1 * (r.val % 1024) = r.val; rw [h0]; show r.val / 1024 * 1024 + 1 * (r.val % 1024) = r.val; omega
    | ⟨1, _⟩ => show win0_15.index (tile r) 1 * 64 + 1 * j.val = j.val; rw [h1]; omega
  have b := congrFun (blocks15 m c (tile r) (flush15 _)) (ix2 (⟨r.val % 1024, by omega⟩ : Fin 1024) j)
  rw [View.read_apply, flushed15] at b
  erw [e] at b
  refine b.trans ?_
  refine (out15_apply _ _ _ _ _ _ _ _ _ _ _ _ (⟨r.val % 1024, by omega⟩ : Fin 1024) j).trans ?_
  rw [modRow_eq]
  simp only [blk9]

end Cert.ProjIdeal.Block

end
-- ==== Proof.ProjEquation.lean ====
/- The reference of the latent attention's projections on the prompt tokens, read at an index, and the equations with the
   kernel's four result arrays. -/
module

public import proofs.«01_k».proof.Proof.ProjValue
public import proofs.«01_k».proof.Proof.Gen.RefProjIdeal.Read

@[expose] public section

noncomputable section

open Idealize.ShloMosaic Idealize.ShloMosaic.TcCoe Idealize.SL.Sem

namespace Cert.RefProjIdeal.Block

open Cert.RefProjIdeal Cert.RefProjIdeal.Gen Cert.RefProjIdeal.Read Cert.Layer

variable (x0 : Vec Ideal S6144x1024 .f32) (x1 : Vec Ideal S1x8x6x1024 .f32) (x2 : Vec Ideal S4x4x1024 .f32)
  (x3 : Vec Ideal S1x1024x384 .f32) (x4 : Vec Ideal S1x384 .f32) (x5 : Vec Ideal S1x384x1536 .f32) (x6 : Vec Ideal S1x1024x320 .f32)
  (x7 : Vec Ideal S1x256 .f32)

/-- Token `p` of sequence `b`, normalised and modulated. -/
abbrev hRow (b : Fin 16) (p : Fin 256) (k : Fin 1024) : EReal :=
  modulated (fun k => x0 (ix2 ⟨b.val * 256 + p.val, by omega⟩ k)) (fun k => x2 (ix3 3 0 k)) (fun k => x1 (ix4 0 0 1 k)) (fun k => x1 (ix4 0 0 0 k)) k

theorem h_apply (b : Fin 16) (p : Fin 256) (k : Fin 1024) :
    val_main_v28 (F := Ideal) x0 x1 x2 (ix3 b p k) = hRow x0 x1 x2 b p k := by
  pointwise [hRow, modulated, rms,
    val_main_v0, val_main_v1, val_main_v2, val_main_v3, val_main_v4, val_main_v5, val_main_v6, val_main_v7,
    val_main_v8, val_main_v9, val_main_v10, val_main_cst, val_main_v11, val_main_v12, val_main_cst_0, val_main_v13,
    val_main_v14, val_main_cst_1, val_main_v15, val_main_v16, val_main_v17, val_main_v18, val_main_v19, val_main_v20,
    val_main_v21, val_main_v22, val_main_cst_2, val_main_v23, val_main_v24, val_main_v25, val_main_v26, val_main_v27,
    val_main_v28]

theorem down_apply (b : Fin 16) (p : Fin 256) (i : Fin 384) :
    val_main_v30 (F := Ideal) x0 x1 x2 x3 (ix3 b p i) = ∑ k, hRow x0 x1 x2 b p k * x3 (ix3 0 k i) := by
  simp only [← h_apply]
  unfold val_main_v30
  generalize val_main_v28 (F := Ideal) x0 x1 x2 = h
  pointwise [val_main_v29]

theorem latent_apply (b : Fin 16) (p : Fin 256) (i : Fin 384) :
    val_main_v44 (F := Ideal) x0 x1 x2 x3 x4 (ix3 b p i)
      = queryLatent (hRow x0 x1 x2 b p) (fun k i => x3 (ix3 0 k i)) (fun i => x4 (ix2 0 i)) i := by
  unfold queryLatent
  simp only [← down_apply]
  pointwise [rmsOver,
    val_main_v31, val_main_v32, val_main_cst_3, val_main_v33, val_main_v34, val_main_cst_4, val_main_v35,
    val_main_v36, val_main_cst_5, val_main_v37, val_main_v38, val_main_v39, val_main_v40, val_main_v41, val_main_v42,
    val_main_v43, val_main_v44]

theorem up_apply (b : Fin 16) (p : Fin 256) (e : Fin 1536) :
    val_main_v46 (F := Ideal) x0 x1 x2 x3 x4 x5 (ix3 b p e)
      = queryEntry (hRow x0 x1 x2 b p) (fun k i => x3 (ix3 0 k i)) (fun i => x4 (ix2 0 i)) (fun i => x5 (ix3 0 i e)) := by
  unfold queryEntry
  simp only [← latent_apply]
  unfold val_main_v46
  generalize val_main_v44 (F := Ideal) x0 x1 x2 x3 x4 = q
  pointwise [val_main_v45]

theorem kv_apply (b : Fin 16) (p : Fin 256) (e : Fin 320) :
    val_main_v51 (F := Ideal) x0 x1 x2 x6 (ix3 b p e) = ∑ k, hRow x0 x1 x2 b p k * x6 (ix3 0 k e) := by
  simp only [← h_apply]
  unfold val_main_v51
  generalize val_main_v28 (F := Ideal) x0 x1 x2 = h
  pointwise [val_main_v50]

/-- Entry `e` of the normalised key-value latent. -/
theorem value_apply (b : Fin 16) (p : Fin 256) (e : Fin 256) :
    val_main_v66 (F := Ideal) x0 x1 x2 x6 x7 (ix3 b p e)
      = valueLatent (hRow x0 x1 x2 b p) (fun k i => x6 (ix3 0 k ⟨i.val, by omega⟩)) (fun i => x7 (ix2 0 i)) e := by
  unfold valueLatent
  have h52 : ∀ i : Fin 256, (∑ k, hRow x0 x1 x2 b p k * x6 (ix3 0 k ⟨i.val, by omega⟩)) = val_main_v52 (F := Ideal) x0 x1 x2 x6 (ix3 b p i) := by
    intro i
    rw [← kv_apply x0 x1 x2 x6 b p ⟨i.val, by omega⟩, val_main_v52_apply]
    congr 1
    funext a
    match a with
    | ⟨0, _⟩ => rfl
    | ⟨1, _⟩ => rfl
    | ⟨2, _⟩ => rfl
  simp only [h52]
  pointwise [rmsOver,
    val_main_v53, val_main_v54, val_main_cst_6, val_main_v55, val_main_v56, val_main_cst_7, val_main_v57,
    val_main_v58, val_main_cst_8, val_main_v59, val_main_v60, val_main_v61, val_main_v62, val_main_v63, val_main_v64,
    val_main_v65, val_main_v66]

/-! ## The four results -/

variable (r : Fin 4096)

/-- Row `r` of the prompt is token `r % 256` of sequence `r / 256`. -/
theorem hRow_eq : hRow x0 x1 x2 ⟨r.val / 256, by omega⟩ ⟨r.val % 256, by omega⟩
    = modulated (fun k => x0 (ix2 ⟨r.val, by omega⟩ k)) (fun k => x2 (ix3 3 0 k)) (fun k => x1 (ix4 0 0 1 k)) (fun k => x1 (ix4 0 0 0 k)) := by
  have hr : (⟨r.val / 256 * 256 + r.val % 256, by omega⟩ : Fin 6144) = ⟨r.val, by omega⟩ := Fin.ext (by dsimp only; omega)
  funext k
  unfold hRow
  simp only [hr]

theorem nope_apply (j : Fin 1024) :
    val_main_v69 (F := Ideal) x0 x1 x2 x3 x4 x5 (ix2 r j)
      = queryEntry (modulated (fun k => x0 (ix2 ⟨r.val, by omega⟩ k)) (fun k => x2 (ix3 3 0 k)) (fun k => x1 (ix4 0 0 1 k)) (fun k => x1 (ix4 0 0 0 k)))
          (fun k i => x3 (ix3 0 k i)) (fun i => x4 (ix2 0 i)) (fun i => x5 (ix3 0 i ⟨j.val / 128 * 192 + j.val % 128, by omega⟩)) := by
  rw [← hRow_eq, ← up_apply]
  show val_main_v68 (F := Ideal) x0 x1 x2 x3 x4 x5 (ix2 r j) = _
  rw [val_main_v68_apply, val_main_v48_apply, val_main_v47_apply]
  congr 1
  funext a
  apply Fin.ext
  match a with
  | ⟨0, _⟩ => show (((((r.val * 1024 + j.val) / 262144) * 256 + ((r.val * 1024 + j.val) / 1024 % 256)) * 8 + ((r.val * 1024 + j.val) / 128 % 8)) * 192 + ((r.val * 1024 + j.val) % 128)) / 393216 = r.val / 256; omega
  | ⟨1, _⟩ => show (((((r.val * 1024 + j.val) / 262144) * 256 + ((r.val * 1024 + j.val) / 1024 % 256)) * 8 + ((r.val * 1024 + j.val) / 128 % 8)) * 192 + ((r.val * 1024 + j.val) % 128)) / 1536 % 256 = r.val % 256; omega
  | ⟨2, _⟩ => show (((((r.val * 1024 + j.val) / 262144) * 256 + ((r.val * 1024 + j.val) / 1024 % 256)) * 8 + ((r.val * 1024 + j.val) / 128 % 8)) * 192 + ((r.val * 1024 + j.val) % 128)) % 1536 = j.val / 128 * 192 + j.val % 128; omega

theorem rope_apply (j : Fin 512) :
    val_main_v71 (F := Ideal) x0 x1 x2 x3 x4 x5 (ix2 r j)
      = queryEntry (modulated (fun k => x0 (ix2 ⟨r.val, by omega⟩ k)) (fun k => x2 (ix3 3 0 k)) (fun k => x1 (ix4 0 0 1 k)) (fun k => x1 (ix4 0 0 0 k)))
          (fun k i => x3 (ix3 0 k i)) (fun i => x4 (ix2 0 i)) (fun i => x5 (ix3 0 i ⟨j.val / 64 * 192 + (128 + j.val % 64), by omega⟩)) := by
  rw [← hRow_eq, ← up_apply]
  show val_main_v70 (F := Ideal) x0 x1 x2 x3 x4 x5 (ix2 r j) = _
  rw [val_main_v70_apply, val_main_v49_apply, val_main_v47_apply]
  congr 1
  funext a
  apply Fin.ext
  match a with
  | ⟨0, _⟩ => show (((((r.val * 512 + j.val) / 131072) * 256 + ((r.val * 512 + j.val) / 512 % 256)) * 8 + ((r.val * 512 + j.val) / 64 % 8)) * 192 + (128 + (r.val * 512 + j.val) % 64)) / 393216 = r.val / 256; omega
  | ⟨1, _⟩ => show (((((r.val * 512 + j.val) / 131072) * 256 + ((r.val * 512 + j.val) / 512 % 256)) * 8 + ((r.val * 512 + j.val) / 64 % 8)) * 192 + (128 + (r.val * 512 + j.val) % 64)) / 1536 % 256 = r.val % 256; omega
  | ⟨2, _⟩ => show (((((r.val * 512 + j.val) / 131072) * 256 + ((r.val * 512 + j.val) / 512 % 256)) * 8 + ((r.val * 512 + j.val) / 64 % 8)) * 192 + (128 + (r.val * 512 + j.val) % 64)) % 1536 = j.val / 64 * 192 + (128 + j.val % 64); omega

theorem kvLatent_apply (j : Fin 256) :
    val_main_v72 (F := Ideal) x0 x1 x2 x6 x7 (ix2 r j)
      = valueLatent (modulated (fun k => x0 (ix2 ⟨r.val, by omega⟩ k)) (fun k => x2 (ix3 3 0 k)) (fun k => x1 (ix4 0 0 1 k)) (fun k => x1 (ix4 0 0 0 k)))
          (fun k i => x6 (ix3 0 k ⟨i.val, by omega⟩)) (fun i => x7 (ix2 0 i)) j := by
  rw [← hRow_eq, ← value_apply, val_main_v72_apply]
  congr 1
  funext a
  apply Fin.ext
  match a with
  | ⟨0, _⟩ => show (r.val * 256 + j.val) / 65536 = r.val / 256; omega
  | ⟨1, _⟩ => show (r.val * 256 + j.val) / 256 % 256 = r.val % 256; omega
  | ⟨2, _⟩ => show (r.val * 256 + j.val) % 256 = j.val; omega

theorem key_apply (j : Fin 64) :
    val_main_v73 (F := Ideal) x0 x1 x2 x6 (ix2 r j)
      = ∑ k, modulated (fun k => x0 (ix2 ⟨r.val, by omega⟩ k)) (fun k => x2 (ix3 3 0 k)) (fun k => x1 (ix4 0 0 1 k)) (fun k => x1 (ix4 0 0 0 k)) k
          * x6 (ix3 0 k ⟨256 + j.val, by omega⟩) := by
  rw [← hRow_eq, ← kv_apply, val_main_v73_apply, val_main_v67_apply]
  congr 1
  funext a
  apply Fin.ext
  match a with
  | ⟨0, _⟩ => show (r.val * 64 + j.val) / 16384 = r.val / 256; omega
  | ⟨1, _⟩ => show (r.val * 64 + j.val) / 64 % 256 = r.val % 256; omega
  | ⟨2, _⟩ => show 256 + (r.val * 64 + j.val) % 64 = 256 + j.val; omega

end Cert.RefProjIdeal.Block

namespace Cert.ProjIdeal.Block

open Cert.ProjIdeal Cert.ProjIdeal.Gen Cert.ProjIdeal.Value Cert.Layer

variable (m : (ℓ : Loc nD τ sig) → Buf (Elt Ideal) ℓ) (c : Dev nD)

/-- The kernel's array of the queries' unrotated parts is the reference's, -/
theorem nope_eq_reference : ((dats m 0 c).arrAt 12 cfg0.N : Vec Ideal S4096x1024 .bf16)
    = Cert.RefProjIdeal.Read.val_main_v69 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  funext i
  obtain ⟨r, j, rfl⟩ : ∃ (r : Fin 4096) (j : Fin 1024), i = ix2 r j := ⟨i 0, i 1, eq_ix2 i⟩
  exact (result12 m c r j).trans (Cert.RefProjIdeal.Block.nope_apply _ _ _ _ _ _ r j).symm

/-- that of their parts for rotation, -/
theorem rope_eq_reference : ((dats m 0 c).arrAt 13 cfg0.N : Vec Ideal S4096x512 .bf16)
    = Cert.RefProjIdeal.Read.val_main_v71 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  funext i
  obtain ⟨r, j, rfl⟩ : ∃ (r : Fin 4096) (j : Fin 512), i = ix2 r j := ⟨i 0, i 1, eq_ix2 i⟩
  exact (result13 m c r j).trans (Cert.RefProjIdeal.Block.rope_apply _ _ _ _ _ _ r j).symm

/-- that of the key-value latents, -/
theorem latent_eq_reference : ((dats m 0 c).arrAt 14 cfg0.N : Vec Ideal S4096x256 .f32)
    = Cert.RefProjIdeal.Read.val_main_v72 (F := Ideal) (m ((c : Thread nD τ).loc main_arg0)) (m ((c : Thread nD τ).loc main_arg1)) (m ((c : Thread nD τ).loc main_arg2))
        (m ((c : Thread nD τ).loc main_arg6)) (m ((c : Thread nD τ).loc main_arg7)) := by
  funext i
  obtain ⟨r, j, rfl⟩ : ∃ (r : Fin 4096) (j : Fin 256), i = ix2 r j := ⟨i 0, i 1, eq_ix2 i⟩
  exact (result14 m c r j).trans (Cert.RefProjIdeal.Block.kvLatent_apply _ _ _ _ _ r j).symm

/-- and that of the keys' parts for rotation. -/
theorem key_eq_reference : ((dats m 0 c).arrAt 15 cfg0.N : Vec Ideal S4096x64 .f32)
    = Cert.RefProjIdeal.Read.val_main_v73 (F := Ideal) (m ((c : Thread nD τ).loc main_arg0)) (m ((c : Thread nD τ).loc main_arg1)) (m ((c : Thread nD τ).loc main_arg2))
        (m ((c : Thread nD τ).loc main_arg6)) := by
  funext i
  obtain ⟨r, j, rfl⟩ : ∃ (r : Fin 4096) (j : Fin 64), i = ix2 r j := ⟨i 0, i 1, eq_ix2 i⟩
  exact (result15 m c r j).trans (Cert.RefProjIdeal.Block.key_apply _ _ _ _ r j).symm

end Cert.ProjIdeal.Block

end
-- ==== Proof.ConvBlock.lean ====
/- The short-convolution kernel, one grid point at a time: what the body leaves in the two scratch buffers and in the output
   block, read at an index. A point works through its 512 channels in two halves of 256; each half is the same arithmetic,
   `half`, on another part of the weights. -/
module

public import proofs.«01_k».proof.Proof.Gen.ConvIdeal.Value
public import proofs.«01_k».proof.Proof.Layer
public import Idealize.ShloMosaic.Lib.Tactic
public import Idealize.ShloMosaic.Lib.Pipeline.ValueKit.Tiles

@[expose] public section

noncomputable section

open Idealize.ShloMosaic Idealize.ShloMosaic.TcCoe Idealize.SL.Sem

namespace Cert.Layer

/-- Column `e` of a row `h` projected with the matrix `w`. -/
def column (h : Fin 1024 → EReal) (w : Fin 1024 → Fin 3072 → EReal) (e : Fin 3072) : EReal := ∑ k, h k * w k e

/-- The signal the convolution runs over, at channel `q` of the row `h`: the product of the second and third projections. -/
def signal (h : Fin 1024 → EReal) (w : Fin 1024 → Fin 3072 → EReal) (q : Fin 1024) : EReal :=
  column h w ⟨1024 + q.val, by omega⟩ * column h w ⟨2048 + q.val, by omega⟩

/-- Channel `q` of the row `h` after the gated three-tap convolution: `above` and `below` are the signals of the neighbouring
    rows of its sequence, zero where there is none. -/
def channel (h : Fin 1024 → EReal) (w : Fin 1024 → Fin 3072 → EReal) (t : Fin 3 → Fin 1024 → EReal) (above below : Fin 1024 → EReal)
    (q : Fin 1024) : EReal :=
  column h w ⟨q.val, by omega⟩ * (above q * t 0 q + signal h w q * t 1 q + below q * t 2 q)

/-- All 1024 channels projected back to entry `n` of the model's width. -/
def mix (h : Fin 1024 → EReal) (w : Fin 1024 → Fin 3072 → EReal) (t : Fin 3 → Fin 1024 → EReal) (above below : Fin 1024 → EReal)
    (o : Fin 1024 → Fin 1024 → EReal) (n : Fin 1024) : EReal := ∑ q, channel h w t above below q * o q n

/-- Channels `256 p … 256 p + 255` alone. -/
def mixPart (h : Fin 1024 → EReal) (w : Fin 1024 → Fin 3072 → EReal) (t : Fin 3 → Fin 1024 → EReal) (above below : Fin 1024 → EReal)
    (o : Fin 1024 → Fin 1024 → EReal) (p : ℕ) (hp : p < 4) (n : Fin 1024) : EReal :=
  ∑ q : Fin 256, channel h w t above below ⟨p * 256 + q.val, by omega⟩ * o ⟨p * 256 + q.val, by omega⟩ n

/-- The four parts, added two by two, are the whole sum. -/
theorem mix_eq_parts (h : Fin 1024 → EReal) (w : Fin 1024 → Fin 3072 → EReal) (t : Fin 3 → Fin 1024 → EReal) (above below : Fin 1024 → EReal)
    (o : Fin 1024 → Fin 1024 → EReal) (n : Fin 1024) :
    (mixPart h w t above below o 0 (by omega) n + mixPart h w t above below o 1 (by omega) n)
      + (mixPart h w t above below o 2 (by omega) n + mixPart h w t above below o 3 (by omega) n) = mix h w t above below o n := by
  unfold mix
  rw [Fin.sum_univ_tiles 4 256 rfl, Fin.sum_univ_four, ← add_assoc]
  rfl

/-- One token through the short convolution: the row `x`, plus the gate `γ` times the normalised mix of the normalised and
    modulated row. -/
def convToken (x g0 s b γ g1 : Fin 1024 → EReal) (w : Fin 1024 → Fin 3072 → EReal) (t : Fin 3 → Fin 1024 → EReal)
    (o : Fin 1024 → Fin 1024 → EReal) (above below : Fin 1024 → EReal) (j : Fin 1024) : EReal :=
  x j + γ j * rms (mix (modulated x g0 s b) w t above below o) g1 j

end Cert.Layer

namespace Cert.ConvIdeal.Block

open Cert.ConvIdeal Cert.ConvIdeal.Gen Cert.Layer

theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl

/-- The multiplier of the row above: zero on a sequence's first row, one elsewhere. `L` is the sequence length. -/
def maskPrev (L : BitVec 32) : FVec Ideal S1024x256 .f32 :=
  concatenate S1024x256 1
    [⟨S1024x128, select (cmpi .eq (andi (iota .tc S1024x128 32 [0] iota_S1024x128_d0_w32) (broadcast S1024x128 (Scalar.subi L 1#32))) (broadcast S1024x128 0#32))
        (broadcast S1024x128 (Scalar.ofBits (F := Ideal) .f32 0x00000000#32)) (broadcast S1024x128 (Scalar.ofBits (F := Ideal) .f32 0x3F800000#32))⟩,
     ⟨S1024x128, select (cmpi .eq (andi (iota .tc S1024x128 32 [0] iota_S1024x128_d0_w32) (broadcast S1024x128 (Scalar.subi L 1#32))) (broadcast S1024x128 0#32))
        (broadcast S1024x128 (Scalar.ofBits (F := Ideal) .f32 0x00000000#32)) (broadcast S1024x128 (Scalar.ofBits (F := Ideal) .f32 0x3F800000#32))⟩]
    concatenates_S1024x128_S1024x128_S1024x256_d1

/-- The multiplier of the row below: zero on a sequence's last row, one elsewhere. -/
def maskNext (L : BitVec 32) : FVec Ideal S1024x256 .f32 :=
  concatenate S1024x256 1
    [⟨S1024x128, select (cmpi .eq (andi (iota .tc S1024x128 32 [0] iota_S1024x128_d0_w32) (broadcast S1024x128 (Scalar.subi L 1#32))) (broadcast S1024x128 (Scalar.subi L 1#32)))
        (broadcast S1024x128 (Scalar.ofBits (F := Ideal) .f32 0x00000000#32)) (broadcast S1024x128 (Scalar.ofBits (F := Ideal) .f32 0x3F800000#32))⟩,
     ⟨S1024x128, select (cmpi .eq (andi (iota .tc S1024x128 32 [0] iota_S1024x128_d0_w32) (broadcast S1024x128 (Scalar.subi L 1#32))) (broadcast S1024x128 (Scalar.subi L 1#32)))
        (broadcast S1024x128 (Scalar.ofBits (F := Ideal) .f32 0x00000000#32)) (broadcast S1024x128 (Scalar.ofBits (F := Ideal) .f32 0x3F800000#32))⟩]
    concatenates_S1024x128_S1024x128_S1024x256_d1

/-- The gated convolution of one half's 256 channels: gate `b`, signal `z`, taps `c0 c1 c2`. -/
def gated (L : BitVec 32) (b z : FVec Ideal S1024x256 .f32) (c0 c1 c2 : Vec Ideal S1x1x256 .f32) : FVec Ideal S1024x256 .f32 :=
  mulf b (addf (addf
    (mulf (mulf (dynamicRotate 0 1#32 none z rotates_S1024x256_d0) (maskPrev L)) (broadcastTo S1024x256 (shapeCast S1x256 c0 shapeCasts_S1x1x256_S1x256) broadcasts_S1x256_S1024x256))
    (mulf z (broadcastTo S1024x256 (shapeCast S1x256 c1 shapeCasts_S1x1x256_S1x256) broadcasts_S1x256_S1024x256)))
    (mulf (mulf (dynamicRotate 0 1023#32 none z rotates_S1024x256_d0) (maskNext L)) (broadcastTo S1024x256 (shapeCast S1x256 c2 shapeCasts_S1x1x256_S1x256) broadcasts_S1x256_S1024x256)))

/-- One half's 256 channels of the row block `h`: projected, convolved and gated, -/
def channels (L : BitVec 32) (h : Vec Ideal S1024x1024 .bf16) (wb wc wu : Vec Ideal S1x1024x256 .f32) (c0 c1 c2 : Vec Ideal S1x1x256 .f32) : FVec Ideal S1024x256 .f32 :=
  gated L (k0_pay35 h wb) (mulf (k0_pay36 h wc) (k0_pay37 h wu)) c0 c1 c2

/-- and projected back to the model's width. -/
def half (L : BitVec 32) (h : Vec Ideal S1024x1024 .bf16) (wb wc wu : Vec Ideal S1x1024x256 .f32) (c0 c1 c2 : Vec Ideal S1x1x256 .f32) (wo : Vec Ideal S1x256x1024 .f32) : FVec Ideal S1024x1024 .f32 :=
  k0_pay41 (truncf .bf16 (channels L h wb wc wu c0 c1 c2) bitsLt_bf16_f32) (k0_pay40 wo)

/-- Both halves of a point's channels. -/
def chunk (L : BitVec 32) (h : Vec Ideal S1024x1024 .bf16) (x3 x4 x5 : Vec Ideal S1x1024x512 .f32) (x6 : Vec Ideal S1x3x512 .f32) (x7 : Vec Ideal S1x512x1024 .f32) : FVec Ideal S1024x1024 .f32 :=
  addf
    (half L h (View.ld x3 (Rect.unit ![0, 0, 0] ![1, 1024, 256] inb_S1x1024x512_S1x1024x256_0_0_0)) (View.ld x4 (Rect.unit ![0, 0, 0] ![1, 1024, 256] inb_S1x1024x512_S1x1024x256_0_0_0))
      (View.ld x5 (Rect.unit ![0, 0, 0] ![1, 1024, 256] inb_S1x1024x512_S1x1024x256_0_0_0)) (View.ld x6 (Rect.unit ![0, 0, 0] ![1, 1, 256] inb_S1x3x512_S1x1x256_0_0_0))
      (View.ld x6 (Rect.unit ![0, 1, 0] ![1, 1, 256] inb_S1x3x512_S1x1x256_0_1_0)) (View.ld x6 (Rect.unit ![0, 2, 0] ![1, 1, 256] inb_S1x3x512_S1x1x256_0_2_0))
      (View.ld x7 (Rect.unit ![0, 0, 0] ![1, 256, 1024] inb_S1x512x1024_S1x256x1024_0_0_0)))
    (half L h (View.ld x3 (Rect.unit ![0, 0, 256] ![1, 1024, 256] inb_S1x1024x512_S1x1024x256_0_0_256)) (View.ld x4 (Rect.unit ![0, 0, 256] ![1, 1024, 256] inb_S1x1024x512_S1x1024x256_0_0_256))
      (View.ld x5 (Rect.unit ![0, 0, 256] ![1, 1024, 256] inb_S1x1024x512_S1x1024x256_0_0_256)) (View.ld x6 (Rect.unit ![0, 0, 256] ![1, 1, 256] inb_S1x3x512_S1x1x256_0_0_256))
      (View.ld x6 (Rect.unit ![0, 1, 256] ![1, 1, 256] inb_S1x3x512_S1x1x256_0_1_256)) (View.ld x6 (Rect.unit ![0, 2, 256] ![1, 1, 256] inb_S1x3x512_S1x1x256_0_2_256))
      (View.ld x7 (Rect.unit ![0, 256, 0] ![1, 256, 1024] inb_S1x512x1024_S1x256x1024_0_256_0)))

/-- The length of the sequences in the row tile of grid coordinates `i`, as the kernel computes it. -/
abbrev seqLen (i : grid0.Coords) : BitVec 32 :=
  Scalar.select (Scalar.cmpi CmpIPredicate.slt (BitVec.ofNat 32 (i 0).val) 4#32) 256#32 1024#32

section Cases

variable (c : Dev nD) (i : grid0.Coords) (arg2 : Memref sig .tc .vmem S1024x1024 .f32) (harg2 : arg2.IsWhole) (arg3 : Memref sig .tc .vmem S1x1x6x1024 .f32) (harg3 : arg3.IsWhole) (arg4 : Memref sig .tc .vmem S1x4x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x1024x512 .f32) (harg7 : arg7.IsWhole) (arg8 : Memref sig .tc .vmem S1x3x512 .f32) (harg8 : arg8.IsWhole) (arg9 : Memref sig .tc .vmem S1x512x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x1024 .f32) (harg12 : arg12.IsWhole)
  (x0 : Vec Ideal S1024x1024 .f32) (x1 : Vec Ideal S1x1x6x1024 .f32) (x2 : Vec Ideal S1x4x1024 .f32) (x3 x4 x5 : Vec Ideal S1x1024x512 .f32)
  (x6 : Vec Ideal S1x3x512 .f32) (x7 : Vec Ideal S1x512x1024 .f32) (xs0 : Vec Ideal S1024x1024 .bf16) (xs1 : Vec Ideal S1024x1024 .f32)

/-- The first point of a row tile leaves the modulated rows in the first scratch buffer. -/
theorem sout_A_0 (hc0) (hc1) (hc2) :
    sout0_A_0 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7
      = k0_pay6 (k0_pay1 x1) (k0_pay2 x2) x0 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7)]
  unfold kernelRun0_A
  dsimp only
  sl_unfold_words
  rw [View.canon_unit_zero z2]
  simp only [View.readAt_eq_ld, harg2.read_unread, harg3.read_unread, harg4.read_unread, View.ld_unit_zero (S := S1024x1024) z2, View.ld_unit_zero (S := S1x1x6x1024) z4, View.ld_unit_zero (S := S1x4x1024) z3]

/-- … and its channels' contribution in the second. -/
theorem sout_A_1 (hc0) (hc1) (hc2) :
    sout0_A_1 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7
      = chunk (seqLen i) (k0_pay6 (k0_pay1 x1) (k0_pay2 x2) x0) x3 x4 x5 x6 x7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7)]
  unfold kernelRun0_A
  dsimp only
  sl_unfold_words
  rw [View.canon_unit_zero z2]
  simp only [View.readAt_eq_ld, harg2.read_unread, harg3.read_unread, harg4.read_unread, harg5.read_unread, harg6.read_unread, harg7.read_unread, harg8.read_unread, harg9.read_unread, View.readCov_unit_zero (S := S1024x1024) _ z2, View.ld_unit_zero (S := S1024x1024) z2, View.ld_unit_zero (S := S1x1x6x1024) z4, View.ld_unit_zero (S := S1x4x1024) z3]
  exact shapeCast_self _ _

/-- The second point adds its channels, normalises, gates and adds the residual row. -/
theorem out_B (hc0) (hc1) (hc2) :
    out0_B_8 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 xs0 xs1
      = k0_pay5 x2 x0 (k0_pay33 (k0_pay1 x1)) xs1
          (half (seqLen i) xs0 (View.ld x3 (Rect.unit ![0, 0, 0] ![1, 1024, 256] inb_S1x1024x512_S1x1024x256_0_0_0)) (View.ld x4 (Rect.unit ![0, 0, 0] ![1, 1024, 256] inb_S1x1024x512_S1x1024x256_0_0_0))
            (View.ld x5 (Rect.unit ![0, 0, 0] ![1, 1024, 256] inb_S1x1024x512_S1x1024x256_0_0_0)) (View.ld x6 (Rect.unit ![0, 0, 0] ![1, 1, 256] inb_S1x3x512_S1x1x256_0_0_0))
            (View.ld x6 (Rect.unit ![0, 1, 0] ![1, 1, 256] inb_S1x3x512_S1x1x256_0_1_0)) (View.ld x6 (Rect.unit ![0, 2, 0] ![1, 1, 256] inb_S1x3x512_S1x1x256_0_2_0))
            (View.ld x7 (Rect.unit ![0, 0, 0] ![1, 256, 1024] inb_S1x512x1024_S1x256x1024_0_0_0)))
          (channels (seqLen i) xs0 (View.ld x3 (Rect.unit ![0, 0, 256] ![1, 1024, 256] inb_S1x1024x512_S1x1024x256_0_0_256)) (View.ld x4 (Rect.unit ![0, 0, 256] ![1, 1024, 256] inb_S1x1024x512_S1x1024x256_0_0_256))
            (View.ld x5 (Rect.unit ![0, 0, 256] ![1, 1024, 256] inb_S1x1024x512_S1x1024x256_0_0_256)) (View.ld x6 (Rect.unit ![0, 0, 256] ![1, 1, 256] inb_S1x3x512_S1x1x256_0_0_256))
            (View.ld x6 (Rect.unit ![0, 1, 256] ![1, 1, 256] inb_S1x3x512_S1x1x256_0_1_256)) (View.ld x6 (Rect.unit ![0, 2, 256] ![1, 1, 256] inb_S1x3x512_S1x1x256_0_2_256)))
          (View.ld x7 (Rect.unit ![0, 256, 0] ![1, 256, 1024] inb_S1x512x1024_S1x256x1024_0_256_0)) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 xs0 xs1)]
  unfold kernelRun0_B
  dsimp only
  sl_unfold_words
  rw [View.canon_unit_zero z2]
  simp only [View.readAt_eq_ld, harg2.read_unread, harg3.read_unread, harg4.read_unread, harg5.read_unread, harg6.read_unread, harg7.read_unread, harg8.read_unread, harg9.read_unread, harg11.read_unread, harg12.read_unread, View.ld_unit_zero (S := S1024x1024) z2, View.ld_unit_zero (S := S1x1x6x1024) z4, View.ld_unit_zero (S := S1x4x1024) z3]
  rfl
end Cases

/-! ## Read at an index -/

theorem pay6_apply (x1 : Vec Ideal S1x1x6x1024 .f32) (x2 : Vec Ideal S1x4x1024 .f32) (x : Vec Ideal S1024x1024 .f32) (r j : Fin 1024) :
    k0_pay6 (F := Ideal) (k0_pay1 x1) (k0_pay2 x2) x (ix2 r j)
      = modulated (fun k => x (ix2 r k)) (fun k => x2 (ix3 0 0 k)) (fun k => x1 (ix4 0 0 1 k)) (fun k => x1 (ix4 0 0 0 k)) j := by
  pointwise [k0_pay6, k0_pay1, k0_pay2, modulated, rms]

/-- Whether row `r` of a tile is a sequence's first row, or its last. -/
abbrev isFirst (L : BitVec 32) (r : Fin 1024) : Prop := BitVec.ofNat 32 r.val &&& (L - 1#32) = 0#32
abbrev isLast (L : BitVec 32) (r : Fin 1024) : Prop := BitVec.ofNat 32 r.val &&& (L - 1#32) = L - 1#32

theorem select_eq (a b : BitVec 32) (x y : EReal) : Scalar.select (IntOp.cmpi .eq a b) x y = if a = b then x else y := by
  by_cases h : a = b
  · simp [Scalar.select, IntOp.cmpi, h]
  · have e : (a == b) = false := beq_eq_false_iff_ne.mpr h
    simp [Scalar.select, IntOp.cmpi, h, e]

theorem maskPrev_apply (L : BitVec 32) (r : Fin 1024) (q : Fin 256) : maskPrev L (ix2 r q) = if isFirst L r then 0 else 1 := by
  pointwise [maskPrev]
  rw [dite_eq_ite, ite_self]
  exact select_eq _ _ _ _

theorem maskNext_apply (L : BitVec 32) (r : Fin 1024) (q : Fin 256) : maskNext L (ix2 r q) = if isLast L r then 0 else 1 := by
  pointwise [maskNext]
  rw [dite_eq_ite, ite_self]
  exact select_eq _ _ _ _

theorem gated_apply (L : BitVec 32) (b z : Vec Ideal S1024x256 .f32) (c0 c1 c2 : Vec Ideal S1x1x256 .f32) (r : Fin 1024) (q : Fin 256) :
    gated L b z c0 c1 c2 (ix2 r q)
      = b (ix2 r q) * (z (ix2 ⟨(r.val + 1024 - 1) % 1024, by omega⟩ q) * maskPrev L (ix2 r q) * c0 (ix3 0 0 q) + z (ix2 r q) * c1 (ix3 0 0 q)
          + z (ix2 ⟨(r.val + 1024 - 1023) % 1024, by omega⟩ q) * maskNext L (ix2 r q) * c2 (ix3 0 0 q)) := by
  unfold gated
  generalize maskPrev L = p
  generalize maskNext L = n
  pointwise []

theorem proj_apply (h : Vec Ideal S1024x1024 .bf16) (w : Vec Ideal S1x1024x256 .f32) (r : Fin 1024) (q : Fin 256) :
    k0_pay35 (F := Ideal) h w (ix2 r q) = ∑ k : Fin 1024, h (ix2 r k) * w (ix3 0 k q) := by
  pointwise [k0_pay35]

theorem pay41_apply (g : Vec Ideal S1024x256 .bf16) (w : Vec Ideal S1x256x1024 .f32) (r j : Fin 1024) :
    k0_pay41 (F := Ideal) g (k0_pay40 w) (ix2 r j) = ∑ q : Fin 256, g (ix2 r q) * w (ix3 0 q j) := by
  pointwise [k0_pay41, k0_pay40]

theorem pay5_apply (x1 : Vec Ideal S1x1x6x1024 .f32) (x2 : Vec Ideal S1x4x1024 .f32) (x a b : Vec Ideal S1024x1024 .f32)
    (g : Vec Ideal S1024x256 .f32) (w : Vec Ideal S1x256x1024 .f32) (r j : Fin 1024) :
    k0_pay5 (F := Ideal) x2 x (k0_pay33 (k0_pay1 x1)) a b g w (ix2 r j)
      = x (ix2 r j) + x1 (ix4 0 0 2 j) * rms (fun n => a (ix2 r n) + (b (ix2 r n) + ∑ q : Fin 256, g (ix2 r q) * w (ix3 0 q n))) (fun n => x2 (ix3 0 1 n)) j := by
  pointwise [k0_pay5, k0_pay33, k0_pay1, k0_pay2, rms]

/-! ## A half's channels -/

/-- The signals of the rows above and below row `r` of a tile whose rows are `H`, zero at a sequence's ends. -/
def above (L : BitVec 32) (H : Fin 1024 → Fin 1024 → EReal) (W : Fin 1024 → Fin 3072 → EReal) (r q : Fin 1024) : EReal :=
  if isFirst L r then 0 else signal (H ⟨(r.val + 1024 - 1) % 1024, by omega⟩) W q
def below (L : BitVec 32) (H : Fin 1024 → Fin 1024 → EReal) (W : Fin 1024 → Fin 3072 → EReal) (r q : Fin 1024) : EReal :=
  if isLast L r then 0 else signal (H ⟨(r.val + 1024 - 1023) % 1024, by omega⟩) W q

theorem signal_apply (h : Vec Ideal S1024x1024 .bf16) (wc wu : Vec Ideal S1x1024x256 .f32) (r : Fin 1024) (q : Fin 256) :
    (mulf (k0_pay36 (F := Ideal) h wc) (k0_pay37 h wu) : FVec Ideal S1024x256 .f32) (ix2 r q)
      = (∑ k : Fin 1024, h (ix2 r k) * wc (ix3 0 k q)) * ∑ k : Fin 1024, h (ix2 r k) * wu (ix3 0 k q) := by
  pointwise [k0_pay36, k0_pay37]

theorem masked (p : Prop) [Decidable p] (x : EReal) : x * (if p then 0 else 1) = if p then 0 else x := by
  split
  · exact mul_zero x
  · exact mul_one x

/-- The channels one half computes are channels `256 p …` of the specification, when its weights are those columns. -/
theorem channels_apply (L : BitVec 32) (h : Vec Ideal S1024x1024 .bf16) (wb wc wu : Vec Ideal S1x1024x256 .f32) (c0 c1 c2 : Vec Ideal S1x1x256 .f32)
    (H : Fin 1024 → Fin 1024 → EReal) (W : Fin 1024 → Fin 3072 → EReal) (T : Fin 3 → Fin 1024 → EReal) (p : ℕ) (hp : p < 4)
    (hh : ∀ r k, h (ix2 r k) = H r k) (hb : ∀ k (q : Fin 256), wb (ix3 0 k q) = W k ⟨p * 256 + q.val, by omega⟩)
    (hc : ∀ k (q : Fin 256), wc (ix3 0 k q) = W k ⟨1024 + (p * 256 + q.val), by omega⟩)
    (hu : ∀ k (q : Fin 256), wu (ix3 0 k q) = W k ⟨2048 + (p * 256 + q.val), by omega⟩)
    (h0 : ∀ q : Fin 256, c0 (ix3 0 0 q) = T 0 ⟨p * 256 + q.val, by omega⟩) (h1 : ∀ q : Fin 256, c1 (ix3 0 0 q) = T 1 ⟨p * 256 + q.val, by omega⟩)
    (h2 : ∀ q : Fin 256, c2 (ix3 0 0 q) = T 2 ⟨p * 256 + q.val, by omega⟩) (r : Fin 1024) (q : Fin 256) :
    channels L h wb wc wu c0 c1 c2 (ix2 r q) = channel (H r) W T (above L H W r) (below L H W r) ⟨p * 256 + q.val, by omega⟩ := by
  unfold channels
  rw [gated_apply, maskPrev_apply, maskNext_apply, proj_apply, signal_apply, signal_apply, signal_apply, masked, masked]
  simp only [hh, hb, hc, hu, h0, h1, h2]
  rfl

/-- Channels `256 q …` of a 512-wide window, loaded. -/
theorem ld_columns (x : Vec Ideal S1x1024x512 .f32) (o : ℕ) (ho : o ≤ 256) (inb) (k : Fin 1024) (q : Fin 256) :
    View.ld x (Rect.unit (s := S1x1024x512) ![0, 0, o] ![1, 1024, 256] inb) (ix3 0 k q) = x (ix3 0 k ⟨o + q.val, by omega⟩) :=
  View.ld_unit_apply_of _ _ _ _ _ _ fun a => by
    match a with
    | ⟨0, _⟩ => rfl
    | ⟨1, _⟩ => show k.val = 0 + k.val; omega
    | ⟨2, _⟩ => rfl

theorem ld_tap (x : Vec Ideal S1x3x512 .f32) (i : Fin 3) (d o : ℕ) (hd : d = i.val) (ho : o ≤ 256) (inb) (q : Fin 256) :
    View.ld x (Rect.unit (s := S1x3x512) ![0, d, o] ![1, 1, 256] inb) (ix3 0 0 q) = x (ix3 0 i ⟨o + q.val, by omega⟩) :=
  View.ld_unit_apply_of _ _ _ _ _ _ fun a => by
    match a with
    | ⟨0, _⟩ => rfl
    | ⟨1, _⟩ => show i.val = d + 0; omega
    | ⟨2, _⟩ => rfl

theorem ld_rows (x : Vec Ideal S1x512x1024 .f32) (o : ℕ) (ho : o ≤ 256) (inb) (q : Fin 256) (j : Fin 1024) :
    View.ld x (Rect.unit (s := S1x512x1024) ![0, o, 0] ![1, 256, 1024] inb) (ix3 0 q j) = x (ix3 0 ⟨o + q.val, by omega⟩ j) :=
  View.ld_unit_apply_of _ _ _ _ _ _ fun a => by
    match a with
    | ⟨0, _⟩ => rfl
    | ⟨1, _⟩ => rfl
    | ⟨2, _⟩ => show j.val = 0 + j.val; omega

/-! ## A point's channels -/

section Point
/-- Column `512 e + q` of the 1024 channels, and the same column of the three projections. -/
abbrev chan (e : ℕ) (he : e < 2) (q : Fin 512) : Fin 1024 := ⟨e * 512 + q.val, by omega⟩
abbrev bcol (e : ℕ) (he : e < 2) (q : Fin 512) : Fin 3072 := ⟨e * 512 + q.val, by omega⟩
abbrev ccol (e : ℕ) (he : e < 2) (q : Fin 512) : Fin 3072 := ⟨1024 + (e * 512 + q.val), by omega⟩
abbrev ucol (e : ℕ) (he : e < 2) (q : Fin 512) : Fin 3072 := ⟨2048 + (e * 512 + q.val), by omega⟩

variable (L : BitVec 32) (h : Vec Ideal S1024x1024 .bf16) (x3 x4 x5 : Vec Ideal S1x1024x512 .f32) (x6 : Vec Ideal S1x3x512 .f32) (x7 : Vec Ideal S1x512x1024 .f32)
  (H : Fin 1024 → Fin 1024 → EReal) (W : Fin 1024 → Fin 3072 → EReal) (T : Fin 3 → Fin 1024 → EReal) (O : Fin 1024 → Fin 1024 → EReal) (e : ℕ) (he : e < 2)
  (hh : ∀ r k, h (ix2 r k) = H r k) (hb : ∀ k (q : Fin 512), x3 (ix3 0 k q) = W k (bcol e he q))
  (hc : ∀ k (q : Fin 512), x4 (ix3 0 k q) = W k (ccol e he q))
  (hu : ∀ k (q : Fin 512), x5 (ix3 0 k q) = W k (ucol e he q))
  (ht : ∀ i (q : Fin 512), x6 (ix3 0 i q) = T i (chan e he q))
  (ho : ∀ (q : Fin 512) j, x7 (ix3 0 q j) = O (chan e he q) j)
include hh hb hc hu ht

/-- Half `s` of point `e`'s channels, -/
theorem point_channels (s o : ℕ) (hs : s < 2) (h256 : o = s * 256) (i1) (j0 j1 j2) (r : Fin 1024) (q : Fin 256) :
    channels L h (View.ld x3 (Rect.unit (s := S1x1024x512) ![0, 0, o] ![1, 1024, 256] i1)) (View.ld x4 (Rect.unit (s := S1x1024x512) ![0, 0, o] ![1, 1024, 256] i1))
        (View.ld x5 (Rect.unit (s := S1x1024x512) ![0, 0, o] ![1, 1024, 256] i1)) (View.ld x6 (Rect.unit (s := S1x3x512) ![0, 0, o] ![1, 1, 256] j0))
        (View.ld x6 (Rect.unit (s := S1x3x512) ![0, 1, o] ![1, 1, 256] j1)) (View.ld x6 (Rect.unit (s := S1x3x512) ![0, 2, o] ![1, 1, 256] j2)) (ix2 r q)
      = channel (H r) W T (above L H W r) (below L H W r) ⟨(2 * e + s) * 256 + q.val, by omega⟩ := by
  refine channels_apply L h _ _ _ _ _ _ H W T (2 * e + s) (by omega) hh ?_ ?_ ?_ ?_ ?_ ?_ r q
  · intro k q; rw [ld_columns x3 o (by omega), hb]; exact congrArg (W k) (Fin.ext (by dsimp only [bcol, ccol, ucol]; omega))
  · intro k q; rw [ld_columns x4 o (by omega), hc]; exact congrArg (W k) (Fin.ext (by dsimp only [bcol, ccol, ucol]; omega))
  · intro k q; rw [ld_columns x5 o (by omega), hu]; exact congrArg (W k) (Fin.ext (by dsimp only [bcol, ccol, ucol]; omega))
  · intro q; rw [ld_tap x6 0 0 o rfl (by omega), ht]; exact congrArg (T 0) (Fin.ext (by dsimp only [chan]; omega))
  · intro q; rw [ld_tap x6 1 1 o rfl (by omega), ht]; exact congrArg (T 1) (Fin.ext (by dsimp only [chan]; omega))
  · intro q; rw [ld_tap x6 2 2 o rfl (by omega), ht]; exact congrArg (T 2) (Fin.ext (by dsimp only [chan]; omega))

include ho

/-- and what they add to the sum. -/
theorem point_half (s o : ℕ) (hs : s < 2) (h256 : o = s * 256) (i1) (j0 j1 j2) (i2) (r j : Fin 1024) :
    half L h (View.ld x3 (Rect.unit (s := S1x1024x512) ![0, 0, o] ![1, 1024, 256] i1)) (View.ld x4 (Rect.unit (s := S1x1024x512) ![0, 0, o] ![1, 1024, 256] i1))
        (View.ld x5 (Rect.unit (s := S1x1024x512) ![0, 0, o] ![1, 1024, 256] i1)) (View.ld x6 (Rect.unit (s := S1x3x512) ![0, 0, o] ![1, 1, 256] j0))
        (View.ld x6 (Rect.unit (s := S1x3x512) ![0, 1, o] ![1, 1, 256] j1)) (View.ld x6 (Rect.unit (s := S1x3x512) ![0, 2, o] ![1, 1, 256] j2))
        (View.ld x7 (Rect.unit (s := S1x512x1024) ![0, o, 0] ![1, 256, 1024] i2)) (ix2 r j)
      = mixPart (H r) W T (above L H W r) (below L H W r) O (2 * e + s) (by omega) j := by
  unfold half
  rw [pay41_apply]
  refine Finset.sum_congr rfl fun q _ => ?_
  refine congrArg₂ (· * ·) (point_channels L h x3 x4 x5 x6 H W T e he hh hb hc hu ht s o hs h256 i1 j0 j1 j2 r q) ?_
  rw [ld_rows x7 o (by omega), ho]
  exact congrArg (O · j) (Fin.ext (by dsimp only [chan]; omega))

theorem chunk_apply (r j : Fin 1024) :
    chunk L h x3 x4 x5 x6 x7 (ix2 r j)
      = mixPart (H r) W T (above L H W r) (below L H W r) O (2 * e + 0) (by omega) j
        + mixPart (H r) W T (above L H W r) (below L H W r) O (2 * e + 1) (by omega) j :=
  congrArg₂ (· + ·) (point_half L h x3 x4 x5 x6 x7 H W T O e he hh hb hc hu ht ho 0 0 (by omega) rfl _ _ _ _ _ r j)
    (point_half L h x3 x4 x5 x6 x7 H W T O e he hh hb hc hu ht ho 1 256 (by omega) rfl _ _ _ _ _ r j)

end Point

end Cert.ConvIdeal.Block

end
-- ==== Proof.ConvValue.lean ====
/- The short-convolution kernel: what its result array holds after the run. A grid point `2 i + e` reads row tile `i` and half
   `e` of the channels; the two points of a tile together leave every row's `Layer.convToken`. -/
module

public import proofs.«01_k».proof.Proof.ConvBlock

@[expose] public section

noncomputable section

open Idealize.ShloMosaic Idealize.ShloMosaic.TcCoe Idealize.SL.Sem

namespace Cert.ConvIdeal.Block

open Cert.ConvIdeal Cert.ConvIdeal.Gen Cert.ConvIdeal.Value Cert.Layer

variable (m : (ℓ : Loc nD τ sig) → Buf (Elt Ideal) ℓ)

theorem lt12 (t : Fin cfg0.N) : t.val < 12 := lt_of_lt_of_eq t.isLt (show cfg0.N = 12 from N_0)

/-! ## The input windows' blocks -/

theorem index0 : ∀ t : Fin cfg0.N, win0_0.index t 0 = t.val / 2 ∧ win0_0.index t 1 = 0 := (by decide +kernel : ∀ t : Fin grid0.N, _)
theorem index1 : ∀ t : Fin cfg0.N, win0_1.index t 0 = 0 ∧ win0_1.index t 1 = t.val / 2 - 3 ∧ win0_1.index t 2 = 0 ∧ win0_1.index t 3 = 0 := (by decide +kernel : ∀ t : Fin grid0.N, _)
theorem index2 : ∀ t : Fin cfg0.N, win0_2.index t 0 = 1 ∧ win0_2.index t 1 = 0 ∧ win0_2.index t 2 = 0 := (by decide +kernel : ∀ t : Fin grid0.N, _)
theorem index3 : ∀ t : Fin cfg0.N, win0_3.index t 0 = 0 ∧ win0_3.index t 1 = 0 ∧ win0_3.index t 2 = t.val % 2 := (by decide +kernel : ∀ t : Fin grid0.N, _)
theorem index4 : ∀ t : Fin cfg0.N, win0_4.index t 0 = 0 ∧ win0_4.index t 1 = 0 ∧ win0_4.index t 2 = 2 + t.val % 2 := (by decide +kernel : ∀ t : Fin grid0.N, _)
theorem index5 : ∀ t : Fin cfg0.N, win0_5.index t 0 = 0 ∧ win0_5.index t 1 = 0 ∧ win0_5.index t 2 = 4 + t.val % 2 := (by decide +kernel : ∀ t : Fin grid0.N, _)
theorem index6 : ∀ t : Fin cfg0.N, win0_6.index t 0 = 0 ∧ win0_6.index t 1 = 0 ∧ win0_6.index t 2 = t.val % 2 := (by decide +kernel : ∀ t : Fin grid0.N, _)
theorem index7 : ∀ t : Fin cfg0.N, win0_7.index t 0 = 0 ∧ win0_7.index t 1 = t.val % 2 ∧ win0_7.index t 2 = 0 := (by decide +kernel : ∀ t : Fin grid0.N, _)

/-- The array row that row `r` of tile `i` is. -/
abbrev row (i : ℕ) (hi : i < 6) (r : Fin 1024) : Fin 6144 := ⟨i * 1024 + r.val, by omega⟩

theorem blk0 (c : Dev nD) (t : Fin cfg0.N) (r j : Fin 1024) :
    (iblk m c 0 t : Vec Ideal S1024x1024 .f32) (ix2 r j)
      = m ((c : Thread nD τ).loc main_arg0) (ix2 (row (t.val / 2) (by have := lt12 t; omega) r) j) := by
  obtain ⟨h0, h1⟩ := index0 t
  unfold iblk
  rw [View.read_apply]
  show V m c main_arg0 _ = _
  rw [V_main_arg0]
  congr 1
  funext a
  apply Fin.ext
  match a with
  | ⟨0, _⟩ => show win0_0.index t 0 * 1024 + 1 * r.val = t.val / 2 * 1024 + r.val; rw [h0]; omega
  | ⟨1, _⟩ => show win0_0.index t 1 * 1024 + 1 * j.val = j.val; rw [h1]; omega

theorem blk1 (c : Dev nD) (t : Fin cfg0.N) (p : Fin 6) (j : Fin 1024) :
    (iblk m c 1 t : Vec Ideal S1x1x6x1024 .f32) (ix4 0 0 p j)
      = m ((c : Thread nD τ).loc main_arg1) (ix4 0 ⟨t.val / 2 - 3, by have := lt12 t; omega⟩ p j) := by
  obtain ⟨h0, h1, h2, h3⟩ := index1 t
  unfold iblk
  rw [View.read_apply]
  show V m c main_arg1 _ = _
  rw [V_main_arg1]
  congr 1
  funext a
  apply Fin.ext
  match a with
  | ⟨0, _⟩ => show win0_1.index t 0 * 1 + 1 * 0 = 0; rw [h0]
  | ⟨1, _⟩ => show win0_1.index t 1 * 1 + 1 * 0 = t.val / 2 - 3; rw [h1]; omega
  | ⟨2, _⟩ => show win0_1.index t 2 * 6 + 1 * p.val = p.val; rw [h2]; omega
  | ⟨3, _⟩ => show win0_1.index t 3 * 1024 + 1 * j.val = j.val; rw [h3]; omega

theorem blk2 (c : Dev nD) (t : Fin cfg0.N) (p : Fin 4) (j : Fin 1024) :
    (iblk m c 2 t : Vec Ideal S1x4x1024 .f32) (ix3 0 p j)
      = m ((c : Thread nD τ).loc main_arg2) (ix3 1 p j) := by
  obtain ⟨h0, h1, h2⟩ := index2 t
  unfold iblk
  rw [View.read_apply]
  show V m c main_arg2 _ = _
  rw [V_main_arg2]
  congr 1
  funext a
  apply Fin.ext
  match a with
  | ⟨0, _⟩ => show win0_2.index t 0 * 1 + 1 * 0 = 1; rw [h0]
  | ⟨1, _⟩ => show win0_2.index t 1 * 4 + 1 * p.val = p.val; rw [h1]; omega
  | ⟨2, _⟩ => show win0_2.index t 2 * 1024 + 1 * j.val = j.val; rw [h2]; omega

theorem blk3 (c : Dev nD) (t : Fin cfg0.N) (k : Fin 1024) (q : Fin 512) :
    (iblk m c 3 t : Vec Ideal S1x1024x512 .f32) (ix3 0 k q)
      = m ((c : Thread nD τ).loc main_arg3) (ix3 0 k ⟨t.val % 2 * 512 + q.val, by omega⟩) := by
  obtain ⟨h0, h1, h2⟩ := index3 t
  unfold iblk
  rw [View.read_apply]
  show V m c main_arg3 _ = _
  rw [V_main_arg3]
  congr 1
  funext a
  apply Fin.ext
  match a with
  | ⟨0, _⟩ => show win0_3.index t 0 * 1 + 1 * 0 = 0; rw [h0]
  | ⟨1, _⟩ => show win0_3.index t 1 * 1024 + 1 * k.val = k.val; rw [h1]; omega
  | ⟨2, _⟩ => show win0_3.index t 2 * 512 + 1 * q.val = t.val % 2 * 512 + q.val; rw [h2]; omega

theorem blk4 (c : Dev nD) (t : Fin cfg0.N) (k : Fin 1024) (q : Fin 512) :
    (iblk m c 4 t : Vec Ideal S1x1024x512 .f32) (ix3 0 k q)
      = m ((c : Thread nD τ).loc main_arg3) (ix3 0 k ⟨1024 + (t.val % 2 * 512 + q.val), by omega⟩) := by
  obtain ⟨h0, h1, h2⟩ := index4 t
  unfold iblk
  rw [View.read_apply]
  show V m c main_arg3 _ = _
  rw [V_main_arg3]
  congr 1
  funext a
  apply Fin.ext
  match a with
  | ⟨0, _⟩ => show win0_4.index t 0 * 1 + 1 * 0 = 0; rw [h0]
  | ⟨1, _⟩ => show win0_4.index t 1 * 1024 + 1 * k.val = k.val; rw [h1]; omega
  | ⟨2, _⟩ => show win0_4.index t 2 * 512 + 1 * q.val = 1024 + (t.val % 2 * 512 + q.val); rw [h2]; omega

theorem blk5 (c : Dev nD) (t : Fin cfg0.N) (k : Fin 1024) (q : Fin 512) :
    (iblk m c 5 t : Vec Ideal S1x1024x512 .f32) (ix3 0 k q)
      = m ((c : Thread nD τ).loc main_arg3) (ix3 0 k ⟨2048 + (t.val % 2 * 512 + q.val), by omega⟩) := by
  obtain ⟨h0, h1, h2⟩ := index5 t
  unfold iblk
  rw [View.read_apply]
  show V m c main_arg3 _ = _
  rw [V_main_arg3]
  congr 1
  funext a
  apply Fin.ext
  match a with
  | ⟨0, _⟩ => show win0_5.index t 0 * 1 + 1 * 0 = 0; rw [h0]
  | ⟨1, _⟩ => show win0_5.index t 1 * 1024 + 1 * k.val = k.val; rw [h1]; omega
  | ⟨2, _⟩ => show win0_5.index t 2 * 512 + 1 * q.val = 2048 + (t.val % 2 * 512 + q.val); rw [h2]; omega

theorem blk6 (c : Dev nD) (t : Fin cfg0.N) (p : Fin 3) (q : Fin 512) :
    (iblk m c 6 t : Vec Ideal S1x3x512 .f32) (ix3 0 p q)
      = m ((c : Thread nD τ).loc main_arg4) (ix3 0 p ⟨t.val % 2 * 512 + q.val, by omega⟩) := by
  obtain ⟨h0, h1, h2⟩ := index6 t
  unfold iblk
  rw [View.read_apply]
  show V m c main_arg4 _ = _
  rw [V_main_arg4]
  congr 1
  funext a
  apply Fin.ext
  match a with
  | ⟨0, _⟩ => show win0_6.index t 0 * 1 + 1 * 0 = 0; rw [h0]
  | ⟨1, _⟩ => show win0_6.index t 1 * 3 + 1 * p.val = p.val; rw [h1]; omega
  | ⟨2, _⟩ => show win0_6.index t 2 * 512 + 1 * q.val = t.val % 2 * 512 + q.val; rw [h2]; omega

theorem blk7 (c : Dev nD) (t : Fin cfg0.N) (q : Fin 512) (j : Fin 1024) :
    (iblk m c 7 t : Vec Ideal S1x512x1024 .f32) (ix3 0 q j)
      = m ((c : Thread nD τ).loc main_arg5) (ix3 0 ⟨t.val % 2 * 512 + q.val, by omega⟩ j) := by
  obtain ⟨h0, h1, h2⟩ := index7 t
  unfold iblk
  rw [View.read_apply]
  show V m c main_arg5 _ = _
  rw [V_main_arg5]
  congr 1
  funext a
  apply Fin.ext
  match a with
  | ⟨0, _⟩ => show win0_7.index t 0 * 1 + 1 * 0 = 0; rw [h0]
  | ⟨1, _⟩ => show win0_7.index t 1 * 512 + 1 * q.val = t.val % 2 * 512 + q.val; rw [h1]; omega
  | ⟨2, _⟩ => show win0_7.index t 2 * 1024 + 1 * j.val = j.val; rw [h2]; omega

/-! ## The arguments as functions of row and column -/

abbrev X (c : Dev nD) (i : ℕ) (hi : i < 6) (r k : Fin 1024) : EReal := m ((c : Thread nD τ).loc main_arg0) (ix2 (row i hi r) k)
abbrev M (c : Dev nD) (i : ℕ) (hi : i < 6) (p : Fin 6) (k : Fin 1024) : EReal := m ((c : Thread nD τ).loc main_arg1) (ix4 0 ⟨i - 3, by omega⟩ p k)
abbrev Gn (c : Dev nD) (p : Fin 4) (k : Fin 1024) : EReal := m ((c : Thread nD τ).loc main_arg2) (ix3 1 p k)
abbrev W (c : Dev nD) (k : Fin 1024) (e : Fin 3072) : EReal := m ((c : Thread nD τ).loc main_arg3) (ix3 0 k e)
abbrev T (c : Dev nD) (p : Fin 3) (q : Fin 1024) : EReal := m ((c : Thread nD τ).loc main_arg4) (ix3 0 p q)
abbrev O (c : Dev nD) (q j : Fin 1024) : EReal := m ((c : Thread nD τ).loc main_arg5) (ix3 0 q j)

/-- The modulated row `r` of tile `i`. -/
abbrev H (c : Dev nD) (i : ℕ) (hi : i < 6) (r : Fin 1024) : Fin 1024 → EReal :=
  modulated (X m c i hi r) (Gn m c 0) (M m c i hi 1) (M m c i hi 0)

/-- The length of tile `i`'s sequences: 256 in the first four, 1024 in the last two. -/
abbrev len (i : ℕ) : BitVec 32 := if i < 4 then 256#32 else 1024#32

theorem seqLen_eq : ∀ t : Fin cfg0.N, seqLen (grid0.coords t) = len (t.val / 2) := (by decide +kernel : ∀ t : Fin grid0.N, _)

/-! ## The two points of a row tile -/

/-- The first point of tile `i` leaves the modulated rows in the first scratch buffer, -/
theorem h0_A (c : Dev nD) (t : Fin cfg0.N) (i : ℕ) (hi : i < 6) (ht : t.val = 2 * i) (r j : Fin 1024) :
    (outsAt0 m c t.val t.isLt).2.1 (ix2 r j) = H m c i hi r j := by
  obtain rfl : i = t.val / 2 := by omega
  rw [outsAt0_A m c t (by omega) (by omega)]
  dsimp only
  rw [sout_A_0, pay6_apply]
  simp only [blk0, blk1, blk2]

/-- and its half of the channels in the second. -/
theorem h1_A (c : Dev nD) (t : Fin cfg0.N) (i : ℕ) (hi : i < 6) (ht : t.val = 2 * i) (r j : Fin 1024) :
    (outsAt0 m c t.val t.isLt).2.2 (ix2 r j)
      = mixPart (H m c i hi r) (W m c) (T m c) (above (len i) (H m c i hi) (W m c) r) (below (len i) (H m c i hi) (W m c) r) (O m c) 0 (by omega) j
        + mixPart (H m c i hi r) (W m c) (T m c) (above (len i) (H m c i hi) (W m c) r) (below (len i) (H m c i hi) (W m c) r) (O m c) 1 (by omega) j := by
  obtain rfl : i = t.val / 2 := by omega
  have e0 : t.val % 2 = 0 := by omega
  rw [outsAt0_A m c t (by omega) (by omega)]
  dsimp only
  rw [sout_A_1, seqLen_eq]
  refine chunk_apply (len (t.val / 2)) _ _ _ _ _ _ (H m c (t.val / 2) hi) (W m c) (T m c) (O m c) 0 (by omega) ?_ ?_ ?_ ?_ ?_ ?_ r j
  · intro r k; rw [pay6_apply]; simp only [blk0, blk1, blk2]
  · intro k q; rw [blk3]; exact congrArg (W m c k) (Fin.ext (by dsimp only [bcol, ccol, ucol]; omega))
  · intro k q; rw [blk4]; exact congrArg (W m c k) (Fin.ext (by dsimp only [bcol, ccol, ucol]; omega))
  · intro k q; rw [blk5]; exact congrArg (W m c k) (Fin.ext (by dsimp only [bcol, ccol, ucol]; omega))
  · intro p q; rw [blk6]; exact congrArg (T m c p) (Fin.ext (by dsimp only [chan]; omega))
  · intro q j; rw [blk7]; exact congrArg (O m c · j) (Fin.ext (by dsimp only [chan]; omega))

/-- The second point adds the other half, normalises the sum, gates it and adds the row. -/
theorem h_B (c : Dev nD) (t : Fin cfg0.N) (i : ℕ) (hi : i < 6) (ht : t.val = 2 * i + 1) (acc : Fin 1024 → EReal) (r j : Fin 1024)
    (hh : ∀ r k, (outsAt0 m c (t.val - 1) (by have := t.isLt; omega)).2.1 (ix2 r k) = H m c i hi r k)
    (ha : ∀ k, (outsAt0 m c (t.val - 1) (by have := t.isLt; omega)).2.2 (ix2 r k) = acc k) :
    (outsAt0 m c t.val t.isLt).1 (ix2 r j)
      = X m c i hi r j + M m c i hi 2 j
          * rms (fun n => acc n
              + (mixPart (H m c i hi r) (W m c) (T m c) (above (len i) (H m c i hi) (W m c) r) (below (len i) (H m c i hi) (W m c) r) (O m c) 2 (by omega) n
                + mixPart (H m c i hi r) (W m c) (T m c) (above (len i) (H m c i hi) (W m c) r) (below (len i) (H m c i hi) (W m c) r) (O m c) 3 (by omega) n))
            (Gn m c 1) j := by
  obtain rfl : i = t.val / 2 := by omega
  have e1 : t.val % 2 = 1 := by omega
  rw [outsAt0_B m c t (by omega) (by omega)]
  dsimp only
  rw [out_B, seqLen_eq, pay5_apply]
  have k3 : ∀ k (q : Fin 512), (iblk m c 3 t : Vec Ideal S1x1024x512 .f32) (ix3 0 k q) = W m c k (bcol 1 (by omega) q) := fun k q => by
    rw [blk3]; exact congrArg (W m c k) (Fin.ext (by dsimp only [bcol, ccol, ucol]; omega))
  have k4 : ∀ k (q : Fin 512), (iblk m c 4 t : Vec Ideal S1x1024x512 .f32) (ix3 0 k q) = W m c k (ccol 1 (by omega) q) := fun k q => by
    rw [blk4]; exact congrArg (W m c k) (Fin.ext (by dsimp only [bcol, ccol, ucol]; omega))
  have k5 : ∀ k (q : Fin 512), (iblk m c 5 t : Vec Ideal S1x1024x512 .f32) (ix3 0 k q) = W m c k (ucol 1 (by omega) q) := fun k q => by
    rw [blk5]; exact congrArg (W m c k) (Fin.ext (by dsimp only [bcol, ccol, ucol]; omega))
  have k6 : ∀ p (q : Fin 512), (iblk m c 6 t : Vec Ideal S1x3x512 .f32) (ix3 0 p q) = T m c p (chan 1 (by omega) q) := fun p q => by
    rw [blk6]; exact congrArg (T m c p) (Fin.ext (by dsimp only [chan]; omega))
  have k7 : ∀ (q : Fin 512) j, (iblk m c 7 t : Vec Ideal S1x512x1024 .f32) (ix3 0 q j) = O m c (chan 1 (by omega) q) j := fun q j => by
    rw [blk7]; exact congrArg (O m c · j) (Fin.ext (by dsimp only [chan]; omega))
  have p2 := point_half (len (t.val / 2)) _ _ _ _ _ _ (H m c (t.val / 2) hi) (W m c) (T m c) (O m c) 1 (by omega) hh k3 k4 k5 k6 k7 0 0 (by omega) rfl
    inb_S1x1024x512_S1x1024x256_0_0_0 inb_S1x3x512_S1x1x256_0_0_0 inb_S1x3x512_S1x1x256_0_1_0 inb_S1x3x512_S1x1x256_0_2_0 inb_S1x512x1024_S1x256x1024_0_0_0 r
  have p3 := point_half (len (t.val / 2)) _ _ _ _ _ _ (H m c (t.val / 2) hi) (W m c) (T m c) (O m c) 1 (by omega) hh k3 k4 k5 k6 k7 1 256 (by omega) rfl
    inb_S1x1024x512_S1x1024x256_0_0_256 inb_S1x3x512_S1x1x256_0_0_256 inb_S1x3x512_S1x1x256_0_1_256 inb_S1x3x512_S1x1x256_0_2_256 inb_S1x512x1024_S1x256x1024_0_256_0 r
  unfold half at p3
  simp only [pay41_apply] at p3
  rw [blk0, blk1]
  refine congrArg (fun z => X m c (t.val / 2) hi r j + M m c (t.val / 2) hi 2 j * z) ?_
  refine congrArg₂ (fun f g => rms f g j) (funext fun n => ?_) (funext fun n => blk2 m c t 1 n)
  exact congrArg₂ (· + ·) (ha n) (congrArg₂ (· + ·) (p2 n) (p3 n))

/-- The last point of row tile `i` leaves every row of the tile through the whole layer. -/
theorem tile (c : Dev nD) (i : ℕ) (hi : i < 6) (r j : Fin 1024) :
    (outsAt0 m c (2 * i + 1) (by rw [show cfg0.N = 12 from N_0]; omega)).1 (ix2 r j)
      = convToken (X m c i hi r) (Gn m c 0) (M m c i hi 1) (M m c i hi 0) (M m c i hi 2) (Gn m c 1) (W m c) (T m c) (O m c)
          (above (len i) (H m c i hi) (W m c) r) (below (len i) (H m c i hi) (W m c) r) j := by
  have hN : cfg0.N = 12 := N_0
  refine (h_B m c ⟨2 * i + 1, by omega⟩ i hi rfl _ r j (fun r k => h0_A m c ⟨2 * i, by omega⟩ i hi rfl r k)
    (fun k => h1_A m c ⟨2 * i, by omega⟩ i hi rfl r k)).trans ?_
  unfold convToken
  rw [← funext (mix_eq_parts (modulated (X m c i hi r) (Gn m c 0) (M m c i hi 1) (M m c i hi 0)) (W m c) (T m c)
    (above (len i) (H m c i hi) (W m c) r) (below (len i) (H m c i hi) (W m c) r) (O m c))]

/-- The result array: every row through the layer. -/
theorem result (c : Dev nD) (r : Fin 6144) (j : Fin 1024) :
    G8 m c (ix2 r j)
      = convToken (X m c (r.val / 1024) (by omega) ⟨r.val % 1024, by omega⟩) (Gn m c 0) (M m c (r.val / 1024) (by omega) 1)
          (M m c (r.val / 1024) (by omega) 0) (M m c (r.val / 1024) (by omega) 2) (Gn m c 1) (W m c) (T m c) (O m c)
          (above (len (r.val / 1024)) (H m c (r.val / 1024) (by omega)) (W m c) ⟨r.val % 1024, by omega⟩)
          (below (len (r.val / 1024)) (H m c (r.val / 1024) (by omega)) (W m c) ⟨r.val % 1024, by omega⟩) j := by
  have hN : cfg0.N = 12 := N_0
  have hp : pt8Of (ix2 r j) = 2 * (r.val / 1024) + 1 := by
    show 2 * (1 * (r.val / 1024 - 0) + 1 * (j.val / 1024 - 0)) + 1 = _
    omega
  have hl : loc8Of (ix2 r j) = ix2 ⟨r.val % 1024, by omega⟩ j := by
    funext a
    apply Fin.ext
    match a with
    | ⟨0, _⟩ => rfl
    | ⟨1, _⟩ => show j.val % 1024 = j.val; omega
  unfold G8
  rw [dif_pos (by rw [hp]; omega), hl, fold0_congr m c _ _ (2 * (r.val / 1024) + 1) (by omega) hp, ← outsAt0_sweep]
  exact tile m c (r.val / 1024) (by omega) _ j

end Cert.ConvIdeal.Block

end
-- ==== Proof.ConvReference.lean ====
/- The short convolution's reference, read at an index: every row of the prompt and of the sample through `Layer.convToken`,
   with the neighbouring rows of its own sequence. -/
module

public import proofs.«01_k».proof.Proof.ConvBlock
public import proofs.«01_k».proof.Proof.Gen.RefConvIdeal.Read
public import Idealize.ShloMosaic.Lib.KernelVsHost
public import Idealize.ShloMosaic.Lib.Pipeline.Value

@[expose] public section

noncomputable section

open Idealize.ShloMosaic Idealize.ShloMosaic.TcCoe Idealize.SL.Sem

namespace Cert.RefConvIdeal.Block

open Cert.RefConvIdeal Cert.RefConvIdeal.Gen Cert.RefConvIdeal.Read Cert.Layer

/-- Sequences padded by one row at each end, read at a row: the row before it, or the padding value. -/
theorem pad_at {B N M : ℕ} (x : (⟨3, ![B, N, 1024]⟩ : Shape).Idx → EReal) {u : Shape} (v : u.Idx → EReal)
    (h : (⟨3, ![B, N, 1024]⟩ : Shape).Pads ![0, 1, 0] ![0, 1, 0] ![0, 0, 0] ⟨3, ![B, M, 1024]⟩) (hu : 0 < u.numel)
    (s : Fin B) (p : Fin M) (q : Fin 1024) :
    pad ⟨3, ![B, M, 1024]⟩ ![0, 1, 0] ![0, 1, 0] ![0, 0, 0] x v h hu (ix3 s p q)
      = if hp : 1 ≤ p.val ∧ p.val - 1 < N then x (ix3 s ⟨p.val - 1, hp.2⟩ q) else v (Shape.Idx.first hu) := by
  split
  · next hp =>
    refine pad_apply_of_inside _ _ _ x v h hu _ (ix3 s ⟨p.val - 1, hp.2⟩ q) fun a => ?_
    match a with
    | ⟨0, _⟩ => show s.val = 0 + s.val * (0 + 1); omega
    | ⟨1, _⟩ => show p.val = 1 + (p.val - 1) * (0 + 1); omega
    | ⟨2, _⟩ => show q.val = 0 + q.val * (0 + 1); omega
  · next hp =>
    refine pad_apply_of_not_inside _ _ _ x v h hu _ (1 : Fin 3) fun hin => hp ?_
    obtain ⟨h1, _, h3⟩ := hin
    have h1 : 1 ≤ p.val := h1
    have h3 : (p.val - 1) / (0 + 1) < N := h3
    exact ⟨h1, by omega⟩

/-- The padding value, the integer zero as a number. -/
theorem zero_padding : (FloatOps.sitofp (F := Ideal) FTy.f32 0#32) = (0 : EReal) := by
  show (((0#32 : BitVec 32).toInt : ℝ) : EReal) = 0
  simp

variable (x0 : Vec Ideal S6144x1024 .f32) (x1 : Vec Ideal S1x8x6x1024 .f32) (x2 : Vec Ideal S4x4x1024 .f32)
  (x3 : Vec Ideal S1x1024x3072 .f32) (x4 : Vec Ideal S1x3x1024 .f32) (x5 : Vec Ideal S1x1024x1024 .f32)

/-- Row `R` of the tokens, normalised and modulated with group `g`'s constants. -/
abbrev hidden (g : Fin 8) (R : Fin 6144) : Fin 1024 → EReal :=
  modulated (fun k => x0 (ix2 R k)) (fun k => x2 (ix3 1 0 k)) (fun k => x1 (ix4 0 g 1 k)) (fun k => x1 (ix4 0 g 0 k))
abbrev wIn (k : Fin 1024) (e : Fin 3072) : EReal := x3 (ix3 0 k e)
abbrev taps (p : Fin 3) (q : Fin 1024) : EReal := x4 (ix3 0 p q)
abbrev wOut (q j : Fin 1024) : EReal := x5 (ix3 0 q j)

/-! ## The prompt: sixteen sequences of 256 rows -/

theorem prompt_hidden (s : Fin 16) (p : Fin 256) (k : Fin 1024) :
    val_main_v42 (F := Ideal) x0 x1 x2 (ix3 s p k) = hidden x0 x1 x2 0 ⟨s.val * 256 + p.val, by omega⟩ k := by
  pointwise [modulated, rms,
    val_main_v0, val_main_v1, val_main_v4, val_main_v5, val_main_v6, val_main_v7, val_main_v8, val_main_v9,
    val_main_v22, val_main_v23, val_main_v24, val_main_cst, val_main_v25, val_main_v26, val_main_cst_0, val_main_v27,
    val_main_v28, val_main_cst_1, val_main_v29, val_main_v30, val_main_v31, val_main_v32, val_main_v33, val_main_v34,
    val_main_v35, val_main_v36, val_main_cst_2, val_main_v37, val_main_v38, val_main_v39, val_main_v40, val_main_v41,
    val_main_v42]

theorem prompt_column (s : Fin 16) (p : Fin 256) (e : Fin 3072) :
    val_main_v67 (F := Ideal) x0 x1 x2 x3 (ix3 s p e) = column (hidden x0 x1 x2 0 ⟨s.val * 256 + p.val, by omega⟩) (wIn x3) e := by
  have hk := fun k => prompt_hidden x0 x1 x2 s p k
  unfold val_main_v67
  generalize val_main_v42 (F := Ideal) x0 x1 x2 = y at hk ⊢
  pointwise [column, val_main_v64]
  simp only [hk]

theorem prompt_signal (s : Fin 16) (p : Fin 256) (q : Fin 1024) :
    val_main_v71 (F := Ideal) x0 x1 x2 x3 (ix3 s p q) = signal (hidden x0 x1 x2 0 ⟨s.val * 256 + p.val, by omega⟩) (wIn x3) q := by
  have hk := fun e => prompt_column x0 x1 x2 x3 s p e
  unfold val_main_v71 val_main_v69 val_main_v70
  generalize val_main_v67 (F := Ideal) x0 x1 x2 x3 = y at hk ⊢
  unfold signal
  rw [← hk, ← hk]
  pointwise []

theorem prompt_pad (s : Fin 16) (p : Fin 258) (q : Fin 1024) :
    val_main_v72 (F := Ideal) x0 x1 x2 x3 (ix3 s p q)
      = if hp : 1 ≤ p.val ∧ p.val - 1 < 256 then signal (hidden x0 x1 x2 0 ⟨s.val * 256 + (p.val - 1), by omega⟩) (wIn x3) q else 0 := by
  unfold val_main_v72
  refine (pad_at (B := 16) (N := 256) (M := 258) _ _ _ _ s p q).trans ?_
  split
  · next hp => exact prompt_signal x0 x1 x2 x3 s ⟨p.val - 1, hp.2⟩ q
  · exact zero_padding

/-- The signal of the row above, zero on a sequence's first row, -/
abbrev promptAbove (s : Fin 16) (p : Fin 256) (q : Fin 1024) : EReal :=
  if hp : 1 ≤ p.val then signal (hidden x0 x1 x2 0 ⟨s.val * 256 + (p.val - 1), by omega⟩) (wIn x3) q else 0
/-- and of the row below, zero on its last. -/
abbrev promptBelow (s : Fin 16) (p : Fin 256) (q : Fin 1024) : EReal :=
  if hp : p.val + 1 < 256 then signal (hidden x0 x1 x2 0 ⟨s.val * 256 + (p.val + 1), by omega⟩) (wIn x3) q else 0

theorem prompt_above (s : Fin 16) (p : Fin 256) (q : Fin 1024) :
    val_main_v73 (F := Ideal) x0 x1 x2 x3 (ix3 s p q) = promptAbove x0 x1 x2 x3 s p q := by
  unfold val_main_v73
  refine (extractStridedSlice_apply _ _ _ _ (ix3 s (⟨p.val, by omega⟩ : Fin 258) q) ?_).trans ?_
  · intro a
    match a with
    | ⟨0, _⟩ => show s.val = 0 + s.val; omega
    | ⟨1, _⟩ => show p.val = 0 + p.val; omega
    | ⟨2, _⟩ => show q.val = 0 + q.val; omega
  · rw [prompt_pad]
    unfold promptAbove
    by_cases hp : 1 ≤ p.val
    · rw [dif_pos ⟨hp, by dsimp only; omega⟩, dif_pos hp]
    · rw [dif_neg (fun h => hp h.1), dif_neg hp]

theorem prompt_below (s : Fin 16) (p : Fin 256) (q : Fin 1024) :
    val_main_v74 (F := Ideal) x0 x1 x2 x3 (ix3 s p q) = promptBelow x0 x1 x2 x3 s p q := by
  unfold val_main_v74
  refine (extractStridedSlice_apply _ _ _ _ (ix3 s (⟨p.val + 2, by omega⟩ : Fin 258) q) ?_).trans ?_
  · intro a
    match a with
    | ⟨0, _⟩ => show s.val = 0 + s.val; omega
    | ⟨1, _⟩ => show p.val + 2 = 2 + p.val; omega
    | ⟨2, _⟩ => show q.val = 0 + q.val; omega
  · rw [prompt_pad]
    unfold promptBelow
    by_cases hp : p.val + 1 < 256
    · rw [dif_pos ⟨by dsimp only; omega, by dsimp only; omega⟩, dif_pos hp]
      simp only [show p.val + 2 - 1 = p.val + 1 by omega]
    · rw [dif_neg (fun h => hp (by have := h.2; dsimp only at this; omega)), dif_neg hp]

theorem prompt_channel (s : Fin 16) (p : Fin 256) (q : Fin 1024) :
    val_main_v92 (F := Ideal) x0 x1 x2 x3 x4 (ix3 s p q)
      = channel (hidden x0 x1 x2 0 ⟨s.val * 256 + p.val, by omega⟩) (wIn x3) (taps x4) (promptAbove x0 x1 x2 x3 s p) (promptBelow x0 x1 x2 x3 s p) q := by
  have hb := fun e => prompt_column x0 x1 x2 x3 s p e
  have hz := prompt_signal x0 x1 x2 x3 s p q
  have ha := prompt_above x0 x1 x2 x3 s p q
  have hn := prompt_below x0 x1 x2 x3 s p q
  unfold channel
  rw [← hz, ← ha, ← hn, ← hb]
  generalize e1 : val_main_v73 (F := Ideal) x0 x1 x2 x3 = a
  generalize e2 : val_main_v74 (F := Ideal) x0 x1 x2 x3 = n
  generalize e3 : val_main_v71 (F := Ideal) x0 x1 x2 x3 = z
  generalize e4 : val_main_v67 (F := Ideal) x0 x1 x2 x3 = y
  pointwise [e1, e2, e3, e4,
    val_main_v68, val_main_v65, val_main_v75, val_main_v76, val_main_v77, val_main_v78, val_main_v79, val_main_v80,
    val_main_v81, val_main_v82, val_main_v83, val_main_v84, val_main_v85, val_main_v86, val_main_v87, val_main_v88,
    val_main_v89, val_main_v90, val_main_v91, val_main_v92]

theorem prompt_mix (s : Fin 16) (p : Fin 256) (j : Fin 1024) :
    val_main_v93 (F := Ideal) x0 x1 x2 x3 x4 x5 (ix3 s p j)
      = mix (hidden x0 x1 x2 0 ⟨s.val * 256 + p.val, by omega⟩) (wIn x3) (taps x4) (promptAbove x0 x1 x2 x3 s p) (promptBelow x0 x1 x2 x3 s p) (wOut x5) j := by
  have hk := fun q => prompt_channel x0 x1 x2 x3 x4 s p q
  unfold val_main_v93
  generalize val_main_v92 (F := Ideal) x0 x1 x2 x3 x4 = y at hk ⊢
  pointwise [mix, val_main_v66]
  simp only [hk]

theorem prompt_token (s : Fin 16) (p : Fin 256) (j : Fin 1024) :
    val_main_v141 (F := Ideal) x0 x1 x2 x3 x4 x5 (ix3 s p j)
      = convToken (fun k => x0 (ix2 ⟨s.val * 256 + p.val, by omega⟩ k)) (fun k => x2 (ix3 1 0 k)) (fun k => x1 (ix4 0 0 1 k)) (fun k => x1 (ix4 0 0 0 k))
          (fun k => x1 (ix4 0 0 2 k)) (fun k => x2 (ix3 1 1 k)) (wIn x3) (taps x4) (wOut x5)
          (promptAbove x0 x1 x2 x3 s p) (promptBelow x0 x1 x2 x3 s p) j := by
  have hk := fun k => prompt_mix x0 x1 x2 x3 x4 x5 s p k
  unfold convToken
  rw [← funext hk]
  generalize e1 : val_main_v93 (F := Ideal) x0 x1 x2 x3 x4 x5 = y
  pointwise [rms, e1,
    val_main_v0, val_main_v1, val_main_v10, val_main_v11, val_main_v12, val_main_v124, val_main_v125, val_main_v126,
    val_main_cst_8, val_main_v127, val_main_v128, val_main_cst_9, val_main_v129, val_main_v130, val_main_cst_10,
    val_main_v131, val_main_v132, val_main_v133, val_main_v134, val_main_v135, val_main_v136, val_main_v137,
    val_main_v138, val_main_v139, val_main_v140, val_main_v141]

/-! ## The sample: two sequences of 1024 rows -/

theorem sample_hidden (s : Fin 2) (p : Fin 1024) (k : Fin 1024) :
    val_main_v63 (F := Ideal) x0 x1 x2 (ix3 s p k) = hidden x0 x1 x2 ⟨1 + s.val, by omega⟩ ⟨4096 + (s.val * 1024 + p.val), by omega⟩ k := by
  pointwise [modulated, rms,
    val_main_v2, val_main_v3, val_main_v13, val_main_v14, val_main_v15, val_main_v16, val_main_v17, val_main_v18,
    val_main_v43, val_main_v44, val_main_v45, val_main_cst_3, val_main_v46, val_main_v47, val_main_cst_4,
    val_main_v48, val_main_v49, val_main_cst_5, val_main_v50, val_main_v51, val_main_v52, val_main_v53, val_main_v54,
    val_main_v55, val_main_v56, val_main_v57, val_main_cst_6, val_main_v58, val_main_v59, val_main_v60, val_main_v61,
    val_main_v62, val_main_v63]

theorem sample_column (s : Fin 2) (p : Fin 1024) (e : Fin 3072) :
    val_main_v97 (F := Ideal) x0 x1 x2 x3 (ix3 s p e) = column (hidden x0 x1 x2 ⟨1 + s.val, by omega⟩ ⟨4096 + (s.val * 1024 + p.val), by omega⟩) (wIn x3) e := by
  have hk := fun k => sample_hidden x0 x1 x2 s p k
  unfold val_main_v97
  generalize val_main_v63 (F := Ideal) x0 x1 x2 = y at hk ⊢
  pointwise [column, val_main_v94]
  simp only [hk]

theorem sample_signal (s : Fin 2) (p : Fin 1024) (q : Fin 1024) :
    val_main_v101 (F := Ideal) x0 x1 x2 x3 (ix3 s p q) = signal (hidden x0 x1 x2 ⟨1 + s.val, by omega⟩ ⟨4096 + (s.val * 1024 + p.val), by omega⟩) (wIn x3) q := by
  have hk := fun e => sample_column x0 x1 x2 x3 s p e
  unfold val_main_v101 val_main_v99 val_main_v100
  generalize val_main_v97 (F := Ideal) x0 x1 x2 x3 = y at hk ⊢
  unfold signal
  rw [← hk, ← hk]
  pointwise []

theorem sample_pad (s : Fin 2) (p : Fin 1026) (q : Fin 1024) :
    val_main_v102 (F := Ideal) x0 x1 x2 x3 (ix3 s p q)
      = if hp : 1 ≤ p.val ∧ p.val - 1 < 1024 then signal (hidden x0 x1 x2 ⟨1 + s.val, by omega⟩ ⟨4096 + (s.val * 1024 + (p.val - 1)), by omega⟩) (wIn x3) q else 0 := by
  unfold val_main_v102
  refine (pad_at (B := 2) (N := 1024) (M := 1026) _ _ _ _ s p q).trans ?_
  split
  · next hp => exact sample_signal x0 x1 x2 x3 s ⟨p.val - 1, hp.2⟩ q
  · exact zero_padding

/-- The signal of the row above, zero on a sequence's first row, -/
abbrev sampleAbove (s : Fin 2) (p : Fin 1024) (q : Fin 1024) : EReal :=
  if hp : 1 ≤ p.val then signal (hidden x0 x1 x2 ⟨1 + s.val, by omega⟩ ⟨4096 + (s.val * 1024 + (p.val - 1)), by omega⟩) (wIn x3) q else 0
/-- and of the row below, zero on its last. -/
abbrev sampleBelow (s : Fin 2) (p : Fin 1024) (q : Fin 1024) : EReal :=
  if hp : p.val + 1 < 1024 then signal (hidden x0 x1 x2 ⟨1 + s.val, by omega⟩ ⟨4096 + (s.val * 1024 + (p.val + 1)), by omega⟩) (wIn x3) q else 0

theorem sample_above (s : Fin 2) (p : Fin 1024) (q : Fin 1024) :
    val_main_v103 (F := Ideal) x0 x1 x2 x3 (ix3 s p q) = sampleAbove x0 x1 x2 x3 s p q := by
  unfold val_main_v103
  refine (extractStridedSlice_apply _ _ _ _ (ix3 s (⟨p.val, by omega⟩ : Fin 1026) q) ?_).trans ?_
  · intro a
    match a with
    | ⟨0, _⟩ => show s.val = 0 + s.val; omega
    | ⟨1, _⟩ => show p.val = 0 + p.val; omega
    | ⟨2, _⟩ => show q.val = 0 + q.val; omega
  · rw [sample_pad]
    unfold sampleAbove
    by_cases hp : 1 ≤ p.val
    · rw [dif_pos ⟨hp, by dsimp only; omega⟩, dif_pos hp]
    · rw [dif_neg (fun h => hp h.1), dif_neg hp]

theorem sample_below (s : Fin 2) (p : Fin 1024) (q : Fin 1024) :
    val_main_v104 (F := Ideal) x0 x1 x2 x3 (ix3 s p q) = sampleBelow x0 x1 x2 x3 s p q := by
  unfold val_main_v104
  refine (extractStridedSlice_apply _ _ _ _ (ix3 s (⟨p.val + 2, by omega⟩ : Fin 1026) q) ?_).trans ?_
  · intro a
    match a with
    | ⟨0, _⟩ => show s.val = 0 + s.val; omega
    | ⟨1, _⟩ => show p.val + 2 = 2 + p.val; omega
    | ⟨2, _⟩ => show q.val = 0 + q.val; omega
  · rw [sample_pad]
    unfold sampleBelow
    by_cases hp : p.val + 1 < 1024
    · rw [dif_pos ⟨by dsimp only; omega, by dsimp only; omega⟩, dif_pos hp]
      simp only [show p.val + 2 - 1 = p.val + 1 by omega]
    · rw [dif_neg (fun h => hp (by have := h.2; dsimp only at this; omega)), dif_neg hp]

theorem sample_channel (s : Fin 2) (p : Fin 1024) (q : Fin 1024) :
    val_main_v122 (F := Ideal) x0 x1 x2 x3 x4 (ix3 s p q)
      = channel (hidden x0 x1 x2 ⟨1 + s.val, by omega⟩ ⟨4096 + (s.val * 1024 + p.val), by omega⟩) (wIn x3) (taps x4) (sampleAbove x0 x1 x2 x3 s p) (sampleBelow x0 x1 x2 x3 s p) q := by
  have hb := fun e => sample_column x0 x1 x2 x3 s p e
  have hz := sample_signal x0 x1 x2 x3 s p q
  have ha := sample_above x0 x1 x2 x3 s p q
  have hn := sample_below x0 x1 x2 x3 s p q
  unfold channel
  rw [← hz, ← ha, ← hn, ← hb]
  generalize e1 : val_main_v103 (F := Ideal) x0 x1 x2 x3 = a
  generalize e2 : val_main_v104 (F := Ideal) x0 x1 x2 x3 = n
  generalize e3 : val_main_v101 (F := Ideal) x0 x1 x2 x3 = z
  generalize e4 : val_main_v97 (F := Ideal) x0 x1 x2 x3 = y
  pointwise [e1, e2, e3, e4,
    val_main_v98, val_main_v95, val_main_v105, val_main_v106, val_main_v107, val_main_v108, val_main_v109,
    val_main_v110, val_main_v111, val_main_v112, val_main_v113, val_main_v114, val_main_v115, val_main_v116,
    val_main_v117, val_main_v118, val_main_v119, val_main_v120, val_main_v121, val_main_v122]

theorem sample_mix (s : Fin 2) (p : Fin 1024) (j : Fin 1024) :
    val_main_v123 (F := Ideal) x0 x1 x2 x3 x4 x5 (ix3 s p j)
      = mix (hidden x0 x1 x2 ⟨1 + s.val, by omega⟩ ⟨4096 + (s.val * 1024 + p.val), by omega⟩) (wIn x3) (taps x4) (sampleAbove x0 x1 x2 x3 s p) (sampleBelow x0 x1 x2 x3 s p) (wOut x5) j := by
  have hk := fun q => sample_channel x0 x1 x2 x3 x4 s p q
  unfold val_main_v123
  generalize val_main_v122 (F := Ideal) x0 x1 x2 x3 x4 = y at hk ⊢
  pointwise [mix, val_main_v96]
  simp only [hk]

theorem sample_token (s : Fin 2) (p : Fin 1024) (j : Fin 1024) :
    val_main_v159 (F := Ideal) x0 x1 x2 x3 x4 x5 (ix3 s p j)
      = convToken (fun k => x0 (ix2 ⟨4096 + (s.val * 1024 + p.val), by omega⟩ k)) (fun k => x2 (ix3 1 0 k)) (fun k => x1 (ix4 0 ⟨1 + s.val, by omega⟩ 1 k)) (fun k => x1 (ix4 0 ⟨1 + s.val, by omega⟩ 0 k))
          (fun k => x1 (ix4 0 ⟨1 + s.val, by omega⟩ 2 k)) (fun k => x2 (ix3 1 1 k)) (wIn x3) (taps x4) (wOut x5)
          (sampleAbove x0 x1 x2 x3 s p) (sampleBelow x0 x1 x2 x3 s p) j := by
  have hk := fun k => sample_mix x0 x1 x2 x3 x4 x5 s p k
  unfold convToken
  rw [← funext hk]
  generalize e1 : val_main_v123 (F := Ideal) x0 x1 x2 x3 x4 x5 = y
  pointwise [rms, e1,
    val_main_v2, val_main_v3, val_main_v19, val_main_v20, val_main_v21, val_main_v142, val_main_v143, val_main_v144,
    val_main_cst_11, val_main_v145, val_main_v146, val_main_cst_12, val_main_v147, val_main_v148, val_main_cst_13,
    val_main_v149, val_main_v150, val_main_v151, val_main_v152, val_main_v153, val_main_v154, val_main_v155,
    val_main_v156, val_main_v157, val_main_v158, val_main_v159]

end Cert.RefConvIdeal.Block

end
-- ==== Proof.ConvEquation.lean ====
/- The short convolution: the kernel's result array is the reference's result. The kernel masks the neighbours of a tile's rows
   by the row number, the reference pads every sequence with a zero row at each end. -/
module

public import proofs.«01_k».proof.Proof.ConvValue
public import proofs.«01_k».proof.Proof.ConvReference

@[expose] public section

noncomputable section

open Idealize.ShloMosaic Idealize.ShloMosaic.TcCoe Idealize.SL.Sem

namespace Cert.RefConvIdeal.Block

open Cert.RefConvIdeal Cert.RefConvIdeal.Gen Cert.RefConvIdeal.Read Cert.Layer

variable (x0 : Vec Ideal S6144x1024 .f32) (x1 : Vec Ideal S1x8x6x1024 .f32) (x2 : Vec Ideal S4x4x1024 .f32)
  (x3 : Vec Ideal S1x1024x3072 .f32) (x4 : Vec Ideal S1x3x1024 .f32) (x5 : Vec Ideal S1x1024x1024 .f32)

/-- Rows below 4096 of the result are the prompt's, -/
theorem result_prompt (r : Fin 6144) (j : Fin 1024) (hr : r.val < 4096) :
    val_main_v162 (F := Ideal) x0 x1 x2 x3 x4 x5 (ix2 r j)
      = val_main_v141 (F := Ideal) x0 x1 x2 x3 x4 x5 (ix3 ⟨r.val / 256, by omega⟩ ⟨r.val % 256, by omega⟩ j) := by
  unfold val_main_v162
  refine (concatenate_pair_apply_left (s₁ := S4096x1024) (s₂ := S2048x1024) 0 _ _ _ (ix2 r j) rfl (ix2 (⟨r.val, hr⟩ : Fin 4096) j) ?_).trans ?_
  · intro b
    match b with
    | ⟨0, _⟩ => rfl
    | ⟨1, _⟩ => rfl
  · rw [val_main_v160_apply]
    congr 1
    funext a
    apply Fin.ext
    match a with
    | ⟨0, _⟩ => show (r.val * 1024 + j.val) / 262144 = r.val / 256; omega
    | ⟨1, _⟩ => show (r.val * 1024 + j.val) / 1024 % 256 = r.val % 256; omega
    | ⟨2, _⟩ => show (r.val * 1024 + j.val) % 1024 = j.val; omega

/-- and the others the sample's. -/
theorem result_sample (r : Fin 6144) (j : Fin 1024) (hr : 4096 ≤ r.val) :
    val_main_v162 (F := Ideal) x0 x1 x2 x3 x4 x5 (ix2 r j)
      = val_main_v159 (F := Ideal) x0 x1 x2 x3 x4 x5 (ix3 ⟨r.val / 1024 - 4, by omega⟩ ⟨r.val % 1024, by omega⟩ j) := by
  unfold val_main_v162
  refine (concatenate_pair_apply_right (s₁ := S4096x1024) (s₂ := S2048x1024) 0 _ _ _ (ix2 r j) rfl rfl (ix2 (⟨r.val - 4096, by omega⟩ : Fin 2048) j) ?_ ?_).trans ?_
  · intro b hb
    match b with
    | ⟨0, _⟩ => exact absurd rfl hb
    | ⟨1, _⟩ => rfl
  · show r.val - 4096 + 4096 = r.val
    omega
  · rw [val_main_v161_apply]
    congr 1
    funext a
    apply Fin.ext
    match a with
    | ⟨0, _⟩ => show ((r.val - 4096) * 1024 + j.val) / 1048576 = r.val / 1024 - 4; omega
    | ⟨1, _⟩ => show ((r.val - 4096) * 1024 + j.val) / 1024 % 1024 = r.val % 1024; omega
    | ⟨2, _⟩ => show ((r.val - 4096) * 1024 + j.val) % 1024 = j.val; omega

end Cert.RefConvIdeal.Block

namespace Cert.ConvIdeal.Block

open Cert.ConvIdeal Cert.ConvIdeal.Gen Cert.ConvIdeal.Value Cert.Layer

/-! ## The masks -/

theorem first256 : ∀ r : Fin 1024, isFirst 256#32 r ↔ r.val % 256 = 0 := by decide +kernel
theorem last256 : ∀ r : Fin 1024, isLast 256#32 r ↔ r.val % 256 = 255 := by decide +kernel
theorem first1024 : ∀ r : Fin 1024, isFirst 1024#32 r ↔ r.val = 0 := by decide +kernel
theorem last1024 : ∀ r : Fin 1024, isLast 1024#32 r ↔ r.val = 1023 := by decide +kernel

variable (m : (ℓ : Loc nD τ sig) → Buf (Elt Ideal) ℓ) (c : Dev nD)

/-- A tile's modulated row is the reference's, row number and group being what they are. -/
theorem H_eq (i : ℕ) (hi : i < 6) (r : Fin 1024) (g : Fin 8) (R : Fin 6144) (hg : i - 3 = g.val) (hR : i * 1024 + r.val = R.val) :
    H m c i hi r = Cert.RefConvIdeal.Block.hidden (m ((c : Thread nD τ).loc main_arg0)) (m ((c : Thread nD τ).loc main_arg1))
      (m ((c : Thread nD τ).loc main_arg2)) g R := by
  obtain ⟨g, hg'⟩ := g
  obtain ⟨R, hR'⟩ := R
  dsimp only at hg hR
  subst hg hR
  rfl

section Rows
variable (r : Fin 6144) (j : Fin 1024)

theorem prompt_above (hr : r.val < 4096) :
    above (len (r.val / 1024)) (H m c (r.val / 1024) (by omega)) (W m c) ⟨r.val % 1024, by omega⟩
      = Cert.RefConvIdeal.Block.promptAbove (m ((c : Thread nD τ).loc main_arg0)) (m ((c : Thread nD τ).loc main_arg1))
          (m ((c : Thread nD τ).loc main_arg2)) (m ((c : Thread nD τ).loc main_arg3)) ⟨r.val / 256, by omega⟩ ⟨r.val % 256, by omega⟩ := by
  funext q
  rw [show len (r.val / 1024) = 256#32 from if_pos (by omega)]
  unfold above Cert.RefConvIdeal.Block.promptAbove
  have e := first256 ⟨r.val % 1024, by omega⟩
  by_cases h : r.val % 256 = 0
  · rw [if_pos (e.2 (by dsimp only; omega)), dif_neg (by dsimp only; omega)]
  · rw [if_neg (fun h' => h (by have := e.1 h'; dsimp only at this; omega)), dif_pos (by dsimp only; omega),
      H_eq m c (r.val / 1024) (by omega) _ 0 ⟨r.val - 1, by omega⟩ (by show r.val / 1024 - 3 = 0; omega)
        (by dsimp only; omega)]
    exact congrArg (fun R => signal (Cert.RefConvIdeal.Block.hidden _ _ _ 0 R) _ q) (Fin.ext (by dsimp only; omega))

theorem prompt_below (hr : r.val < 4096) :
    below (len (r.val / 1024)) (H m c (r.val / 1024) (by omega)) (W m c) ⟨r.val % 1024, by omega⟩
      = Cert.RefConvIdeal.Block.promptBelow (m ((c : Thread nD τ).loc main_arg0)) (m ((c : Thread nD τ).loc main_arg1))
          (m ((c : Thread nD τ).loc main_arg2)) (m ((c : Thread nD τ).loc main_arg3)) ⟨r.val / 256, by omega⟩ ⟨r.val % 256, by omega⟩ := by
  funext q
  rw [show len (r.val / 1024) = 256#32 from if_pos (by omega)]
  unfold below Cert.RefConvIdeal.Block.promptBelow
  have e := last256 ⟨r.val % 1024, by omega⟩
  by_cases h : r.val % 256 = 255
  · rw [if_pos (e.2 (by dsimp only; omega)), dif_neg (by dsimp only; omega)]
  · rw [if_neg (fun h' => h (by have := e.1 h'; dsimp only at this; omega)), dif_pos (by dsimp only; omega),
      H_eq m c (r.val / 1024) (by omega) _ 0 ⟨r.val + 1, by omega⟩ (by show r.val / 1024 - 3 = 0; omega)
        (by dsimp only; omega)]
    exact congrArg (fun R => signal (Cert.RefConvIdeal.Block.hidden _ _ _ 0 R) _ q) (Fin.ext (by dsimp only; omega))

theorem sample_above (hr : 4096 ≤ r.val) :
    above (len (r.val / 1024)) (H m c (r.val / 1024) (by omega)) (W m c) ⟨r.val % 1024, by omega⟩
      = Cert.RefConvIdeal.Block.sampleAbove (m ((c : Thread nD τ).loc main_arg0)) (m ((c : Thread nD τ).loc main_arg1))
          (m ((c : Thread nD τ).loc main_arg2)) (m ((c : Thread nD τ).loc main_arg3)) ⟨r.val / 1024 - 4, by omega⟩ ⟨r.val % 1024, by omega⟩ := by
  funext q
  rw [show len (r.val / 1024) = 1024#32 from if_neg (by omega)]
  unfold above Cert.RefConvIdeal.Block.sampleAbove
  have e := first1024 ⟨r.val % 1024, by omega⟩
  by_cases h : r.val % 1024 = 0
  · rw [if_pos (e.2 (by dsimp only; omega)), dif_neg (by dsimp only; omega)]
  · rw [if_neg (fun h' => h (by have := e.1 h'; dsimp only at this; omega)), dif_pos (by dsimp only; omega),
      H_eq m c (r.val / 1024) (by omega) _ ⟨1 + (r.val / 1024 - 4), by omega⟩ ⟨r.val - 1, by omega⟩ (by dsimp only; omega)
        (by dsimp only; omega)]
    exact congrArg (fun R => signal (Cert.RefConvIdeal.Block.hidden _ _ _ _ R) _ q) (Fin.ext (by dsimp only; omega))

theorem sample_below (hr : 4096 ≤ r.val) :
    below (len (r.val / 1024)) (H m c (r.val / 1024) (by omega)) (W m c) ⟨r.val % 1024, by omega⟩
      = Cert.RefConvIdeal.Block.sampleBelow (m ((c : Thread nD τ).loc main_arg0)) (m ((c : Thread nD τ).loc main_arg1))
          (m ((c : Thread nD τ).loc main_arg2)) (m ((c : Thread nD τ).loc main_arg3)) ⟨r.val / 1024 - 4, by omega⟩ ⟨r.val % 1024, by omega⟩ := by
  funext q
  rw [show len (r.val / 1024) = 1024#32 from if_neg (by omega)]
  unfold below Cert.RefConvIdeal.Block.sampleBelow
  have e := last1024 ⟨r.val % 1024, by omega⟩
  by_cases h : r.val % 1024 = 1023
  · rw [if_pos (e.2 (by dsimp only; omega)), dif_neg (by dsimp only; omega)]
  · rw [if_neg (fun h' => h (by have := e.1 h'; dsimp only at this; omega)), dif_pos (by dsimp only; omega),
      H_eq m c (r.val / 1024) (by omega) _ ⟨1 + (r.val / 1024 - 4), by omega⟩ ⟨r.val + 1, by omega⟩ (by dsimp only; omega)
        (by dsimp only; omega)]
    exact congrArg (fun R => signal (Cert.RefConvIdeal.Block.hidden _ _ _ _ R) _ q) (Fin.ext (by dsimp only; omega))

end Rows

/-- One row through the layer, by the row's number and group. -/
abbrev token (g : Fin 8) (R : Fin 6144) (a b : Fin 1024 → EReal) (j : Fin 1024) : EReal :=
  convToken (fun k => m ((c : Thread nD τ).loc main_arg0) (ix2 R k)) (Gn m c 0) (fun k => m ((c : Thread nD τ).loc main_arg1) (ix4 0 g 1 k))
    (fun k => m ((c : Thread nD τ).loc main_arg1) (ix4 0 g 0 k)) (fun k => m ((c : Thread nD τ).loc main_arg1) (ix4 0 g 2 k)) (Gn m c 1)
    (W m c) (T m c) (O m c) a b j

theorem token_congr (g g' : Fin 8) (R R' : Fin 6144) (hg : g = g') (hR : R = R') (a b : Fin 1024 → EReal) (j : Fin 1024) :
    token m c g R a b j = token m c g' R' a b j := by
  subst hg hR
  rfl

/-- The kernel's result array is the reference's result on the same arguments. -/
theorem result_eq_reference :
    G8 m c = Cert.RefConvIdeal.Read.val_main_v162 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  funext i
  obtain ⟨r, j, rfl⟩ : ∃ (r : Fin 6144) (j : Fin 1024), i = ix2 r j := ⟨i 0, i 1, eq_ix2 i⟩
  rw [result]
  by_cases hr : r.val < 4096
  · rw [prompt_above m c r hr, prompt_below m c r hr]
    refine Eq.trans ?_ ((Cert.RefConvIdeal.Block.result_prompt _ _ _ _ _ _ r j hr).trans (Cert.RefConvIdeal.Block.prompt_token _ _ _ _ _ _ _ _ j)).symm
    exact token_congr m c _ 0 _ _ (Fin.ext (by show r.val / 1024 - 3 = 0; omega)) (Fin.ext (by dsimp only; omega)) _ _ j
  · have hr : 4096 ≤ r.val := by omega
    rw [sample_above m c r hr, sample_below m c r hr]
    refine Eq.trans ?_ ((Cert.RefConvIdeal.Block.result_sample _ _ _ _ _ _ r j hr).trans (Cert.RefConvIdeal.Block.sample_token _ _ _ _ _ _ _ _ j)).symm
    exact token_congr m c _ _ _ _ (Fin.ext (by dsimp only; omega)) (Fin.ext (by dsimp only; omega)) _ _ j

end Cert.ConvIdeal.Block

end
-- ==== Proof.TimeOutBlock.lean ====
/- The kernel that turns the recurrence's output into the layer's, one grid point at a time: what the body leaves in the scratch
   buffer and in the output block, read at an index. A point works on 512 of the 1024 channels, that is on eight heads of 64.
   The body takes a head's mean by a matrix product: with the matrix whose entry is one where row and column lie in the same
   head and zero elsewhere, every entry of the product is the sum over its head. -/
module

public import proofs.«01_k».proof.Proof.Gen.TimeOutIdeal.Value
public import proofs.«01_k».proof.Proof.Layer
public import Idealize.ShloMosaic.Lib.Tactic
public import Idealize.ShloMosaic.Lib.Pipeline.ValueKit.Tiles

@[expose] public section

noncomputable section

open Idealize.ShloMosaic Idealize.ShloMosaic.TcCoe Idealize.SL.Sem

namespace Cert.Layer

/-- The mean of a head's 64 entries. -/
def headMean (v : Fin 64 → EReal) : EReal := Ideal.div (∑ e, v e) (Ideal.ofBits FTy.f32 0x42800000#32)

/-- An entry `x` of a head `v`, centred and divided by the head's standard deviation (with the printed epsilon). -/
def headNorm (v : Fin 64 → EReal) (x : EReal) : EReal :=
  (x - headMean v) * Ideal.rsqrt (headMean (fun e => (v e - headMean v) * (v e - headMean v)) + Ideal.ofBits FTy.f32 0x3A27C5AC#32)

/-- The head that channel `n` of the row `y` lies in. -/
def headOf (y : Fin 1024 → EReal) (n : Fin 1024) (e : Fin 64) : EReal := y ⟨n.val / 64 * 64 + e.val, by omega⟩

/-- Channel `n` of the recurrence's row `y` after the normalisation of its head with gain `g` and shift `b`, the bonus and the
    gate. -/
def timeEntry (y g b bonus gate : Fin 1024 → EReal) (n : Fin 1024) : EReal :=
  (headNorm (headOf y n) (y n) * g n + b n + bonus n) * gate n

/-- All channels projected back to entry `j` of the model's width, -/
def timeMix (y g b bonus gate : Fin 1024 → EReal) (w : Fin 1024 → Fin 1024 → EReal) (j : Fin 1024) : EReal :=
  ∑ n, timeEntry y g b bonus gate n * w n j

/-- and channels `512 p … 512 p + 511` alone. -/
def timePart (y g b bonus gate : Fin 1024 → EReal) (w : Fin 1024 → Fin 1024 → EReal) (p : ℕ) (hp : p < 2) (j : Fin 1024) : EReal :=
  ∑ n : Fin 512, timeEntry y g b bonus gate ⟨p * 512 + n.val, by omega⟩ * w ⟨p * 512 + n.val, by omega⟩ j

/-- The two parts added are the whole sum. -/
theorem timeMix_eq_parts (y g b bonus gate : Fin 1024 → EReal) (w : Fin 1024 → Fin 1024 → EReal) (j : Fin 1024) :
    timePart y g b bonus gate w 0 (by omega) j + timePart y g b bonus gate w 1 (by omega) j = timeMix y g b bonus gate w j := by
  unfold timeMix
  rw [Fin.sum_univ_tiles 2 512 rfl, Fin.sum_univ_two]
  rfl

/-- One token: the row `x`, plus the gate `γ` times the normalised projection of the recurrence's row. -/
def timeToken (x γ g1 y g b bonus gate : Fin 1024 → EReal) (w : Fin 1024 → Fin 1024 → EReal) (j : Fin 1024) : EReal :=
  x j + γ j * rms (timeMix y g b bonus gate w) g1 j

/-- The sum of `f` over the entries that lie in the same head as entry `n`, written with the indicator of that head. -/
theorem sum_head (f : Fin 512 → EReal) (n : Fin 512) :
    ∑ q : Fin 512, f q * (if q.val / 64 = n.val / 64 then 1 else 0) = ∑ e : Fin 64, f ⟨n.val / 64 * 64 + e.val, by omega⟩ := by
  rw [Fin.sum_univ_tiles 8 64 rfl]
  have h : ∀ p : Fin 8, (∑ e : Fin 64, f ⟨p.val * 64 + e.val, by omega⟩ * (if (p.val * 64 + e.val) / 64 = n.val / 64 then 1 else 0))
      = if p = ⟨n.val / 64, by omega⟩ then ∑ e : Fin 64, f ⟨p.val * 64 + e.val, by omega⟩ else 0 := by
    intro p
    by_cases hp : p.val = n.val / 64
    · rw [if_pos (Fin.ext hp)]
      exact Finset.sum_congr rfl fun e _ => by rw [if_pos (by omega), mul_one]
    · rw [if_neg (fun h => hp (congrArg Fin.val h))]
      exact Finset.sum_eq_zero fun e _ => by rw [if_neg (by omega), mul_zero]
  refine (Finset.sum_congr rfl fun p _ => h p).trans ?_
  rw [Finset.sum_ite_eq' Finset.univ]
  simp

/-- The product with one sixty-fourth is the quotient by sixty-four. -/
theorem mul_64th (s : EReal) : s * Ideal.ofBits FTy.f32 0x3C800000#32 = Ideal.div s (Ideal.ofBits FTy.f32 0x42800000#32) := by
  have a : Ideal.ofBits FTy.f32 0x3C800000#32 = (((64 : ℝ)⁻¹ : ℝ) : EReal) := by
    simp only [Ideal.ofBits, Ideal.ieee]
    simp
    rw [← EReal.coe_mul]
    norm_num
  have b : Ideal.ofBits FTy.f32 0x42800000#32 = ((64 : ℝ) : EReal) := by
    simp only [Ideal.ofBits, Ideal.ieee]
    simp
    rw [← EReal.coe_mul]
    norm_num
  rw [a, b]
  unfold Ideal.div
  rw [if_neg (by norm_num), EReal.coe_inv]

end Cert.Layer

namespace Cert.TimeOutIdeal.Block

open Cert.TimeOutIdeal Cert.TimeOutIdeal.Gen Cert.Layer

theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl

/-- The matrix with a one where row and column lie in the same head of 64, as the body builds it from two counters. -/
def indicator : FVec Ideal S512x512 .bf16 :=
  truncf .bf16 (select (cmpi .eq k0_pay4 (select k0_pay6 (subi k0_pay5 (broadcast S512x512 1#32)) k0_pay5))
    (broadcast S512x512 (Scalar.ofBits (F := Ideal) .f32 0x3F800000#32)) (broadcast S512x512 (Scalar.ofBits (F := Ideal) .f32 0x00000000#32))) bitsLt_bf16_f32

/-- A block of the recurrence's output less its heads' means, taken with the matrix `e`, -/
def centred (e : FVec Ideal S512x512 .bf16) (y : Vec Ideal S1024x512 .bf16) : FVec Ideal S1024x512 .f32 :=
  subf (extf .f32 y bitsLt_bf16_f32 : FVec Ideal S1024x512 .f32) (mulf (matmul (φ₁ := .bf16) dot_S1024x512_S512x512_S1024x512_1_0_0_1_n_n none y e (constant S1024x512 .f32 0x00000000#32 : FVec Ideal S1024x512 .f32))
    (broadcast S1024x512 (Scalar.ofBits (F := Ideal) .f32 0x3C800000#32)))

/-- and that divided by the standard deviations and multiplied with the gain `g`. -/
def normed (e : FVec Ideal S512x512 .bf16) (d : FVec Ideal S1024x512 .f32) (g : Vec Ideal S1x512 .f32) : FVec Ideal S1024x512 .f32 :=
  mulf (mulf d (rsqrt (addf (mulf (matmul dot_S1024x512_S512x512_S1024x512_1_0_0_1_n_n none (truncf .bf16 (mulf d d) bitsLt_bf16_f32 : FVec Ideal S1024x512 .bf16) e (constant S1024x512 .f32 0x00000000#32 : FVec Ideal S1024x512 .f32))
      (broadcast S1024x512 (Scalar.ofBits (F := Ideal) .f32 0x3C800000#32))) (broadcast S1024x512 (Scalar.ofBits (F := Ideal) .f32 0x3A27C5AC#32)))))
    (broadcastTo S1024x512 g broadcasts_S1x512_S1024x512)

/-- Shift, bonus and gate. -/
def finished (n : FVec Ideal S1024x512 .f32) (b : Vec Ideal S1x512 .f32) (bonus gate : Vec Ideal S1024x512 .bf16) : FVec Ideal S1024x512 .f32 :=
  mulf (addf (addf n (broadcastTo S1024x512 b broadcasts_S1x512_S1024x512)) (extf .f32 bonus bitsLt_bf16_f32 : FVec Ideal S1024x512 .f32)) (extf .f32 gate bitsLt_bf16_f32 : FVec Ideal S1024x512 .f32)

section Cases

variable (c : Dev nD) (i : grid0.Coords) (arg2 : Memref sig .tc .vmem S1024x1024 .f32) (harg2 : arg2.IsWhole) (arg3 : Memref sig .tc .vmem S1x1x6x1024 .f32) (harg3 : arg3.IsWhole) (arg4 : Memref sig .tc .vmem S1x4x1024 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512x1024 .f32) (harg10 : arg10.IsWhole) (arg11 : Memref sig .tc .vmem S1024x1024 .f32) (harg11 : arg11.IsWhole) (arg12 : Memref sig .tc .vmem S1024x1024 .f32) (harg12 : arg12.IsWhole)
  (x0 : Vec Ideal S1024x1024 .f32) (x1 : Vec Ideal S1x1x6x1024 .f32) (x2 : Vec Ideal S1x4x1024 .f32) (x3 x4 x5 : Vec Ideal S1024x512 .bf16)
  (x6 x7 : Vec Ideal S1x512 .f32) (x8 : Vec Ideal S1x512x1024 .f32) (xs0 : Vec Ideal S1024x1024 .f32)

/-- The first point of a row tile leaves its channels' projection in the scratch buffer. -/
theorem sout_A_0 (hc0) (hc1) (hc2) :
    sout0_A_0 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8
      = k0_pay1 (finished (normed indicator (centred indicator x3) x6) x7 x4 x5) x8 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8)]
  unfold kernelRun0_A
  dsimp only
  sl_unfold_words
  rw [View.canon_unit_zero z2]
  simp only [View.readAt_eq_ld, harg5.read_unread, harg6.read_unread, harg7.read_unread, harg8.read_unread, harg9.read_unread, harg10.read_unread, View.ld_unit_zero (S := S1024x512) z2, View.ld_unit_zero (S := S1x512) z2, View.ld_unit_zero (S := S1x512x1024) z3]
  rfl

/-- The second point adds its channels, normalises, gates and adds the residual row. -/
theorem out_B (hc0) (hc1) (hc2) :
    out0_B_9 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0
      = k0_pay3 (k0_pay13 x2) x0 (k0_pay14 x1) xs0 (normed indicator (centred indicator x3) x6) x7 x4 x5 x8 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xs0)]
  unfold kernelRun0_B
  dsimp only
  sl_unfold_words
  rw [View.canon_unit_zero z2]
  simp only [View.readAt_eq_ld, harg2.read_unread, harg3.read_unread, harg4.read_unread, harg5.read_unread, harg6.read_unread, harg7.read_unread, harg8.read_unread, harg9.read_unread, harg10.read_unread, harg12.read_unread, View.ld_unit_zero (S := S1024x1024) z2, View.ld_unit_zero (S := S1x1x6x1024) z4, View.ld_unit_zero (S := S1x4x1024) z3, View.ld_unit_zero (S := S1024x512) z2, View.ld_unit_zero (S := S1x512) z2, View.ld_unit_zero (S := S1x512x1024) z3]
  rfl
end Cases

/-! ## Read at an index -/

theorem select_eq (a b : BitVec 32) (x y : EReal) : Scalar.select (IntOp.cmpi .eq a b) x y = if a = b then x else y := by
  by_cases h : a = b
  · simp [Scalar.select, IntOp.cmpi, h]
  · have e : (a == b) = false := beq_eq_false_iff_ne.mpr h
    simp [Scalar.select, IntOp.cmpi, h, e]

theorem row_head (q n : Fin 512) : k0_pay4 (ix2 q n) = BitVec.ofNat 32 (q.val / 64) := by
  pointwise [k0_pay4]
  revert q
  decide +kernel

theorem column_head (q n : Fin 512) :
    (select k0_pay6 (subi k0_pay5 (broadcast S512x512 1#32)) k0_pay5 : IVec S512x512 32) (ix2 q n) = BitVec.ofNat 32 (n.val / 64) := by
  pointwise [k0_pay5, k0_pay6]
  revert n
  decide +kernel

theorem indicator_apply (q n : Fin 512) : indicator (ix2 q n) = if q.val / 64 = n.val / 64 then 1 else 0 := by
  have h : indicator (ix2 q n) = Scalar.select (IntOp.cmpi .eq (k0_pay4 (ix2 q n))
      ((select k0_pay6 (subi k0_pay5 (broadcast S512x512 1#32)) k0_pay5 : IVec S512x512 32) (ix2 q n))) 1 0 := by
    unfold indicator
    generalize k0_pay4 = a
    generalize (select k0_pay6 (subi k0_pay5 (broadcast S512x512 1#32)) k0_pay5 : IVec S512x512 32) = b
    pointwise []
  rw [h, row_head, column_head, select_eq]
  refine if_congr ⟨fun e => ?_, fun e => by rw [e]⟩ rfl rfl
  have e := congrArg BitVec.toNat e
  simp only [BitVec.toNat_ofNat] at e
  omega

theorem centred_apply (y : Vec Ideal S1024x512 .bf16) (r : Fin 1024) (n : Fin 512) :
    centred indicator y (ix2 r n) = y (ix2 r n) - headMean (fun e => y (ix2 r ⟨n.val / 64 * 64 + e.val, by omega⟩)) := by
  unfold headMean
  rw [← sum_head (fun q => y (ix2 r q)) n, ← mul_64th]
  simp only [← indicator_apply]
  unfold centred
  generalize indicator = i
  pointwise []

theorem normed_apply (y : Vec Ideal S1024x512 .bf16) (g : Vec Ideal S1x512 .f32) (r : Fin 1024) (n : Fin 512) :
    normed indicator (centred indicator y) g (ix2 r n)
      = headNorm (fun e => y (ix2 r ⟨n.val / 64 * 64 + e.val, by omega⟩)) (y (ix2 r n)) * g (ix2 0 n) := by
  have hc := fun q : Fin 512 => centred_apply y r q
  generalize centred indicator y = d at hc ⊢
  unfold headNorm
  have hs : (fun e : Fin 64 => (y (ix2 r ⟨n.val / 64 * 64 + e.val, by omega⟩) - headMean (fun e => y (ix2 r ⟨n.val / 64 * 64 + e.val, by omega⟩)))
        * (y (ix2 r ⟨n.val / 64 * 64 + e.val, by omega⟩) - headMean (fun e => y (ix2 r ⟨n.val / 64 * 64 + e.val, by omega⟩))))
      = fun e => d (ix2 r ⟨n.val / 64 * 64 + e.val, by omega⟩) * d (ix2 r ⟨n.val / 64 * 64 + e.val, by omega⟩) := by
    funext e
    rw [hc]
    simp only [show (n.val / 64 * 64 + e.val) / 64 = n.val / 64 by omega]
  rw [hs, ← hc n, headMean, ← sum_head (fun q => d (ix2 r q) * d (ix2 r q)) n, ← mul_64th]
  simp only [← indicator_apply]
  unfold normed
  generalize indicator = i
  pointwise []

theorem finished_apply (n : FVec Ideal S1024x512 .f32) (b : Vec Ideal S1x512 .f32) (bonus gate : Vec Ideal S1024x512 .bf16) (r : Fin 1024) (q : Fin 512) :
    finished n b bonus gate (ix2 r q) = (n (ix2 r q) + b (ix2 0 q) + bonus (ix2 r q)) * gate (ix2 r q) := by
  pointwise [finished]

theorem pay1_apply (a : FVec Ideal S1024x512 .f32) (w : Vec Ideal S1x512x1024 .f32) (r j : Fin 1024) :
    k0_pay1 (F := Ideal) a w (ix2 r j) = ∑ n : Fin 512, a (ix2 r n) * w (ix3 0 n j) := by
  pointwise [k0_pay1]

theorem pay3_apply (x1 : Vec Ideal S1x1x6x1024 .f32) (x2 : Vec Ideal S1x4x1024 .f32) (x acc : Vec Ideal S1024x1024 .f32) (d : FVec Ideal S1024x512 .f32)
    (b : Vec Ideal S1x512 .f32) (bonus gate : Vec Ideal S1024x512 .bf16) (w : Vec Ideal S1x512x1024 .f32) (r j : Fin 1024) :
    k0_pay3 (F := Ideal) (k0_pay13 x2) x (k0_pay14 x1) acc d b bonus gate w (ix2 r j)
      = x (ix2 r j) + x1 (ix4 0 0 2 j) * rms (fun n => acc (ix2 r n) + ∑ q : Fin 512, finished d b bonus gate (ix2 r q) * w (ix3 0 q n)) (fun n => x2 (ix3 0 1 n)) j := by
  pointwise [k0_pay3, k0_pay13, k0_pay14, rms, finished]

end Cert.TimeOutIdeal.Block

end
-- ==== Proof.TimeOutValue.lean ====
/- The kernel after the recurrence: what its result array holds after the run. Grid point `2 i + e` reads row tile `i` of the
   latent rows and half `e` of the channels; the two points of a tile together leave every row's `Layer.timeToken`. -/
module

public import proofs.«01_k».proof.Proof.TimeOutBlock

@[expose] public section

noncomputable section

open Idealize.ShloMosaic Idealize.ShloMosaic.TcCoe Idealize.SL.Sem

namespace Cert.TimeOutIdeal.Block

open Cert.TimeOutIdeal Cert.TimeOutIdeal.Gen Cert.TimeOutIdeal.Value Cert.Layer

variable (m : (ℓ : Loc nD τ sig) → Buf (Elt Ideal) ℓ)

theorem lt4 (t : Fin cfg0.N) : t.val < 4 := lt_of_lt_of_eq t.isLt (show cfg0.N = 4 from N_0)

/-- Row `r` of latent tile `i` among all rows, and among the latent rows. -/
abbrev row (i : ℕ) (hi : i < 2) (r : Fin 1024) : Fin 6144 := ⟨4096 + (i * 1024 + r.val), by omega⟩
abbrev srow (i : ℕ) (hi : i < 2) (r : Fin 1024) : Fin 2048 := ⟨i * 1024 + r.val, by omega⟩
/-- Channel `q` of half `e`. -/
abbrev chan (e : ℕ) (he : e < 2) (q : Fin 512) : Fin 1024 := ⟨e * 512 + q.val, by omega⟩

/-! ## The input windows' blocks -/

theorem index0 : ∀ t : Fin cfg0.N, win0_0.index t 0 = t.val / 2 + 4 ∧ win0_0.index t 1 = 0 := (by decide +kernel : ∀ t : Fin grid0.N, _)
theorem index1 : ∀ t : Fin cfg0.N, win0_1.index t 0 = 0 ∧ win0_1.index t 1 = 1 + t.val / 2 ∧ win0_1.index t 2 = 0 ∧ win0_1.index t 3 = 0 := (by decide +kernel : ∀ t : Fin grid0.N, _)
theorem index2 : ∀ t : Fin cfg0.N, win0_2.index t 0 = 2 ∧ win0_2.index t 1 = 0 ∧ win0_2.index t 2 = 0 := (by decide +kernel : ∀ t : Fin grid0.N, _)
theorem index3 : ∀ t : Fin cfg0.N, win0_3.index t 0 = t.val / 2 ∧ win0_3.index t 1 = t.val % 2 := (by decide +kernel : ∀ t : Fin grid0.N, _)
theorem index4 : ∀ t : Fin cfg0.N, win0_4.index t 0 = t.val / 2 + 4 ∧ win0_4.index t 1 = t.val % 2 := (by decide +kernel : ∀ t : Fin grid0.N, _)
theorem index5 : ∀ t : Fin cfg0.N, win0_5.index t 0 = t.val / 2 + 4 ∧ win0_5.index t 1 = t.val % 2 := (by decide +kernel : ∀ t : Fin grid0.N, _)
theorem index6 : ∀ t : Fin cfg0.N, win0_6.index t 0 = 0 ∧ win0_6.index t 1 = t.val % 2 := (by decide +kernel : ∀ t : Fin grid0.N, _)
theorem index7 : ∀ t : Fin cfg0.N, win0_7.index t 0 = 0 ∧ win0_7.index t 1 = t.val % 2 := (by decide +kernel : ∀ t : Fin grid0.N, _)
theorem index8 : ∀ t : Fin cfg0.N, win0_8.index t 0 = 0 ∧ win0_8.index t 1 = t.val % 2 ∧ win0_8.index t 2 = 0 := (by decide +kernel : ∀ t : Fin grid0.N, _)

theorem blk0 (c : Dev nD) (t : Fin cfg0.N) (r : Fin 1024) (j : Fin 1024) :
    (iblk m c 0 t : Vec Ideal S1024x1024 .f32) (ix2 r j)
      = m ((c : Thread nD τ).loc main_arg0) (ix2 (row (t.val / 2) (by have := lt4 t; omega) r) j) := by
  obtain ⟨h0, h1⟩ := index0 t
  unfold iblk
  rw [View.read_apply]
  show V m c main_arg0 _ = _
  rw [V_main_arg0]
  congr 1
  funext a
  apply Fin.ext
  match a with
  | ⟨0, _⟩ => show win0_0.index t 0 * 1024 + 1 * r.val = 4096 + (t.val / 2 * 1024 + r.val); rw [h0]; omega
  | ⟨1, _⟩ => show win0_0.index t 1 * 1024 + 1 * j.val = j.val; rw [h1]; omega

theorem blk1 (c : Dev nD) (t : Fin cfg0.N) (p : Fin 6) (j : Fin 1024) :
    (iblk m c 1 t : Vec Ideal S1x1x6x1024 .f32) (ix4 0 0 p j)
      = m ((c : Thread nD τ).loc main_arg1) (ix4 0 ⟨1 + t.val / 2, by have := lt4 t; omega⟩ p j) := by
  obtain ⟨h0, h1, h2, h3⟩ := index1 t
  unfold iblk
  rw [View.read_apply]
  show V m c main_arg1 _ = _
  rw [V_main_arg1]
  congr 1
  funext a
  apply Fin.ext
  match a with
  | ⟨0, _⟩ => show win0_1.index t 0 * 1 + 1 * 0 = 0; rw [h0]
  | ⟨1, _⟩ => show win0_1.index t 1 * 1 + 1 * 0 = 1 + t.val / 2; rw [h1]; omega
  | ⟨2, _⟩ => show win0_1.index t 2 * 6 + 1 * p.val = p.val; rw [h2]; omega
  | ⟨3, _⟩ => show win0_1.index t 3 * 1024 + 1 * j.val = j.val; rw [h3]; omega

theorem blk2 (c : Dev nD) (t : Fin cfg0.N) (p : Fin 4) (j : Fin 1024) :
    (iblk m c 2 t : Vec Ideal S1x4x1024 .f32) (ix3 0 p j)
      = m ((c : Thread nD τ).loc main_arg2) (ix3 2 p j) := by
  obtain ⟨h0, h1, h2⟩ := index2 t
  unfold iblk
  rw [View.read_apply]
  show V m c main_arg2 _ = _
  rw [V_main_arg2]
  congr 1
  funext a
  apply Fin.ext
  match a with
  | ⟨0, _⟩ => show win0_2.index t 0 * 1 + 1 * 0 = 2; rw [h0]
  | ⟨1, _⟩ => show win0_2.index t 1 * 4 + 1 * p.val = p.val; rw [h1]; omega
  | ⟨2, _⟩ => show win0_2.index t 2 * 1024 + 1 * j.val = j.val; rw [h2]; omega

theorem blk3 (c : Dev nD) (t : Fin cfg0.N) (r : Fin 1024) (q : Fin 512) :
    (iblk m c 3 t : Vec Ideal S1024x512 .bf16) (ix2 r q)
      = m ((c : Thread nD τ).loc main_arg3) (ix2 (srow (t.val / 2) (by have := lt4 t; omega) r) (chan (t.val % 2) (by omega) q)) := by
  obtain ⟨h0, h1⟩ := index3 t
  unfold iblk
  rw [View.read_apply]
  show V m c main_arg3 _ = _
  rw [V_main_arg3]
  congr 1
  funext a
  apply Fin.ext
  match a with
  | ⟨0, _⟩ => show win0_3.index t 0 * 1024 + 1 * r.val = t.val / 2 * 1024 + r.val; rw [h0]; omega
  | ⟨1, _⟩ => show win0_3.index t 1 * 512 + 1 * q.val = t.val % 2 * 512 + q.val; rw [h1]; omega

theorem blk4 (c : Dev nD) (t : Fin cfg0.N) (r : Fin 1024) (q : Fin 512) :
    (iblk m c 4 t : Vec Ideal S1024x512 .bf16) (ix2 r q)
      = m ((c : Thread nD τ).loc main_arg4) (ix2 (row (t.val / 2) (by have := lt4 t; omega) r) (chan (t.val % 2) (by omega) q)) := by
  obtain ⟨h0, h1⟩ := index4 t
  unfold iblk
  rw [View.read_apply]
  show V m c main_arg4 _ = _
  rw [V_main_arg4]
  congr 1
  funext a
  apply Fin.ext
  match a with
  | ⟨0, _⟩ => show win0_4.index t 0 * 1024 + 1 * r.val = 4096 + (t.val / 2 * 1024 + r.val); rw [h0]; omega
  | ⟨1, _⟩ => show win0_4.index t 1 * 512 + 1 * q.val = t.val % 2 * 512 + q.val; rw [h1]; omega

theorem blk5 (c : Dev nD) (t : Fin cfg0.N) (r : Fin 1024) (q : Fin 512) :
    (iblk m c 5 t : Vec Ideal S1024x512 .bf16) (ix2 r q)
      = m ((c : Thread nD τ).loc main_arg5) (ix2 (row (t.val / 2) (by have := lt4 t; omega) r) (chan (t.val % 2) (by omega) q)) := by
  obtain ⟨h0, h1⟩ := index5 t
  unfold iblk
  rw [View.read_apply]
  show V m c main_arg5 _ = _
  rw [V_main_arg5]
  congr 1
  funext a
  apply Fin.ext
  match a with
  | ⟨0, _⟩ => show win0_5.index t 0 * 1024 + 1 * r.val = 4096 + (t.val / 2 * 1024 + r.val); rw [h0]; omega
  | ⟨1, _⟩ => show win0_5.index t 1 * 512 + 1 * q.val = t.val % 2 * 512 + q.val; rw [h1]; omega

theorem blk6 (c : Dev nD) (t : Fin cfg0.N) (q : Fin 512) :
    (iblk m c 6 t : Vec Ideal S1x512 .f32) (ix2 0 q)
      = m ((c : Thread nD τ).loc main_arg6) (ix2 0 (chan (t.val % 2) (by omega) q)) := by
  obtain ⟨h0, h1⟩ := index6 t
  unfold iblk
  rw [View.read_apply]
  show V m c main_arg6 _ = _
  rw [V_main_arg6]
  congr 1
  funext a
  apply Fin.ext
  match a with
  | ⟨0, _⟩ => show win0_6.index t 0 * 1 + 1 * 0 = 0; rw [h0]
  | ⟨1, _⟩ => show win0_6.index t 1 * 512 + 1 * q.val = t.val % 2 * 512 + q.val; rw [h1]; omega

theorem blk7 (c : Dev nD) (t : Fin cfg0.N) (q : Fin 512) :
    (iblk m c 7 t : Vec Ideal S1x512 .f32) (ix2 0 q)
      = m ((c : Thread nD τ).loc main_arg7) (ix2 0 (chan (t.val % 2) (by omega) q)) := by
  obtain ⟨h0, h1⟩ := index7 t
  unfold iblk
  rw [View.read_apply]
  show V m c main_arg7 _ = _
  rw [V_main_arg7]
  congr 1
  funext a
  apply Fin.ext
  match a with
  | ⟨0, _⟩ => show win0_7.index t 0 * 1 + 1 * 0 = 0; rw [h0]
  | ⟨1, _⟩ => show win0_7.index t 1 * 512 + 1 * q.val = t.val % 2 * 512 + q.val; rw [h1]; omega

theorem blk8 (c : Dev nD) (t : Fin cfg0.N) (q : Fin 512) (j : Fin 1024) :
    (iblk m c 8 t : Vec Ideal S1x512x1024 .f32) (ix3 0 q j)
      = m ((c : Thread nD τ).loc main_arg8) (ix3 0 (chan (t.val % 2) (by omega) q) j) := by
  obtain ⟨h0, h1, h2⟩ := index8 t
  unfold iblk
  rw [View.read_apply]
  show V m c main_arg8 _ = _
  rw [V_main_arg8]
  congr 1
  funext a
  apply Fin.ext
  match a with
  | ⟨0, _⟩ => show win0_8.index t 0 * 1 + 1 * 0 = 0; rw [h0]
  | ⟨1, _⟩ => show win0_8.index t 1 * 512 + 1 * q.val = t.val % 2 * 512 + q.val; rw [h1]; omega
  | ⟨2, _⟩ => show win0_8.index t 2 * 1024 + 1 * j.val = j.val; rw [h2]; omega

/-! ## The arguments as functions of row and column -/

abbrev X (c : Dev nD) (i : ℕ) (hi : i < 2) (r k : Fin 1024) : EReal := m ((c : Thread nD τ).loc main_arg0) (ix2 (row i hi r) k)
abbrev Γ (c : Dev nD) (i : ℕ) (hi : i < 2) (k : Fin 1024) : EReal := m ((c : Thread nD τ).loc main_arg1) (ix4 0 ⟨1 + i, by omega⟩ 2 k)
abbrev G1 (c : Dev nD) (k : Fin 1024) : EReal := m ((c : Thread nD τ).loc main_arg2) (ix3 2 1 k)
abbrev Y (c : Dev nD) (i : ℕ) (hi : i < 2) (r k : Fin 1024) : EReal := m ((c : Thread nD τ).loc main_arg3) (ix2 (srow i hi r) k)
abbrev A (c : Dev nD) (i : ℕ) (hi : i < 2) (r k : Fin 1024) : EReal := m ((c : Thread nD τ).loc main_arg4) (ix2 (row i hi r) k)
abbrev E (c : Dev nD) (i : ℕ) (hi : i < 2) (r k : Fin 1024) : EReal := m ((c : Thread nD τ).loc main_arg5) (ix2 (row i hi r) k)
abbrev Lg (c : Dev nD) (k : Fin 1024) : EReal := m ((c : Thread nD τ).loc main_arg6) (ix2 0 k)
abbrev Lb (c : Dev nD) (k : Fin 1024) : EReal := m ((c : Thread nD τ).loc main_arg7) (ix2 0 k)
abbrev O (c : Dev nD) (q j : Fin 1024) : EReal := m ((c : Thread nD τ).loc main_arg8) (ix3 0 q j)

/-! ## The two points of a row tile -/

/-- One channel of a point's block, finished and multiplied with its weight. -/
theorem entry (c : Dev nD) (t : Fin cfg0.N) (r : Fin 1024) (q : Fin 512) (n : Fin 1024) :
    finished (normed indicator (centred indicator (iblk m c 3 t)) (iblk m c 6 t)) (iblk m c 7 t) (iblk m c 4 t) (iblk m c 5 t) (ix2 r q)
        * (iblk m c 8 t : Vec Ideal S1x512x1024 .f32) (ix3 0 q n)
      = timeEntry (Y m c (t.val / 2) (by have := lt4 t; omega) r) (Lg m c) (Lb m c) (A m c (t.val / 2) (by have := lt4 t; omega) r)
          (E m c (t.val / 2) (by have := lt4 t; omega) r) (chan (t.val % 2) (by omega) q) * O m c (chan (t.val % 2) (by omega) q) n := by
  rw [finished_apply, normed_apply, blk8, blk7, blk6, blk5, blk4, blk3]
  unfold timeEntry
  have e : (fun e : Fin 64 => (iblk m c 3 t : Vec Ideal S1024x512 .bf16) (ix2 r ⟨q.val / 64 * 64 + e.val, by omega⟩))
      = headOf (Y m c (t.val / 2) (by have := lt4 t; omega) r) (chan (t.val % 2) (by omega) q) := by
    funext e
    rw [blk3]
    exact congrArg (Y m c (t.val / 2) (by have := lt4 t; omega) r) (Fin.ext (by dsimp only [chan]; omega))
  rw [e]

/-- The first point of tile `i` leaves its half of the channels, projected, in the scratch buffer. -/
theorem h_A (c : Dev nD) (t : Fin cfg0.N) (i : ℕ) (hi : i < 2) (ht : t.val = 2 * i) (r j : Fin 1024) :
    (outsAt0 m c t.val t.isLt).2 (ix2 r j) = timePart (Y m c i hi r) (Lg m c) (Lb m c) (A m c i hi r) (E m c i hi r) (O m c) 0 (by omega) j := by
  obtain rfl : i = t.val / 2 := by omega
  have e0 : t.val % 2 = 0 := by omega
  rw [outsAt0_A m c t (by omega) (by omega)]
  dsimp only
  rw [sout_A_0, pay1_apply]
  unfold timePart
  refine Finset.sum_congr rfl fun q _ => (entry m c t r q j).trans ?_
  simp only [e0]

/-- The second point adds the other half, normalises the sum, gates it and adds the row. -/
theorem h_B (c : Dev nD) (t : Fin cfg0.N) (i : ℕ) (hi : i < 2) (ht : t.val = 2 * i + 1) (acc : Fin 1024 → EReal) (r j : Fin 1024)
    (ha : ∀ k, (outsAt0 m c (t.val - 1) (by have := t.isLt; omega)).2 (ix2 r k) = acc k) :
    (outsAt0 m c t.val t.isLt).1 (ix2 r j)
      = X m c i hi r j + Γ m c i hi j
          * rms (fun n => acc n + timePart (Y m c i hi r) (Lg m c) (Lb m c) (A m c i hi r) (E m c i hi r) (O m c) 1 (by omega) n) (G1 m c) j := by
  obtain rfl : i = t.val / 2 := by omega
  have e1 : t.val % 2 = 1 := by omega
  rw [outsAt0_B m c t (by omega) (by omega)]
  dsimp only
  rw [out_B, pay3_apply, blk0, blk1]
  refine congrArg (fun z => X m c (t.val / 2) hi r j + Γ m c (t.val / 2) hi j * z) ?_
  refine congrArg₂ (fun f g => rms f g j) (funext fun n => ?_) (funext fun n => blk2 m c t 1 n)
  refine congrArg₂ (· + ·) (ha n) ?_
  unfold timePart
  refine Finset.sum_congr rfl fun q _ => (entry m c t r q n).trans ?_
  simp only [e1]

/-- The last point of row tile `i` leaves every row of the tile through the whole step. -/
theorem tile (c : Dev nD) (i : ℕ) (hi : i < 2) (r j : Fin 1024) :
    (outsAt0 m c (2 * i + 1) (by rw [show cfg0.N = 4 from N_0]; omega)).1 (ix2 r j)
      = timeToken (X m c i hi r) (Γ m c i hi) (G1 m c) (Y m c i hi r) (Lg m c) (Lb m c) (A m c i hi r) (E m c i hi r) (O m c) j := by
  have hN : cfg0.N = 4 := N_0
  refine (h_B m c ⟨2 * i + 1, by omega⟩ i hi rfl _ r j (fun k => h_A m c ⟨2 * i, by omega⟩ i hi rfl r k)).trans ?_
  unfold timeToken
  rw [← funext (timeMix_eq_parts (Y m c i hi r) (Lg m c) (Lb m c) (A m c i hi r) (E m c i hi r) (O m c))]

/-- The result array at a latent row: that row through the step. -/
theorem result (c : Dev nD) (i : Fin 2) (r j : Fin 1024) :
    G9 m c (ix2 (row i.val i.isLt r) j)
      = timeToken (X m c i.val i.isLt r) (Γ m c i.val i.isLt) (G1 m c) (Y m c i.val i.isLt r) (Lg m c) (Lb m c) (A m c i.val i.isLt r)
          (E m c i.val i.isLt r) (O m c) j := by
  have hN : cfg0.N = 4 := N_0
  have hp : pt9Of (ix2 (row i.val i.isLt r) j) = 2 * i.val + 1 := by
    show 2 * (1 * ((4096 + (i.val * 1024 + r.val)) / 1024 - 4) + 1 * (j.val / 1024 - 0)) + 1 = _
    omega
  have hl : loc9Of (ix2 (row i.val i.isLt r) j) = ix2 r j := by
    funext a
    apply Fin.ext
    match a with
    | ⟨0, _⟩ => show (4096 + (i.val * 1024 + r.val)) % 1024 = r.val; omega
    | ⟨1, _⟩ => show j.val % 1024 = j.val; omega
  unfold G9
  rw [dif_pos (by rw [hp]; omega), hl, fold0_congr m c _ _ (2 * i.val + 1) (by omega) hp, ← outsAt0_sweep]
  exact tile m c i.val i.isLt r j

/-- Before the run the result's array is the argument's rows. -/
theorem V_main_v0 (c : Dev nD) : V m c main_v0 = m ((c : Thread nD τ).loc main_arg0) := by
  unfold V hostOps0
  after_results
  rfl

end Cert.TimeOutIdeal.Block

end
-- ==== Proof.TimeOutReference.lean ====
/- The reference of the step after the recurrence, read at an index: every latent row through `Layer.timeToken`, the prompt's
   rows as they are. -/
module

public import proofs.«01_k».proof.Proof.TimeOutBlock
public import proofs.«01_k».proof.Proof.Gen.RefTimeOutIdeal.Read
public import Idealize.ShloMosaic.Lib.KernelVsHost
public import Idealize.ShloMosaic.Lib.Pipeline.Value

@[expose] public section

noncomputable section

open Idealize.ShloMosaic Idealize.ShloMosaic.TcCoe Idealize.SL.Sem

namespace Cert.RefTimeOutIdeal.Block

open Cert.RefTimeOutIdeal Cert.RefTimeOutIdeal.Gen Cert.RefTimeOutIdeal.Read Cert.Layer

variable (x0 : Vec Ideal S6144x1024 .f32) (x1 : Vec Ideal S1x8x6x1024 .f32) (x2 : Vec Ideal S4x4x1024 .f32)
  (x3 : Vec Ideal S2048x1024 .bf16) (x4 x5 : Vec Ideal S6144x1024 .bf16) (x6 x7 : Vec Ideal S1x1024 .f32) (x8 : Vec Ideal S1x1024x1024 .f32)

/-- Entry `e` of head `h` of the recurrence's row `p` of sequence `s`. -/
theorem head_apply (s : Fin 2) (p : Fin 1024) (h : Fin 16) (e : Fin 64) :
    val_main_v6 (F := Ideal) x3 (ix4 s p h e) = x3 (ix2 ⟨s.val * 1024 + p.val, by omega⟩ ⟨h.val * 64 + e.val, by omega⟩) := by
  pointwise [val_main_v5, val_main_v6]

theorem mean_apply (s : Fin 2) (p : Fin 1024) (h : Fin 16) (e : Fin 64) :
    val_main_v11 (F := Ideal) x3 (ix4 s p h e) = headMean (fun e => val_main_v6 (F := Ideal) x3 (ix4 s p h e)) := by
  generalize hy : val_main_v6 (F := Ideal) x3 = y
  pointwise [headMean, hy, val_main_cst, val_main_v7, val_main_v8, val_main_cst_0, val_main_v9, val_main_v10, val_main_v11]

theorem mean_apply' (s : Fin 2) (p : Fin 1024) (h : Fin 16) (e : Fin 64) :
    val_main_v18 (F := Ideal) x3 (ix4 s p h e) = headMean (fun e => val_main_v6 (F := Ideal) x3 (ix4 s p h e)) :=
  mean_apply x3 s p h e

theorem var_apply (s : Fin 2) (p : Fin 1024) (h : Fin 16) :
    val_main_v17 (F := Ideal) x3 (ix4 s p h 0)
      = headMean (fun e => (val_main_v6 (F := Ideal) x3 (ix4 s p h e) - headMean (fun e => val_main_v6 (F := Ideal) x3 (ix4 s p h e)))
          * (val_main_v6 (F := Ideal) x3 (ix4 s p h e) - headMean (fun e => val_main_v6 (F := Ideal) x3 (ix4 s p h e)))) := by
  suffices h : val_main_v17 (F := Ideal) x3 (ix4 s p h 0)
      = headMean (fun e => (val_main_v6 (F := Ideal) x3 (ix4 s p h e) - val_main_v11 (F := Ideal) x3 (ix4 s p h e))
          * (val_main_v6 (F := Ideal) x3 (ix4 s p h e) - val_main_v11 (F := Ideal) x3 (ix4 s p h e))) by
    simp only [mean_apply] at h
    exact h
  generalize hz : val_main_v11 (F := Ideal) x3 = z
  generalize hy : val_main_v6 (F := Ideal) x3 = y
  pointwise [headMean, hy, hz, val_main_v12, val_main_v13, val_main_cst_1, val_main_v14, val_main_v15, val_main_cst_2, val_main_v16, val_main_v17]

theorem norm_apply (s : Fin 2) (p : Fin 1024) (h : Fin 16) (e : Fin 64) :
    val_main_v24 (F := Ideal) x3 (ix4 s p h e)
      = headNorm (fun e => val_main_v6 (F := Ideal) x3 (ix4 s p h e)) (val_main_v6 (F := Ideal) x3 (ix4 s p h e)) := by
  have hm := mean_apply' x3 s p h e
  have hv := var_apply x3 s p h
  unfold headNorm
  rw [← hv, ← hm]
  generalize hz : val_main_v18 (F := Ideal) x3 = z
  generalize hw : val_main_v17 (F := Ideal) x3 = w
  generalize hy : val_main_v6 (F := Ideal) x3 = y
  pointwise [hy, hz, hw, val_main_v19, val_main_cst_3, val_main_v20, val_main_v21, val_main_v22, val_main_v23, val_main_v24]

/-- A channel after the normalisation of its head. -/
theorem channel_apply (s : Fin 2) (p n : Fin 1024) :
    val_main_v25 (F := Ideal) x3 (ix3 s p n)
      = headNorm (headOf (fun k => x3 (ix2 ⟨s.val * 1024 + p.val, by omega⟩ k)) n) (x3 (ix2 ⟨s.val * 1024 + p.val, by omega⟩ n)) := by
  have h := norm_apply x3 s p ⟨n.val / 64, by omega⟩ ⟨n.val % 64, by omega⟩
  simp only [head_apply] at h
  have hn : (⟨n.val / 64 * 64 + n.val % 64, by omega⟩ : Fin 1024) = n := Fin.ext (by dsimp only; omega)
  rw [hn] at h
  refine Eq.trans ?_ h
  generalize hy : val_main_v24 (F := Ideal) x3 = y
  pointwise [hy, val_main_v25]

theorem entry_apply (s : Fin 2) (p n : Fin 1024) :
    val_main_v41 (F := Ideal) x3 x4 x5 x6 x7 (ix3 s p n)
      = timeEntry (fun k => x3 (ix2 ⟨s.val * 1024 + p.val, by omega⟩ k)) (fun k => x6 (ix2 0 k)) (fun k => x7 (ix2 0 k))
          (fun k => x4 (ix2 ⟨4096 + (s.val * 1024 + p.val), by omega⟩ k)) (fun k => x5 (ix2 ⟨4096 + (s.val * 1024 + p.val), by omega⟩ k)) n := by
  have h := channel_apply x3 s p n
  unfold timeEntry
  rw [← h]
  generalize hy : val_main_v25 (F := Ideal) x3 = y
  pointwise [hy, val_main_v26, val_main_v27, val_main_v28, val_main_v29, val_main_v30, val_main_v31, val_main_v32, val_main_v33,
    val_main_v34, val_main_v35, val_main_v36, val_main_v37, val_main_v38, val_main_v39, val_main_v40, val_main_v41]

theorem mix_apply (s : Fin 2) (p j : Fin 1024) :
    val_main_v43 (F := Ideal) x3 x4 x5 x6 x7 x8 (ix3 s p j)
      = timeMix (fun k => x3 (ix2 ⟨s.val * 1024 + p.val, by omega⟩ k)) (fun k => x6 (ix2 0 k)) (fun k => x7 (ix2 0 k))
          (fun k => x4 (ix2 ⟨4096 + (s.val * 1024 + p.val), by omega⟩ k)) (fun k => x5 (ix2 ⟨4096 + (s.val * 1024 + p.val), by omega⟩ k))
          (fun q j => x8 (ix3 0 q j)) j := by
  have hk := fun n => entry_apply x3 x4 x5 x6 x7 s p n
  unfold val_main_v43
  generalize val_main_v41 (F := Ideal) x3 x4 x5 x6 x7 = y at hk ⊢
  pointwise [timeMix, val_main_v42]
  simp only [hk]

/-- A latent row of the reference's result, -/
theorem token_apply (s : Fin 2) (p j : Fin 1024) :
    val_main_v61 (F := Ideal) x0 x1 x2 x3 x4 x5 x6 x7 x8 (ix3 s p j)
      = timeToken (fun k => x0 (ix2 ⟨4096 + (s.val * 1024 + p.val), by omega⟩ k)) (fun k => x1 (ix4 0 ⟨1 + s.val, by omega⟩ 2 k)) (fun k => x2 (ix3 2 1 k))
          (fun k => x3 (ix2 ⟨s.val * 1024 + p.val, by omega⟩ k)) (fun k => x6 (ix2 0 k)) (fun k => x7 (ix2 0 k))
          (fun k => x4 (ix2 ⟨4096 + (s.val * 1024 + p.val), by omega⟩ k)) (fun k => x5 (ix2 ⟨4096 + (s.val * 1024 + p.val), by omega⟩ k))
          (fun q j => x8 (ix3 0 q j)) j := by
  have hk := fun k => mix_apply x3 x4 x5 x6 x7 x8 s p k
  unfold timeToken
  rw [← funext hk]
  generalize e1 : val_main_v43 (F := Ideal) x3 x4 x5 x6 x7 x8 = y
  pointwise [rms, e1, val_main_v0, val_main_v1, val_main_v2, val_main_v3, val_main_v4, val_main_v44, val_main_v45, val_main_v46,
    val_main_cst_4, val_main_v47, val_main_v48, val_main_cst_5, val_main_v49, val_main_v50, val_main_cst_6, val_main_v51, val_main_v52,
    val_main_v53, val_main_v54, val_main_v55, val_main_v56, val_main_v57, val_main_v58, val_main_v59, val_main_v60, val_main_v61]

/-- and a row of the prompt. -/
theorem prompt_apply (r : Fin 4096) (j : Fin 1024) : val_main_v62 (F := Ideal) x0 (ix2 r j) = x0 (ix2 ⟨r.val, by omega⟩ j) := by
  pointwise [val_main_v62]

end Cert.RefTimeOutIdeal.Block

end
-- ==== Proof.TimeOutEquation.lean ====
/- The step after the recurrence: the kernel's result array is the reference's result. The kernel writes the latent rows into the
   argument's array, the reference puts them behind the prompt's rows. -/
module

public import proofs.«01_k».proof.Proof.TimeOutValue
public import proofs.«01_k».proof.Proof.TimeOutReference

@[expose] public section

noncomputable section

open Idealize.ShloMosaic Idealize.ShloMosaic.TcCoe Idealize.SL.Sem

namespace Cert.RefTimeOutIdeal.Block

open Cert.RefTimeOutIdeal Cert.RefTimeOutIdeal.Gen Cert.RefTimeOutIdeal.Read Cert.Layer

variable (x0 : Vec Ideal S6144x1024 .f32) (x1 : Vec Ideal S1x8x6x1024 .f32) (x2 : Vec Ideal S4x4x1024 .f32)
  (x3 : Vec Ideal S2048x1024 .bf16) (x4 x5 : Vec Ideal S6144x1024 .bf16) (x6 x7 : Vec Ideal S1x1024 .f32) (x8 : Vec Ideal S1x1024x1024 .f32)

/-- Rows below 4096 of the result are the argument's, -/
theorem result_prompt (r : Fin 6144) (j : Fin 1024) (hr : r.val < 4096) :
    val_main_v64 (F := Ideal) x0 x1 x2 x3 x4 x5 x6 x7 x8 (ix2 r j) = x0 (ix2 r j) := by
  unfold val_main_v64
  refine (concatenate_pair_apply_left (s₁ := S4096x1024) (s₂ := S2048x1024) 0 _ _ _ (ix2 r j) rfl (ix2 (⟨r.val, hr⟩ : Fin 4096) j) ?_).trans ?_
  · intro b
    match b with
    | ⟨0, _⟩ => rfl
    | ⟨1, _⟩ => rfl
  · exact prompt_apply x0 ⟨r.val, hr⟩ j

/-- and the others the latent rows'. -/
theorem result_sample (s : Fin 2) (p j : Fin 1024) :
    val_main_v64 (F := Ideal) x0 x1 x2 x3 x4 x5 x6 x7 x8 (ix2 (⟨4096 + (s.val * 1024 + p.val), by omega⟩ : Fin 6144) j)
      = val_main_v61 (F := Ideal) x0 x1 x2 x3 x4 x5 x6 x7 x8 (ix3 s p j) := by
  unfold val_main_v64
  refine (concatenate_pair_apply_right (s₁ := S4096x1024) (s₂ := S2048x1024) 0 _ _ _ (ix2 (⟨4096 + (s.val * 1024 + p.val), by omega⟩ : Fin 6144) j) rfl rfl (ix2 (⟨s.val * 1024 + p.val, by omega⟩ : Fin 2048) j) ?_ ?_).trans ?_
  · intro b hb
    match b with
    | ⟨0, _⟩ => exact absurd rfl hb
    | ⟨1, _⟩ => rfl
  · show s.val * 1024 + p.val + 4096 = 4096 + (s.val * 1024 + p.val)
    omega
  · rw [val_main_v63_apply]
    congr 1
    funext a
    apply Fin.ext
    match a with
    | ⟨0, _⟩ => show ((s.val * 1024 + p.val) * 1024 + j.val) / 1048576 = s.val; omega
    | ⟨1, _⟩ => show ((s.val * 1024 + p.val) * 1024 + j.val) / 1024 % 1024 = p.val; omega
    | ⟨2, _⟩ => show ((s.val * 1024 + p.val) * 1024 + j.val) % 1024 = j.val; omega

end Cert.RefTimeOutIdeal.Block

namespace Cert.TimeOutIdeal.Block

open Cert.TimeOutIdeal Cert.TimeOutIdeal.Gen Cert.TimeOutIdeal.Value Cert.Layer

/-- The kernel's result array (the argument's rows with the latent ones replaced) is the reference's result on the same
    arguments. -/
theorem result_eq_reference (m : (ℓ : Loc nD τ sig) → Buf (Elt Ideal) ℓ) (c : Dev nD) :
    (fun i => if 4096 ≤ (i 0).val ∧ (i 0).val < 6144 ∧ 0 ≤ (i 1).val ∧ (i 1).val < 1024 then G9 m c i else V m c (Pipeline.arrRef spec0 9) i)
      = Cert.RefTimeOutIdeal.Read.val_main_v64 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  funext i
  obtain ⟨r, j, rfl⟩ : ∃ (r : Fin 6144) (j : Fin 1024), i = ix2 r j := ⟨i 0, i 1, eq_ix2 i⟩
  by_cases hr : r.val < 4096
  · refine Eq.trans ?_ (Cert.RefTimeOutIdeal.Block.result_prompt _ _ _ _ _ _ _ _ _ r j hr).symm
    refine (if_neg fun q => ?_).trans ?_
    · exact absurd q.1 (by show ¬ 4096 ≤ r.val; omega)
    · exact congrFun (V_main_v0 m c) (ix2 r j)
  · refine (if_pos ⟨by show 4096 ≤ r.val; omega, r.isLt, Nat.zero_le _, j.isLt⟩).trans ?_
    obtain ⟨s, p, e⟩ : ∃ (s : Fin 2) (p : Fin 1024), r = row s.val s.isLt p :=
      ⟨⟨(r.val - 4096) / 1024, by omega⟩, ⟨(r.val - 4096) % 1024, by omega⟩, Fin.ext (by dsimp only [row]; omega)⟩
    subst e
    refine (result m c s p j).trans ?_
    exact ((Cert.RefTimeOutIdeal.Block.result_sample _ _ _ _ _ _ _ _ _ s p j).trans
      (Cert.RefTimeOutIdeal.Block.token_apply _ _ _ _ _ _ _ _ _ s p j)).symm

end Cert.TimeOutIdeal.Block

end
-- ==== Proof.FourierBlock.lean ====
/- The Fourier mixer's kernel, one grid point at a time: what the body leaves in the output block, read at an index. A point
   holds a whole sequence of 1024 rows. The body multiplies each of the eight groups of 128 channels with the cosine and the
   sine table side by side, keeps the two products in scratch, multiplies both with the tables over the positions and
   projects the difference. -/
module

public import proofs.«01_k».proof.Proof.Gen.FourierIdeal.Value
public import proofs.«01_k».proof.Proof.Layer
public import Idealize.ShloMosaic.Lib.Tactic
public import Idealize.ShloMosaic.Lib.Pipeline.ValueKit.Tiles

@[expose] public section

noncomputable section

open Idealize.ShloMosaic Idealize.ShloMosaic.TcCoe Idealize.SL.Sem

namespace Cert.Layer

/-- Entry `q` of the row `h` after its group of 128 channels is multiplied with the table `t`. -/
def groupTable (h : Fin 1024 → EReal) (t : Fin 128 → Fin 128 → EReal) (q : Fin 1024) : EReal :=
  ∑ d : Fin 128, h ⟨q.val / 128 * 128 + d.val, by omega⟩ * t d ⟨q.val % 128, by omega⟩

/-- Entry `q` of position `r` of a sequence after the two-dimensional transform's real part: cosine times cosine minus sine
    times sine, over the positions and over the channels of a group. -/
def fourier (h : Fin 1024 → Fin 1024 → EReal) (cc sc : Fin 128 → Fin 128 → EReal) (cn sn : Fin 1024 → Fin 1024 → EReal)
    (r q : Fin 1024) : EReal :=
  (∑ n, cn r n * groupTable (h n) cc q) - ∑ n, sn r n * groupTable (h n) sc q

/-- Position `r` of a sequence `x` through the Fourier mixer: its row, plus the gate `γ` times the normalised projection of
    the transform of the normalised and modulated rows. -/
def fourierToken (x : Fin 1024 → Fin 1024 → EReal) (g0 s b γ g1 : Fin 1024 → EReal) (cc sc : Fin 128 → Fin 128 → EReal)
    (cn sn w : Fin 1024 → Fin 1024 → EReal) (r j : Fin 1024) : EReal :=
  x r j + γ j * rms (fun k => ∑ q, fourier (fun n => modulated (x n) g0 s b) cc sc cn sn r q * w q k) g1 j

end Cert.Layer

namespace Cert.FourierIdeal.Block

open Cert.FourierIdeal Cert.FourierIdeal.Gen Cert.Layer

theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl

/-- The 128 columns from `o` on of the rows `h`, multiplied with the two tables side by side, and the 128 columns from `p` on of
    that. -/
def groupTile (h : FVec Ideal S1024x1024 .bf16) (cs : FVec Ideal S128x256 .bf16) (o p : ℕ) (ho : S1024x1024.Slices ![0, o] S1024x128)
    (hp : S1024x256.Slices ![0, p] S1024x128) : FVec Ideal S1024x128 .bf16 :=
  shapeCast S1024x128 (truncf .bf16 (extractStridedSlice S1024x128 ![0, p]
    (matmul dot_S1024x128_S128x256_S1024x256_1_0_0_1_n_n none (extractStridedSlice S1024x128 ![0, o] h ho) cs
      (constant S1024x256 .f32 0x00000000#32 : FVec Ideal S1024x256 .f32) : FVec Ideal S1024x256 .f32) hp : FVec Ideal S1024x128 .f32) bitsLt_bf16_f32)
    shapeCasts_S1024x128_S1024x128

theorem groupTile_apply (h : FVec Ideal S1024x1024 .bf16) (cs : FVec Ideal S128x256 .bf16) (o p : ℕ) (ho) (hp) (h1 : o + 128 ≤ 1024) (h2 : p + 128 ≤ 256)
    (r : Fin 1024) (q : Fin 128) :
    groupTile h cs o p ho hp (ix2 r q) = ∑ d : Fin 128, h (ix2 r ⟨o + d.val, by omega⟩) * cs (ix2 d ⟨p + q.val, by omega⟩) := by
  pointwise [groupTile]

/-- What a scratch buffer holds once every group is done: the groups' products with the table whose columns start at `p`. -/
def grouped (h : FVec Ideal S1024x1024 .bf16) (cs : FVec Ideal S128x256 .bf16) (p : ℕ) (hp : p + 128 ≤ 256) : Vec Ideal S1024x1024 .bf16 := fun y =>
  ∑ d : Fin 128, h (ix2 (n0 := 1024) (n1 := 1024) (y 0) ⟨(y 1).val / 128 * 128 + d.val, by have h := (y 1).isLt; have h : (y 1).val < 1024 := h; omega⟩) * cs (ix2 d ⟨p + (y 1).val % 128, by omega⟩)

/-- The body's stores into a scratch buffer, last one first: a tile for each group. -/
abbrev tiles (h : FVec Ideal S1024x1024 .bf16) (cs : FVec Ideal S128x256 .bf16) (p : ℕ) (hp : S1024x256.Slices ![0, p] S1024x128) :
    List (View.Piece (Elt Ideal) S1024x1024 .bf16) :=
  [⟨Rect.unit (s := S1024x1024) ![0, 896] ![1024, 128] inb_S1024x1024_S1024x128_0_896, groupTile h cs 896 p slices_S1024x1024_o0_896_S1024x128 hp⟩,
    ⟨Rect.unit (s := S1024x1024) ![0, 768] ![1024, 128] inb_S1024x1024_S1024x128_0_768, groupTile h cs 768 p slices_S1024x1024_o0_768_S1024x128 hp⟩,
    ⟨Rect.unit (s := S1024x1024) ![0, 640] ![1024, 128] inb_S1024x1024_S1024x128_0_640, groupTile h cs 640 p slices_S1024x1024_o0_640_S1024x128 hp⟩,
    ⟨Rect.unit (s := S1024x1024) ![0, 512] ![1024, 128] inb_S1024x1024_S1024x128_0_512, groupTile h cs 512 p slices_S1024x1024_o0_512_S1024x128 hp⟩,
    ⟨Rect.unit (s := S1024x1024) ![0, 384] ![1024, 128] inb_S1024x1024_S1024x128_0_384, groupTile h cs 384 p slices_S1024x1024_o0_384_S1024x128 hp⟩,
    ⟨Rect.unit (s := S1024x1024) ![0, 256] ![1024, 128] inb_S1024x1024_S1024x128_0_256, groupTile h cs 256 p slices_S1024x1024_o0_256_S1024x128 hp⟩,
    ⟨Rect.unit (s := S1024x1024) ![0, 128] ![1024, 128] inb_S1024x1024_S1024x128_0_128, groupTile h cs 128 p slices_S1024x1024_o0_128_S1024x128 hp⟩,
    ⟨Rect.unit (s := S1024x1024) ![0, 0] ![1024, 128] inb_S1024x1024_S1024x128_0_0, groupTile h cs 0 p slices_S1024x1024_o0_0_S1024x128 hp⟩]

/-- The tile of the group of columns from `o` on holds that group's products. -/
theorem tile_eq (h : FVec Ideal S1024x1024 .bf16) (cs : FVec Ideal S128x256 .bf16) (p : ℕ) (hp) (h2 : p + 128 ≤ 256) (o : ℕ) (ho) (h1 : o + 128 ≤ 1024)
    (hg : o % 128 = 0) (inb) (x : S1024x128.Idx) :
    groupTile h cs o p ho hp x = grouped h cs p h2 ((Rect.unit (s := S1024x1024) ![0, o] ![1024, 128] inb).emb x) := by
  obtain ⟨r, q, rfl⟩ : ∃ (r : Fin 1024) (q : Fin 128), x = ix2 r q := ⟨x 0, x 1, eq_ix2 x⟩
  rw [groupTile_apply h cs o p ho hp h1 h2 r q]
  unfold grouped
  refine Finset.sum_congr rfl fun d _ => congrArg₂ (· * ·) (congrArg h ?_) (congrArg cs ?_)
  · funext a
    apply Fin.ext
    match a with
    | ⟨0, _⟩ => show r.val = 0 + 1 * r.val; omega
    | ⟨1, _⟩ => show o + d.val = (o + 1 * q.val) / 128 * 128 + d.val; omega
  · funext a
    apply Fin.ext
    match a with
    | ⟨0, _⟩ => rfl
    | ⟨1, _⟩ => show p + q.val = p + (o + 1 * q.val) % 128; omega

/-- A load of the whole scratch buffer after the stores. -/
theorem readCov_tiles {κ : Kind} {sp : Space} (v : View sig κ sp S1024x1024 .bf16) (h : FVec Ideal S1024x1024 .bf16) (cs : FVec Ideal S128x256 .bf16) (p : ℕ) (hp) (h2 : p + 128 ≤ 256) (inb) :
    v.readCov (tiles h cs p hp) (Rect.unit (s := S1024x1024) ![0, 0] ![1024, 1024] inb).toLoadRect = grouped h cs p h2 := by
  rw [View.readCov_eq_canon']
  funext j
  have e : (Rect.unit (s := S1024x1024) ![0, 0] ![1024, 1024] inb).toLoadRect.idx j = j := by
    funext a
    apply Fin.ext
    match a with
    | ⟨0, _⟩ => show 0 + 1 * (j 0).val = (j 0).val; omega
    | ⟨1, _⟩ => show 0 + 1 * (j 1).val = (j 1).val; omega
  rw [e]
  refine View.canon_apply_of_pieces (grouped h cs p h2) _ ?_ j (View.cover_of_tiledL _ ![1024, 128] (by sl_kernel_rfl) j)
  intro q hq
  simp only [tiles, List.mem_cons, List.not_mem_nil, or_false] at hq
  rcases hq with rfl | rfl | rfl | rfl | rfl | rfl | rfl | rfl <;> exact fun x => tile_eq h cs p hp h2 _ _ (by decide) (by decide) (by decide) x

section Cases

variable (c : Dev nD) (i : grid0.Coords) (arg1 : Memref sig .tc .vmem S1024x1024 .f32) (harg1 : arg1.IsWhole) (arg2 : Memref sig .tc .vmem S1x1x6x1024 .f32) (harg2 : arg2.IsWhole) (arg3 : Memref sig .tc .vmem S1x4x1024 .f32) (harg3 : arg3.IsWhole) (arg4 : Memref sig .tc .vmem S128x256 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole)
  (x0 : Vec Ideal S1024x1024 .f32) (x1 : Vec Ideal S1x1x6x1024 .f32) (x2 : Vec Ideal S1x4x1024 .f32) (x3 : Vec Ideal S128x256 .f32)
  (x4 x5 : Vec Ideal S1024x1024 .f32) (x6 : Vec Ideal S1x1024x1024 .f32)

/-- The output block, with what the two scratch buffers hold named. -/
theorem out_A :
    out0_A_7 (F := Ideal) c i arg1 harg1 arg2 harg2 arg3 harg3 arg4 harg4 arg5 harg5 arg6 harg6 arg7 harg7 arg8 harg8 arg9 harg9 arg10 harg10 arg11 harg11 x0 x1 x2 x3 x4 x5 x6
      = k0_pay1 x0 (k0_pay34 (k0_pay33 x4 x5 (grouped (k0_pay4 x1 x2 x0) (k0_pay5 x3) 0 (by decide)) (grouped (k0_pay4 x1 x2 x0) (k0_pay5 x3) 128 (by decide))) x6) (k0_pay35 (k0_pay2 x1)) (k0_pay36 (k0_pay3 x2))
          (k0_pay37 (k0_pay33 x4 x5 (grouped (k0_pay4 x1 x2 x0) (k0_pay5 x3) 0 (by decide)) (grouped (k0_pay4 x1 x2 x0) (k0_pay5 x3) 128 (by decide))) x6) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 x0 x1 x2 x3 x4 x5 x6)]
  unfold kernelRun0_A
  dsimp only
  sl_unfold_words
  rw [View.canon_unit_zero z2]
  simp only [View.readAt_eq_ld, harg1.read_unread, harg2.read_unread, harg3.read_unread, harg4.read_unread, harg5.read_unread, harg6.read_unread, harg7.read_unread, View.readCov_unit_zero (S := S1024x1024) _ z2, View.ld_unit_zero (S := S1024x1024) z2, View.ld_unit_zero (S := S128x256) z2, View.ld_unit_zero (S := S1x1x6x1024) z4, View.ld_unit_zero (S := S1x4x1024) z3, View.ld_unit_zero (S := S1x1024x1024) z3]
  rw [← readCov_tiles arg9.view (k0_pay4 x1 x2 x0) (k0_pay5 x3) 0 slices_S1024x256_o0_0_S1024x128 (by decide) inb_S1024x1024_S1024x1024_0_0,
    ← readCov_tiles arg10.view (k0_pay4 x1 x2 x0) (k0_pay5 x3) 128 slices_S1024x256_o0_128_S1024x128 (by decide) inb_S1024x1024_S1024x1024_0_0]
  rfl
end Cases

/-! ## Read at an index -/

theorem pay4_apply (x1 : Vec Ideal S1x1x6x1024 .f32) (x2 : Vec Ideal S1x4x1024 .f32) (x0 : Vec Ideal S1024x1024 .f32) (r j : Fin 1024) :
    k0_pay4 (F := Ideal) x1 x2 x0 (ix2 r j)
      = modulated (fun k => x0 (ix2 r k)) (fun k => x2 (ix3 0 0 k)) (fun k => x1 (ix4 0 0 1 k)) (fun k => x1 (ix4 0 0 0 k)) j := by
  pointwise [k0_pay4, k0_pay2, k0_pay3, modulated, rms]

theorem pay5_apply (x3 : Vec Ideal S128x256 .f32) (d : Fin 128) (q : Fin 256) : k0_pay5 (F := Ideal) x3 (ix2 d q) = x3 (ix2 d q) := by
  pointwise [k0_pay5]

/-- The scratch buffer's entries, from the block's rows and the table. -/
theorem grouped_apply (x0 : Vec Ideal S1024x1024 .f32) (x1 : Vec Ideal S1x1x6x1024 .f32) (x2 : Vec Ideal S1x4x1024 .f32) (x3 : Vec Ideal S128x256 .f32)
    (p : ℕ) (hp : p + 128 ≤ 256) (r q : Fin 1024) :
    grouped (k0_pay4 (F := Ideal) x1 x2 x0) (k0_pay5 x3) p hp (ix2 r q)
      = groupTable (modulated (fun k => x0 (ix2 r k)) (fun k => x2 (ix3 0 0 k)) (fun k => x1 (ix4 0 0 1 k)) (fun k => x1 (ix4 0 0 0 k)))
          (fun d e => x3 (ix2 d ⟨p + e.val, by omega⟩)) q := by
  unfold grouped groupTable
  refine Finset.sum_congr rfl fun d _ => congrArg₂ (· * ·) ?_ ?_
  · exact pay4_apply x1 x2 x0 r _
  · exact pay5_apply x3 d _

theorem pay33_apply (x4 x5 : Vec Ideal S1024x1024 .f32) (P Q : Vec Ideal S1024x1024 .bf16) (r q : Fin 1024) :
    k0_pay33 (F := Ideal) x4 x5 P Q (ix2 r q) = (∑ n : Fin 1024, x4 (ix2 r n) * P (ix2 n q)) - ∑ n : Fin 1024, x5 (ix2 r n) * Q (ix2 n q) := by
  pointwise [k0_pay33]

theorem pay1_apply (x0 : Vec Ideal S1024x1024 .f32) (x1 : Vec Ideal S1x1x6x1024 .f32) (x2 : Vec Ideal S1x4x1024 .f32) (f : Vec Ideal S1024x1024 .bf16)
    (w : Vec Ideal S1x1024x1024 .f32) (r j : Fin 1024) :
    k0_pay1 (F := Ideal) x0 (k0_pay34 f w) (k0_pay35 (k0_pay2 x1)) (k0_pay36 (k0_pay3 x2)) (k0_pay37 f w) (ix2 r j)
      = x0 (ix2 r j) + x1 (ix4 0 0 2 j) * rms (fun k => ∑ q : Fin 1024, f (ix2 r q) * w (ix3 0 q k)) (fun k => x2 (ix3 0 1 k)) j := by
  pointwise [k0_pay1, k0_pay2, k0_pay3, k0_pay34, k0_pay35, k0_pay36, k0_pay37, rms]

/-- Row `r` of the block through the mixer. -/
theorem block_apply (x0 : Vec Ideal S1024x1024 .f32) (x1 : Vec Ideal S1x1x6x1024 .f32) (x2 : Vec Ideal S1x4x1024 .f32) (x3 : Vec Ideal S128x256 .f32)
    (x4 x5 : Vec Ideal S1024x1024 .f32) (x6 : Vec Ideal S1x1024x1024 .f32) (r j : Fin 1024) :
    k0_pay1 (F := Ideal) x0 (k0_pay34 (k0_pay33 x4 x5 (grouped (k0_pay4 x1 x2 x0) (k0_pay5 x3) 0 (by decide)) (grouped (k0_pay4 x1 x2 x0) (k0_pay5 x3) 128 (by decide))) x6) (k0_pay35 (k0_pay2 x1)) (k0_pay36 (k0_pay3 x2)) (k0_pay37 (k0_pay33 x4 x5 (grouped (k0_pay4 x1 x2 x0) (k0_pay5 x3) 0 (by decide)) (grouped (k0_pay4 x1 x2 x0) (k0_pay5 x3) 128 (by decide))) x6) (ix2 r j)
      = fourierToken (fun n k => x0 (ix2 n k)) (fun k => x2 (ix3 0 0 k)) (fun k => x1 (ix4 0 0 1 k)) (fun k => x1 (ix4 0 0 0 k)) (fun k => x1 (ix4 0 0 2 k))
          (fun k => x2 (ix3 0 1 k)) (fun d e => x3 (ix2 d ⟨0 + e.val, by omega⟩)) (fun d e => x3 (ix2 d ⟨128 + e.val, by omega⟩))
          (fun r n => x4 (ix2 r n)) (fun r n => x5 (ix2 r n)) (fun q k => x6 (ix3 0 q k)) r j := by
  rw [pay1_apply]
  unfold fourierToken fourier
  simp only [pay33_apply, grouped_apply]

end Cert.FourierIdeal.Block

end
-- ==== Proof.FourierValue.lean ====
/- The Fourier mixer: what the kernel's result array holds after the run. Grid point `t` holds sequence `t` whole, and leaves
   every position's `Layer.fourierToken` in the result's rows of that sequence. -/
module

public import proofs.«01_k».proof.Proof.FourierBlock
public import Idealize.ShloMosaic.Lib.KernelVsHost

@[expose] public section

noncomputable section

open Idealize.ShloMosaic Idealize.ShloMosaic.TcCoe Idealize.SL.Sem

namespace Cert.FourierIdeal.Block

open Cert.FourierIdeal Cert.FourierIdeal.Gen Cert.FourierIdeal.Value Cert.Layer

variable (m : (ℓ : Loc nD τ sig) → Buf (Elt Ideal) ℓ)

theorem lt2 (t : Fin cfg0.N) : t.val < 2 := lt_of_lt_of_eq t.isLt (show cfg0.N = 2 from N_0)

/-- Position `r` of sequence `t` among all rows. -/
abbrev row (t : ℕ) (ht : t < 2) (r : Fin 1024) : Fin 2048 := ⟨t * 1024 + r.val, by omega⟩

/-! ## The input windows' blocks -/

theorem index0 : ∀ t : Fin cfg0.N, win0_0.index t 0 = t.val ∧ win0_0.index t 1 = 0 := (by decide +kernel : ∀ t : Fin grid0.N, _)
theorem index1 : ∀ t : Fin cfg0.N, win0_1.index t 0 = 0 ∧ win0_1.index t 1 = 1 + t.val ∧ win0_1.index t 2 = 0 ∧ win0_1.index t 3 = 0 := (by decide +kernel : ∀ t : Fin grid0.N, _)
theorem index2 : ∀ t : Fin cfg0.N, win0_2.index t 0 = 0 ∧ win0_2.index t 1 = 0 ∧ win0_2.index t 2 = 0 := (by decide +kernel : ∀ t : Fin grid0.N, _)
theorem index3 : ∀ t : Fin cfg0.N, win0_3.index t 0 = 0 ∧ win0_3.index t 1 = 0 := (by decide +kernel : ∀ t : Fin grid0.N, _)
theorem index4 : ∀ t : Fin cfg0.N, win0_4.index t 0 = 0 ∧ win0_4.index t 1 = 0 := (by decide +kernel : ∀ t : Fin grid0.N, _)
theorem index5 : ∀ t : Fin cfg0.N, win0_5.index t 0 = 0 ∧ win0_5.index t 1 = 0 := (by decide +kernel : ∀ t : Fin grid0.N, _)
theorem index6 : ∀ t : Fin cfg0.N, win0_6.index t 0 = 0 ∧ win0_6.index t 1 = 0 ∧ win0_6.index t 2 = 0 := (by decide +kernel : ∀ t : Fin grid0.N, _)

theorem blk0 (c : Dev nD) (t : Fin cfg0.N) (r : Fin 1024) (j : Fin 1024) :
    (iblk m c 0 t : Vec Ideal S1024x1024 .f32) (ix2 r j) = m ((c : Thread nD τ).loc main_arg0) (ix2 (row t.val (lt2 t) r) j) := by
  obtain ⟨h0, h1⟩ := index0 t
  unfold iblk
  rw [View.read_apply]
  show V m c main_arg0 _ = _
  rw [V_main_arg0]
  congr 1
  funext a
  apply Fin.ext
  match a with
  | ⟨0, _⟩ => show win0_0.index t 0 * 1024 + 1 * r.val = t.val * 1024 + r.val; rw [h0]; omega
  | ⟨1, _⟩ => show win0_0.index t 1 * 1024 + 1 * j.val = j.val; rw [h1]; omega

theorem blk1 (c : Dev nD) (t : Fin cfg0.N) (p : Fin 6) (j : Fin 1024) :
    (iblk m c 1 t : Vec Ideal S1x1x6x1024 .f32) (ix4 0 0 p j) = m ((c : Thread nD τ).loc main_arg1) (ix4 0 ⟨1 + t.val, by have := lt2 t; omega⟩ p j) := by
  obtain ⟨h0, h1, h2, h3⟩ := index1 t
  unfold iblk
  rw [View.read_apply]
  show V m c main_arg1 _ = _
  rw [V_main_arg1]
  congr 1
  funext a
  apply Fin.ext
  match a with
  | ⟨0, _⟩ => show win0_1.index t 0 * 1 + 1 * 0 = 0; rw [h0]
  | ⟨1, _⟩ => show win0_1.index t 1 * 1 + 1 * 0 = 1 + t.val; rw [h1]; omega
  | ⟨2, _⟩ => show win0_1.index t 2 * 6 + 1 * p.val = p.val; rw [h2]; omega
  | ⟨3, _⟩ => show win0_1.index t 3 * 1024 + 1 * j.val = j.val; rw [h3]; omega

theorem blk2 (c : Dev nD) (t : Fin cfg0.N) (p : Fin 4) (j : Fin 1024) :
    (iblk m c 2 t : Vec Ideal S1x4x1024 .f32) (ix3 0 p j) = m ((c : Thread nD τ).loc main_arg2) (ix3 0 p j) := by
  obtain ⟨h0, h1, h2⟩ := index2 t
  unfold iblk
  rw [View.read_apply]
  show V m c main_arg2 _ = _
  rw [V_main_arg2]
  congr 1
  funext a
  apply Fin.ext
  match a with
  | ⟨0, _⟩ => show win0_2.index t 0 * 1 + 1 * 0 = 0; rw [h0]
  | ⟨1, _⟩ => show win0_2.index t 1 * 4 + 1 * p.val = p.val; rw [h1]; omega
  | ⟨2, _⟩ => show win0_2.index t 2 * 1024 + 1 * j.val = j.val; rw [h2]; omega

theorem blk3 (c : Dev nD) (t : Fin cfg0.N) (d : Fin 128) (e : Fin 256) :
    (iblk m c 3 t : Vec Ideal S128x256 .f32) (ix2 d e) = (V m c main_v0 : Vec Ideal S128x256 .f32) (ix2 d e) := by
  obtain ⟨h0, h1⟩ := index3 t
  unfold iblk
  rw [View.read_apply]
  show V m c main_v0 _ = _
  congr 1
  funext a
  apply Fin.ext
  match a with
  | ⟨0, _⟩ => show win0_3.index t 0 * 128 + 1 * d.val = d.val; rw [h0]; omega
  | ⟨1, _⟩ => show win0_3.index t 1 * 256 + 1 * e.val = e.val; rw [h1]; omega

theorem blk4 (c : Dev nD) (t : Fin cfg0.N) (r : Fin 1024) (n : Fin 1024) :
    (iblk m c 4 t : Vec Ideal S1024x1024 .f32) (ix2 r n) = m ((c : Thread nD τ).loc main_arg5) (ix2 r n) := by
  obtain ⟨h0, h1⟩ := index4 t
  unfold iblk
  rw [View.read_apply]
  show V m c main_arg5 _ = _
  rw [V_main_arg5]
  congr 1
  funext a
  apply Fin.ext
  match a with
  | ⟨0, _⟩ => show win0_4.index t 0 * 1024 + 1 * r.val = r.val; rw [h0]; omega
  | ⟨1, _⟩ => show win0_4.index t 1 * 1024 + 1 * n.val = n.val; rw [h1]; omega

theorem blk5 (c : Dev nD) (t : Fin cfg0.N) (r : Fin 1024) (n : Fin 1024) :
    (iblk m c 5 t : Vec Ideal S1024x1024 .f32) (ix2 r n) = m ((c : Thread nD τ).loc main_arg6) (ix2 r n) := by
  obtain ⟨h0, h1⟩ := index5 t
  unfold iblk
  rw [View.read_apply]
  show V m c main_arg6 _ = _
  rw [V_main_arg6]
  congr 1
  funext a
  apply Fin.ext
  match a with
  | ⟨0, _⟩ => show win0_5.index t 0 * 1024 + 1 * r.val = r.val; rw [h0]; omega
  | ⟨1, _⟩ => show win0_5.index t 1 * 1024 + 1 * n.val = n.val; rw [h1]; omega

theorem blk6 (c : Dev nD) (t : Fin cfg0.N) (q : Fin 1024) (k : Fin 1024) :
    (iblk m c 6 t : Vec Ideal S1x1024x1024 .f32) (ix3 0 q k) = m ((c : Thread nD τ).loc main_arg7) (ix3 0 q k) := by
  obtain ⟨h0, h1, h2⟩ := index6 t
  unfold iblk
  rw [View.read_apply]
  show V m c main_arg7 _ = _
  rw [V_main_arg7]
  congr 1
  funext a
  apply Fin.ext
  match a with
  | ⟨0, _⟩ => show win0_6.index t 0 * 1 + 1 * 0 = 0; rw [h0]
  | ⟨1, _⟩ => show win0_6.index t 1 * 1024 + 1 * q.val = q.val; rw [h1]; omega
  | ⟨2, _⟩ => show win0_6.index t 2 * 1024 + 1 * k.val = k.val; rw [h2]; omega

/-! ## The two tables side by side -/

theorem V_main_v0 (c : Dev nD) : V m c main_v0
    = concatenate S128x256 1 [⟨S128x128, m ((c : Thread nD τ).loc main_arg3)⟩, ⟨S128x128, m ((c : Thread nD τ).loc main_arg4)⟩] concatenates_S128x128_S128x128_S128x256_d1 := by
  unfold V hostOps0
  after_results

theorem cos_table (c : Dev nD) (t : Fin cfg0.N) (d e : Fin 128) :
    (iblk m c 3 t : Vec Ideal S128x256 .f32) (ix2 d ⟨0 + e.val, by omega⟩) = m ((c : Thread nD τ).loc main_arg3) (ix2 d e) := by
  rw [blk3, V_main_v0]
  refine concatenate_pair_apply_left (s₁ := S128x128) (s₂ := S128x128) 1 _ _ _ (ix2 (n0 := 128) (n1 := 256) d ⟨0 + e.val, by omega⟩) rfl (ix2 d e) ?_
  intro b
  match b with
  | ⟨0, _⟩ => rfl
  | ⟨1, _⟩ => show e.val = 0 + e.val; omega

theorem sin_table (c : Dev nD) (t : Fin cfg0.N) (d e : Fin 128) :
    (iblk m c 3 t : Vec Ideal S128x256 .f32) (ix2 d ⟨128 + e.val, by omega⟩) = m ((c : Thread nD τ).loc main_arg4) (ix2 d e) := by
  rw [blk3, V_main_v0]
  refine concatenate_pair_apply_right (s₁ := S128x128) (s₂ := S128x128) 1 _ _ _ (ix2 (n0 := 128) (n1 := 256) d ⟨128 + e.val, by omega⟩) rfl rfl (ix2 d e) ?_ ?_
  · intro b hb
    match b with
    | ⟨0, _⟩ => rfl
    | ⟨1, _⟩ => exact absurd rfl hb
  · show e.val + 128 = 128 + e.val
    omega

/-! ## The result -/

theorem index7 : ∀ t : Fin cfg0.N, win0_7.index t 0 = t.val ∧ win0_7.index t 1 = 0 := (by decide +kernel : ∀ t : Fin grid0.N, _)
theorem flush7 : ∀ t : Fin cfg0.N, (cfg0.win 7).flush t = true := (by decide +kernel : ∀ t : Fin grid0.N, _)

/-- The result array at position `r` of sequence `t`: that position through the mixer. -/
theorem result (c : Dev nD) (t : Fin cfg0.N) (r j : Fin 1024) :
    ((dats m 0 c).arrAt 7 cfg0.N : Vec Ideal S2048x1024 .f32) (ix2 (row t.val (lt2 t) r) j)
      = fourierToken (fun n k => m ((c : Thread nD τ).loc main_arg0) (ix2 (row t.val (lt2 t) n) k))
          (fun k => m ((c : Thread nD τ).loc main_arg2) (ix3 0 0 k))
          (fun k => m ((c : Thread nD τ).loc main_arg1) (ix4 0 ⟨1 + t.val, by have := lt2 t; omega⟩ 1 k))
          (fun k => m ((c : Thread nD τ).loc main_arg1) (ix4 0 ⟨1 + t.val, by have := lt2 t; omega⟩ 0 k))
          (fun k => m ((c : Thread nD τ).loc main_arg1) (ix4 0 ⟨1 + t.val, by have := lt2 t; omega⟩ 2 k))
          (fun k => m ((c : Thread nD τ).loc main_arg2) (ix3 0 1 k))
          (fun d e => m ((c : Thread nD τ).loc main_arg3) (ix2 d e)) (fun d e => m ((c : Thread nD τ).loc main_arg4) (ix2 d e))
          (fun r n => m ((c : Thread nD τ).loc main_arg5) (ix2 r n)) (fun r n => m ((c : Thread nD τ).loc main_arg6) (ix2 r n))
          (fun q k => m ((c : Thread nD τ).loc main_arg7) (ix3 0 q k)) r j := by
  obtain ⟨h0, h1⟩ := index7 t
  have e : ((cfg0.win 7).blk t).view.emb (ix2 r j) = ix2 (row t.val (lt2 t) r) j := by
    funext a
    apply Fin.ext
    match a with
    | ⟨0, _⟩ => show win0_7.index t 0 * 1024 + 1 * r.val = t.val * 1024 + r.val; rw [h0]; omega
    | ⟨1, _⟩ => show win0_7.index t 1 * 1024 + 1 * j.val = j.val; rw [h1]; omega
  have b := congrFun (blocks7 m c t (flush7 _)) (ix2 r j)
  rw [View.read_apply, flushed7_A] at b
  erw [e] at b
  rw [out_A] at b
  refine b.trans ?_
  refine (block_apply _ _ _ _ _ _ _ r j).trans ?_
  simp only [blk0, blk1, blk2, cos_table, sin_table, blk4, blk5, blk6]

end Cert.FourierIdeal.Block

end
-- ==== Proof.FourierReference.lean ====
/- The reference of the Fourier mixer, read at an index: every position through `Layer.fourierToken`. -/
module

public import proofs.«01_k».proof.Proof.FourierBlock
public import proofs.«01_k».proof.Proof.Gen.RefFourierIdeal.Read
public import Idealize.ShloMosaic.Lib.KernelVsHost
public import Idealize.ShloMosaic.Lib.Pipeline.Value

@[expose] public section

noncomputable section

open Idealize.ShloMosaic Idealize.ShloMosaic.TcCoe Idealize.SL.Sem

namespace Cert.RefFourierIdeal.Block

open Cert.RefFourierIdeal Cert.RefFourierIdeal.Gen Cert.RefFourierIdeal.Read Cert.Layer

variable (x0 : Vec Ideal S2048x1024 .f32) (x1 : Vec Ideal S1x8x6x1024 .f32) (x2 : Vec Ideal S4x4x1024 .f32)
  (x3 x4 : Vec Ideal S128x128 .f32) (x5 x6 : Vec Ideal S1024x1024 .f32) (x7 : Vec Ideal S1x1024x1024 .f32)

/-- A row normalised and modulated. -/
theorem modulated_apply (s : Fin 2) (p j : Fin 1024) :
    val_main_v30 (F := Ideal) x0 x1 x2 (ix3 s p j)
      = modulated (fun k => x0 (ix2 ⟨s.val * 1024 + p.val, by omega⟩ k)) (fun k => x2 (ix3 0 0 k)) (fun k => x1 (ix4 0 ⟨1 + s.val, by omega⟩ 1 k))
          (fun k => x1 (ix4 0 ⟨1 + s.val, by omega⟩ 0 k)) j := by
  pointwise [modulated, rms, val_main_v0, val_main_v1, val_main_v2, val_main_v3, val_main_v4, val_main_v5, val_main_v6, val_main_v10,
    val_main_v11, val_main_v12, val_main_cst, val_main_v13, val_main_v14, val_main_cst_0, val_main_v15, val_main_v16, val_main_cst_1, val_main_v17,
    val_main_v18, val_main_v19, val_main_v20, val_main_v21, val_main_v22, val_main_v23, val_main_v24, val_main_cst_2, val_main_v25, val_main_v26,
    val_main_v27, val_main_v28, val_main_v29, val_main_v30]

/-- A group of channels multiplied with the cosine table over the channels, -/
theorem cos_apply (s : Fin 2) (p : Fin 1024) (g : Fin 8) (e : Fin 128) :
    val_main_v33 (F := Ideal) x0 x1 x2 x3 (ix4 s p g e)
      = ∑ d : Fin 128, val_main_v30 (F := Ideal) x0 x1 x2 (ix3 s p ⟨g.val * 128 + d.val, by omega⟩) * x3 (ix2 d e) := by
  unfold val_main_v33 val_main_v32
  generalize val_main_v30 (F := Ideal) x0 x1 x2 = y
  pointwise []

/-- and with the sine table. -/
theorem sin_apply (s : Fin 2) (p : Fin 1024) (g : Fin 8) (e : Fin 128) :
    val_main_v36 (F := Ideal) x0 x1 x2 x4 (ix4 s p g e)
      = ∑ d : Fin 128, val_main_v30 (F := Ideal) x0 x1 x2 (ix3 s p ⟨g.val * 128 + d.val, by omega⟩) * x4 (ix2 d e) :=
  cos_apply x0 x1 x2 x4 s p g e

/-- The difference of the two products over the positions. -/
theorem difference_apply (s : Fin 2) (p q : Fin 1024) :
    val_main_v40 (F := Ideal) x0 x1 x2 x3 x4 x5 x6 (ix3 s p q)
      = (∑ n : Fin 1024, x5 (ix2 p n) * val_main_v33 (F := Ideal) x0 x1 x2 x3 (ix4 s n ⟨q.val / 128, by omega⟩ ⟨q.val % 128, by omega⟩))
        - ∑ n : Fin 1024, x6 (ix2 p n) * val_main_v36 (F := Ideal) x0 x1 x2 x4 (ix4 s n ⟨q.val / 128, by omega⟩ ⟨q.val % 128, by omega⟩) := by
  unfold val_main_v40 val_main_v39 val_main_v38 val_main_v37 val_main_v35 val_main_v34
  generalize val_main_v33 (F := Ideal) x0 x1 x2 x3 = y
  generalize val_main_v36 (F := Ideal) x0 x1 x2 x4 = z
  simp only [mul_comm (x5 _), mul_comm (x6 _)]
  pointwise []

/-- The transform of the normalised and modulated rows. -/
theorem fourier_apply (s : Fin 2) (p q : Fin 1024) :
    val_main_v40 (F := Ideal) x0 x1 x2 x3 x4 x5 x6 (ix3 s p q)
      = fourier (fun n => modulated (fun k => x0 (ix2 ⟨s.val * 1024 + n.val, by omega⟩ k)) (fun k => x2 (ix3 0 0 k)) (fun k => x1 (ix4 0 ⟨1 + s.val, by omega⟩ 1 k))
          (fun k => x1 (ix4 0 ⟨1 + s.val, by omega⟩ 0 k))) (fun d e => x3 (ix2 d e)) (fun d e => x4 (ix2 d e)) (fun r n => x5 (ix2 r n)) (fun r n => x6 (ix2 r n)) p q := by
  rw [difference_apply]
  unfold fourier groupTable
  simp only [cos_apply, sin_apply, modulated_apply]

/-- A row of the reference's result before its last reshape. -/
theorem token_apply (s : Fin 2) (p j : Fin 1024) :
    val_main_v59 (F := Ideal) x0 x1 x2 x3 x4 x5 x6 x7 (ix3 s p j)
      = fourierToken (fun n k => x0 (ix2 ⟨s.val * 1024 + n.val, by omega⟩ k)) (fun k => x2 (ix3 0 0 k)) (fun k => x1 (ix4 0 ⟨1 + s.val, by omega⟩ 1 k))
          (fun k => x1 (ix4 0 ⟨1 + s.val, by omega⟩ 0 k)) (fun k => x1 (ix4 0 ⟨1 + s.val, by omega⟩ 2 k)) (fun k => x2 (ix3 0 1 k))
          (fun d e => x3 (ix2 d e)) (fun d e => x4 (ix2 d e)) (fun r n => x5 (ix2 r n)) (fun r n => x6 (ix2 r n)) (fun q k => x7 (ix3 0 q k)) p j := by
  unfold fourierToken
  simp only [← fourier_apply]
  generalize e1 : val_main_v40 (F := Ideal) x0 x1 x2 x3 x4 x5 x6 = y
  pointwise [rms, e1, val_main_v0, val_main_v7, val_main_v8, val_main_v9, val_main_v31, val_main_v41, val_main_v42, val_main_v43,
    val_main_v44, val_main_cst_3, val_main_v45, val_main_v46, val_main_cst_4, val_main_v47, val_main_v48, val_main_cst_5, val_main_v49,
    val_main_v50, val_main_v51, val_main_v52, val_main_v53, val_main_v54, val_main_v55, val_main_v56, val_main_v57, val_main_v58, val_main_v59]

/-- The reference's result at position `p` of sequence `s`. -/
theorem result_apply (s : Fin 2) (p j : Fin 1024) :
    val_main_v60 (F := Ideal) x0 x1 x2 x3 x4 x5 x6 x7 (ix2 ⟨s.val * 1024 + p.val, by omega⟩ j)
      = val_main_v59 (F := Ideal) x0 x1 x2 x3 x4 x5 x6 x7 (ix3 s p j) := by
  rw [val_main_v60_apply]
  congr 1
  funext a
  apply Fin.ext
  match a with
  | ⟨0, _⟩ => show ((s.val * 1024 + p.val) * 1024 + j.val) / 1048576 = s.val; omega
  | ⟨1, _⟩ => show ((s.val * 1024 + p.val) * 1024 + j.val) / 1024 % 1024 = p.val; omega
  | ⟨2, _⟩ => show ((s.val * 1024 + p.val) * 1024 + j.val) % 1024 = j.val; omega

end Cert.RefFourierIdeal.Block

end
-- ==== Proof.FourierEquation.lean ====
/- The Fourier mixer: the kernel's result array is the reference's result, position by position. -/
module

public import proofs.«01_k».proof.Proof.FourierValue
public import proofs.«01_k».proof.Proof.FourierReference

@[expose] public section

noncomputable section

open Idealize.ShloMosaic Idealize.ShloMosaic.TcCoe Idealize.SL.Sem

namespace Cert.FourierIdeal.Block

open Cert.FourierIdeal Cert.FourierIdeal.Gen Cert.FourierIdeal.Value Cert.Layer

/-- The kernel's result array is the reference's result on the same arguments. -/
theorem result_eq_reference (m : (ℓ : Loc nD τ sig) → Buf (Elt Ideal) ℓ) (c : Dev nD) :
    ((dats m 0 c).arrAt 7 cfg0.N : Vec Ideal S2048x1024 .f32)
      = Cert.RefFourierIdeal.Read.val_main_v60 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  funext i
  obtain ⟨r, j, rfl⟩ : ∃ (r : Fin 2048) (j : Fin 1024), i = ix2 r j := ⟨i 0, i 1, eq_ix2 i⟩
  have hN : cfg0.N = 2 := N_0
  obtain ⟨s, p, e⟩ : ∃ (s : Fin 2) (p : Fin 1024), r = row s.val s.isLt p :=
    ⟨⟨r.val / 1024, by omega⟩, ⟨r.val % 1024, by omega⟩, Fin.ext (by dsimp only [row]; omega)⟩
  subst e
  refine (result m c ⟨s.val, by omega⟩ p j).trans ?_
  exact ((Cert.RefFourierIdeal.Block.result_apply _ _ _ _ _ _ _ _ s p j).trans
    (Cert.RefFourierIdeal.Block.token_apply _ _ _ _ _ _ _ _ s p j)).symm

end Cert.FourierIdeal.Block

end
-- ==== Proof.ModulationValue.lean ====
/- The modulation: what the kernel's result array holds after the run. Every grid point holds the eight conditioning rows
   and 1536 columns of the first layer's weights and bias, and leaves `Layer.modEntry` in the result's columns. -/
module

public import proofs.«01_k».proof.Proof.Gen.ModulationIdeal.Value
public import proofs.«01_k».proof.Proof.Layer
public import Idealize.ShloMosaic.Lib.Tactic
public import Idealize.ShloMosaic.Lib.KernelVsHost

@[expose] public section

noncomputable section

open Idealize.ShloMosaic Idealize.ShloMosaic.TcCoe Idealize.SL.Sem

namespace Cert.Layer

/-- A number times its logistic function. -/
def gate (x : EReal) : EReal := x * Ideal.div 1 (1 + Ideal.exp (-x))

/-- One entry of the modulation: a gated conditioning row through one column of the weights, with the bias added. -/
def modEntry (x w : Fin 1024 → EReal) (b : EReal) : EReal := (∑ k, gate (x k) * w k) + b

/-- A conditioning row of zeros leaves the bias. -/
theorem modEntry_zero (w : Fin 1024 → EReal) (b : EReal) : modEntry (fun _ => 0) w b = b := by
  simp only [modEntry, gate, zero_mul, Finset.sum_const_zero, zero_add]

end Cert.Layer

namespace Cert.ModulationIdeal.Block

open Cert.ModulationIdeal Cert.ModulationIdeal.Gen Cert.ModulationIdeal.Value Cert.Layer

theorem z2 : (![0, 0] : Fin 2 → Nat) = fun _ => 0 := funext fun a => by fin_cases a <;> rfl
theorem z3 : (![0, 0, 0] : Fin 3 → Nat) = fun _ => 0 := funext fun a => by fin_cases a <;> rfl

/-- What one grid point computes. -/
theorem pay_apply (x0 : Vec Ideal S8x1024 .f32) (x1 : Vec Ideal S1x1024x1536 .f32) (x2 : Vec Ideal S1x1x1536 .f32) (r : Fin 8) (j : Fin 1536) :
    k0_pay1 (F := Ideal) x0 x1 x2 (ix2 r j) = modEntry (fun k => x0 (ix2 r k)) (fun k => x1 (ix3 0 k j)) (x2 (ix3 0 0 j)) := by
  unfold k0_pay1
  pointwise [modEntry, gate]
  simp only [zero_sub]

/-- The block it stores. -/
theorem out_apply (x0 : Vec Ideal S8x1024 .f32) (x1 : Vec Ideal S1x1024x1536 .f32) (x2 : Vec Ideal S1x1x1536 .f32) (r : Fin 8) (j : Fin 1536) :
    out0_3 (F := Ideal) x0 x1 x2 (ix2 r j) = modEntry (fun k => x0 (ix2 r k)) (fun k => x1 (ix3 0 k j)) (x2 (ix3 0 0 j)) := by
  unfold out0_3
  rw [View.canon_unit_zero z2]
  simp only [View.ld_unit_zero (S := S8x1024) z2, View.ld_unit_zero (S := S1x1024x1536) z3, View.ld_unit_zero (S := S1x1x1536) z3]
  exact pay_apply x0 x1 x2 r j

variable (m : (ℓ : Loc nD τ sig) → Buf (Elt Ideal) ℓ)

theorem lt4 (t : Fin cfg0.N) : t.val < 4 := lt_of_lt_of_eq t.isLt (show cfg0.N = 4 from N_0)

/-- Column `j` of grid point `t` among all columns. -/
abbrev col (t : ℕ) (ht : t < 4) (j : Fin 1536) : Fin 6144 := ⟨t * 1536 + j.val, by omega⟩

/-! ## The arrays the host prepares -/

/-- The conditioning rows: the prompt's, the two samples', and five rows of zeros. -/
theorem V_rows (c : Dev nD) : V m c main_v2 = concatenate S8x1024 0
    [⟨S1x1024, broadcastInDim S1x1024 ![1] bcast_S1024_S1x1024_1 (m ((c : Thread nD τ).loc main_arg1))⟩,
     ⟨S2x1024, m ((c : Thread nD τ).loc main_arg0)⟩,
     ⟨S5x1024, broadcastInDim S5x1024 ![] bcast_S_S5x1024 (constant (F := Ideal) S_ .f32 0x00000000#32)⟩]
    concatenates_S1x1024_S2x1024_S5x1024_S8x1024_d0 := by
  unfold V hostOps0
  after_results
  rfl

theorem V_bias (c : Dev nD) : V m c main_v3 = shapeCast S4x1x6144 (m ((c : Thread nD τ).loc main_arg3)) shapeCasts_S4x6144_S4x1x6144 := by
  unfold V hostOps0
  after_results
  rfl

/-- Entry `k` of conditioning row `r`. -/
def condRow (x0 : Vec Ideal S2x1024 .f32) (x1 : Vec Ideal S1024 .f32) (r : Fin 8) (k : Fin 1024) : EReal :=
  if r.val < 1 then x1 (ix1 k) else if h : r.val - 1 < 2 then x0 (ix2 ⟨r.val - 1, h⟩ k) else 0

theorem rows_apply (c : Dev nD) (r : Fin 8) (k : Fin 1024) : (V m c main_v2 : Vec Ideal S8x1024 .f32) (ix2 r k)
    = condRow (m ((c : Thread nD τ).loc main_arg0)) (m ((c : Thread nD τ).loc main_arg1)) r k := by
  rw [V_rows]
  generalize m ((c : Thread nD τ).loc main_arg0) = x0
  generalize m ((c : Thread nD τ).loc main_arg1) = x1
  pointwise [condRow]
  simp only [dite_eq_ite]

theorem bias_apply (c : Dev nD) (j : Fin 6144) : (V m c main_v3 : Vec Ideal S4x1x6144 .f32) (ix3 0 0 j)
    = m ((c : Thread nD τ).loc main_arg3) (ix2 0 j) := by
  rw [V_bias]
  refine shapeCast_apply _ _ (ix3 0 0 j) (ix2 0 j) ?_
  rw [Shape.rowMajor_val_two, Shape.rowMajor_val_three]
  show 0 * 6144 + j.val = (0 * 1 + 0) * 6144 + j.val
  omega

/-! ## The windows' blocks -/

theorem index0 : ∀ t : Fin cfg0.N, win0_0.index t 0 = 0 ∧ win0_0.index t 1 = 0 := (by decide +kernel : ∀ t : Fin grid0.N, _)
theorem index1 : ∀ t : Fin cfg0.N, win0_1.index t 0 = 0 ∧ win0_1.index t 1 = 0 ∧ win0_1.index t 2 = t.val := (by decide +kernel : ∀ t : Fin grid0.N, _)
theorem index2 : ∀ t : Fin cfg0.N, win0_2.index t 0 = 0 ∧ win0_2.index t 1 = 0 ∧ win0_2.index t 2 = t.val := (by decide +kernel : ∀ t : Fin grid0.N, _)
theorem index3 : ∀ t : Fin cfg0.N, win0_3.index t 0 = 0 ∧ win0_3.index t 1 = t.val := (by decide +kernel : ∀ t : Fin grid0.N, _)
theorem flush3 : ∀ t : Fin cfg0.N, (cfg0.win 3).flush t = true := (by decide +kernel : ∀ t : Fin grid0.N, _)

theorem blk0 (c : Dev nD) (t : Fin cfg0.N) (r : Fin 8) (k : Fin 1024) :
    (iblk m c 0 t : Vec Ideal S8x1024 .f32) (ix2 r k)
      = condRow (m ((c : Thread nD τ).loc main_arg0)) (m ((c : Thread nD τ).loc main_arg1)) r k := by
  obtain ⟨h0, h1⟩ := index0 t
  unfold iblk
  rw [View.read_apply]
  show V m c main_v2 _ = _
  refine Eq.trans ?_ (rows_apply m c r k)
  congr 1
  funext a
  apply Fin.ext
  match a with
  | ⟨0, _⟩ => show win0_0.index t 0 * 8 + 1 * r.val = r.val; rw [h0]; omega
  | ⟨1, _⟩ => show win0_0.index t 1 * 1024 + 1 * k.val = k.val; rw [h1]; omega

theorem blk1 (c : Dev nD) (t : Fin cfg0.N) (k : Fin 1024) (j : Fin 1536) :
    (iblk m c 1 t : Vec Ideal S1x1024x1536 .f32) (ix3 0 k j)
      = m ((c : Thread nD τ).loc main_arg2) (ix3 0 k (col t.val (lt4 t) j)) := by
  obtain ⟨h0, h1, h2⟩ := index1 t
  unfold iblk
  rw [View.read_apply]
  show V m c main_arg2 _ = _
  rw [V_main_arg2]
  congr 1
  funext a
  apply Fin.ext
  match a with
  | ⟨0, _⟩ => show win0_1.index t 0 * 1 + 1 * 0 = 0; rw [h0]
  | ⟨1, _⟩ => show win0_1.index t 1 * 1024 + 1 * k.val = k.val; rw [h1]; omega
  | ⟨2, _⟩ => show win0_1.index t 2 * 1536 + 1 * j.val = t.val * 1536 + j.val; rw [h2]; omega

theorem blk2 (c : Dev nD) (t : Fin cfg0.N) (j : Fin 1536) :
    (iblk m c 2 t : Vec Ideal S1x1x1536 .f32) (ix3 0 0 j)
      = m ((c : Thread nD τ).loc main_arg3) (ix2 0 (col t.val (lt4 t) j)) := by
  obtain ⟨h0, h1, h2⟩ := index2 t
  unfold iblk
  rw [View.read_apply]
  show V m c main_v3 _ = _
  refine Eq.trans ?_ (bias_apply m c (col t.val (lt4 t) j))
  congr 1
  funext a
  apply Fin.ext
  match a with
  | ⟨0, _⟩ => show win0_2.index t 0 * 1 + 1 * 0 = 0; rw [h0]
  | ⟨1, _⟩ => show win0_2.index t 1 * 1 + 1 * 0 = 0; rw [h1]
  | ⟨2, _⟩ => show win0_2.index t 2 * 1536 + 1 * j.val = t.val * 1536 + j.val; rw [h2]; omega

/-! ## The result -/

/-- The result array at row `r` and column `j` of grid point `t`. -/
theorem result (c : Dev nD) (t : Fin cfg0.N) (r : Fin 8) (j : Fin 1536) :
    ((dats m 0 c).arrAt 3 cfg0.N : Vec Ideal S8x6144 .f32) (ix2 r (col t.val (lt4 t) j))
      = modEntry (condRow (m ((c : Thread nD τ).loc main_arg0)) (m ((c : Thread nD τ).loc main_arg1)) r)
          (fun k => m ((c : Thread nD τ).loc main_arg2) (ix3 0 k (col t.val (lt4 t) j)))
          (m ((c : Thread nD τ).loc main_arg3) (ix2 0 (col t.val (lt4 t) j))) := by
  obtain ⟨h0, h1⟩ := index3 t
  have e : ((cfg0.win 3).blk t).view.emb (ix2 r j) = ix2 r (col t.val (lt4 t) j) := by
    funext a
    apply Fin.ext
    match a with
    | ⟨0, _⟩ => show win0_3.index t 0 * 8 + 1 * r.val = r.val; rw [h0]; omega
    | ⟨1, _⟩ => show win0_3.index t 1 * 1536 + 1 * j.val = t.val * 1536 + j.val; rw [h1]; omega
  have b := congrFun (blocks3 m c t (flush3 _)) (ix2 r j)
  rw [View.read_apply, flushed3] at b
  erw [e] at b
  refine b.trans ?_
  refine (out_apply _ _ _ r j).trans ?_
  simp only [blk0, blk1, blk2]

end Cert.ModulationIdeal.Block

end
-- ==== Proof.ModulationEquation.lean ====
/- The modulation: the kernel's result array is the reference's result, entry by entry. -/
module

public import proofs.«01_k».proof.Proof.ModulationValue
public import proofs.«01_k».proof.Proof.Gen.RefModulationIdeal.Read

@[expose] public section

noncomputable section

open Idealize.ShloMosaic Idealize.ShloMosaic.TcCoe Idealize.SL.Sem

namespace Cert.RefModulationIdeal.Block

open Cert.RefModulationIdeal Cert.RefModulationIdeal.Gen Cert.RefModulationIdeal.Read Cert.Layer

variable (x0 : Vec Ideal S2x1024 .f32) (x1 : Vec Ideal S1024 .f32) (x2 : Vec Ideal S4x1024x6144 .f32) (x3 : Vec Ideal S4x6144 .f32)

/-- The prompt's row. -/
theorem prompt_apply (j : Fin 6144) :
    val_main_v8 (F := Ideal) x1 x2 x3 (ix2 0 j) = modEntry (fun k => x1 (ix1 k)) (fun k => x2 (ix3 0 k j)) (x3 (ix2 0 j)) := by
  pointwise [modEntry, gate, val_main_v0, val_main_v1, val_main_v2, val_main_v3, val_main_v4, val_main_call0_v0, val_main_call0_v1, val_main_call0_cst,
    val_main_call0_v2, val_main_call0_v3, val_main_call0_cst_0, val_main_call0_v4, val_main_call0_v5, val_main_v5, val_main_v6, val_main_v7, val_main_v8]

/-- The row of sample `s`. -/
theorem sample_apply (s : Fin 2) (j : Fin 6144) :
    val_main_v13 (F := Ideal) x0 x2 x3 (ix2 s j) = modEntry (fun k => x0 (ix2 s k)) (fun k => x2 (ix3 0 k j)) (x3 (ix2 0 j)) := by
  pointwise [modEntry, gate, val_main_v0, val_main_v1, val_main_v2, val_main_v3, val_main_call1_v0, val_main_call1_v1, val_main_call1_cst,
    val_main_call1_v2, val_main_call1_v3, val_main_call1_cst_0, val_main_call1_v4, val_main_call1_v5, val_main_v9, val_main_v10, val_main_v11, val_main_v12,
    val_main_v13]

/-- A spare row: the bias. -/
theorem spare_apply (s : Fin 5) (j : Fin 6144) : val_main_v15 (F := Ideal) x3 (ix2 s j) = x3 (ix2 0 j) := by
  pointwise [val_main_v2, val_main_v3, val_main_v14, val_main_v15]

/-- The reference's result: every row from its conditioning row, a spare one from zeros. -/
theorem result_apply (r : Fin 8) (j : Fin 6144) :
    val_main_v16 (F := Ideal) x0 x1 x2 x3 (ix2 r j)
      = modEntry (Cert.ModulationIdeal.Block.condRow x0 x1 r) (fun k => x2 (ix3 0 k j)) (x3 (ix2 0 j)) := by
  unfold val_main_v16
  by_cases h1 : r.val < 1
  · have hr : Cert.ModulationIdeal.Block.condRow x0 x1 r = fun k => x1 (ix1 k) := funext fun k => if_pos h1
    rw [hr]
    refine (concatenate_apply_piece 0 _ _ (ix2 r j) 0 (by simp) S1x6144 _ rfl rfl 0 rfl (ix2 0 j) ?_ ?_).trans (prompt_apply x1 x2 x3 j)
    · intro b hb
      match b with
      | ⟨0, _⟩ => exact absurd rfl hb
      | ⟨1, _⟩ => rfl
    · show 0 + 0 = r.val
      omega
  by_cases h2 : r.val - 1 < 2
  · have hr : Cert.ModulationIdeal.Block.condRow x0 x1 r = fun k => x0 (ix2 ⟨r.val - 1, h2⟩ k) := funext fun k => (if_neg h1).trans (dif_pos h2)
    rw [hr]
    refine (concatenate_apply_piece 0 _ _ (ix2 r j) 1 (by simp) S2x6144 _ rfl rfl 1 rfl (ix2 ⟨r.val - 1, h2⟩ j) ?_ ?_).trans (sample_apply x0 x2 x3 _ j)
    · intro b hb
      match b with
      | ⟨0, _⟩ => exact absurd rfl hb
      | ⟨1, _⟩ => rfl
    · show 1 + (r.val - 1) = r.val
      omega
  · have hr : Cert.ModulationIdeal.Block.condRow x0 x1 r = fun _ => 0 := funext fun k => (if_neg h1).trans (dif_neg h2)
    rw [hr, modEntry_zero]
    refine (concatenate_apply_piece 0 _ _ (ix2 r j) 2 (by simp) S5x6144 _ rfl rfl 3 rfl (ix2 ⟨r.val - 3, by omega⟩ j) ?_ ?_).trans (spare_apply x3 _ j)
    · intro b hb
      match b with
      | ⟨0, _⟩ => exact absurd rfl hb
      | ⟨1, _⟩ => rfl
    · show 3 + (r.val - 3) = r.val
      omega

end Cert.RefModulationIdeal.Block

namespace Cert.ModulationIdeal.Block

open Cert.ModulationIdeal Cert.ModulationIdeal.Gen Cert.ModulationIdeal.Value Cert.Layer

/-- The kernel's result array is the reference's result on the same arguments. -/
theorem result_eq_reference (m : (ℓ : Loc nD τ sig) → Buf (Elt Ideal) ℓ) (c : Dev nD) :
    ((dats m 0 c).arrAt 3 cfg0.N : Vec Ideal S8x6144 .f32)
      = Cert.RefModulationIdeal.Read.val_main_v16 (F := Ideal) (m ((c : Thread nD τ).loc main_arg0)) (m ((c : Thread nD τ).loc main_arg1))
          (m ((c : Thread nD τ).loc main_arg2)) (m ((c : Thread nD τ).loc main_arg3)) := by
  funext i
  obtain ⟨r, j, rfl⟩ : ∃ (r : Fin 8) (j : Fin 6144), i = ix2 r j := ⟨i 0, i 1, eq_ix2 i⟩
  have hN : cfg0.N = 4 := N_0
  obtain ⟨s, p, e⟩ : ∃ (s : Fin 4) (p : Fin 1536), j = col s.val s.isLt p :=
    ⟨⟨j.val / 1536, by omega⟩, ⟨j.val % 1536, by omega⟩, Fin.ext (by dsimp only [col]; omega)⟩
  subst e
  exact (result m c ⟨s.val, by omega⟩ r p).trans (Cert.RefModulationIdeal.Block.result_apply _ _ _ _ r _).symm

end Cert.ModulationIdeal.Block

end
-- ==== Proof.MlpBothBlock.lean ====
/- The channel-mixer kernel of an earlier layer, which works on all tokens and computes the next layer's modulation beside
   them, one grid point at a time: what the body leaves in the two scratch buffers and in the two output blocks, read at an
   index. -/
module

public import proofs.«01_k».proof.Proof.Gen.MlpBothIdeal.Value
public import proofs.«01_k».proof.Proof.MlpBlock
public import proofs.«01_k».proof.Proof.ModulationValue
public import Idealize.ShloMosaic.Lib.Tactic

@[expose] public section

noncomputable section

open Idealize.ShloMosaic Idealize.ShloMosaic.TcCoe Idealize.SL.Sem

namespace Cert.MlpBothIdeal.Block

open Cert.MlpBothIdeal Cert.MlpBothIdeal.Gen Cert.Layer

theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl

section Cases

variable (c : Dev nD) (i : grid0.Coords) (arg2 : Memref sig .tc .vmem S1024x1024 .f32) (harg2 : arg2.IsWhole) (arg3 : Memref sig .tc .vmem S1x1x6x1024 .f32) (harg3 : arg3.IsWhole) (arg4 : Memref sig .tc .vmem S1x4x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S8x1024 .f32) (harg7 : arg7.IsWhole) (arg8 : Memref sig .tc .vmem S1x1024x256 .f32) (harg8 : arg8.IsWhole) (arg9 : Memref sig .tc .vmem S1x1x256 .f32) (harg9 : arg9.IsWhole) (arg10 : Memref sig .tc .vmem S1024x1024 .f32) (harg10 : arg10.IsWhole) (arg11 : Memref sig .tc .vmem S8x256 .f32) (harg11 : arg11.IsWhole) (arg12 : Memref sig .tc .vmem S1024x1024 .bf16) (harg12 : arg12.IsWhole) (arg13 : Memref sig .tc .vmem S1024x1024 .f32) (harg13 : arg13.IsWhole)
  (x0 : Vec Ideal S1024x1024 .f32) (x1 : Vec Ideal S1x1x6x1024 .f32) (x2 : Vec Ideal S1x4x1024 .f32) (x3 x4 : Vec Ideal S1x1024x1024 .f32)
  (x5 : Vec Ideal S8x1024 .f32) (x6 : Vec Ideal S1x1024x256 .f32) (x7 : Vec Ideal S1x1x256 .f32)
  (xs0 : Vec Ideal S1024x1024 .bf16) (xs1 : Vec Ideal S1024x1024 .f32)

/-- The first point of a row tile leaves the modulated rows in the first scratch buffer. -/
theorem sout_A_0 (hc0) (hc1) (hc2) :
    sout0_A_0 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7
      = k0_pay3 (k0_pay6 x1) (k0_pay7 x2) x0 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7)]
  unfold kernelRun0_A
  dsimp only
  sl_unfold_words
  rw [View.canon_unit_zero z2]
  simp only [View.readAt_eq_ld, harg2.read_unread, harg3.read_unread, harg4.read_unread, View.ld_unit_zero (S := S1024x1024) z2, View.ld_unit_zero (S := S1x1x6x1024) z4, View.ld_unit_zero (S := S1x4x1024) z3]

/-- … and the first quarter of the hidden units' contribution in the second. -/
theorem sout_A_1 (hc0) (hc1) (hc2) :
    sout0_A_1 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7
      = k0_pay8 (k0_pay4 (k0_pay3 (k0_pay6 x1) (k0_pay7 x2) x0) x3 x4) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7)]
  unfold kernelRun0_A
  dsimp only
  sl_unfold_words
  rw [View.canon_unit_zero z2]
  simp only [View.readAt_eq_ld, harg2.read_unread, harg3.read_unread, harg4.read_unread, harg5.read_unread, harg6.read_unread, View.readCov_unit_zero (S := S1024x1024) _ z2, View.ld_unit_zero (S := S1024x1024) z2, View.ld_unit_zero (S := S1x1x6x1024) z4, View.ld_unit_zero (S := S1x4x1024) z3, View.ld_unit_zero (S := S1x1024x1024) z3]

/-- The two middle points add their quarter. -/
theorem sout_B_1 (hc0) (hc1) (hc2) :
    sout0_B_1 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1
      = k0_pay1 xs1 xs0 x3 x4 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1)]
  unfold kernelRun0_B
  dsimp only
  sl_unfold_words
  rw [View.canon_unit_zero z2]
  simp only [View.readAt_eq_ld, harg5.read_unread, harg6.read_unread, harg12.read_unread, harg13.read_unread, View.ld_unit_zero (S := S1024x1024) z2, View.ld_unit_zero (S := S1x1024x1024) z3]

/-- The last point adds the last quarter, normalises, gates and adds the residual row. -/
theorem out_C (hc0) (hc1) (hc2) :
    out0_C_8 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1
      = k0_pay2 (k0_pay6 x1) (k0_pay7 x2) xs1 xs0 x3 x4 x0 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1)]
  unfold kernelRun0_C
  dsimp only
  sl_unfold_words
  rw [View.canon_unit_zero z2]
  simp only [View.readAt_eq_ld, harg2.read_unread, harg3.read_unread, harg4.read_unread, harg5.read_unread, harg6.read_unread, harg12.read_unread, harg13.read_unread, View.ld_unit_zero (S := S1024x1024) z2, View.ld_unit_zero (S := S1x1x6x1024) z4, View.ld_unit_zero (S := S1x4x1024) z3, View.ld_unit_zero (S := S1x1024x1024) z3]

/-! Every point leaves its 256 columns of the next layer's modulation. -/

/-- The first point of a row tile, -/
theorem mod_A (hc0) (hc1) (hc2) :
    out0_A_9 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7
      = k0_pay5 x5 x6 x7 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7)]
  unfold kernelRun0_A
  dsimp only
  sl_unfold_words
  rw [View.canon_unit_zero z2]
  simp only [View.readAt_eq_ld, harg7.read_unread, harg8.read_unread, harg9.read_unread, View.ld_unit_zero (S := S8x1024) z2, View.ld_unit_zero (S := S1x1024x256) z3, View.ld_unit_zero (S := S1x1x256) z3]

/-- the two middle ones, -/
theorem mod_B (hc0) (hc1) (hc2) :
    out0_B_9 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1
      = k0_pay5 x5 x6 x7 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1)]
  unfold kernelRun0_B
  dsimp only
  sl_unfold_words
  rw [View.canon_unit_zero z2]
  simp only [View.readAt_eq_ld, harg7.read_unread, harg8.read_unread, harg9.read_unread, View.ld_unit_zero (S := S8x1024) z2, View.ld_unit_zero (S := S1x1024x256) z3, View.ld_unit_zero (S := S1x1x256) z3]

/-- and the last. -/
theorem mod_C (hc0) (hc1) (hc2) :
    out0_C_9 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1
      = k0_pay5 x5 x6 x7 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1)]
  unfold kernelRun0_C
  dsimp only
  sl_unfold_words
  rw [View.canon_unit_zero z2]
  simp only [View.readAt_eq_ld, harg7.read_unread, harg8.read_unread, harg9.read_unread, View.ld_unit_zero (S := S8x1024) z2, View.ld_unit_zero (S := S1x1024x256) z3, View.ld_unit_zero (S := S1x1x256) z3]

end Cases

/-! ## The stored values read at an index: the body is that of the last layer's channel mixer, and the modulation's -/

theorem pay3_apply (x1 : Vec Ideal S1x1x6x1024 .f32) (x2 : Vec Ideal S1x4x1024 .f32) (x : Vec Ideal S1024x1024 .f32) (r j : Fin 1024) :
    k0_pay3 (F := Ideal) (k0_pay6 x1) (k0_pay7 x2) x (ix2 r j)
      = modulated (fun k => x (ix2 r k)) (fun k => x2 (ix3 0 2 k)) (fun k => x1 (ix4 0 0 4 k)) (fun k => x1 (ix4 0 0 3 k)) j :=
  Cert.MlpIdeal.Block.pay6_apply x1 x2 x r j

theorem pay4_apply (h : Vec Ideal S1024x1024 .bf16) (w1 w2 : Vec Ideal S1x1024x1024 .f32) (r j : Fin 1024) :
    k0_pay8 (F := Ideal) (k0_pay4 h w1 w2) (ix2 r j)
      = ∑ f : Fin 1024, relu2 (∑ k : Fin 1024, h (ix2 r k) * w1 (ix3 0 k f)) * w2 (ix3 0 f j) :=
  Cert.MlpIdeal.Block.pay7_apply h w1 w2 r j

theorem pay1_apply (a : Vec Ideal S1024x1024 .f32) (h : Vec Ideal S1024x1024 .bf16) (w1 w2 : Vec Ideal S1x1024x1024 .f32) (r j : Fin 1024) :
    k0_pay1 (F := Ideal) a h w1 w2 (ix2 r j)
      = a (ix2 r j) + ∑ f : Fin 1024, relu2 (∑ k : Fin 1024, h (ix2 r k) * w1 (ix3 0 k f)) * w2 (ix3 0 f j) :=
  Cert.MlpIdeal.Block.pay4_apply a h w1 w2 r j

theorem pay2_apply (x1 : Vec Ideal S1x1x6x1024 .f32) (x2 : Vec Ideal S1x4x1024 .f32) (a : Vec Ideal S1024x1024 .f32)
    (h : Vec Ideal S1024x1024 .bf16) (w1 w2 : Vec Ideal S1x1024x1024 .f32) (x : Vec Ideal S1024x1024 .f32) (r j : Fin 1024) :
    k0_pay2 (F := Ideal) (k0_pay6 x1) (k0_pay7 x2) a h w1 w2 x (ix2 r j)
      = x (ix2 r j) + x1 (ix4 0 0 5 j) * rms (fun n => a (ix2 r n)
          + ∑ f : Fin 1024, relu2 (∑ k : Fin 1024, h (ix2 r k) * w1 (ix3 0 k f)) * w2 (ix3 0 f n)) (fun n => x2 (ix3 0 3 n)) j :=
  Cert.MlpIdeal.Block.pay5_apply x1 x2 a h w1 w2 x r j

theorem pay5_apply (x0 : Vec Ideal S8x1024 .f32) (x1 : Vec Ideal S1x1024x256 .f32) (x2 : Vec Ideal S1x1x256 .f32) (r : Fin 8) (j : Fin 256) :
    k0_pay5 (F := Ideal) x0 x1 x2 (ix2 r j) = modEntry (fun k => x0 (ix2 r k)) (fun k => x1 (ix3 0 k j)) (x2 (ix3 0 0 j)) := by
  unfold k0_pay5
  pointwise [modEntry, gate]
  simp only [zero_sub]

end Cert.MlpBothIdeal.Block

end
-- ==== Proof.MlpBothValue.lean ====
/- The channel-mixer kernel of an earlier layer, which works on all tokens: what its two result arrays hold after the run. A
   grid point `4 q + n` reads row tile `q` and quarter `n` of the hidden units; the four points of a tile together leave
   every row's `Layer.mlpToken`. Each point also leaves 256 columns of the next layer's modulation, `Layer.modEntry`. -/
module

public import proofs.«01_k».proof.Proof.MlpBothBlock

@[expose] public section

noncomputable section

open Idealize.ShloMosaic Idealize.ShloMosaic.TcCoe Idealize.SL.Sem

namespace Cert.MlpBothIdeal.Block

open Cert.MlpBothIdeal Cert.MlpBothIdeal.Gen Cert.MlpBothIdeal.Value Cert.Layer

open Cert.ModulationIdeal.Block (condRow)

variable (m : (ℓ : Loc nD τ sig) → Buf (Elt Ideal) ℓ)

theorem lt24 (t : Fin cfg0.N) : t.val < 24 := lt_of_lt_of_eq t.isLt (show cfg0.N = 24 from N_0)

/-! ## The input windows' blocks -/

theorem index0 : ∀ t : Fin cfg0.N, win0_0.index t 0 = t.val / 4 ∧ win0_0.index t 1 = 0 := (by decide +kernel : ∀ t : Fin grid0.N, _)
theorem index1 : ∀ t : Fin cfg0.N, win0_1.index t 0 = 0 ∧ win0_1.index t 1 = t.val / 4 - 3 ∧ win0_1.index t 2 = 0 ∧ win0_1.index t 3 = 0 := (by decide +kernel : ∀ t : Fin grid0.N, _)
theorem index2 : ∀ t : Fin cfg0.N, win0_2.index t 0 = 1 ∧ win0_2.index t 1 = 0 ∧ win0_2.index t 2 = 0 := (by decide +kernel : ∀ t : Fin grid0.N, _)
theorem index3 : ∀ t : Fin cfg0.N, win0_3.index t 0 = 1 ∧ win0_3.index t 1 = 0 ∧ win0_3.index t 2 = t.val % 4 := (by decide +kernel : ∀ t : Fin grid0.N, _)
theorem index4 : ∀ t : Fin cfg0.N, win0_4.index t 0 = 1 ∧ win0_4.index t 1 = t.val % 4 ∧ win0_4.index t 2 = 0 := (by decide +kernel : ∀ t : Fin grid0.N, _)

/-- The array row that row `r` of tile `q` is. -/
abbrev row (q : ℕ) (hq : q < 6) (r : Fin 1024) : Fin 6144 := ⟨q * 1024 + r.val, by omega⟩

/-- The modulation's row for tile `q`: the prompt's for the first four tiles, then one sample's each. -/
abbrev group (q : ℕ) (hq : q < 6) : Fin 8 := ⟨q - 3, by omega⟩

theorem blk0 (c : Dev nD) (t : Fin cfg0.N) (r j : Fin 1024) :
    (iblk m c 0 t : Vec Ideal S1024x1024 .f32) (ix2 r j)
      = m ((c : Thread nD τ).loc main_arg0) (ix2 (row (t.val / 4) (by have := lt24 t; omega) r) j) := by
  obtain ⟨h0, h1⟩ := index0 t
  unfold iblk
  rw [View.read_apply]
  show V m c main_arg0 _ = _
  rw [V_main_arg0]
  congr 1
  funext a
  apply Fin.ext
  match a with
  | ⟨0, _⟩ => show win0_0.index t 0 * 1024 + 1 * r.val = t.val / 4 * 1024 + r.val; rw [h0]; omega
  | ⟨1, _⟩ => show win0_0.index t 1 * 1024 + 1 * j.val = j.val; rw [h1]; omega

theorem blk1 (c : Dev nD) (t : Fin cfg0.N) (p : Fin 6) (j : Fin 1024) :
    (iblk m c 1 t : Vec Ideal S1x1x6x1024 .f32) (ix4 0 0 p j)
      = m ((c : Thread nD τ).loc main_arg1) (ix4 0 (group (t.val / 4) (by have := lt24 t; omega)) p j) := by
  obtain ⟨h0, h1, h2, h3⟩ := index1 t
  unfold iblk
  rw [View.read_apply]
  show V m c main_arg1 _ = _
  rw [V_main_arg1]
  congr 1
  funext a
  apply Fin.ext
  match a with
  | ⟨0, _⟩ => show win0_1.index t 0 * 1 + 1 * 0 = 0; rw [h0]
  | ⟨1, _⟩ => show win0_1.index t 1 * 1 + 1 * 0 = t.val / 4 - 3; rw [h1]; omega
  | ⟨2, _⟩ => show win0_1.index t 2 * 6 + 1 * p.val = p.val; rw [h2]; omega
  | ⟨3, _⟩ => show win0_1.index t 3 * 1024 + 1 * j.val = j.val; rw [h3]; omega

theorem blk2 (c : Dev nD) (t : Fin cfg0.N) (p : Fin 4) (j : Fin 1024) :
    (iblk m c 2 t : Vec Ideal S1x4x1024 .f32) (ix3 0 p j) = m ((c : Thread nD τ).loc main_arg2) (ix3 1 p j) := by
  obtain ⟨h0, h1, h2⟩ := index2 t
  unfold iblk
  rw [View.read_apply]
  show V m c main_arg2 _ = _
  rw [V_main_arg2]
  congr 1
  funext a
  apply Fin.ext
  match a with
  | ⟨0, _⟩ => show win0_2.index t 0 * 1 + 1 * 0 = 1; rw [h0]
  | ⟨1, _⟩ => show win0_2.index t 1 * 4 + 1 * p.val = p.val; rw [h1]; omega
  | ⟨2, _⟩ => show win0_2.index t 2 * 1024 + 1 * j.val = j.val; rw [h2]; omega

theorem blk3 (c : Dev nD) (t : Fin cfg0.N) (k f : Fin 1024) :
    (iblk m c 3 t : Vec Ideal S1x1024x1024 .f32) (ix3 0 k f)
      = m ((c : Thread nD τ).loc main_arg3) (ix3 1 k ⟨t.val % 4 * 1024 + f.val, by omega⟩) := by
  obtain ⟨h0, h1, h2⟩ := index3 t
  unfold iblk
  rw [View.read_apply]
  show V m c main_arg3 _ = _
  rw [V_main_arg3]
  congr 1
  funext a
  apply Fin.ext
  match a with
  | ⟨0, _⟩ => show win0_3.index t 0 * 1 + 1 * 0 = 1; rw [h0]
  | ⟨1, _⟩ => show win0_3.index t 1 * 1024 + 1 * k.val = k.val; rw [h1]; omega
  | ⟨2, _⟩ => show win0_3.index t 2 * 1024 + 1 * f.val = t.val % 4 * 1024 + f.val; rw [h2]; omega

theorem blk4 (c : Dev nD) (t : Fin cfg0.N) (f j : Fin 1024) :
    (iblk m c 4 t : Vec Ideal S1x1024x1024 .f32) (ix3 0 f j)
      = m ((c : Thread nD τ).loc main_arg4) (ix3 1 ⟨t.val % 4 * 1024 + f.val, by omega⟩ j) := by
  obtain ⟨h0, h1, h2⟩ := index4 t
  unfold iblk
  rw [View.read_apply]
  show V m c main_arg4 _ = _
  rw [V_main_arg4]
  congr 1
  funext a
  apply Fin.ext
  match a with
  | ⟨0, _⟩ => show win0_4.index t 0 * 1 + 1 * 0 = 1; rw [h0]
  | ⟨1, _⟩ => show win0_4.index t 1 * 1024 + 1 * f.val = t.val % 4 * 1024 + f.val; rw [h1]; omega
  | ⟨2, _⟩ => show win0_4.index t 2 * 1024 + 1 * j.val = j.val; rw [h2]; omega

/-! ## The arguments as functions of row and column -/

abbrev X (c : Dev nD) (q : ℕ) (hq : q < 6) (r k : Fin 1024) : EReal := m ((c : Thread nD τ).loc main_arg0) (ix2 (row q hq r) k)
abbrev M (c : Dev nD) (q : ℕ) (hq : q < 6) (p : Fin 6) (k : Fin 1024) : EReal := m ((c : Thread nD τ).loc main_arg1) (ix4 0 (group q hq) p k)
abbrev Gn (c : Dev nD) (p : Fin 4) (k : Fin 1024) : EReal := m ((c : Thread nD τ).loc main_arg2) (ix3 1 p k)
abbrev W1 (c : Dev nD) (k : Fin 1024) (f : Fin 4096) : EReal := m ((c : Thread nD τ).loc main_arg3) (ix3 1 k f)
abbrev W2 (c : Dev nD) (f : Fin 4096) (j : Fin 1024) : EReal := m ((c : Thread nD τ).loc main_arg4) (ix3 1 f j)

/-- The modulated row `r` of tile `q`. -/
abbrev H (c : Dev nD) (q : ℕ) (hq : q < 6) (r : Fin 1024) : Fin 1024 → EReal :=
  modulated (X m c q hq r) (Gn m c 2) (M m c q hq 4) (M m c q hq 3)

/-! ## The four points of a row tile -/

/-- The first point of tile `q` leaves the modulated rows in the first scratch buffer, -/
theorem h0_A (c : Dev nD) (t : Fin cfg0.N) (q : ℕ) (hq : q < 6) (ht : t.val = 4 * q) (r j : Fin 1024) :
    (outsAt0 m c t.val t.isLt).2.2.1 (ix2 r j) = H m c q hq r j := by
  obtain rfl : q = t.val / 4 := by omega
  rw [outsAt0_A m c t (by omega) (by omega) (by omega)]
  dsimp only
  rw [sout_A_0, pay3_apply]
  simp only [blk0, blk1, blk2]

/-- and the first part of the perceptron's sum in the second. -/
theorem h1_A (c : Dev nD) (t : Fin cfg0.N) (q : ℕ) (hq : q < 6) (ht : t.val = 4 * q) (r j : Fin 1024) :
    (outsAt0 m c t.val t.isLt).2.2.2 (ix2 r j) = ffnPart (H m c q hq r) (W1 m c) (W2 m c) 0 j := by
  obtain rfl : q = t.val / 4 := by omega
  rw [outsAt0_A m c t (by omega) (by omega) (by omega)]
  dsimp only
  rw [sout_A_1, pay4_apply]
  simp only [pay3_apply, blk0, blk1, blk2, blk3, blk4, show t.val % 4 = 0 by omega]
  rfl

/-- The two middle points keep the modulated rows -/
theorem h0_B (c : Dev nD) (t : Fin cfg0.N) (h1 : 1 ≤ t.val % 4 ∧ t.val % 4 ≤ 2) :
    (outsAt0 m c t.val t.isLt).2.2.1 = (outsAt0 m c (t.val - 1) (by have := t.isLt; omega)).2.2.1 := by
  rw [outsAt0_B m c t (by omega) h1 (by omega)]
  rfl

/-- and add their part of the sum. -/
theorem h1_B (c : Dev nD) (t : Fin cfg0.N) (n : Fin 4) (hn : t.val % 4 = n.val) (h1 : 1 ≤ t.val % 4 ∧ t.val % 4 ≤ 2)
    (hrow : Fin 1024 → EReal) (r j : Fin 1024)
    (hh : ∀ k, (outsAt0 m c (t.val - 1) (by have := t.isLt; omega)).2.2.1 (ix2 r k) = hrow k) :
    (outsAt0 m c t.val t.isLt).2.2.2 (ix2 r j)
      = (outsAt0 m c (t.val - 1) (by have := t.isLt; omega)).2.2.2 (ix2 r j) + ffnPart hrow (W1 m c) (W2 m c) n j := by
  rw [outsAt0_B m c t (by omega) h1 (by omega)]
  dsimp only
  rw [sout_B_1, pay1_apply]
  simp only [hh, blk3, blk4, hn]
  rfl

/-- The last point adds its part, normalises the sum, gates it and adds the row. -/
theorem h_C (c : Dev nD) (t : Fin cfg0.N) (q : ℕ) (hq : q < 6) (ht : t.val = 4 * q + 3) (hrow acc : Fin 1024 → EReal) (r j : Fin 1024)
    (hh : ∀ k, (outsAt0 m c (t.val - 1) (by have := t.isLt; omega)).2.2.1 (ix2 r k) = hrow k)
    (ha : ∀ k, (outsAt0 m c (t.val - 1) (by have := t.isLt; omega)).2.2.2 (ix2 r k) = acc k) :
    (outsAt0 m c t.val t.isLt).1 (ix2 r j)
      = X m c q hq r j + M m c q hq 5 j
          * rms (fun n => acc n + ffnPart hrow (W1 m c) (W2 m c) 3 n) (Gn m c 3) j := by
  obtain rfl : q = t.val / 4 := by omega
  rw [outsAt0_C m c t (by omega) (by omega) (by omega)]
  dsimp only
  rw [out_C, pay2_apply]
  simp only [hh, ha, blk0, blk1, blk2, blk3, blk4, show t.val % 4 = 3 by omega]
  rfl

/-- The last point of row tile `q` leaves every row of the tile through the whole channel mixer. -/
theorem tile (c : Dev nD) (q : ℕ) (hq : q < 6) (r j : Fin 1024) :
    (outsAt0 m c (4 * q + 3) (by rw [show cfg0.N = 24 from N_0]; omega)).1 (ix2 r j)
      = mlpToken (X m c q hq r) (Gn m c 2) (M m c q hq 4) (M m c q hq 3) (M m c q hq 5) (Gn m c 3) (W1 m c) (W2 m c) j := by
  have hN : cfg0.N = 24 := N_0
  have b : ∀ n, n < 4 → 4 * q + n < cfg0.N := fun n hn => by omega
  have e0 : ∀ k, (outsAt0 m c (4 * q + 0) (b 0 (by omega))).2.2.1 (ix2 r k) = H m c q hq r k := fun k =>
    h0_A m c ⟨4 * q + 0, b 0 (by omega)⟩ q hq rfl r k
  have a0 : ∀ k, (outsAt0 m c (4 * q + 0) (b 0 (by omega))).2.2.2 (ix2 r k) = ffnPart (H m c q hq r) (W1 m c) (W2 m c) 0 k := fun k =>
    h1_A m c ⟨4 * q + 0, b 0 (by omega)⟩ q hq rfl r k
  have e1 : ∀ k, (outsAt0 m c (4 * q + 1) (b 1 (by omega))).2.2.1 (ix2 r k) = H m c q hq r k := fun k =>
    (congrFun (h0_B m c ⟨4 * q + 1, b 1 (by omega)⟩ (by dsimp only; omega)) _).trans (e0 k)
  have a1 : ∀ k, (outsAt0 m c (4 * q + 1) (b 1 (by omega))).2.2.2 (ix2 r k)
      = ffnPart (H m c q hq r) (W1 m c) (W2 m c) 0 k + ffnPart (H m c q hq r) (W1 m c) (W2 m c) 1 k := fun k => by
    rw [← a0 k]
    exact h1_B m c ⟨4 * q + 1, b 1 (by omega)⟩ 1 (by dsimp only; omega) (by dsimp only; omega) (H m c q hq r) r k e0
  have e2 : ∀ k, (outsAt0 m c (4 * q + 2) (b 2 (by omega))).2.2.1 (ix2 r k) = H m c q hq r k := fun k =>
    (congrFun (h0_B m c ⟨4 * q + 2, b 2 (by omega)⟩ (by dsimp only; omega)) _).trans (e1 k)
  have a2 : ∀ k, (outsAt0 m c (4 * q + 2) (b 2 (by omega))).2.2.2 (ix2 r k)
      = ffnPart (H m c q hq r) (W1 m c) (W2 m c) 0 k + ffnPart (H m c q hq r) (W1 m c) (W2 m c) 1 k
        + ffnPart (H m c q hq r) (W1 m c) (W2 m c) 2 k := fun k => by
    rw [← a1 k]
    exact h1_B m c ⟨4 * q + 2, b 2 (by omega)⟩ 2 (by dsimp only; omega) (by dsimp only; omega) (H m c q hq r) r k e1
  refine (h_C m c ⟨4 * q + 3, b 3 (by omega)⟩ q hq rfl (H m c q hq r) _ r j e2 a2).trans ?_
  unfold mlpToken
  rw [show (fun n => ffnPart (H m c q hq r) (W1 m c) (W2 m c) 0 n + ffnPart (H m c q hq r) (W1 m c) (W2 m c) 1 n
        + ffnPart (H m c q hq r) (W1 m c) (W2 m c) 2 n + ffnPart (H m c q hq r) (W1 m c) (W2 m c) 3 n)
      = ffn (H m c q hq r) (W1 m c) (W2 m c) from funext (ffn_eq_parts (H m c q hq r) (W1 m c) (W2 m c))]

/-- The first result array: every row through the channel mixer. -/
theorem tokens (c : Dev nD) (r : Fin 6144) (j : Fin 1024) :
    G8 m c (ix2 r j)
      = mlpToken (X m c (r.val / 1024) (by omega) ⟨r.val % 1024, by omega⟩) (Gn m c 2) (M m c (r.val / 1024) (by omega) 4)
          (M m c (r.val / 1024) (by omega) 3) (M m c (r.val / 1024) (by omega) 5) (Gn m c 3) (W1 m c) (W2 m c) j := by
  have hN : cfg0.N = 24 := N_0
  have hp : pt8Of (ix2 r j) = 4 * (r.val / 1024) + 3 := by
    show 4 * (1 * (r.val / 1024 - 0) + 1 * (j.val / 1024 - 0)) + 3 = _
    omega
  have hl : loc8Of (ix2 r j) = ix2 ⟨r.val % 1024, by omega⟩ j := by
    funext a
    apply Fin.ext
    match a with
    | ⟨0, _⟩ => rfl
    | ⟨1, _⟩ => show j.val % 1024 = j.val; omega
  unfold G8
  rw [dif_pos (by rw [hp]; omega), hl, fold0_congr m c _ _ (4 * (r.val / 1024) + 3) (by omega) hp, ← outsAt0_sweep]
  exact tile m c (r.val / 1024) (by omega) _ j

/-! ## The next layer's modulation -/

/-- The conditioning rows: the prompt's, the two samples', and five rows of zeros. -/
theorem V_rows (c : Dev nD) : V m c main_v2 = concatenate S8x1024 0
    [⟨S1x1024, broadcastInDim S1x1024 ![1] bcast_S1024_S1x1024_1 (m ((c : Thread nD τ).loc main_arg6))⟩,
     ⟨S2x1024, m ((c : Thread nD τ).loc main_arg5)⟩,
     ⟨S5x1024, broadcastInDim S5x1024 ![] bcast_S_S5x1024 (constant (F := Ideal) S_ .f32 0x00000000#32)⟩]
    concatenates_S1x1024_S2x1024_S5x1024_S8x1024_d0 := by
  unfold V hostOps0
  after_results
  rfl

theorem V_bias (c : Dev nD) : V m c main_v3 = shapeCast S4x1x6144 (m ((c : Thread nD τ).loc main_arg8)) shapeCasts_S4x6144_S4x1x6144 := by
  unfold V hostOps0
  after_results
  rfl

theorem rows_apply (c : Dev nD) (r : Fin 8) (k : Fin 1024) : (V m c main_v2 : Vec Ideal S8x1024 .f32) (ix2 r k)
    = condRow (m ((c : Thread nD τ).loc main_arg5)) (m ((c : Thread nD τ).loc main_arg6)) r k := by
  rw [V_rows]
  generalize m ((c : Thread nD τ).loc main_arg5) = x0
  generalize m ((c : Thread nD τ).loc main_arg6) = x1
  pointwise [condRow]
  simp only [dite_eq_ite]

theorem bias_apply (c : Dev nD) (j : Fin 6144) : (V m c main_v3 : Vec Ideal S4x1x6144 .f32) (ix3 2 0 j)
    = m ((c : Thread nD τ).loc main_arg8) (ix2 2 j) := by
  rw [V_bias]
  refine shapeCast_apply _ _ (ix3 2 0 j) (ix2 2 j) ?_
  rw [Shape.rowMajor_val_two, Shape.rowMajor_val_three]
  show 2 * 6144 + j.val = (2 * 1 + 0) * 6144 + j.val
  omega

theorem index5 : ∀ t : Fin cfg0.N, win0_5.index t 0 = 0 ∧ win0_5.index t 1 = 0 := (by decide +kernel : ∀ t : Fin grid0.N, _)
theorem index6 : ∀ t : Fin cfg0.N, win0_6.index t 0 = 2 ∧ win0_6.index t 1 = 0 ∧ win0_6.index t 2 = t.val := (by decide +kernel : ∀ t : Fin grid0.N, _)
theorem index7 : ∀ t : Fin cfg0.N, win0_7.index t 0 = 2 ∧ win0_7.index t 1 = 0 ∧ win0_7.index t 2 = t.val := (by decide +kernel : ∀ t : Fin grid0.N, _)

/-- Column `j` of grid point `t` among the modulation's. -/
abbrev col (t : ℕ) (ht : t < 24) (j : Fin 256) : Fin 6144 := ⟨t * 256 + j.val, by omega⟩

theorem blk5 (c : Dev nD) (t : Fin cfg0.N) (r : Fin 8) (k : Fin 1024) :
    (iblk m c 5 t : Vec Ideal S8x1024 .f32) (ix2 r k)
      = condRow (m ((c : Thread nD τ).loc main_arg5)) (m ((c : Thread nD τ).loc main_arg6)) r k := by
  obtain ⟨h0, h1⟩ := index5 t
  unfold iblk
  rw [View.read_apply]
  show V m c main_v2 _ = _
  refine Eq.trans ?_ (rows_apply m c r k)
  congr 1
  funext a
  apply Fin.ext
  match a with
  | ⟨0, _⟩ => show win0_5.index t 0 * 8 + 1 * r.val = r.val; rw [h0]; omega
  | ⟨1, _⟩ => show win0_5.index t 1 * 1024 + 1 * k.val = k.val; rw [h1]; omega

theorem blk6 (c : Dev nD) (t : Fin cfg0.N) (k : Fin 1024) (j : Fin 256) :
    (iblk m c 6 t : Vec Ideal S1x1024x256 .f32) (ix3 0 k j)
      = m ((c : Thread nD τ).loc main_arg7) (ix3 2 k (col t.val (lt24 t) j)) := by
  obtain ⟨h0, h1, h2⟩ := index6 t
  unfold iblk
  rw [View.read_apply]
  show V m c main_arg7 _ = _
  rw [V_main_arg7]
  congr 1
  funext a
  apply Fin.ext
  match a with
  | ⟨0, _⟩ => show win0_6.index t 0 * 1 + 1 * 0 = 2; rw [h0]
  | ⟨1, _⟩ => show win0_6.index t 1 * 1024 + 1 * k.val = k.val; rw [h1]; omega
  | ⟨2, _⟩ => show win0_6.index t 2 * 256 + 1 * j.val = t.val * 256 + j.val; rw [h2]; omega

theorem blk7 (c : Dev nD) (t : Fin cfg0.N) (j : Fin 256) :
    (iblk m c 7 t : Vec Ideal S1x1x256 .f32) (ix3 0 0 j)
      = m ((c : Thread nD τ).loc main_arg8) (ix2 2 (col t.val (lt24 t) j)) := by
  obtain ⟨h0, h1, h2⟩ := index7 t
  unfold iblk
  rw [View.read_apply]
  show V m c main_v3 _ = _
  refine Eq.trans ?_ (bias_apply m c (col t.val (lt24 t) j))
  congr 1
  funext a
  apply Fin.ext
  match a with
  | ⟨0, _⟩ => show win0_7.index t 0 * 1 + 1 * 0 = 2; rw [h0]
  | ⟨1, _⟩ => show win0_7.index t 1 * 1 + 1 * 0 = 0; rw [h1]
  | ⟨2, _⟩ => show win0_7.index t 2 * 256 + 1 * j.val = t.val * 256 + j.val; rw [h2]; omega

/-- Every point leaves its columns of the third layer's modulation. -/
theorem mod_point (c : Dev nD) (t : Fin cfg0.N) (r : Fin 8) (j : Fin 256) :
    (outsAt0 m c t.val t.isLt).2.1 (ix2 r j)
      = modEntry (condRow (m ((c : Thread nD τ).loc main_arg5)) (m ((c : Thread nD τ).loc main_arg6)) r)
          (fun k => m ((c : Thread nD τ).loc main_arg7) (ix3 2 k (col t.val (lt24 t) j)))
          (m ((c : Thread nD τ).loc main_arg8) (ix2 2 (col t.val (lt24 t) j))) := by
  have e : (outsAt0 m c t.val t.isLt).2.1 = k0_pay5 (iblk m c 5 t) (iblk m c 6 t) (iblk m c 7 t) := by
    by_cases h0 : t.val % 4 = 0
    · rw [outsAt0_A m c t h0 (by omega) (by omega)]
      dsimp only
      rw [mod_A]
    by_cases h2 : t.val % 4 = 3
    · rw [outsAt0_C m c t h0 (by omega) h2]
      dsimp only
      rw [mod_C]
    · rw [outsAt0_B m c t h0 (by omega) h2]
      dsimp only
      rw [mod_B]
  rw [e]
  refine (pay5_apply _ _ _ r j).trans ?_
  simp only [blk5, blk6, blk7]

/-- The second result array: the modulation, entry by entry. -/
theorem modulation (c : Dev nD) (r : Fin 8) (j : Fin 6144) :
    G9 m c (ix2 r j)
      = modEntry (condRow (m ((c : Thread nD τ).loc main_arg5)) (m ((c : Thread nD τ).loc main_arg6)) r)
          (fun k => m ((c : Thread nD τ).loc main_arg7) (ix3 2 k j)) (m ((c : Thread nD τ).loc main_arg8) (ix2 2 j)) := by
  have hN : cfg0.N = 24 := N_0
  have hp : pt9Of (ix2 r j) = j.val / 256 := by
    show 24 * (r.val / 8 - 0) + 1 * (j.val / 256 - 0) = _
    omega
  have hl : loc9Of (ix2 r j) = ix2 r ⟨j.val % 256, by omega⟩ := by
    funext a
    apply Fin.ext
    match a with
    | ⟨0, _⟩ => show r.val % 8 = r.val; omega
    | ⟨1, _⟩ => rfl
  have hj : col (j.val / 256) (by omega) ⟨j.val % 256, by omega⟩ = j := Fin.ext (by dsimp only [col]; omega)
  unfold G9
  rw [dif_pos (by rw [hp]; omega), hl, fold0_congr m c _ _ (j.val / 256) (by omega) hp, ← outsAt0_sweep]
  refine (mod_point m c ⟨j.val / 256, by omega⟩ r ⟨j.val % 256, by omega⟩).trans ?_
  dsimp only
  rw [hj]

end Cert.MlpBothIdeal.Block

end
-- ==== Proof.MlpBothEquation.lean ====
/- The channel mixer of an earlier layer: the kernel's two result arrays are the reference's, entry by entry. -/
module

public import proofs.«01_k».proof.Proof.MlpBothValue
public import proofs.«01_k».proof.Proof.Gen.RefMlpBothIdeal.Read

@[expose] public section

noncomputable section

open Idealize.ShloMosaic Idealize.ShloMosaic.TcCoe Idealize.SL.Sem

namespace Cert.RefMlpBothIdeal.Block

open Cert.RefMlpBothIdeal Cert.RefMlpBothIdeal.Gen Cert.RefMlpBothIdeal.Read Cert.Layer

section Tokens

variable (x0 : Vec Ideal S6144x1024 .f32) (x1 : Vec Ideal S1x8x6x1024 .f32) (x2 : Vec Ideal S4x4x1024 .f32)
  (x3 : Vec Ideal S4x1024x4096 .f32) (x4 : Vec Ideal S4x4096x1024 .f32)

/-- A prompt row through the channel mixer. -/
theorem ctx_apply (r : Fin 4096) (j : Fin 1024) :
    val_main_v148 (F := Ideal) x0 x1 x2 x3 x4 (ix2 r j)
      = mlpToken (fun k => x0 (ix2 ⟨r.val, by omega⟩ k)) (fun k => x2 (ix3 1 2 k))
          (fun k => x1 (ix4 0 0 4 k)) (fun k => x1 (ix4 0 0 3 k))
          (fun k => x1 (ix4 0 0 5 k)) (fun k => x2 (ix3 1 3 k))
          (fun k f => x3 (ix3 1 k f)) (fun f k => x4 (ix3 1 f k)) j := by
  pointwise [mlpToken, ffn, relu2, modulated, rms, val_main_v0, val_main_v1, val_main_v4, val_main_v5, val_main_v6,
    val_main_v7, val_main_v8, val_main_v9, val_main_v10, val_main_v11, val_main_v12, val_main_v13, val_main_v14, val_main_v15,
    val_main_v16, val_main_v17, val_main_v18, val_main_v19, val_main_v20, val_main_v21, val_main_v40, val_main_v41,
    val_main_v42, val_main_v43, val_main_v44, val_main_v45, val_main_v46, val_main_v47, val_main_v48, val_main_v49,
    val_main_v50, val_main_v51, val_main_v52, val_main_v53, val_main_v54, val_main_v55, val_main_v56, val_main_v57,
    val_main_v58, val_main_v59, val_main_v60, val_main_v82, val_main_v83, val_main_v84, val_main_v85, val_main_v86,
    val_main_v87, val_main_v88, val_main_v89, val_main_v98, val_main_v99, val_main_v100, val_main_v101, val_main_v102,
    val_main_v103, val_main_v104, val_main_v105, val_main_v106, val_main_v107, val_main_v108, val_main_v109, val_main_v110,
    val_main_v111, val_main_v112, val_main_v113, val_main_v114, val_main_v115, val_main_cst, val_main_cst_0, val_main_cst_1,
    val_main_cst_2, val_main_cst_7, val_main_cst_8, val_main_cst_9, val_main_call0_cst, val_main_call0_v0, val_main_v148]

/-- A sample row. -/
theorem lat_apply (r : Fin 2048) (j : Fin 1024) :
    val_main_v149 (F := Ideal) x0 x1 x2 x3 x4 (ix2 r j)
      = mlpToken (fun k => x0 (ix2 ⟨4096 + r.val, by omega⟩ k)) (fun k => x2 (ix3 1 2 k))
          (fun k => x1 (ix4 0 ⟨1 + r.val / 1024, by omega⟩ 4 k)) (fun k => x1 (ix4 0 ⟨1 + r.val / 1024, by omega⟩ 3 k))
          (fun k => x1 (ix4 0 ⟨1 + r.val / 1024, by omega⟩ 5 k)) (fun k => x2 (ix3 1 3 k))
          (fun k f => x3 (ix3 1 k f)) (fun f k => x4 (ix3 1 f k)) j := by
  pointwise [mlpToken, ffn, relu2, modulated, rms, val_main_v2, val_main_v3, val_main_v22, val_main_v23, val_main_v24,
    val_main_v25, val_main_v26, val_main_v27, val_main_v28, val_main_v29, val_main_v30, val_main_v31, val_main_v32,
    val_main_v33, val_main_v34, val_main_v35, val_main_v36, val_main_v37, val_main_v38, val_main_v39, val_main_v61,
    val_main_v62, val_main_v63, val_main_v64, val_main_v65, val_main_v66, val_main_v67, val_main_v68, val_main_v69,
    val_main_v70, val_main_v71, val_main_v72, val_main_v73, val_main_v74, val_main_v75, val_main_v76, val_main_v77,
    val_main_v78, val_main_v79, val_main_v80, val_main_v81, val_main_v90, val_main_v91, val_main_v92, val_main_v93,
    val_main_v94, val_main_v95, val_main_v96, val_main_v97, val_main_v116, val_main_v117, val_main_v118, val_main_v119,
    val_main_v120, val_main_v121, val_main_v122, val_main_v123, val_main_v124, val_main_v125, val_main_v126, val_main_v127,
    val_main_v128, val_main_v129, val_main_v130, val_main_v131, val_main_v132, val_main_v133, val_main_cst_3, val_main_cst_4,
    val_main_cst_5, val_main_cst_6, val_main_cst_10, val_main_cst_11, val_main_cst_12, val_main_call1_cst, val_main_call1_v0,
    val_main_v149]

/-- The reference's first result: every row through the channel mixer, with the modulation of its 1024 rows. -/
theorem tokens_apply (r : Fin 6144) (j : Fin 1024) :
    val_main_v150 (F := Ideal) x0 x1 x2 x3 x4 (ix2 r j)
      = mlpToken (fun k => x0 (ix2 r k)) (fun k => x2 (ix3 1 2 k))
          (fun k => x1 (ix4 0 ⟨r.val / 1024 - 3, by omega⟩ 4 k)) (fun k => x1 (ix4 0 ⟨r.val / 1024 - 3, by omega⟩ 3 k))
          (fun k => x1 (ix4 0 ⟨r.val / 1024 - 3, by omega⟩ 5 k)) (fun k => x2 (ix3 1 3 k))
          (fun k f => x3 (ix3 1 k f)) (fun f k => x4 (ix3 1 f k)) j := by
  unfold val_main_v150
  by_cases h : r.val < 4096
  · have hg : (⟨r.val / 1024 - 3, by omega⟩ : Fin 8) = 0 := Fin.ext (by show r.val / 1024 - 3 = 0; omega)
    rw [hg]
    refine (concatenate_apply_piece 0 _ _ (ix2 r j) 0 (by simp) S4096x1024 _ rfl rfl 0 rfl (ix2 ⟨r.val, h⟩ j) ?_ ?_).trans
      (ctx_apply x0 x1 x2 x3 x4 ⟨r.val, h⟩ j)
    · intro b hb
      match b with
      | ⟨0, _⟩ => exact absurd rfl hb
      | ⟨1, _⟩ => rfl
    · show 0 + r.val = r.val
      omega
  · have hg : (⟨r.val / 1024 - 3, by omega⟩ : Fin 8) = ⟨1 + (r.val - 4096) / 1024, by omega⟩ := Fin.ext (by dsimp only; omega)
    have hr : (⟨4096 + (r.val - 4096), by omega⟩ : Fin 6144) = r := Fin.ext (by dsimp only; omega)
    rw [hg]
    refine (concatenate_apply_piece 0 _ _ (ix2 r j) 1 (by simp) S2048x1024 _ rfl rfl 4096 rfl (ix2 ⟨r.val - 4096, by omega⟩ j) ?_ ?_).trans
      ((lat_apply x0 x1 x2 x3 x4 ⟨r.val - 4096, by omega⟩ j).trans ?_)
    · intro b hb
      match b with
      | ⟨0, _⟩ => exact absurd rfl hb
      | ⟨1, _⟩ => rfl
    · show 4096 + (r.val - 4096) = r.val
      omega
    · dsimp only
      rw [hr]

end Tokens

section Modulation

variable (x5 : Vec Ideal S2x1024 .f32) (x6 : Vec Ideal S1024 .f32) (x7 : Vec Ideal S4x1024x6144 .f32) (x8 : Vec Ideal S4x6144 .f32)

/-- The prompt's row of the third layer's modulation. -/
theorem prompt_apply (j : Fin 6144) :
    val_main_v142 (F := Ideal) x6 x7 x8 (ix2 0 j) = modEntry (fun k => x6 (ix1 k)) (fun k => x7 (ix3 2 k j)) (x8 (ix2 2 j)) := by
  pointwise [modEntry, gate, val_main_v134, val_main_v135, val_main_v136, val_main_v137, val_main_v138, val_main_v139,
    val_main_v140, val_main_v141, val_main_v142, val_main_call2_v0, val_main_call2_v1, val_main_call2_cst, val_main_call2_v2,
    val_main_call2_v3, val_main_call2_cst_0, val_main_call2_v4, val_main_call2_v5]

/-- The row of sample `s`. -/
theorem sample_apply (s : Fin 2) (j : Fin 6144) :
    val_main_v147 (F := Ideal) x5 x7 x8 (ix2 s j) = modEntry (fun k => x5 (ix2 s k)) (fun k => x7 (ix3 2 k j)) (x8 (ix2 2 j)) := by
  pointwise [modEntry, gate, val_main_v134, val_main_v135, val_main_v136, val_main_v137, val_main_v143, val_main_v144,
    val_main_v145, val_main_v146, val_main_v147, val_main_call3_v0, val_main_call3_v1, val_main_call3_cst, val_main_call3_v2,
    val_main_call3_v3, val_main_call3_cst_0, val_main_call3_v4, val_main_call3_v5]

/-- A spare row: the bias. -/
theorem spare_apply (s : Fin 5) (j : Fin 6144) : val_main_v152 (F := Ideal) x8 (ix2 s j) = x8 (ix2 2 j) := by
  pointwise [val_main_v136, val_main_v137, val_main_v151, val_main_v152]

/-- The reference's second result: every row from its conditioning row, a spare one from zeros. -/
theorem modulation_apply (r : Fin 8) (j : Fin 6144) :
    val_main_v153 (F := Ideal) x5 x6 x7 x8 (ix2 r j)
      = modEntry (Cert.ModulationIdeal.Block.condRow x5 x6 r) (fun k => x7 (ix3 2 k j)) (x8 (ix2 2 j)) := by
  unfold val_main_v153
  by_cases h1 : r.val < 1
  · have hr : Cert.ModulationIdeal.Block.condRow x5 x6 r = fun k => x6 (ix1 k) := funext fun k => if_pos h1
    rw [hr]
    refine (concatenate_apply_piece 0 _ _ (ix2 r j) 0 (by simp) S1x6144 _ rfl rfl 0 rfl (ix2 0 j) ?_ ?_).trans (prompt_apply x6 x7 x8 j)
    · intro b hb
      match b with
      | ⟨0, _⟩ => exact absurd rfl hb
      | ⟨1, _⟩ => rfl
    · show 0 + 0 = r.val
      omega
  by_cases h2 : r.val - 1 < 2
  · have hr : Cert.ModulationIdeal.Block.condRow x5 x6 r = fun k => x5 (ix2 ⟨r.val - 1, h2⟩ k) := funext fun k => (if_neg h1).trans (dif_pos h2)
    rw [hr]
    refine (concatenate_apply_piece 0 _ _ (ix2 r j) 1 (by simp) S2x6144 _ rfl rfl 1 rfl (ix2 ⟨r.val - 1, h2⟩ j) ?_ ?_).trans (sample_apply x5 x7 x8 _ j)
    · intro b hb
      match b with
      | ⟨0, _⟩ => exact absurd rfl hb
      | ⟨1, _⟩ => rfl
    · show 1 + (r.val - 1) = r.val
      omega
  · have hr : Cert.ModulationIdeal.Block.condRow x5 x6 r = fun _ => 0 := funext fun k => (if_neg h1).trans (dif_neg h2)
    rw [hr, modEntry_zero]
    refine (concatenate_apply_piece 0 _ _ (ix2 r j) 2 (by simp) S5x6144 _ rfl rfl 3 rfl (ix2 ⟨r.val - 3, by omega⟩ j) ?_ ?_).trans (spare_apply x8 _ j)
    · intro b hb
      match b with
      | ⟨0, _⟩ => exact absurd rfl hb
      | ⟨1, _⟩ => rfl
    · show 3 + (r.val - 3) = r.val
      omega

end Modulation

end Cert.RefMlpBothIdeal.Block

namespace Cert.MlpBothIdeal.Block

open Cert.MlpBothIdeal Cert.MlpBothIdeal.Gen Cert.MlpBothIdeal.Value Cert.Layer

/-- The kernel's first result array is the reference's first result on the same arguments. -/
theorem tokens_eq_reference (m : (ℓ : Loc nD τ sig) → Buf (Elt Ideal) ℓ) (c : Dev nD) :
    G8 m c = Cert.RefMlpBothIdeal.Read.val_main_v150 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  funext i
  obtain ⟨r, j, rfl⟩ : ∃ (r : Fin 6144) (j : Fin 1024), i = ix2 r j := ⟨i 0, i 1, eq_ix2 i⟩
  have hr : row (r.val / 1024) (by omega) ⟨r.val % 1024, by omega⟩ = r := Fin.ext (by dsimp only; omega)
  rw [tokens]
  refine Eq.trans ?_ (Cert.RefMlpBothIdeal.Block.tokens_apply _ _ _ _ _ r j).symm
  unfold X
  rw [hr]

/-- The second result array is the reference's second result. -/
theorem modulation_eq_reference (m : (ℓ : Loc nD τ sig) → Buf (Elt Ideal) ℓ) (c : Dev nD) :
    G9 m c = Cert.RefMlpBothIdeal.Read.val_main_v153 (F := Ideal) (m ((c : Thread nD τ).loc main_arg5)) (m ((c : Thread nD τ).loc main_arg6))
      (m ((c : Thread nD τ).loc main_arg7)) (m ((c : Thread nD τ).loc main_arg8)) := by
  funext i
  obtain ⟨r, j, rfl⟩ : ∃ (r : Fin 8) (j : Fin 6144), i = ix2 r j := ⟨i 0, i 1, eq_ix2 i⟩
  exact (modulation m c r j).trans (Cert.RefMlpBothIdeal.Block.modulation_apply _ _ _ _ r j).symm

end Cert.MlpBothIdeal.Block

end
-- ==== Proof.lean ====
/- The certificate's claims put together: every program runs to an end with its arguments unchanged and no counter raised,
   and each kernel computes what its reference computes on the same arguments. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.AttnEquation
public import proofs.«01_k».proof.Proof.AttnFinite
public import proofs.«01_k».proof.Proof.Gen.Mlp.Frame
public import proofs.«01_k».proof.Proof.Gen.MlpIdeal.Value
public import proofs.«01_k».proof.Proof.Gen.RefMlpIdeal.Run
public import proofs.«01_k».proof.Proof.Gen.RefMlpIdeal.Read
public import proofs.«01_k».proof.Proof.MlpEquation
public import proofs.«01_k».proof.Proof.Gen.MlpCtx.Frame
public import proofs.«01_k».proof.Proof.Gen.MlpCtxIdeal.Value
public import proofs.«01_k».proof.Proof.Gen.RefMlpCtxIdeal.Run
public import proofs.«01_k».proof.Proof.Gen.RefMlpCtxIdeal.Read
public import proofs.«01_k».proof.Proof.MlpCtxEquation
public import proofs.«01_k».proof.Proof.Gen.Proj.Frame
public import proofs.«01_k».proof.Proof.Gen.ProjIdeal.Value
public import proofs.«01_k».proof.Proof.Gen.RefProjIdeal.Run
public import proofs.«01_k».proof.Proof.Gen.RefProjIdeal.Read
public import proofs.«01_k».proof.Proof.ProjEquation
public import proofs.«01_k».proof.Proof.Gen.Conv.Frame
public import proofs.«01_k».proof.Proof.Gen.ConvIdeal.Value
public import proofs.«01_k».proof.Proof.Gen.RefConvIdeal.Run
public import proofs.«01_k».proof.Proof.Gen.RefConvIdeal.Read
public import proofs.«01_k».proof.Proof.ConvEquation
public import proofs.«01_k».proof.Proof.Gen.TimeOut.Frame
public import proofs.«01_k».proof.Proof.Gen.TimeOutIdeal.Value
public import proofs.«01_k».proof.Proof.Gen.RefTimeOutIdeal.Run
public import proofs.«01_k».proof.Proof.Gen.RefTimeOutIdeal.Read
public import proofs.«01_k».proof.Proof.TimeOutEquation
public import proofs.«01_k».proof.Proof.Gen.Fourier.Frame
public import proofs.«01_k».proof.Proof.Gen.FourierIdeal.Value
public import proofs.«01_k».proof.Proof.Gen.RefFourierIdeal.Run
public import proofs.«01_k».proof.Proof.Gen.RefFourierIdeal.Read
public import proofs.«01_k».proof.Proof.FourierEquation
public import proofs.«01_k».proof.Proof.Gen.Modulation.Frame
public import proofs.«01_k».proof.Proof.Gen.ModulationIdeal.Value
public import proofs.«01_k».proof.Proof.Gen.RefModulationIdeal.Run
public import proofs.«01_k».proof.Proof.Gen.RefModulationIdeal.Read
public import proofs.«01_k».proof.Proof.ModulationEquation
public import proofs.«01_k».proof.Proof.Gen.MlpBoth.Frame
public import proofs.«01_k».proof.Proof.Gen.MlpBothIdeal.Value
public import proofs.«01_k».proof.Proof.Gen.RefMlpBothIdeal.Run
public import proofs.«01_k».proof.Proof.Gen.RefMlpBothIdeal.Read
public import proofs.«01_k».proof.Proof.MlpBothEquation
public import Idealize.ShloMosaic.Adequacy
public import Idealize.ShloMosaic.Init
public import Idealize.ShloMosaic.Lib.Quiescent

@[expose] public section

noncomputable section

namespace Cert.Proof

open Idealize.ShloMosaic Idealize.SL.Sem

/-- The reference of the sample attention ends with its arguments unchanged. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference of the sample attention ends with its arguments unchanged (under the precondition as well). -/
theorem quiescent_ReferenceIdeal_pre_finite_scores : quiescent_ReferenceIdeal_pre_finite_scores := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The sample attention: the kernel's result is the reference's on the same arguments, where those of the scores are finite. -/
theorem algebraic_KernelIdeal_ReferenceIdeal_pre_finite_scores : algebraic_KernelIdeal_ReferenceIdeal_pre_finite_scores := by
  intro m ρ m' ρ' hpre hagree
  refine ⟨_, Cert.KernelIdeal.Value.run (F := Ideal) m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11⟩ := hagree c
  have hp := hpre c
  refine ⟨?_, (h c).2⟩
  rw [(h c).1, Cert.ReferenceIdeal.Read.val_main_v63_eq m' c, a0, a1, a2, a3, a4, a5, a6, a7, a8, a9, a10, a11]
  exact (Cert.KernelIdeal.Block.result_eq_reference m c hp).symm

/-- The reference of the last layer's MLP on the sample rows ends with its arguments unchanged. -/
theorem quiescent_RefMlpIdeal : quiescent_RefMlpIdeal := fun m ρ _ =>
  (θ_run Cert.RefMlpIdeal.defs _ _).mono (fun r h => ⟨fun c => (h c).2, sem_eq_zero_of_no_sems (by decide) r.2⟩)
    (Cert.RefMlpIdeal.Value.run (F := Ideal) m ρ)

/-- The last layer's MLP on the sample rows: the kernel's result is the reference's on the same arguments. -/
theorem algebraic_MlpIdeal_RefMlpIdeal : algebraic_MlpIdeal_RefMlpIdeal := by
  intro m ρ m' ρ' _ hagree
  refine ⟨_, Cert.MlpIdeal.Value.run (F := Ideal) m ρ, ?_⟩
  refine (θ_run Cert.RefMlpIdeal.defs _ _).mono (fun _ h c => ?_) (Cert.RefMlpIdeal.Value.run (F := Ideal) m' ρ')
  obtain ⟨a0, a1, a2, a3, a4⟩ := hagree c
  refine ⟨?_, (h c).2⟩
  rw [(h c).1, Cert.RefMlpIdeal.Read.val_main_v67_eq m' c, a0, a1, a2, a3, a4]
  exact (Cert.MlpIdeal.Block.result_eq_reference m c).symm

/-- The reference of the last layer's MLP on the prompt rows ends with its arguments unchanged. -/
theorem quiescent_RefMlpCtxIdeal : quiescent_RefMlpCtxIdeal := fun m ρ _ =>
  (θ_run Cert.RefMlpCtxIdeal.defs _ _).mono (fun r h => ⟨fun c => (h c).2, sem_eq_zero_of_no_sems (by decide) r.2⟩)
    (Cert.RefMlpCtxIdeal.Value.run (F := Ideal) m ρ)

/-- The last layer's MLP on the prompt rows: the kernel's result is the reference's on the same arguments. -/
theorem algebraic_MlpCtxIdeal_RefMlpCtxIdeal : algebraic_MlpCtxIdeal_RefMlpCtxIdeal := by
  intro m ρ m' ρ' _ hagree
  refine ⟨_, Cert.MlpCtxIdeal.Value.run (F := Ideal) m ρ, ?_⟩
  refine (θ_run Cert.RefMlpCtxIdeal.defs _ _).mono (fun _ h c => ?_) (Cert.RefMlpCtxIdeal.Value.run (F := Ideal) m' ρ')
  obtain ⟨a0, a1, a2, a3, a4⟩ := hagree c
  refine ⟨?_, (h c).2⟩
  rw [(h c).1, Cert.RefMlpCtxIdeal.Read.val_main_v67_eq m' c, a0, a1, a2, a3, a4]
  exact (Cert.MlpCtxIdeal.Block.result_eq_reference m c).symm

/-- The reference of the prompt's query, key and value projections ends with its arguments unchanged. -/
theorem quiescent_RefProjIdeal : quiescent_RefProjIdeal := fun m ρ _ =>
  (θ_run Cert.RefProjIdeal.defs _ _).mono (fun r h => ⟨fun c => (h c).2.2.2.2, sem_eq_zero_of_no_sems (by decide) r.2⟩)
    (Cert.RefProjIdeal.Value.run (F := Ideal) m ρ)

/-- The prompt's query, key and value projections: the kernel's results are the reference's on the same arguments. -/
theorem algebraic_ProjIdeal_RefProjIdeal : algebraic_ProjIdeal_RefProjIdeal := by
  intro m ρ m' ρ' _ hagree
  refine ⟨_, _, _, _, Cert.ProjIdeal.Value.run_blocks (F := Ideal) m ρ, ?_⟩
  refine (θ_run Cert.RefProjIdeal.defs _ _).mono (fun _ h c => ?_) (Cert.RefProjIdeal.Value.run (F := Ideal) m' ρ')
  obtain ⟨a0, a1, a2, a3, a4, a5, a6, a7⟩ := hagree c
  refine ⟨?_, ?_, ?_, ?_, (h c).2.2.2.2⟩
  · refine ((h c).1.trans (Cert.RefProjIdeal.Read.val_main_v69_eq m' c)).trans (Eq.trans ?_ (Cert.ProjIdeal.Block.nope_eq_reference m c).symm)
    rw [← a0, ← a1, ← a2, ← a3, ← a4, ← a5]
  · refine ((h c).2.1.trans (Cert.RefProjIdeal.Read.val_main_v71_eq m' c)).trans (Eq.trans ?_ (Cert.ProjIdeal.Block.rope_eq_reference m c).symm)
    rw [← a0, ← a1, ← a2, ← a3, ← a4, ← a5]
  · refine ((h c).2.2.1.trans (Cert.RefProjIdeal.Read.val_main_v72_eq m' c)).trans (Eq.trans ?_ (Cert.ProjIdeal.Block.latent_eq_reference m c).symm)
    rw [← a0, ← a1, ← a2, ← a6, ← a7]
  · refine ((h c).2.2.2.1.trans (Cert.RefProjIdeal.Read.val_main_v73_eq _ _ _ _)).trans (Eq.trans ?_ (Cert.ProjIdeal.Block.key_eq_reference m c).symm)
    rw [← a0, ← a1, ← a2, ← a6]

/-- The reference of the short convolution ends with its arguments unchanged. -/
theorem quiescent_RefConvIdeal : quiescent_RefConvIdeal := fun m ρ _ =>
  (θ_run Cert.RefConvIdeal.defs _ _).mono (fun r h => ⟨fun c => (h c).2, sem_eq_zero_of_no_sems (by decide) r.2⟩)
    (Cert.RefConvIdeal.Value.run (F := Ideal) m ρ)

/-- The short convolution: the kernel's result is the reference's on the same arguments. -/
theorem algebraic_ConvIdeal_RefConvIdeal : algebraic_ConvIdeal_RefConvIdeal := by
  intro m ρ m' ρ' _ hagree
  refine ⟨_, Cert.ConvIdeal.Value.run (F := Ideal) m ρ, ?_⟩
  refine (θ_run Cert.RefConvIdeal.defs _ _).mono (fun _ h c => ?_) (Cert.RefConvIdeal.Value.run (F := Ideal) m' ρ')
  obtain ⟨a0, a1, a2, a3, a4, a5⟩ := hagree c
  refine ⟨?_, (h c).2⟩
  refine ((h c).1.trans (Cert.RefConvIdeal.Read.val_main_v162_eq _)).trans (Eq.trans ?_ (Cert.ConvIdeal.Block.result_eq_reference m c).symm)
  rw [← a0, ← a1, ← a2, ← a3, ← a4, ← a5]

/-- The reference of the recurrence's output ends with its arguments unchanged. -/
theorem quiescent_RefTimeOutIdeal : quiescent_RefTimeOutIdeal := fun m ρ _ =>
  (θ_run Cert.RefTimeOutIdeal.defs _ _).mono (fun r h => ⟨fun c => (h c).2, sem_eq_zero_of_no_sems (by decide) r.2⟩)
    (Cert.RefTimeOutIdeal.Value.run (F := Ideal) m ρ)

/-- The recurrence's output: the kernel's result is the reference's on the same arguments. -/
theorem algebraic_TimeOutIdeal_RefTimeOutIdeal : algebraic_TimeOutIdeal_RefTimeOutIdeal := by
  intro m ρ m' ρ' _ hagree
  refine ⟨_, Cert.TimeOutIdeal.Value.run (F := Ideal) m ρ, ?_⟩
  refine (θ_run Cert.RefTimeOutIdeal.defs _ _).mono (fun _ h c => ?_) (Cert.RefTimeOutIdeal.Value.run (F := Ideal) m' ρ')
  obtain ⟨a0, a1, a2, a3, a4, a5, a6, a7, a8⟩ := hagree c
  refine ⟨?_, (h c).2⟩
  refine ((h c).1.trans (Cert.RefTimeOutIdeal.Read.val_main_v64_eq m' c)).trans (Eq.trans ?_ (Cert.TimeOutIdeal.Block.result_eq_reference m c).symm)
  rw [← a0, ← a1, ← a2, ← a3, ← a4, ← a5, ← a6, ← a7, ← a8]

/-- The reference of the Fourier mixer ends with its arguments unchanged. -/
theorem quiescent_RefFourierIdeal : quiescent_RefFourierIdeal := fun m ρ _ =>
  (θ_run Cert.RefFourierIdeal.defs _ _).mono (fun r h => ⟨fun c => (h c).2, sem_eq_zero_of_no_sems (by decide) r.2⟩)
    (Cert.RefFourierIdeal.Value.run (F := Ideal) m ρ)

/-- The Fourier mixer: the kernel's result is the reference's on the same arguments. -/
theorem algebraic_FourierIdeal_RefFourierIdeal : algebraic_FourierIdeal_RefFourierIdeal := by
  intro m ρ m' ρ' _ hagree
  refine ⟨_, Cert.FourierIdeal.Value.run_blocks (F := Ideal) m ρ, ?_⟩
  refine (θ_run Cert.RefFourierIdeal.defs _ _).mono (fun _ h c => ?_) (Cert.RefFourierIdeal.Value.run (F := Ideal) m' ρ')
  obtain ⟨a0, a1, a2, a3, a4, a5, a6, a7⟩ := hagree c
  refine ⟨?_, (h c).2⟩
  refine ((h c).1.trans (Cert.RefFourierIdeal.Read.val_main_v60_eq m' c)).trans (Eq.trans ?_ (Cert.FourierIdeal.Block.result_eq_reference m c).symm)
  rw [← a0, ← a1, ← a2, ← a3, ← a4, ← a5, ← a6, ← a7]

/-- The reference of the modulation ends with its arguments unchanged. -/
theorem quiescent_RefModulationIdeal : quiescent_RefModulationIdeal := fun m ρ _ =>
  (θ_run Cert.RefModulationIdeal.defs _ _).mono (fun r h => ⟨fun c => (h c).2, sem_eq_zero_of_no_sems (by decide) r.2⟩)
    (Cert.RefModulationIdeal.Value.run (F := Ideal) m ρ)

/-- The modulation: the kernel's result is the reference's on the same arguments. -/
theorem algebraic_ModulationIdeal_RefModulationIdeal : algebraic_ModulationIdeal_RefModulationIdeal := by
  intro m ρ m' ρ' _ hagree
  refine ⟨_, Cert.ModulationIdeal.Value.run_blocks (F := Ideal) m ρ, ?_⟩
  refine (θ_run Cert.RefModulationIdeal.defs _ _).mono (fun _ h c => ?_) (Cert.RefModulationIdeal.Value.run (F := Ideal) m' ρ')
  obtain ⟨a0, a1, a2, a3⟩ := hagree c
  refine ⟨?_, (h c).2⟩
  refine ((h c).1.trans (Cert.RefModulationIdeal.Read.val_main_v16_eq _ _ _ _)).trans (Eq.trans ?_ (Cert.ModulationIdeal.Block.result_eq_reference m c).symm)
  rw [← a0, ← a1, ← a2, ← a3]

/-- The reference of the MLP of an earlier layer with the next layer's modulation ends with its arguments unchanged. -/
theorem quiescent_RefMlpBothIdeal : quiescent_RefMlpBothIdeal := fun m ρ _ =>
  (θ_run Cert.RefMlpBothIdeal.defs _ _).mono (fun r h => ⟨fun c => (h c).2.2, sem_eq_zero_of_no_sems (by decide) r.2⟩)
    (Cert.RefMlpBothIdeal.Value.run (F := Ideal) m ρ)

/-- The MLP of an earlier layer with the next layer's modulation: the kernel's results are the reference's on the same arguments. -/
theorem algebraic_MlpBothIdeal_RefMlpBothIdeal : algebraic_MlpBothIdeal_RefMlpBothIdeal := by
  intro m ρ m' ρ' _ hagree
  refine ⟨_, _, Cert.MlpBothIdeal.Value.run (F := Ideal) m ρ, ?_⟩
  refine (θ_run Cert.RefMlpBothIdeal.defs _ _).mono (fun _ h c => ?_) (Cert.RefMlpBothIdeal.Value.run (F := Ideal) m' ρ')
  obtain ⟨a0, a1, a2, a3, a4, a5, a6, a7, a8⟩ := hagree c
  refine ⟨?_, ?_, (h c).2.2⟩
  · refine ((h c).1.trans (Cert.RefMlpBothIdeal.Read.val_main_v150_eq _)).trans (Eq.trans ?_ (Cert.MlpBothIdeal.Block.tokens_eq_reference m c).symm)
    rw [← a0, ← a1, ← a2, ← a3, ← a4]
  · refine ((h c).2.1.trans (Cert.RefMlpBothIdeal.Read.val_main_v153_eq _)).trans (Eq.trans ?_ (Cert.MlpBothIdeal.Block.modulation_eq_reference m c).symm)
    rw [← a5, ← a6, ← a7, ← a8]

/-- Every claim of the certificate. -/
theorem claim : Cert.Claim := ⟨Cert.Kernel.Gen.facts,
  Cert.KernelIdeal.Gen.facts,
  Cert.ReferenceIdeal.Gen.facts,
  Cert.Mlp.Gen.facts,
  Cert.MlpIdeal.Gen.facts,
  Cert.RefMlpIdeal.Gen.facts,
  Cert.MlpCtx.Gen.facts,
  Cert.MlpCtxIdeal.Gen.facts,
  Cert.RefMlpCtxIdeal.Gen.facts,
  Cert.Proj.Gen.facts,
  Cert.ProjIdeal.Gen.facts,
  Cert.RefProjIdeal.Gen.facts,
  Cert.Conv.Gen.facts,
  Cert.ConvIdeal.Gen.facts,
  Cert.RefConvIdeal.Gen.facts,
  Cert.TimeOut.Gen.facts,
  Cert.TimeOutIdeal.Gen.facts,
  Cert.RefTimeOutIdeal.Gen.facts,
  Cert.Fourier.Gen.facts,
  Cert.FourierIdeal.Gen.facts,
  Cert.RefFourierIdeal.Gen.facts,
  Cert.Modulation.Gen.facts,
  Cert.ModulationIdeal.Gen.facts,
  Cert.RefModulationIdeal.Gen.facts,
  Cert.MlpBoth.Gen.facts,
  Cert.MlpBothIdeal.Gen.facts,
  Cert.RefMlpBothIdeal.Gen.facts,
  Cert.Pre_finite_scores.facts,
  fun m ρ _ => Cert.Kernel.Gen.frame m ρ,
  fun m ρ _ => Cert.KernelIdeal.Gen.frame m ρ,
  fun m ρ _ => Cert.KernelIdeal.Gen.frame m ρ,
  quiescent_ReferenceIdeal,
  quiescent_ReferenceIdeal_pre_finite_scores,
  fun m ρ _ => Cert.Mlp.Gen.frame m ρ,
  fun m ρ _ => Cert.MlpIdeal.Gen.frame m ρ,
  quiescent_RefMlpIdeal,
  fun m ρ _ => Cert.MlpCtx.Gen.frame m ρ,
  fun m ρ _ => Cert.MlpCtxIdeal.Gen.frame m ρ,
  quiescent_RefMlpCtxIdeal,
  fun m ρ _ => Cert.Proj.Gen.frame m ρ,
  fun m ρ _ => Cert.ProjIdeal.Gen.frame m ρ,
  quiescent_RefProjIdeal,
  fun m ρ _ => Cert.Conv.Gen.frame m ρ,
  fun m ρ _ => Cert.ConvIdeal.Gen.frame m ρ,
  quiescent_RefConvIdeal,
  fun m ρ _ => Cert.TimeOut.Gen.frame m ρ,
  fun m ρ _ => Cert.TimeOutIdeal.Gen.frame m ρ,
  quiescent_RefTimeOutIdeal,
  fun m ρ _ => Cert.Fourier.Gen.frame m ρ,
  fun m ρ _ => Cert.FourierIdeal.Gen.frame m ρ,
  quiescent_RefFourierIdeal,
  fun m ρ _ => Cert.Modulation.Gen.frame m ρ,
  fun m ρ _ => Cert.ModulationIdeal.Gen.frame m ρ,
  quiescent_RefModulationIdeal,
  fun m ρ _ => Cert.MlpBoth.Gen.frame m ρ,
  fun m ρ _ => Cert.MlpBothIdeal.Gen.frame m ρ,
  quiescent_RefMlpBothIdeal,
  (trivial : preserves_Kernel_KernelIdeal),
  algebraic_KernelIdeal_ReferenceIdeal_pre_finite_scores,
  (trivial : preserves_Mlp_MlpIdeal),
  algebraic_MlpIdeal_RefMlpIdeal,
  (trivial : preserves_MlpCtx_MlpCtxIdeal),
  algebraic_MlpCtxIdeal_RefMlpCtxIdeal,
  (trivial : preserves_Proj_ProjIdeal),
  algebraic_ProjIdeal_RefProjIdeal,
  (trivial : preserves_Conv_ConvIdeal),
  algebraic_ConvIdeal_RefConvIdeal,
  (trivial : preserves_TimeOut_TimeOutIdeal),
  algebraic_TimeOutIdeal_RefTimeOutIdeal,
  (trivial : preserves_Fourier_FourierIdeal),
  algebraic_FourierIdeal_RefFourierIdeal,
  (trivial : preserves_Modulation_ModulationIdeal),
  algebraic_ModulationIdeal_RefModulationIdeal,
  (trivial : preserves_MlpBoth_MlpBothIdeal),
  algebraic_MlpBothIdeal_RefMlpBothIdeal⟩

end Cert.Proof

end
